-- ==== Defs.lean ====
def Pre_Kernel [hPre_fills : Cert.Pre_fills.Facts] (m : (ℓ : Loc Cert.Kernel.nD Cert.Kernel.τ Cert.Kernel.sig) → Buf (Elt Bits) ℓ) : Prop :=
  ∀ c : Dev Cert.Kernel.nD,
    (Cert.Pre_fills.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_fills : Cert.Pre_fills.Facts] (m : (ℓ : Loc Cert.KernelIdeal.nD Cert.KernelIdeal.τ Cert.KernelIdeal.sig) → Buf (Elt Ideal) ℓ) : Prop :=
  ∀ c : Dev Cert.KernelIdeal.nD,
    (Cert.Pre_fills.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fills [hPre_fills : Cert.Pre_fills.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fills.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_fills : Cert.Pre_fills.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_fills : Cert.Pre_fills.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fills [hReferenceIdeal : Cert.ReferenceIdeal.Facts] [hPre_fills : Cert.Pre_fills.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fills m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def preserves_Kernel_KernelIdeal : Prop :=
  IdealRules.bf16_pair.BufferStatement Cert.KernelIdeal.S212992x2x128 Cert.KernelIdeal.S212992x1x128
  ∧ IdealRules.bf16_pair.BufferStatement Cert.KernelIdeal.S2048x2x128 Cert.KernelIdeal.S2048x1x128
  ∧ IdealRules.bf16_pair.PackStatement Cert.KernelIdeal.S256x128
  ∧ IdealRules.bf16_pair.Statement Cert.KernelIdeal.S256x2x128 Cert.KernelIdeal.S256x1x128
  ∧ IdealRules.bf16_pair.PackStatement Cert.KernelIdeal.S2048x128
  ∧ IdealRules.bf16_pair.Statement Cert.KernelIdeal.S2048x2x128 Cert.KernelIdeal.S2048x1x128
  ∧ IdealRules.bf16_pair.Statement Cert.KernelIdeal.S26624x2x128 Cert.KernelIdeal.S26624x1x128
  ∧ IdealRules.bf16_pair.Statement Cert.KernelIdeal.S53248x128 Cert.KernelIdeal.S26624x128

def algebraic_KernelIdeal_ReferenceIdeal [hKernelIdeal : Cert.KernelIdeal.Facts] [hReferenceIdeal : Cert.ReferenceIdeal.Facts] [hPre_fills : Cert.Pre_fills.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_v7) = v2 c
          ∧ r.2.mem ((c.tc : Thread Cert.Reference2Ideal.nD Cert.Reference2Ideal.τ).loc Cert.Reference2Ideal.main_v9) = v3 c
          ∧ r.2.mem ((c.tc : Thread Cert.Reference2Ideal.nD Cert.Reference2Ideal.τ).loc Cert.Reference2Ideal.main_v11) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.bf16_pair.BufferStatement Cert.Kernel4Ideal.S73728x2x128 Cert.Kernel4Ideal.S73728x1x128
  ∧ IdealRules.bf16_pair.BufferStatement Cert.Kernel4Ideal.S2048x2x128 Cert.Kernel4Ideal.S2048x1x128
  ∧ IdealRules.bf16_pair.PackStatement Cert.Kernel4Ideal.S256x128
  ∧ IdealRules.bf16_pair.Statement Cert.Kernel4Ideal.S256x2x128 Cert.Kernel4Ideal.S256x1x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v55_5)) (v1 : (c : Dev Cert.Kernel4Ideal.nD) → Buf (Elt Ideal) ((c.tc : Thread Cert.Kernel4Ideal.nD Cert.Kernel4Ideal.τ).loc Cert.Kernel4Ideal.main_v55_6)) (v2 : (c : Dev Cert.Kernel4Ideal.nD) → Buf (Elt Ideal) ((c.tc : Thread Cert.Kernel4Ideal.nD Cert.Kernel4Ideal.τ).loc Cert.Kernel4Ideal.main_v55_3)) (v3 : (c : Dev Cert.Kernel4Ideal.nD) → Buf (Elt Ideal) ((c.tc : Thread Cert.Kernel4Ideal.nD Cert.Kernel4Ideal.τ).loc Cert.Kernel4Ideal.main_v55_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v55_5) = v0 c
          ∧ r.2.mem ((c.tc : Thread Cert.Kernel4Ideal.nD Cert.Kernel4Ideal.τ).loc Cert.Kernel4Ideal.main_v55_6) = v1 c
          ∧ r.2.mem ((c.tc : Thread Cert.Kernel4Ideal.nD Cert.Kernel4Ideal.τ).loc Cert.Kernel4Ideal.main_v55_3) = v2 c
          ∧ r.2.mem ((c.tc : Thread Cert.Kernel4Ideal.nD Cert.Kernel4Ideal.τ).loc Cert.Kernel4Ideal.main_v55_4) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_fills : Cert.Pre_fills.Facts),
    quiescent_Kernel (hKernel := hKernel) (hPre_fills := hPre_fills)
    ∧ quiescent_KernelIdeal (hKernelIdeal := hKernelIdeal) (hPre_fills := hPre_fills)
    ∧ quiescent_ReferenceIdeal (hReferenceIdeal := hReferenceIdeal)
    ∧ quiescent_ReferenceIdeal_pre_fills (hReferenceIdeal := hReferenceIdeal) (hPre_fills := hPre_fills)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_fills := hPre_fills)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_fills.lean ====
abbrev S32 : Shape := ⟨1, ![32]⟩
abbrev S212992x128 : Shape := ⟨2, ![212992, 128]⟩
abbrev S1x32x2048x512 : Shape := ⟨4, ![1, 32, 2048, 512]⟩
abbrev S1x32x512x2048 : Shape := ⟨4, ![1, 32, 512, 2048]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn {F : FTy → Type} [FloatOps F] (main_arg0 : IVec S32 32) (main_arg1 : IVec S212992x128 32) (main_arg2 : FVec F S1x32x2048x512 .f32) (main_arg3 : FVec F S1x32x2048x512 .f32) (main_arg4 : FVec F S1x32x512x2048 .f32) : IVec S_ 1 :=
  let main_c : IVec S_ 32 := constantI S_ 32 256#32
  let main_v0 : IVec S32 32 := broadcastInDim S32 ![] bcast_S_S32 main_c
  let main_v1 : IVec S32 32 := addi main_arg0 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 256#32
  let main_v4 : IVec S32 32 := fn_floor_divide (F := F) main_v3 main_c_1
  let main_c_2 : IVec S_ 32 := constantI S_ 32 256#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_c_3 : IVec S_ 32 := constantI S_ 32 256#32
  let main_v10 : IVec S_ 1 := cmpi .sge main_v9 main_c_3
  let main_v11 : IVec S1 32 := (extractStridedSlice S1 ![31] · slices_S32_S1_31) main_v7
  let main_v12 : IVec S_ 32 := shapeCast S_ main_v11 shapeCasts_S1_S_
  let main_c_4 : IVec S_ 32 := constantI S_ 32 26624#32
  let main_v13 : IVec S_ 1 := cmpi .sle main_v12 main_c_4
  let main_v14 : IVec S_ 1 := andi main_v10 main_v13
  main_v14
-- ==== Kernel.lean ====
abbrev S32 : Shape := ⟨1, ![32]⟩
abbrev S212992x128 : Shape := ⟨2, ![212992, 128]⟩
abbrev S1x32x2048x512 : Shape := ⟨4, ![1, 32, 2048, 512]⟩
abbrev S1x32x512x2048 : Shape := ⟨4, ![1, 32, 512, 2048]⟩
abbrev S_ : Shape := ⟨0, ![]⟩
abbrev S1 : Shape := ⟨1, ![1]⟩
abbrev S104 : Shape := ⟨1, ![104]⟩
abbrev S104x1 : Shape := ⟨2, ![104, 1]⟩
abbrev S1x32 : Shape := ⟨2, ![1, 32]⟩
abbrev S104x32 : Shape := ⟨2, ![104, 32]⟩
abbrev S2048x128 : Shape := ⟨2, ![2048, 128]⟩
abbrev S2x2048x512 : Shape := ⟨3, ![2, 2048, 512]⟩
abbrev S2x512x2048 : Shape := ⟨3, ![2, 512, 2048]⟩
abbrev S2x3 : Shape := ⟨2, ![2, 3]⟩
abbrev S2 : Shape := ⟨1, ![2]⟩
abbrev S1x1 : Shape := ⟨2, ![1, 1]⟩
abbrev S1x2048x512 : Shape := ⟨3, ![1, 2048, 512]⟩
abbrev S2048x512 : Shape := ⟨2, ![2048, 512]⟩
abbrev S1x1x2048x512 : Shape := ⟨4, ![1, 1, 2048, 512]⟩
abbrev S1x512x2048 : Shape := ⟨3, ![1, 512, 2048]⟩
abbrev S512x2048 : Shape := ⟨2, ![512, 2048]⟩
abbrev S1x1x512x2048 : Shape := ⟨4, ![1, 1, 512, 2048]⟩
abbrev S256x128 : Shape := ⟨2, ![256, 128]⟩
abbrev S256x2048 : Shape := ⟨2, ![256, 2048]⟩
abbrev S256x512 : Shape := ⟨2, ![256, 512]⟩
abbrev S26624x2048 : Shape := ⟨2, ![26624, 2048]⟩
abbrev S26624x128 : Shape := ⟨2, ![26624, 128]⟩

abbrev nBuf : Space → Nat
  | .hbm => 76
  | .vmem => 9
  | .smem => 3
  | _ => 0

abbrev bufTy : (tb : Table) → Fin (tcTables nBuf tb) → BufTy
  | .hbm, ⟨0, _⟩ => ⟨S32, .i32⟩
  | .hbm, ⟨1, _⟩ => ⟨S212992x128, .i32⟩
  | .hbm, ⟨2, _⟩ => ⟨S1x32x2048x512, .f32⟩
  | .hbm, ⟨3, _⟩ => ⟨S1x32x2048x512, .f32⟩
  | .hbm, ⟨4, _⟩ => ⟨S1x32x512x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S104, .i32⟩
  | .hbm, ⟨51, _⟩ => ⟨S104x1, .i32⟩
  | .hbm, ⟨52, _⟩ => ⟨S_, .i32⟩
  | .hbm, ⟨53, _⟩ => ⟨S104x1, .i32⟩
  | .hbm, ⟨54, _⟩ => ⟨S104x1, .i32⟩
  | .hbm, ⟨55, _⟩ => ⟨S1x32, .i32⟩
  | .hbm, ⟨56, _⟩ => ⟨S104x32, .i32⟩
  | .hbm, ⟨57, _⟩ => ⟨S104x32, .i32⟩
  | .hbm, ⟨58, _⟩ => ⟨S104x32, .i1⟩
  | .hbm, ⟨59, _⟩ => ⟨S104x32, .i32⟩
  | .hbm, ⟨60, _⟩ => ⟨S_, .i32⟩
  | .hbm, ⟨61, _⟩ => ⟨S104, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S32, .i32⟩
  | .hbm, ⟨67, _⟩ => ⟨S32, .i1⟩
  | .hbm, ⟨68, _⟩ => ⟨S32, .i32⟩
  | .hbm, ⟨69, _⟩ => ⟨S_, .i32⟩
  | .hbm, ⟨70, _⟩ => ⟨S_, .i32⟩
  | .hbm, ⟨71, _⟩ => ⟨S104, .i32⟩
  | .hbm, ⟨72, _⟩ => ⟨S104, .i1⟩
  | .hbm, ⟨73, _⟩ => ⟨S104, .i32⟩
  | .hbm, ⟨74, _⟩ => ⟨S212992x128, .i32⟩
  | .hbm, ⟨75, _⟩ => ⟨S26624x2048, .f32⟩
  | .local _ .vmem, ⟨0, _⟩ => ⟨S2048x128, .i32⟩
  | .local _ .vmem, ⟨1, _⟩ => ⟨S2048x128, .i32⟩
  | .local _ .vmem, ⟨2, _⟩ => ⟨S2048x128, .i32⟩
  | .local _ .vmem, ⟨3, _⟩ => ⟨S2048x128, .i32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S212992x128, .i32⟩
  | .local _ .vmem, ⟨8, _⟩ => ⟨S26624x2048, .f32⟩
  | .local _ .smem, ⟨0, _⟩ => ⟨S104, .i32⟩
  | .local _ .smem, ⟨1, _⟩ => ⟨S1, .i32⟩
  | .local _ .smem, ⟨2, _⟩ => ⟨S2, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_4 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_5 : Ref sig .tc := ⟨.hbm, 60, rfl⟩
abbrev main_v20 : Ref sig .tc := ⟨.hbm, 61, rfl⟩
abbrev main_c_6 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_8 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_call3_v0 : Ref sig .tc := ⟨.hbm, 73, rfl⟩
abbrev main_v31 : Ref sig .tc := ⟨.hbm, 74, rfl⟩
abbrev main_v32 : Ref sig .tc := ⟨.hbm, 75, rfl⟩
abbrev main_v29 : Ref sig .tc := ⟨.smem, 0, rfl⟩
abbrev main_v30 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_stg0_0 : Ref sig .tc := ⟨.vmem, 7, rfl⟩
abbrev cc1_stg1_0 : Ref sig .tc := ⟨.vmem, 8, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 10
abbrev cc1_sem1_0 : DmaSem sig := 11

abbrev nD : Nat := 1
abbrev τ : Topo := Topo.v7x

variable {F : FTy → Type} [BitOps F]

abbrev grid0 : Pipeline.Grid := ⟨1, ![104], ![false]⟩

abbrev pre0 : Pipeline.Prefetch sig := ⟨2, ![main_v29.idx, main_v30.idx], fun | 0 => main_v29.names | 1 => main_v30.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v11 : BitVec 32) : Fin 4 → Nat :=
  let c0_i32_6 : BitVec 32 := 0#32
  let c0_i32_12 : BitVec 32 := 0#32
  let c0_i32_13 : BitVec 32 := 0#32
  ![0, v11.toNat, 0, 0]

def k0_off2 (v11 : BitVec 32) : Fin 4 → Nat :=
  let c0_i32_21 : BitVec 32 := 0#32
  let c0_i32_26 : BitVec 32 := 0#32
  let c0_i32_27 : BitVec 32 := 0#32
  ![0, v11.toNat, 0, 0]

def k0_chk1 (i : grid0.Coords) (v11 : BitVec 32) : Prop :=
  (∀ (k0_h1 : k0_cond1 i = 1#1), ∀ a, (k0_off1 v11) a + S1x1x2048x512.size a ≤ S1x32x2048x512.size a) ∧
  (∀ (k0_h1 : k0_cond1 i = 1#1), ∀ a, (k0_off2 v11) a + S1x1x512x2048.size a ≤ S1x32x512x2048.size a)
theorem k0_off1_inb : ∀ (i : grid0.Coords) (v11 : BitVec 32) (k0_hw1 : k0_chk1 i v11), ∀ (k0_h1 : k0_cond1 i = 1#1), ∀ a, (k0_off1 v11) a + S1x1x2048x512.size a ≤ S1x32x2048x512.size a := fun i v11 k0_hw1 k0_h1 => k0_hw1.1 k0_h1
theorem k0_off2_inb : ∀ (i : grid0.Coords) (v11 : BitVec 32) (k0_hw1 : k0_chk1 i v11), ∀ (k0_h1 : k0_cond1 i = 1#1), ∀ a, (k0_off2 v11) a + S1x1x512x2048.size a ≤ S1x32x512x2048.size a := fun i v11 k0_hw1 k0_h1 => k0_hw1.2 k0_h1

def k0_off3 (i : grid0.Coords) : Fin 1 → Nat :=
  let arg0 : BitVec 32 := BitVec.ofNat 32 (i 0).val
  let v10 : Index := Scalar.indexCast arg0
  ![v10.toNat]
def k0_off4 (i : grid0.Coords) : Fin 1 → Nat :=
  let arg0 : BitVec 32 := BitVec.ofNat 32 (i 0).val
  let c1_i32 : BitVec 32 := 1#32
  let v13 : BitVec 32 := Scalar.subi arg0 c1_i32
  let c0_i32_4 : BitVec 32 := 0#32
  let v14 : BitVec 32 := Scalar.maxsi v13 c0_i32_4
  let v15 : Index := Scalar.indexCast v14
  ![v15.toNat]
@[reducible] def k0_t1_loop : Scf.Loop 32 :=
  let c0_i32_54 : BitVec 32 := 0#32
  let c104_i32 : BitVec 32 := 104#32
  let v121 : BitVec 32 := Scalar.addi c0_i32_54 c104_i32
  let c1_i32_55 : BitVec 32 := 1#32
  ⟨c0_i32_54, v121, c1_i32_55⟩
def k0_off5 (k0_t1 : Fin k0_t1_loop.trips) : Fin 1 → Nat :=
  let c0_i32_54 : BitVec 32 := 0#32
  let c1_i32_55 : BitVec 32 := 1#32
  let arg13 : BitVec 32 := Scf.iv c0_i32_54 c1_i32_55 k0_t1
  let v147 : Index := Scalar.indexCast arg13
  ![v147.toNat]
def k0_off6 (v0 : BitVec 32) (v122 : BitVec 32) : Fin 1 → Nat :=
  let c1_i32_76 : BitVec 32 := 1#32
  let v144 : BitVec 32 := Scalar.subi v0 c1_i32_76
  let v145 : BitVec 32 := Scalar.minsi v122 v144
  let v146 : Index := Scalar.indexCast v145
  ![v146.toNat]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_cond3 (i : grid0.Coords) (v11 : BitVec 32) (v16 : BitVec 32) : BitVec 1 :=
  let arg0 : BitVec 32 := BitVec.ofNat 32 (i 0).val
  let c0_i32_3 : BitVec 32 := 0#32
  let v12 : BitVec 1 := Scalar.cmpi .eq arg0 c0_i32_3
  let v17 : BitVec 1 := Scalar.cmpi .ne v11 v16
  let v18 : BitVec 1 := Scalar.ori v12 v17
  let v19 : BitVec 32 := Scalar.extui v18
  let c0_i32_5 : BitVec 32 := 0#32
  let v20 : BitVec 1 := Scalar.cmpi .ne v19 c0_i32_5
  v20

def k0_cond4 (v0 : BitVec 32) (v122 : BitVec 32) : BitVec 1 :=
  let v123 : BitVec 1 := Scalar.cmpi .slt v122 v0
  let v124 : BitVec 32 := Scalar.extui v123
  let c0_i32_57 : BitVec 32 := 0#32
  let v125 : BitVec 1 := Scalar.cmpi .ne v124 c0_i32_57
  v125

def k0_off7 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_79 : BitVec 32 := 0#32
  ![v148.toNat, 0]
def k0_off8 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_80 : BitVec 32 := 0#32
  let c0_i32_81 : BitVec 32 := 0#32
  ![v148.toNat, 0, 0]
def k0_off9 (v147 : BitVec 32) : Fin 4 → Nat :=
  let c0_i32_78 : BitVec 32 := 0#32
  let c0_i32_82 : BitVec 32 := 0#32
  let c0_i32_83 : BitVec 32 := 0#32
  ![0, v147.toNat, 0, 0]

def k0_off10 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c1_i32_85 : BitVec 32 := 1#32
  ![v148.toNat, 1]
def k0_off11 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_86 : BitVec 32 := 0#32
  let c0_i32_87 : BitVec 32 := 0#32
  ![v148.toNat, 0, 0]
def k0_off12 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c2_i32_91 : BitVec 32 := 2#32
  ![v148.toNat, 2]
def k0_off13 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_92 : BitVec 32 := 0#32
  let c0_i32_93 : BitVec 32 := 0#32
  ![v148.toNat, 0, 0]

def k0_chk2 (i : grid0.Coords) (v0 : BitVec 32) (v11 : BitVec 32) (v16 : BitVec 32) (v105 : BitVec 32) (v122 : BitVec 32) : Prop :=
  (∀ (k0_h2 : k0_cond2 i v0 = 1#1), ∀ (k0_h3 : k0_cond3 i v11 v16 = 1#1), ∀ (k0_h4 : k0_cond4 v0 v122 = 1#1), ∀ a, (k0_off6 v0 v122) a + S1.size a ≤ S104.size a) ∧
  (∀ (k0_h2 : k0_cond2 i v0 = 1#1), ∀ (k0_h3 : k0_cond3 i v11 v16 = 1#1), ∀ (k0_h4 : k0_cond4 v0 v122 = 1#1), ∀ a, (k0_off7 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off8 v105) a + S1x2048x512.size a ≤ S2x2048x512.size a) ∧
  (∀ (k0_h2 : k0_cond2 i v0 = 1#1), ∀ (k0_h3 : k0_cond3 i v11 v16 = 1#1), ∀ (k0_h4 : k0_cond4 v0 v122 = 1#1), ∀ a, (k0_off10 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off11 v105) a + S1x2048x512.size a ≤ S2x2048x512.size a) ∧
  (∀ (k0_h2 : k0_cond2 i v0 = 1#1), ∀ (k0_h3 : k0_cond3 i v11 v16 = 1#1), ∀ (k0_h4 : k0_cond4 v0 v122 = 1#1), ∀ a, (k0_off12 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off13 v105) a + S1x512x2048.size a ≤ S2x512x2048.size a)
theorem k0_off6_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off6 v0 v122) a + S1.size a ≤ S104.size a := fun i v0 v11 v16 v105 v122 k0_hw2 k0_h2 k0_h3 k0_h4 => k0_hw2.1 k0_h2 k0_h3 k0_h4
theorem k0_off7_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off7 v105) a + S1x1.size a ≤ S2x3.size a := fun i v0 v11 v16 v105 v122 k0_hw2 k0_h2 k0_h3 k0_h4 => k0_hw2.2.1 k0_h2 k0_h3 k0_h4
theorem k0_off8_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off8 v105) a + S1x2048x512.size a ≤ S2x2048x512.size a := fun i v0 v11 v16 v105 v122 k0_hw2 k0_h2 k0_h3 k0_h4 => k0_hw2.2.2.1 k0_h2 k0_h3 k0_h4
theorem k0_off10_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off10 v105) a + S1x1.size a ≤ S2x3.size a := fun i v0 v11 v16 v105 v122 k0_hw2 k0_h2 k0_h3 k0_h4 => k0_hw2.2.2.2.1 k0_h2 k0_h3 k0_h4
theorem k0_off11_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off11 v105) a + S1x2048x512.size a ≤ S2x2048x512.size a := fun i v0 v11 v16 v105 v122 k0_hw2 k0_h2 k0_h3 k0_h4 => k0_hw2.2.2.2.2.1 k0_h2 k0_h3 k0_h4
theorem k0_off12_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off12 v105) a + S1x1.size a ≤ S2x3.size a := fun i v0 v11 v16 v105 v122 k0_hw2 k0_h2 k0_h3 k0_h4 => k0_hw2.2.2.2.2.2.1 k0_h2 k0_h3 k0_h4
theorem k0_off13_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off13 v105) a + S1x512x2048.size a ≤ S2x512x2048.size a := fun i v0 v11 v16 v105 v122 k0_hw2 k0_h2 k0_h3 k0_h4 => k0_hw2.2.2.2.2.2.2 k0_h2 k0_h3 k0_h4

def k0_off14 (v147 : BitVec 32) : Fin 4 → Nat :=
  let c0_i32_90 : BitVec 32 := 0#32
  let c0_i32_94 : BitVec 32 := 0#32
  let c0_i32_95 : BitVec 32 := 0#32
  ![0, v147.toNat, 0, 0]

def k0_chk3 (i : grid0.Coords) (v0 : BitVec 32) (v11 : BitVec 32) (v16 : BitVec 32) (v122 : BitVec 32) (v147 : BitVec 32) : Prop :=
  (∀ (k0_h2 : k0_cond2 i v0 = 1#1), ∀ (k0_h3 : k0_cond3 i v11 v16 = 1#1), ∀ (k0_h4 : k0_cond4 v0 v122 = 1#1), ∀ a, (k0_off9 v147) a + S1x1x2048x512.size a ≤ S1x32x2048x512.size a) ∧
  (∀ (k0_h2 : k0_cond2 i v0 = 1#1), ∀ (k0_h3 : k0_cond3 i v11 v16 = 1#1), ∀ (k0_h4 : k0_cond4 v0 v122 = 1#1), ∀ a, (k0_off14 v147) a + S1x1x512x2048.size a ≤ S1x32x512x2048.size a)
theorem k0_off9_inb : ∀ (i : grid0.Coords) (v0 : BitVec 32) (v11 : BitVec 32) (v16 : BitVec 32) (v122 : BitVec 32) (v147 : BitVec 32) (k0_hw3 : k0_chk3 i v0 v11 v16 v122 v147), ∀ (k0_h2 : k0_cond2 i v0 = 1#1), ∀ (k0_h3 : k0_cond3 i v11 v16 = 1#1), ∀ (k0_h4 : k0_cond4 v0 v122 = 1#1), ∀ a, (k0_off9 v147) a + S1x1x2048x512.size a ≤ S1x32x2048x512.size a := fun i v0 v11 v16 v122 v147 k0_hw3 k0_h2 k0_h3 k0_h4 => k0_hw3.1 k0_h2 k0_h3 k0_h4
theorem k0_off14_inb : ∀ (i : grid0.Coords) (v0 : BitVec 32) (v11 : BitVec 32) (v16 : BitVec 32) (v122 : BitVec 32) (v147 : BitVec 32) (k0_hw3 : k0_chk3 i v0 v11 v16 v122 v147), ∀ (k0_h2 : k0_cond2 i v0 = 1#1), ∀ (k0_h3 : k0_cond3 i v11 v16 = 1#1), ∀ (k0_h4 : k0_cond4 v0 v122 = 1#1), ∀ a, (k0_off14 v147) a + S1x1x512x2048.size a ≤ S1x32x512x2048.size a := fun i v0 v11 v16 v122 v147 k0_hw3 k0_h2 k0_h3 k0_h4 => k0_hw3.2 k0_h2 k0_h3 k0_h4

def k0_off15 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_59 : BitVec 32 := 0#32
  ![v115.toNat, 0]

def k0_off16 (v105 : BitVec 32) : Fin 3 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_60 : BitVec 32 := 0#32
  let c0_i32_61 : BitVec 32 := 0#32
  ![v115.toNat, 0, 0]
def k0_off17 (v11 : BitVec 32) : Fin 4 → Nat :=
  let c0_i32_58 : BitVec 32 := 0#32
  let c0_i32_62 : BitVec 32 := 0#32
  let c0_i32_63 : BitVec 32 := 0#32
  ![0, v11.toNat, 0, 0]

def k0_off18 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c1_i32_65 : BitVec 32 := 1#32
  ![v115.toNat, 1]
def k0_off19 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c2_i32_71 : BitVec 32 := 2#32
  ![v115.toNat, 2]
def k0_off20 (v105 : BitVec 32) : Fin 3 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_72 : BitVec 32 := 0#32
  let c0_i32_73 : BitVec 32 := 0#32
  ![v115.toNat, 0, 0]

def k0_chk4 (i : grid0.Coords) (v0 : BitVec 32) (v11 : BitVec 32) (v16 : BitVec 32) (v105 : BitVec 32) : Prop :=
  (∀ (k0_h2 : k0_cond2 i v0 = 1#1), ∀ (k0_h3 : k0_cond3 i v11 v16 = 1#1), ∀ a, (k0_off15 v105) a + S1x1.size a ≤ S2x3.size a) ∧
  (∀ (k0_h2 : k0_cond2 i v0 = 1#1), ∀ (k0_h3 : k0_cond3 i v11 v16 = 1#1), ∀ a, (k0_off16 v105) a + S1x2048x512.size a ≤ S2x2048x512.size a) ∧
  (∀ (k0_h2 : k0_cond2 i v0 = 1#1), ∀ (k0_h3 : k0_cond3 i v11 v16 = 1#1), ∀ a, (k0_off18 v105) a + S1x1.size a ≤ S2x3.size a) ∧
  (∀ (k0_h2 : k0_cond2 i v0 = 1#1), ∀ (k0_h3 : k0_cond3 i v11 v16 = 1#1), ∀ a, (k0_off19 v105) a + S1x1.size a ≤ S2x3.size a) ∧
  (∀ (k0_h2 : k0_cond2 i v0 = 1#1), ∀ (k0_h3 : k0_cond3 i v11 v16 = 1#1), ∀ a, (k0_off20 v105) a + S1x512x2048.size a ≤ S2x512x2048.size a)
theorem k0_off15_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off15 v105) a + S1x1.size a ≤ S2x3.size a := fun i v0 v11 v16 v105 k0_hw4 k0_h2 k0_h3 => k0_hw4.1 k0_h2 k0_h3
theorem k0_off16_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off16 v105) a + S1x2048x512.size a ≤ S2x2048x512.size a := fun i v0 v11 v16 v105 k0_hw4 k0_h2 k0_h3 => k0_hw4.2.1 k0_h2 k0_h3
theorem k0_off18_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off18 v105) a + S1x1.size a ≤ S2x3.size a := fun i v0 v11 v16 v105 k0_hw4 k0_h2 k0_h3 => k0_hw4.2.2.1 k0_h2 k0_h3
theorem k0_off19_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off19 v105) a + S1x1.size a ≤ S2x3.size a := fun i v0 v11 v16 v105 k0_hw4 k0_h2 k0_h3 => k0_hw4.2.2.2.1 k0_h2 k0_h3
theorem k0_off20_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off20 v105) a + S1x512x2048.size a ≤ S2x512x2048.size a := fun i v0 v11 v16 v105 k0_hw4 k0_h2 k0_h3 => k0_hw4.2.2.2.2 k0_h2 k0_h3

def k0_off21 (v11 : BitVec 32) : Fin 4 → Nat :=
  let c0_i32_70 : BitVec 32 := 0#32
  let c0_i32_74 : BitVec 32 := 0#32
  let c0_i32_75 : BitVec 32 := 0#32
  ![0, v11.toNat, 0, 0]

def k0_chk5 (i : grid0.Coords) (v0 : BitVec 32) (v11 : BitVec 32) (v16 : BitVec 32) : Prop :=
  (∀ (k0_h2 : k0_cond2 i v0 = 1#1), ∀ (k0_h3 : k0_cond3 i v11 v16 = 1#1), ∀ a, (k0_off17 v11) a + S1x1x2048x512.size a ≤ S1x32x2048x512.size a) ∧
  (∀ (k0_h2 : k0_cond2 i v0 = 1#1), ∀ (k0_h3 : k0_cond3 i v11 v16 = 1#1), ∀ a, (k0_off21 v11) a + S1x1x512x2048.size a ≤ S1x32x512x2048.size a)
theorem k0_off17_inb : ∀ (i : grid0.Coords) (v0 : BitVec 32) (v11 : BitVec 32) (v16 : BitVec 32) (k0_hw5 : k0_chk5 i v0 v11 v16), ∀ (k0_h2 : k0_cond2 i v0 = 1#1), ∀ (k0_h3 : k0_cond3 i v11 v16 = 1#1), ∀ a, (k0_off17 v11) a + S1x1x2048x512.size a ≤ S1x32x2048x512.size a := fun i v0 v11 v16 k0_hw5 k0_h2 k0_h3 => k0_hw5.1 k0_h2 k0_h3
theorem k0_off21_inb : ∀ (i : grid0.Coords) (v0 : BitVec 32) (v11 : BitVec 32) (v16 : BitVec 32) (k0_hw5 : k0_chk5 i v0 v11 v16), ∀ (k0_h2 : k0_cond2 i v0 = 1#1), ∀ (k0_h3 : k0_cond3 i v11 v16 = 1#1), ∀ a, (k0_off21 v11) a + S1x1x512x2048.size a ≤ S1x32x512x2048.size a := fun i v0 v11 v16 k0_hw5 k0_h2 k0_h3 => k0_hw5.2 k0_h2 k0_h3

def k0_off22 (v21 : BitVec 32) : Fin 3 → Nat :=
  let v48 : Index := Scalar.indexCast v21
  let c0_16 : Index := 0#32
  let c0_17 : Index := 0#32
  ![v48.toNat, 0, 0]

def k0_off23 (v21 : BitVec 32) : Fin 3 → Nat :=
  let v68 : Index := Scalar.indexCast v21
  let c0_24 : Index := 0#32
  let c0_25 : Index := 0#32
  ![v68.toNat, 0, 0]

def k0_chk6 (i : grid0.Coords) (v0 : BitVec 32) (v21 : BitVec 32) : Prop :=
  (∀ (k0_h2 : k0_cond2 i v0 = 1#1), ∀ a, (k0_off22 v21) a + S1x2048x512.size a ≤ S2x2048x512.size a) ∧
  (∀ (k0_h2 : k0_cond2 i v0 = 1#1), ∀ a, (k0_off23 v21) a + S1x512x2048.size a ≤ S2x512x2048.size a)
theorem k0_off22_inb : ∀ (i : grid0.Coords) (v0 : BitVec 32) (v21 : BitVec 32) (k0_hw6 : k0_chk6 i v0 v21), ∀ (k0_h2 : k0_cond2 i v0 = 1#1), ∀ a, (k0_off22 v21) a + S1x2048x512.size a ≤ S2x2048x512.size a := fun i v0 v21 k0_hw6 k0_h2 => k0_hw6.1 k0_h2
theorem k0_off23_inb : ∀ (i : grid0.Coords) (v0 : BitVec 32) (v21 : BitVec 32) (k0_hw6 : k0_chk6 i v0 v21), ∀ (k0_h2 : k0_cond2 i v0 = 1#1), ∀ a, (k0_off23 v21) a + S1x512x2048.size a ≤ S2x512x2048.size a := fun i v0 v21 k0_hw6 k0_h2 => k0_hw6.2 k0_h2

def k0_cond5 (i : grid0.Coords) (v0 : BitVec 32) : BitVec 1 :=
  let arg0 : BitVec 32 := BitVec.ofNat 32 (i 0).val
  let v7 : BitVec 1 := Scalar.cmpi .sge arg0 v0
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S212992x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S26624x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
abbrev S32 : Shape := ⟨1, ![32]⟩
abbrev S212992x128 : Shape := ⟨2, ![212992, 128]⟩
abbrev S1x32x2048x512 : Shape := ⟨4, ![1, 32, 2048, 512]⟩
abbrev S1x32x512x2048 : Shape := ⟨4, ![1, 32, 512, 2048]⟩
abbrev S_ : Shape := ⟨0, ![]⟩
abbrev S1 : Shape := ⟨1, ![1]⟩
abbrev S104 : Shape := ⟨1, ![104]⟩
abbrev S104x1 : Shape := ⟨2, ![104, 1]⟩
abbrev S1x32 : Shape := ⟨2, ![1, 32]⟩
abbrev S104x32 : Shape := ⟨2, ![104, 32]⟩
abbrev S212992x2x128 : Shape := ⟨3, ![212992, 2, 128]⟩
abbrev S212992x1x128 : Shape := ⟨3, ![212992, 1, 128]⟩
abbrev S2048x128 : Shape := ⟨2, ![2048, 128]⟩
abbrev S2048x2x128 : Shape := ⟨3, ![2048, 2, 128]⟩
abbrev S2048x1x128 : Shape := ⟨3, ![2048, 1, 128]⟩
abbrev S2x2048x512 : Shape := ⟨3, ![2, 2048, 512]⟩
abbrev S2x512x2048 : Shape := ⟨3, ![2, 512, 2048]⟩
abbrev S2x3 : Shape := ⟨2, ![2, 3]⟩
abbrev S2 : Shape := ⟨1, ![2]⟩
abbrev S1x1 : Shape := ⟨2, ![1, 1]⟩
abbrev S1x2048x512 : Shape := ⟨3, ![1, 2048, 512]⟩
abbrev S2048x512 : Shape := ⟨2, ![2048, 512]⟩
abbrev S1x1x2048x512 : Shape := ⟨4, ![1, 1, 2048, 512]⟩
abbrev S1x512x2048 : Shape := ⟨3, ![1, 512, 2048]⟩
abbrev S512x2048 : Shape := ⟨2, ![512, 2048]⟩
abbrev S1x1x512x2048 : Shape := ⟨4, ![1, 1, 512, 2048]⟩
abbrev S256x128 : Shape := ⟨2, ![256, 128]⟩
abbrev S256x2048 : Shape := ⟨2, ![256, 2048]⟩
abbrev S256x512 : Shape := ⟨2, ![256, 512]⟩
abbrev S256x2x128 : Shape := ⟨3, ![256, 2, 128]⟩
abbrev S256x1x128 : Shape := ⟨3, ![256, 1, 128]⟩
abbrev S26624x2048 : Shape := ⟨2, ![26624, 2048]⟩
abbrev S26624x128 : Shape := ⟨2, ![26624, 128]⟩
abbrev S26624x2x128 : Shape := ⟨3, ![26624, 2, 128]⟩
abbrev S26624x1x128 : Shape := ⟨3, ![26624, 1, 128]⟩
abbrev S53248x128 : Shape := ⟨2, ![53248, 128]⟩

abbrev nBuf : Space → Nat
  | .hbm => 76
  | .vmem => 9
  | .smem => 3
  | _ => 0

abbrev bufTy : (tb : Table) → Fin (tcTables nBuf tb) → BufTy
  | .hbm, ⟨0, _⟩ => ⟨S32, .i32⟩
  | .hbm, ⟨1, _⟩ => ⟨S212992x128, .i32⟩
  | .hbm, ⟨2, _⟩ => ⟨S1x32x2048x512, .f32⟩
  | .hbm, ⟨3, _⟩ => ⟨S1x32x2048x512, .f32⟩
  | .hbm, ⟨4, _⟩ => ⟨S1x32x512x2048, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S104, .i32⟩
  | .hbm, ⟨51, _⟩ => ⟨S104x1, .i32⟩
  | .hbm, ⟨52, _⟩ => ⟨S_, .i32⟩
  | .hbm, ⟨53, _⟩ => ⟨S104x1, .i32⟩
  | .hbm, ⟨54, _⟩ => ⟨S104x1, .i32⟩
  | .hbm, ⟨55, _⟩ => ⟨S1x32, .i32⟩
  | .hbm, ⟨56, _⟩ => ⟨S104x32, .i32⟩
  | .hbm, ⟨57, _⟩ => ⟨S104x32, .i32⟩
  | .hbm, ⟨58, _⟩ => ⟨S104x32, .i1⟩
  | .hbm, ⟨59, _⟩ => ⟨S104x32, .i32⟩
  | .hbm, ⟨60, _⟩ => ⟨S_, .i32⟩
  | .hbm, ⟨61, _⟩ => ⟨S104, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S32, .i32⟩
  | .hbm, ⟨67, _⟩ => ⟨S32, .i1⟩
  | .hbm, ⟨68, _⟩ => ⟨S32, .i32⟩
  | .hbm, ⟨69, _⟩ => ⟨S_, .i32⟩
  | .hbm, ⟨70, _⟩ => ⟨S_, .i32⟩
  | .hbm, ⟨71, _⟩ => ⟨S104, .i32⟩
  | .hbm, ⟨72, _⟩ => ⟨S104, .i1⟩
  | .hbm, ⟨73, _⟩ => ⟨S104, .i32⟩
  | .hbm, ⟨74, _⟩ => ⟨S212992x2x128, .bf16⟩
  | .hbm, ⟨75, _⟩ => ⟨S26624x2048, .f32⟩
  | .local _ .vmem, ⟨0, _⟩ => ⟨S2048x128, .i32⟩
  | .local _ .vmem, ⟨1, _⟩ => ⟨S2048x128, .i32⟩
  | .local _ .vmem, ⟨2, _⟩ => ⟨S2048x2x128, .bf16⟩
  | .local _ .vmem, ⟨3, _⟩ => ⟨S2048x2x128, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S212992x2x128, .bf16⟩
  | .local _ .vmem, ⟨8, _⟩ => ⟨S26624x2048, .f32⟩
  | .local _ .smem, ⟨0, _⟩ => ⟨S104, .i32⟩
  | .local _ .smem, ⟨1, _⟩ => ⟨S1, .i32⟩
  | .local _ .smem, ⟨2, _⟩ => ⟨S2, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_4 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_5 : Ref sig .tc := ⟨.hbm, 60, rfl⟩
abbrev main_v20 : Ref sig .tc := ⟨.hbm, 61, rfl⟩
abbrev main_c_6 : Ref sig .tc := ⟨.hbm, 62, rfl⟩
abbrev main_v21 : Ref sig .tc := ⟨.hbm, 63, rfl⟩
abbrev main_c_7 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_c_8 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_call3_v0 : Ref sig .tc := ⟨.hbm, 73, rfl⟩
abbrev main_v31 : Ref sig .tc := ⟨.hbm, 74, rfl⟩
abbrev main_v32 : Ref sig .tc := ⟨.hbm, 75, rfl⟩
abbrev main_v29 : Ref sig .tc := ⟨.smem, 0, rfl⟩
abbrev main_v30 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc1_stg0_0 : Ref sig .tc := ⟨.vmem, 7, rfl⟩
abbrev cc1_stg1_0 : Ref sig .tc := ⟨.vmem, 8, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 10
abbrev cc1_sem1_0 : DmaSem sig := 11

abbrev nD : Nat := 1
abbrev τ : Topo := Topo.v7x

variable {F : FTy → Type} [FloatOps F]

abbrev grid0 : Pipeline.Grid := ⟨1, ![104], ![false]⟩

abbrev pre0 : Pipeline.Prefetch sig := ⟨2, ![main_v29.idx, main_v30.idx], fun | 0 => main_v29.names | 1 => main_v30.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v11 : BitVec 32) : Fin 4 → Nat :=
  let c0_i32_6 : BitVec 32 := 0#32
  let c0_i32_12 : BitVec 32 := 0#32
  let c0_i32_13 : BitVec 32 := 0#32
  ![0, v11.toNat, 0, 0]

def k0_off2 (v11 : BitVec 32) : Fin 4 → Nat :=
  let c0_i32_21 : BitVec 32 := 0#32
  let c0_i32_26 : BitVec 32 := 0#32
  let c0_i32_27 : BitVec 32 := 0#32
  ![0, v11.toNat, 0, 0]

def k0_chk1 (i : grid0.Coords) (v11 : BitVec 32) : Prop :=
  (∀ (k0_h1 : k0_cond1 i = 1#1), ∀ a, (k0_off1 v11) a + S1x1x2048x512.size a ≤ S1x32x2048x512.size a) ∧
  (∀ (k0_h1 : k0_cond1 i = 1#1), ∀ a, (k0_off2 v11) a + S1x1x512x2048.size a ≤ S1x32x512x2048.size a)
theorem k0_off1_inb : ∀ (i : grid0.Coords) (v11 : BitVec 32) (k0_hw1 : k0_chk1 i v11), ∀ (k0_h1 : k0_cond1 i = 1#1), ∀ a, (k0_off1 v11) a + S1x1x2048x512.size a ≤ S1x32x2048x512.size a := fun i v11 k0_hw1 k0_h1 => k0_hw1.1 k0_h1
theorem k0_off2_inb : ∀ (i : grid0.Coords) (v11 : BitVec 32) (k0_hw1 : k0_chk1 i v11), ∀ (k0_h1 : k0_cond1 i = 1#1), ∀ a, (k0_off2 v11) a + S1x1x512x2048.size a ≤ S1x32x512x2048.size a := fun i v11 k0_hw1 k0_h1 => k0_hw1.2 k0_h1

def k0_off3 (i : grid0.Coords) : Fin 1 → Nat :=
  let arg0 : BitVec 32 := BitVec.ofNat 32 (i 0).val
  let v10 : Index := Scalar.indexCast arg0
  ![v10.toNat]
def k0_off4 (i : grid0.Coords) : Fin 1 → Nat :=
  let arg0 : BitVec 32 := BitVec.ofNat 32 (i 0).val
  let c1_i32 : BitVec 32 := 1#32
  let v13 : BitVec 32 := Scalar.subi arg0 c1_i32
  let c0_i32_4 : BitVec 32 := 0#32
  let v14 : BitVec 32 := Scalar.maxsi v13 c0_i32_4
  let v15 : Index := Scalar.indexCast v14
  ![v15.toNat]
@[reducible] def k0_t1_loop : Scf.Loop 32 :=
  let c0_i32_54 : BitVec 32 := 0#32
  let c104_i32 : BitVec 32 := 104#32
  let v121 : BitVec 32 := Scalar.addi c0_i32_54 c104_i32
  let c1_i32_55 : BitVec 32 := 1#32
  ⟨c0_i32_54, v121, c1_i32_55⟩
def k0_off5 (k0_t1 : Fin k0_t1_loop.trips) : Fin 1 → Nat :=
  let c0_i32_54 : BitVec 32 := 0#32
  let c1_i32_55 : BitVec 32 := 1#32
  let arg13 : BitVec 32 := Scf.iv c0_i32_54 c1_i32_55 k0_t1
  let v147 : Index := Scalar.indexCast arg13
  ![v147.toNat]
def k0_off6 (v0 : BitVec 32) (v122 : BitVec 32) : Fin 1 → Nat :=
  let c1_i32_76 : BitVec 32 := 1#32
  let v144 : BitVec 32 := Scalar.subi v0 c1_i32_76
  let v145 : BitVec 32 := Scalar.minsi v122 v144
  let v146 : Index := Scalar.indexCast v145
  ![v146.toNat]
def k0_cond2 (i : grid0.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k0_cond3 (i : grid0.Coords) (v11 : BitVec 32) (v16 : BitVec 32) : BitVec 1 :=
  let arg0 : BitVec 32 := BitVec.ofNat 32 (i 0).val
  let c0_i32_3 : BitVec 32 := 0#32
  let v12 : BitVec 1 := Scalar.cmpi .eq arg0 c0_i32_3
  let v17 : BitVec 1 := Scalar.cmpi .ne v11 v16
  let v18 : BitVec 1 := Scalar.ori v12 v17
  let v19 : BitVec 32 := Scalar.extui v18
  let c0_i32_5 : BitVec 32 := 0#32
  let v20 : BitVec 1 := Scalar.cmpi .ne v19 c0_i32_5
  v20

def k0_cond4 (v0 : BitVec 32) (v122 : BitVec 32) : BitVec 1 :=
  let v123 : BitVec 1 := Scalar.cmpi .slt v122 v0
  let v124 : BitVec 32 := Scalar.extui v123
  let c0_i32_57 : BitVec 32 := 0#32
  let v125 : BitVec 1 := Scalar.cmpi .ne v124 c0_i32_57
  v125

def k0_off7 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_79 : BitVec 32 := 0#32
  ![v148.toNat, 0]
def k0_off8 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_80 : BitVec 32 := 0#32
  let c0_i32_81 : BitVec 32 := 0#32
  ![v148.toNat, 0, 0]
def k0_off9 (v147 : BitVec 32) : Fin 4 → Nat :=
  let c0_i32_78 : BitVec 32 := 0#32
  let c0_i32_82 : BitVec 32 := 0#32
  let c0_i32_83 : BitVec 32 := 0#32
  ![0, v147.toNat, 0, 0]

def k0_off10 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c1_i32_85 : BitVec 32 := 1#32
  ![v148.toNat, 1]
def k0_off11 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_86 : BitVec 32 := 0#32
  let c0_i32_87 : BitVec 32 := 0#32
  ![v148.toNat, 0, 0]
def k0_off12 (v105 : BitVec 32) : Fin 2 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c2_i32_91 : BitVec 32 := 2#32
  ![v148.toNat, 2]
def k0_off13 (v105 : BitVec 32) : Fin 3 → Nat :=
  let c1_i32_77 : BitVec 32 := 1#32
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let v148 : BitVec 32 := Scalar.subi c1_i32_77 v115
  let c0_i32_92 : BitVec 32 := 0#32
  let c0_i32_93 : BitVec 32 := 0#32
  ![v148.toNat, 0, 0]

def k0_chk2 (i : grid0.Coords) (v0 : BitVec 32) (v11 : BitVec 32) (v16 : BitVec 32) (v105 : BitVec 32) (v122 : BitVec 32) : Prop :=
  (∀ (k0_h2 : k0_cond2 i v0 = 1#1), ∀ (k0_h3 : k0_cond3 i v11 v16 = 1#1), ∀ (k0_h4 : k0_cond4 v0 v122 = 1#1), ∀ a, (k0_off6 v0 v122) a + S1.size a ≤ S104.size a) ∧
  (∀ (k0_h2 : k0_cond2 i v0 = 1#1), ∀ (k0_h3 : k0_cond3 i v11 v16 = 1#1), ∀ (k0_h4 : k0_cond4 v0 v122 = 1#1), ∀ a, (k0_off7 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off8 v105) a + S1x2048x512.size a ≤ S2x2048x512.size a) ∧
  (∀ (k0_h2 : k0_cond2 i v0 = 1#1), ∀ (k0_h3 : k0_cond3 i v11 v16 = 1#1), ∀ (k0_h4 : k0_cond4 v0 v122 = 1#1), ∀ a, (k0_off10 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off11 v105) a + S1x2048x512.size a ≤ S2x2048x512.size a) ∧
  (∀ (k0_h2 : k0_cond2 i v0 = 1#1), ∀ (k0_h3 : k0_cond3 i v11 v16 = 1#1), ∀ (k0_h4 : k0_cond4 v0 v122 = 1#1), ∀ a, (k0_off12 v105) a + S1x1.size a ≤ S2x3.size a) ∧
  (∀ (k0_h2 : k0_cond2 i v0 = 1#1), ∀ (k0_h3 : k0_cond3 i v11 v16 = 1#1), ∀ (k0_h4 : k0_cond4 v0 v122 = 1#1), ∀ a, (k0_off13 v105) a + S1x512x2048.size a ≤ S2x512x2048.size a)
theorem k0_off6_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off6 v0 v122) a + S1.size a ≤ S104.size a := fun i v0 v11 v16 v105 v122 k0_hw2 k0_h2 k0_h3 k0_h4 => k0_hw2.1 k0_h2 k0_h3 k0_h4
theorem k0_off7_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off7 v105) a + S1x1.size a ≤ S2x3.size a := fun i v0 v11 v16 v105 v122 k0_hw2 k0_h2 k0_h3 k0_h4 => k0_hw2.2.1 k0_h2 k0_h3 k0_h4
theorem k0_off8_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off8 v105) a + S1x2048x512.size a ≤ S2x2048x512.size a := fun i v0 v11 v16 v105 v122 k0_hw2 k0_h2 k0_h3 k0_h4 => k0_hw2.2.2.1 k0_h2 k0_h3 k0_h4
theorem k0_off10_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off10 v105) a + S1x1.size a ≤ S2x3.size a := fun i v0 v11 v16 v105 v122 k0_hw2 k0_h2 k0_h3 k0_h4 => k0_hw2.2.2.2.1 k0_h2 k0_h3 k0_h4
theorem k0_off11_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off11 v105) a + S1x2048x512.size a ≤ S2x2048x512.size a := fun i v0 v11 v16 v105 v122 k0_hw2 k0_h2 k0_h3 k0_h4 => k0_hw2.2.2.2.2.1 k0_h2 k0_h3 k0_h4
theorem k0_off12_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off12 v105) a + S1x1.size a ≤ S2x3.size a := fun i v0 v11 v16 v105 v122 k0_hw2 k0_h2 k0_h3 k0_h4 => k0_hw2.2.2.2.2.2.1 k0_h2 k0_h3 k0_h4
theorem k0_off13_inb : ∀ (i : grid0.Coords) (v0 : BitVec 32) (v11 : BitVec 32) (v16 : BitVec 32) (v105 : BitVec 32) (v122 : BitVec 32) (k0_hw2 : k0_chk2 i v0 v11 v16 v105 v122), ∀ (k0_h2 : k0_cond2 i v0 = 1#1), ∀ (k0_h3 : k0_cond3 i v11 v16 = 1#1), ∀ (k0_h4 : k0_cond4 v0 v122 = 1#1), ∀ a, (k0_off13 v105) a + S1x512x2048.size a ≤ S2x512x2048.size a := fun i v0 v11 v16 v105 v122 k0_hw2 k0_h2 k0_h3 k0_h4 => k0_hw2.2.2.2.2.2.2 k0_h2 k0_h3 k0_h4

def k0_off14 (v147 : BitVec 32) : Fin 4 → Nat :=
  let c0_i32_90 : BitVec 32 := 0#32
  let c0_i32_94 : BitVec 32 := 0#32
  let c0_i32_95 : BitVec 32 := 0#32
  ![0, v147.toNat, 0, 0]

def k0_chk3 (i : grid0.Coords) (v0 : BitVec 32) (v11 : BitVec 32) (v16 : BitVec 32) (v122 : BitVec 32) (v147 : BitVec 32) : Prop :=
  (∀ (k0_h2 : k0_cond2 i v0 = 1#1), ∀ (k0_h3 : k0_cond3 i v11 v16 = 1#1), ∀ (k0_h4 : k0_cond4 v0 v122 = 1#1), ∀ a, (k0_off9 v147) a + S1x1x2048x512.size a ≤ S1x32x2048x512.size a) ∧
  (∀ (k0_h2 : k0_cond2 i v0 = 1#1), ∀ (k0_h3 : k0_cond3 i v11 v16 = 1#1), ∀ (k0_h4 : k0_cond4 v0 v122 = 1#1), ∀ a, (k0_off14 v147) a + S1x1x512x2048.size a ≤ S1x32x512x2048.size a)
theorem k0_off9_inb : ∀ (i : grid0.Coords) (v0 : BitVec 32) (v11 : BitVec 32) (v16 : BitVec 32) (v122 : BitVec 32) (v147 : BitVec 32) (k0_hw3 : k0_chk3 i v0 v11 v16 v122 v147), ∀ (k0_h2 : k0_cond2 i v0 = 1#1), ∀ (k0_h3 : k0_cond3 i v11 v16 = 1#1), ∀ (k0_h4 : k0_cond4 v0 v122 = 1#1), ∀ a, (k0_off9 v147) a + S1x1x2048x512.size a ≤ S1x32x2048x512.size a := fun i v0 v11 v16 v122 v147 k0_hw3 k0_h2 k0_h3 k0_h4 => k0_hw3.1 k0_h2 k0_h3 k0_h4
theorem k0_off14_inb : ∀ (i : grid0.Coords) (v0 : BitVec 32) (v11 : BitVec 32) (v16 : BitVec 32) (v122 : BitVec 32) (v147 : BitVec 32) (k0_hw3 : k0_chk3 i v0 v11 v16 v122 v147), ∀ (k0_h2 : k0_cond2 i v0 = 1#1), ∀ (k0_h3 : k0_cond3 i v11 v16 = 1#1), ∀ (k0_h4 : k0_cond4 v0 v122 = 1#1), ∀ a, (k0_off14 v147) a + S1x1x512x2048.size a ≤ S1x32x512x2048.size a := fun i v0 v11 v16 v122 v147 k0_hw3 k0_h2 k0_h3 k0_h4 => k0_hw3.2 k0_h2 k0_h3 k0_h4

def k0_off15 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_59 : BitVec 32 := 0#32
  ![v115.toNat, 0]

def k0_off16 (v105 : BitVec 32) : Fin 3 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_60 : BitVec 32 := 0#32
  let c0_i32_61 : BitVec 32 := 0#32
  ![v115.toNat, 0, 0]
def k0_off17 (v11 : BitVec 32) : Fin 4 → Nat :=
  let c0_i32_58 : BitVec 32 := 0#32
  let c0_i32_62 : BitVec 32 := 0#32
  let c0_i32_63 : BitVec 32 := 0#32
  ![0, v11.toNat, 0, 0]

def k0_off18 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c1_i32_65 : BitVec 32 := 1#32
  ![v115.toNat, 1]
def k0_off19 (v105 : BitVec 32) : Fin 2 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c2_i32_71 : BitVec 32 := 2#32
  ![v115.toNat, 2]
def k0_off20 (v105 : BitVec 32) : Fin 3 → Nat :=
  let c2_i32 : BitVec 32 := 2#32
  let c0_i32_44 : BitVec 32 := 0#32
  let v106 : BitVec 1 := Scalar.cmpi .eq c2_i32 c0_i32_44
  let c1_i32_45 : BitVec 32 := 1#32
  let v107 : BitVec 32 := Scalar.select v106 c1_i32_45 c2_i32
  let v108 : BitVec 32 := Scalar.remsi v105 v107
  let c0_i32_47 : BitVec 32 := 0#32
  let v110 : BitVec 1 := Scalar.cmpi .slt v108 c0_i32_47
  let c0_i32_48 : BitVec 32 := 0#32
  let v111 : BitVec 1 := Scalar.cmpi .slt v107 c0_i32_48
  let v112 : BitVec 1 := Scalar.xori v110 v111
  let c0_i32_46 : BitVec 32 := 0#32
  let v109 : BitVec 1 := Scalar.cmpi .ne v108 c0_i32_46
  let v113 : BitVec 1 := Scalar.andi v112 v109
  let v114 : BitVec 32 := Scalar.addi v108 v107
  let v115 : BitVec 32 := Scalar.select v113 v114 v108
  let c0_i32_72 : BitVec 32 := 0#32
  let c0_i32_73 : BitVec 32 := 0#32
  ![v115.toNat, 0, 0]

def k0_chk4 (i : grid0.Coords) (v0 : BitVec 32) (v11 : BitVec 32) (v16 : BitVec 32) (v105 : BitVec 32) : Prop :=
  (∀ (k0_h2 : k0_cond2 i v0 = 1#1), ∀ (k0_h3 : k0_cond3 i v11 v16 = 1#1), ∀ a, (k0_off15 v105) a + S1x1.size a ≤ S2x3.size a) ∧
  (∀ (k0_h2 : k0_cond2 i v0 = 1#1), ∀ (k0_h3 : k0_cond3 i v11 v16 = 1#1), ∀ a, (k0_off16 v105) a + S1x2048x512.size a ≤ S2x2048x512.size a) ∧
  (∀ (k0_h2 : k0_cond2 i v0 = 1#1), ∀ (k0_h3 : k0_cond3 i v11 v16 = 1#1), ∀ a, (k0_off18 v105) a + S1x1.size a ≤ S2x3.size a) ∧
  (∀ (k0_h2 : k0_cond2 i v0 = 1#1), ∀ (k0_h3 : k0_cond3 i v11 v16 = 1#1), ∀ a, (k0_off19 v105) a + S1x1.size a ≤ S2x3.size a) ∧
  (∀ (k0_h2 : k0_cond2 i v0 = 1#1), ∀ (k0_h3 : k0_cond3 i v11 v16 = 1#1), ∀ a, (k0_off20 v105) a + S1x512x2048.size a ≤ S2x512x2048.size a)
theorem k0_off15_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off15 v105) a + S1x1.size a ≤ S2x3.size a := fun i v0 v11 v16 v105 k0_hw4 k0_h2 k0_h3 => k0_hw4.1 k0_h2 k0_h3
theorem k0_off16_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off16 v105) a + S1x2048x512.size a ≤ S2x2048x512.size a := fun i v0 v11 v16 v105 k0_hw4 k0_h2 k0_h3 => k0_hw4.2.1 k0_h2 k0_h3
theorem k0_off18_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off18 v105) a + S1x1.size a ≤ S2x3.size a := fun i v0 v11 v16 v105 k0_hw4 k0_h2 k0_h3 => k0_hw4.2.2.1 k0_h2 k0_h3
theorem k0_off19_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off19 v105) a + S1x1.size a ≤ S2x3.size a := fun i v0 v11 v16 v105 k0_hw4 k0_h2 k0_h3 => k0_hw4.2.2.2.1 k0_h2 k0_h3
theorem k0_off20_inb : ∀ (i : grid0.Coords) (v0 : BitVec 32) (v11 : BitVec 32) (v16 : BitVec 32) (v105 : BitVec 32) (k0_hw4 : k0_chk4 i v0 v11 v16 v105), ∀ (k0_h2 : k0_cond2 i v0 = 1#1), ∀ (k0_h3 : k0_cond3 i v11 v16 = 1#1), ∀ a, (k0_off20 v105) a + S1x512x2048.size a ≤ S2x512x2048.size a := fun i v0 v11 v16 v105 k0_hw4 k0_h2 k0_h3 => k0_hw4.2.2.2.2 k0_h2 k0_h3

def k0_off21 (v11 : BitVec 32) : Fin 4 → Nat :=
  let c0_i32_70 : BitVec 32 := 0#32
  let c0_i32_74 : BitVec 32 := 0#32
  let c0_i32_75 : BitVec 32 := 0#32
  ![0, v11.toNat, 0, 0]

def k0_chk5 (i : grid0.Coords) (v0 : BitVec 32) (v11 : BitVec 32) (v16 : BitVec 32) : Prop :=
  (∀ (k0_h2 : k0_cond2 i v0 = 1#1), ∀ (k0_h3 : k0_cond3 i v11 v16 = 1#1), ∀ a, (k0_off17 v11) a + S1x1x2048x512.size a ≤ S1x32x2048x512.size a) ∧
  (∀ (k0_h2 : k0_cond2 i v0 = 1#1), ∀ (k0_h3 : k0_cond3 i v11 v16 = 1#1), ∀ a, (k0_off21 v11) a + S1x1x512x2048.size a ≤ S1x32x512x2048.size a)
theorem k0_off17_inb : ∀ (i : grid0.Coords) (v0 : BitVec 32) (v11 : BitVec 32) (v16 : BitVec 32) (k0_hw5 : k0_chk5 i v0 v11 v16), ∀ (k0_h2 : k0_cond2 i v0 = 1#1), ∀ (k0_h3 : k0_cond3 i v11 v16 = 1#1), ∀ a, (k0_off17 v11) a + S1x1x2048x512.size a ≤ S1x32x2048x512.size a := fun i v0 v11 v16 k0_hw5 k0_h2 k0_h3 => k0_hw5.1 k0_h2 k0_h3
theorem k0_off21_inb : ∀ (i : grid0.Coords) (v0 : BitVec 32) (v11 : BitVec 32) (v16 : BitVec 32) (k0_hw5 : k0_chk5 i v0 v11 v16), ∀ (k0_h2 : k0_cond2 i v0 = 1#1), ∀ (k0_h3 : k0_cond3 i v11 v16 = 1#1), ∀ a, (k0_off21 v11) a + S1x1x512x2048.size a ≤ S1x32x512x2048.size a := fun i v0 v11 v16 k0_hw5 k0_h2 k0_h3 => k0_hw5.2 k0_h2 k0_h3

def k0_off22 (v21 : BitVec 32) : Fin 3 → Nat :=
  let v48 : Index := Scalar.indexCast v21
  let c0_16 : Index := 0#32
  let c0_17 : Index := 0#32
  ![v48.toNat, 0, 0]

def k0_off23 (v21 : BitVec 32) : Fin 3 → Nat :=
  let v68 : Index := Scalar.indexCast v21
  let c0_24 : Index := 0#32
  let c0_25 : Index := 0#32
  ![v68.toNat, 0, 0]

def k0_chk6 (i : grid0.Coords) (v0 : BitVec 32) (v21 : BitVec 32) : Prop :=
  (∀ (k0_h2 : k0_cond2 i v0 = 1#1), ∀ a, (k0_off22 v21) a + S1x2048x512.size a ≤ S2x2048x512.size a) ∧
  (∀ (k0_h2 : k0_cond2 i v0 = 1#1), ∀ a, (k0_off23 v21) a + S1x512x2048.size a ≤ S2x512x2048.size a)
theorem k0_off22_inb : ∀ (i : grid0.Coords) (v0 : BitVec 32) (v21 : BitVec 32) (k0_hw6 : k0_chk6 i v0 v21), ∀ (k0_h2 : k0_cond2 i v0 = 1#1), ∀ a, (k0_off22 v21) a + S1x2048x512.size a ≤ S2x2048x512.size a := fun i v0 v21 k0_hw6 k0_h2 => k0_hw6.1 k0_h2
theorem k0_off23_inb : ∀ (i : grid0.Coords) (v0 : BitVec 32) (v21 : BitVec 32) (k0_hw6 : k0_chk6 i v0 v21), ∀ (k0_h2 : k0_cond2 i v0 = 1#1), ∀ a, (k0_off23 v21) a + S1x512x2048.size a ≤ S2x512x2048.size a := fun i v0 v21 k0_hw6 k0_h2 => k0_hw6.2 k0_h2

def k0_cond5 (i : grid0.Coords) (v0 : BitVec 32) : BitVec 1 :=
  let arg0 : BitVec 32 := BitVec.ofNat 32 (i 0).val
  let v7 : BitVec 1 := Scalar.cmpi .sge arg0 v0
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S212992x2x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S26624x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S32 : Shape := ⟨1, ![32]⟩
abbrev S212992x128 : Shape := ⟨2, ![212992, 128]⟩
abbrev S1x32x2048x512 : Shape := ⟨4, ![1, 32, 2048, 512]⟩
abbrev S1x32x512x2048 : Shape := ⟨4, ![1, 32, 512, 2048]⟩
abbrev S26624x1024 : Shape := ⟨2, ![26624, 1024]⟩
abbrev S_ : Shape := ⟨0, ![]⟩
abbrev S26624x2048 : Shape := ⟨2, ![26624, 2048]⟩
abbrev S26624 : Shape := ⟨1, ![26624]⟩
abbrev S26624x1 : Shape := ⟨2, ![26624, 1]⟩
abbrev S1x32 : Shape := ⟨2, ![1, 32]⟩
abbrev S26624x32 : Shape := ⟨2, ![26624, 32]⟩
abbrev S1 : Shape := ⟨1, ![1]⟩
abbrev S32x2048x512 : Shape := ⟨3, ![32, 2048, 512]⟩
abbrev S26624x32x512 : Shape := ⟨3, ![26624, 32, 512]⟩
abbrev S26624x32x1 : Shape := ⟨3, ![26624, 32, 1]⟩
abbrev S32x512x2048 : Shape := ⟨3, ![32, 512, 2048]⟩

abbrev nBuf : Space → Nat
  | .hbm => 89
  | .vmem => 0
  | .smem => 0
  | _ => 0

abbrev bufTy : (tb : Table) → Fin (tcTables nBuf tb) → BufTy
  | .hbm, ⟨0, _⟩ => ⟨S32, .i32⟩
  | .hbm, ⟨1, _⟩ => ⟨S212992x128, .i32⟩
  | .hbm, ⟨2, _⟩ => ⟨S1x32x2048x512, .f32⟩
  | .hbm, ⟨3, _⟩ => ⟨S1x32x2048x512, .f32⟩
  | .hbm, ⟨4, _⟩ => ⟨S1x32x512x2048, .f32⟩
  | .hbm, ⟨5, _⟩ => ⟨S26624x1024, .i32⟩
  | .hbm, ⟨6, _⟩ => ⟨S_, .i32⟩
  | .hbm, ⟨7, _⟩ => ⟨S26624x1024, .i32⟩
  | .hbm, ⟨8, _⟩ => ⟨S26624x1024, .i32⟩
  | .hbm, ⟨9, _⟩ => ⟨S26624x1024, .f32⟩
  | .hbm, ⟨10, _⟩ => ⟨S_, .i32⟩
  | .hbm, ⟨11, _⟩ => ⟨S26624x1024, .i32⟩
  | .hbm, ⟨12, _⟩ => ⟨S26624x1024, .i32⟩
  | .hbm, ⟨13, _⟩ => ⟨S26624x1024, .f32⟩
  | .hbm, ⟨14, _⟩ => ⟨S26624x2048, .f32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S32, .i1⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32, .i32⟩
  | .hbm, ⟨39, _⟩ => ⟨S_, .i32⟩
  | .hbm, ⟨40, _⟩ => ⟨S32, .i32⟩
  | .hbm, ⟨41, _⟩ => ⟨S32, .i32⟩
  | .hbm, ⟨42, _⟩ => ⟨S_, .i32⟩
  | .hbm, ⟨43, _⟩ => ⟨S_, .i32⟩
  | .hbm, ⟨44, _⟩ => ⟨S32, .i32⟩
  | .hbm, ⟨45, _⟩ => ⟨S26624, .i32⟩
  | .hbm, ⟨46, _⟩ => ⟨S26624x1, .i32⟩
  | .hbm, ⟨47, _⟩ => ⟨S1x32, .i32⟩
  | .hbm, ⟨48, _⟩ => ⟨S26624x32, .i32⟩
  | .hbm, ⟨49, _⟩ => ⟨S26624x32, .i32⟩
  | .hbm, ⟨50, _⟩ => ⟨S26624x32, .i1⟩
  | .hbm, ⟨51, _⟩ => ⟨S26624x32, .i32⟩
  | .hbm, ⟨52, _⟩ => ⟨S_, .i32⟩
  | .hbm, ⟨53, _⟩ => ⟨S26624, .i32⟩
  | .hbm, ⟨54, _⟩ => ⟨S26624x1, .i32⟩
  | .hbm, ⟨55, _⟩ => ⟨S1x32, .i32⟩
  | .hbm, ⟨56, _⟩ => ⟨S26624x32, .i32⟩
  | .hbm, ⟨57, _⟩ => ⟨S26624x32, .i32⟩
  | .hbm, ⟨58, _⟩ => ⟨S26624x32, .i1⟩
  | .hbm, ⟨59, _⟩ => ⟨S26624x32, .f32⟩
  | .hbm, ⟨60, _⟩ => ⟨S26624x1, .i32⟩
  | .hbm, ⟨61, _⟩ => ⟨S1, .i32⟩
  | .hbm, ⟨62, _⟩ => ⟨S_, .i32⟩
  | .hbm, ⟨63, _⟩ => ⟨S26624x1, .i32⟩
  | .hbm, ⟨64, _⟩ => ⟨S26624x1, .i1⟩
  | .hbm, ⟨65, _⟩ => ⟨S_, .f32⟩
  | .hbm, ⟨66, _⟩ => ⟨S_, .f32⟩
  | .hbm, ⟨67, _⟩ => ⟨S26624x32, .i1⟩
  | .hbm, ⟨68, _⟩ => ⟨S26624x32, .f32⟩
  | .hbm, ⟨69, _⟩ => ⟨S26624x32, .f32⟩
  | .hbm, ⟨70, _⟩ => ⟨S32x2048x512, .f32⟩
  | .hbm, ⟨71, _⟩ => ⟨S26624x32x512, .f32⟩
  | .hbm, ⟨72, _⟩ => ⟨S26624x32x512, .f32⟩
  | .hbm, ⟨73, _⟩ => ⟨S26624x32x512, .f32⟩
  | .hbm, ⟨74, _⟩ => ⟨S_, .f32⟩
  | .hbm, ⟨75, _⟩ => ⟨S26624x32x512, .f32⟩
  | .hbm, ⟨76, _⟩ => ⟨S26624x32x512, .f32⟩
  | .hbm, ⟨77, _⟩ => ⟨S_, .f32⟩
  | .hbm, ⟨78, _⟩ => ⟨S26624x32x512, .f32⟩
  | .hbm, ⟨79, _⟩ => ⟨S26624x32x512, .f32⟩
  | .hbm, ⟨80, _⟩ => ⟨S26624x32x512, .f32⟩
  | .hbm, ⟨81, _⟩ => ⟨S32x2048x512, .f32⟩
  | .hbm, ⟨82, _⟩ => ⟨S26624x32x512, .f32⟩
  | .hbm, ⟨83, _⟩ => ⟨S26624x32x512, .f32⟩
  | .hbm, ⟨84, _⟩ => ⟨S26624x32x1, .f32⟩
  | .hbm, ⟨85, _⟩ => ⟨S26624x32x512, .f32⟩
  | .hbm, ⟨86, _⟩ => ⟨S26624x32x512, .f32⟩
  | .hbm, ⟨87, _⟩ => ⟨S32x512x2048, .f32⟩
  | .hbm, ⟨88, _⟩ => ⟨S26624x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v12 : Ref sig .tc := ⟨.hbm, 38, rfl⟩
abbrev main_c_4 : Ref sig .tc := ⟨.hbm, 39, rfl⟩
abbrev main_v13 : Ref sig .tc := ⟨.hbm, 40, rfl⟩
abbrev main_v14 : Ref sig .tc := ⟨.hbm, 41, rfl⟩
abbrev main_call1_call0_c : Ref sig .tc := ⟨.hbm, 42, rfl⟩
abbrev main_call1_call0_v0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_call4_v0 : Ref sig .tc := ⟨.hbm, 72, rfl⟩
abbrev main_call4_v1 : Ref sig .tc := ⟨.hbm, 73, rfl⟩
abbrev main_call4_cst : Ref sig .tc := ⟨.hbm, 74, rfl⟩
abbrev main_call4_v2 : Ref sig .tc := ⟨.hbm, 75, rfl⟩
abbrev main_call4_v3 : Ref sig .tc := ⟨.hbm, 76, rfl⟩
abbrev main_call4_cst_0 : Ref sig .tc := ⟨.hbm, 77, rfl⟩
abbrev main_call4_v4 : Ref sig .tc := ⟨.hbm, 78, rfl⟩
abbrev main_call4_v5 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩

abbrev nD : Nat := 1
abbrev τ : Topo := Topo.v7x

variable {F : FTy → Type} [FloatOps F]
-- ==== Kernel2.lean ====
abbrev S9216x2048 : Shape := ⟨2, ![9216, 2048]⟩
abbrev S1x2048x9216 : Shape := ⟨3, ![1, 2048, 9216]⟩
abbrev S1x1024x2048 : Shape := ⟨3, ![1, 1024, 2048]⟩
abbrev S1x2048x2048 : Shape := ⟨3, ![1, 2048, 2048]⟩
abbrev S9216x9216 : Shape := ⟨2, ![9216, 9216]⟩
abbrev S1024x2048 : Shape := ⟨2, ![1024, 2048]⟩
abbrev S2048x2048 : Shape := ⟨2, ![2048, 2048]⟩
abbrev S1x2048x1536 : Shape := ⟨3, ![1, 2048, 1536]⟩
abbrev S1x128x2048 : Shape := ⟨3, ![1, 128, 2048]⟩
abbrev S1024x1536 : Shape := ⟨2, ![1024, 1536]⟩
abbrev S128x2048 : Shape := ⟨2, ![128, 2048]⟩
abbrev S2048x1536 : Shape := ⟨2, ![2048, 1536]⟩

abbrev nBuf : Space → Nat
  | .hbm => 11
  | .vmem => 22
  | .smem => 0
  | _ => 0

abbrev bufTy : (tb : Table) → Fin (tcTables nBuf tb) → BufTy
  | .hbm, ⟨0, _⟩ => ⟨S9216x2048, .bf16⟩
  | .hbm, ⟨1, _⟩ => ⟨S1x2048x9216, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S9216x9216, .bf16⟩
  | .hbm, ⟨7, _⟩ => ⟨S1024x2048, .bf16⟩
  | .hbm, ⟨8, _⟩ => ⟨S1024x2048, .bf16⟩
  | .hbm, ⟨9, _⟩ => ⟨S2048x2048, .bf16⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .f32⟩
  | .local _ .vmem, ⟨3, _⟩ => ⟨S1x2048x1536, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1024x1536, .bf16⟩
  | .local _ .vmem, ⟨13, _⟩ => ⟨S1024x1536, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![6, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let v2 : BitVec 32 := Scalar.subi v1 c0_i32
  let c0_i32_0 : BitVec 32 := 0#32
  let c7_i32 : BitVec 32 := 7#32
  let v3 : BitVec 32 := Scalar.maxsi c0_i32_0 v2
  let v4 : BitVec 32 := Scalar.minsi c7_i32 v3
  let c0_i32_1 : BitVec 32 := 0#32
  let c0_i32_2 : BitVec 32 := 0#32
  let c0_i32_3 : BitVec 32 := 0#32
  ![c0_i32_1.toNat, v4.toNat, c0_i32_2.toNat]

def cc0_transform_3 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c8_i32 : BitVec 32 := 8#32
  let v2 : BitVec 32 := Scalar.subi v1 c8_i32
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  let c0_i32_2 : BitVec 32 := 0#32
  ![c0_i32_0.toNat, v4.toNat, c0_i32_1.toNat]

def cc0_transform_4 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c16_i32 : BitVec 32 := 16#32
  let v2 : BitVec 32 := Scalar.subi v1 c16_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![c0_i32_0.toNat, v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c32_i32 : BitVec 32 := 32#32
  let v2 : BitVec 32 := Scalar.subi v1 c32_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  let c0_i32_2 : BitVec 32 := 0#32
  ![c0_i32_0.toNat, v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c0_i32 : BitVec 32 := 0#32
  let v2 : BitVec 32 := Scalar.subi v1 c0_i32
  let c0_i32_0 : BitVec 32 := 0#32
  let c7_i32 : BitVec 32 := 7#32
  let v3 : BitVec 32 := Scalar.maxsi c0_i32_0 v2
  let v4 : BitVec 32 := Scalar.minsi c7_i32 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c8_i32 : BitVec 32 := 8#32
  let v2 : BitVec 32 := Scalar.subi v1 c8_i32
  let c0_i32 : BitVec 32 := 0#32
  let c7_i32 : BitVec 32 := 7#32
  let v3 : BitVec 32 := Scalar.maxsi c0_i32 v2
  let v4 : BitVec 32 := Scalar.minsi c7_i32 v3
  let c0_i32_0 : BitVec 32 := 0#32
  let c0_i32_1 : BitVec 32 := 0#32
  ![v4.toNat, c0_i32_0.toNat]

def cc0_transform_9 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c16_i32 : BitVec 32 := 16#32
  let v2 : BitVec 32 := Scalar.subi v1 c16_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c32_i32 : BitVec 32 := 32#32
  let v2 : BitVec 32 := Scalar.subi v1 c32_i32
  let c0_i32 : BitVec 32 := 0#32
  let c15_i32 : BitVec 32 := 15#32
  let v3 : BitVec 32 := Scalar.maxsi c0_i32 v2
  let v4 : BitVec 32 := Scalar.minsi c15_i32 v3
  let c0_i32_0 : BitVec 32 := 0#32
  let c0_i32_1 : BitVec 32 := 0#32
  ![v4.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S9216x2048 : Shape := ⟨2, ![9216, 2048]⟩
abbrev S1x2048x9216 : Shape := ⟨3, ![1, 2048, 9216]⟩
abbrev S1x1024x2048 : Shape := ⟨3, ![1, 1024, 2048]⟩
abbrev S1x2048x2048 : Shape := ⟨3, ![1, 2048, 2048]⟩
abbrev S2048x9216 : Shape := ⟨2, ![2048, 9216]⟩
abbrev S9216x9216 : Shape := ⟨2, ![9216, 9216]⟩
abbrev S1024x2048 : Shape := ⟨2, ![1024, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x9216, .f32⟩
  | .hbm, ⟨2, _⟩ => ⟨S1x1024x2048, .f32⟩
  | .hbm, ⟨3, _⟩ => ⟨S1x1024x2048, .f32⟩
  | .hbm, ⟨4, _⟩ => ⟨S1x2048x2048, .f32⟩
  | .hbm, ⟨5, _⟩ => ⟨S1x2048x2048, .f32⟩
  | .hbm, ⟨6, _⟩ => ⟨S9216x2048, .f32⟩
  | .hbm, ⟨7, _⟩ => ⟨S2048x9216, .f32⟩
  | .hbm, ⟨8, _⟩ => ⟨S9216x9216, .f32⟩
  | .hbm, ⟨9, _⟩ => ⟨S9216x9216, .bf16⟩
  | .hbm, ⟨10, _⟩ => ⟨S1024x2048, .f32⟩
  | .hbm, ⟨11, _⟩ => ⟨S1024x2048, .bf16⟩
  | .hbm, ⟨12, _⟩ => ⟨S1024x2048, .f32⟩
  | .hbm, ⟨13, _⟩ => ⟨S1024x2048, .bf16⟩
  | .hbm, ⟨14, _⟩ => ⟨S2048x2048, .f32⟩
  | .hbm, ⟨15, _⟩ => ⟨S2048x2048, .bf16⟩
  | .hbm, ⟨16, _⟩ => ⟨S2048x2048, .f32⟩
  | .hbm, ⟨17, _⟩ => ⟨S2048x2048, .bf16⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel3.lean ====
abbrev S4x2048x2048 : Shape := ⟨3, ![4, 2048, 2048]⟩
abbrev S128x8x2048 : Shape := ⟨3, ![128, 8, 2048]⟩
abbrev S1x2048 : Shape := ⟨2, ![1, 2048]⟩
abbrev S8192x2048 : Shape := ⟨2, ![8192, 2048]⟩
abbrev S1024x2048 : Shape := ⟨2, ![1024, 2048]⟩
abbrev S2048 : Shape := ⟨1, ![2048]⟩
abbrev S9216x2048 : Shape := ⟨2, ![9216, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048, .f32⟩
  | .hbm, ⟨3, _⟩ => ⟨S8192x2048, .f32⟩
  | .hbm, ⟨4, _⟩ => ⟨S1024x2048, .f32⟩
  | .hbm, ⟨5, _⟩ => ⟨S2048, .f32⟩
  | .hbm, ⟨6, _⟩ => ⟨S1x2048, .f32⟩
  | .hbm, ⟨7, _⟩ => ⟨S9216x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4x2048x2048 : Shape := ⟨3, ![4, 2048, 2048]⟩
abbrev S128x8x2048 : Shape := ⟨3, ![128, 8, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S128x8 : Shape := ⟨2, ![128, 8]⟩
abbrev S128x8x1 : Shape := ⟨3, ![128, 8, 1]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S1x2048, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048, .f32⟩
  | .hbm, ⟨21, _⟩ => ⟨S128x8x2048, .f32⟩
  | .hbm, ⟨22, _⟩ => ⟨S_, .f32⟩
  | .hbm, ⟨23, _⟩ => ⟨S128x8, .f32⟩
  | .hbm, ⟨24, _⟩ => ⟨S128x8x1, .f32⟩
  | .hbm, ⟨25, _⟩ => ⟨S_, .f32⟩
  | .hbm, ⟨26, _⟩ => ⟨S128x8x1, .f32⟩
  | .hbm, ⟨27, _⟩ => ⟨S128x8x1, .f32⟩
  | .hbm, ⟨28, _⟩ => ⟨S_, .f32⟩
  | .hbm, ⟨29, _⟩ => ⟨S128x8x1, .f32⟩
  | .hbm, ⟨30, _⟩ => ⟨S128x8x1, .f32⟩
  | .hbm, ⟨31, _⟩ => ⟨S128x8x1, .f32⟩
  | .hbm, ⟨32, _⟩ => ⟨S128x8x2048, .f32⟩
  | .hbm, ⟨33, _⟩ => ⟨S128x8x2048, .f32⟩
  | .hbm, ⟨34, _⟩ => ⟨S1x1x2048, .f32⟩
  | .hbm, ⟨35, _⟩ => ⟨S128x8x2048, .f32⟩
  | .hbm, ⟨36, _⟩ => ⟨S128x8x2048, .f32⟩
  | .hbm, ⟨37, _⟩ => ⟨S8192x2048, .f32⟩
  | .hbm, ⟨38, _⟩ => ⟨S1024x2048, .f32⟩
  | .hbm, ⟨39, _⟩ => ⟨S9216x2048, .f32⟩
  | .hbm, ⟨40, _⟩ => ⟨S9216x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S9216x9216 : Shape := ⟨2, ![9216, 9216]⟩
abbrev S4x2048x2048 : Shape := ⟨3, ![4, 2048, 2048]⟩
abbrev S128x8x2048 : Shape := ⟨3, ![128, 8, 2048]⟩
abbrev S1x128x2x1024 : Shape := ⟨4, ![1, 128, 2, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x3x1024 : Shape := ⟨3, ![1, 3, 1024]⟩
abbrev S1024x2048 : Shape := ⟨2, ![1024, 2048]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S8192x2048 : Shape := ⟨2, ![8192, 2048]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S16x16 : Shape := ⟨2, ![16, 16]⟩
abbrev S1x16x1x16x1 : Shape := ⟨5, ![1, 16, 1, 16, 1]⟩
abbrev S4x8x8 : Shape := ⟨3, ![4, 8, 8]⟩
abbrev S4x1x8x1x8 : Shape := ⟨5, ![4, 1, 8, 1, 8]⟩
abbrev S4x16x8x16x8 : Shape := ⟨5, ![4, 16, 8, 16, 8]⟩
abbrev S2x4x128x128 : Shape := ⟨4, ![2, 4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S8x1024 : Shape := ⟨2, ![8, 1024]⟩
abbrev S1x8x1x1024 : Shape := ⟨4, ![1, 8, 1, 1024]⟩
abbrev S16x8x1x1024 : Shape := ⟨4, ![16, 8, 1, 1024]⟩
abbrev S1x128x1024 : Shape := ⟨3, ![1, 128, 1024]⟩
abbrev S2x128x1024 : Shape := ⟨3, ![2, 128, 1024]⟩
abbrev S2048x4 : Shape := ⟨2, ![2048, 4]⟩
abbrev S2048x32 : Shape := ⟨2, ![2048, 32]⟩
abbrev S2048x92 : Shape := ⟨2, ![2048, 92]⟩
abbrev S2048x128 : Shape := ⟨2, ![2048, 128]⟩
abbrev S4 : Shape := ⟨1, ![4]⟩
abbrev S32 : Shape := ⟨1, ![32]⟩
abbrev S92 : Shape := ⟨1, ![92]⟩
abbrev S128 : Shape := ⟨1, ![128]⟩
abbrev S1x128 : Shape := ⟨2, ![1, 128]⟩
abbrev S128x2x1024 : Shape := ⟨3, ![128, 2, 1024]⟩
abbrev S128x8x1024 : Shape := ⟨3, ![128, 8, 1024]⟩
abbrev S1024x1024 : Shape := ⟨2, ![1024, 1024]⟩
abbrev S1024 : Shape := ⟨1, ![1024]⟩
abbrev S3x1024 : Shape := ⟨2, ![3, 1024]⟩
abbrev S2048 : Shape := ⟨1, ![2048]⟩
abbrev S9216x2048 : Shape := ⟨2, ![9216, 2048]⟩
abbrev S73728x128 : Shape := ⟨2, ![73728, 128]⟩
abbrev S9216x128 : Shape := ⟨2, ![9216, 128]⟩
abbrev S5x128x1024 : Shape := ⟨3, ![5, 128, 1024]⟩
abbrev S5x2x1024 : Shape := ⟨3, ![5, 2, 1024]⟩
abbrev S256x9216 : Shape := ⟨2, ![256, 9216]⟩
abbrev S256x2048 : Shape := ⟨2, ![256, 2048]⟩
abbrev S256x1024 : Shape := ⟨2, ![256, 1024]⟩
abbrev S256x128 : Shape := ⟨2, ![256, 128]⟩
abbrev S1x2x1024 : Shape := ⟨3, ![1, 2, 1024]⟩
abbrev S256 : Shape := ⟨1, ![256]⟩
abbrev S256x1 : Shape := ⟨2, ![256, 1]⟩
abbrev S1x1x128x128 : Shape := ⟨4, ![1, 1, 128, 128]⟩
abbrev S128x256 : Shape := ⟨2, ![128, 256]⟩
abbrev S1x128x256 : Shape := ⟨3, ![1, 128, 256]⟩
abbrev S2x1024 : Shape := ⟨2, ![2, 1024]⟩
abbrev S1024x256 : Shape := ⟨2, ![1024, 256]⟩
abbrev S256x256 : Shape := ⟨2, ![256, 256]⟩

abbrev nBuf : Space → Nat
  | .hbm => 97
  | .vmem => 39
  | .smem => 0
  | _ => 0

abbrev bufTy : (tb : Table) → Fin (tcTables nBuf tb) → BufTy
  | .hbm, ⟨0, _⟩ => ⟨S9216x9216, .bf16⟩
  | .hbm, ⟨1, _⟩ => ⟨S4x2048x2048, .f32⟩
  | .hbm, ⟨2, _⟩ => ⟨S128x8x2048, .f32⟩
  | .hbm, ⟨3, _⟩ => ⟨S1x128x2x1024, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x4x128, .f32⟩
  | .hbm, ⟨8, _⟩ => ⟨S1x3x1024, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S1x2048x4, .f32⟩
  | .hbm, ⟨14, _⟩ => ⟨S1x4, .f32⟩
  | .hbm, ⟨15, _⟩ => ⟨S1x2048x32, .f32⟩
  | .hbm, ⟨16, _⟩ => ⟨S1x32, .f32⟩
  | .hbm, ⟨17, _⟩ => ⟨S8192x2048, .f32⟩
  | .hbm, ⟨18, _⟩ => ⟨S1024x2048, .f32⟩
  | .hbm, ⟨19, _⟩ => ⟨S_, .i1⟩
  | .hbm, ⟨20, _⟩ => ⟨S128x128, .i1⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .i1⟩
  | .hbm, ⟨28, _⟩ => ⟨S128x128, .i1⟩
  | .hbm, ⟨29, _⟩ => ⟨S128x128, .i1⟩
  | .hbm, ⟨30, _⟩ => ⟨S1x128x128, .i1⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .f32⟩
  | .hbm, ⟨44, _⟩ => ⟨S1x16x1x16x1, .f32⟩
  | .hbm, ⟨45, _⟩ => ⟨S4x8x8, .f32⟩
  | .hbm, ⟨46, _⟩ => ⟨S4x1x8x1x8, .f32⟩
  | .hbm, ⟨47, _⟩ => ⟨S4x16x8x16x8, .f32⟩
  | .hbm, ⟨48, _⟩ => ⟨S4x16x8x16x8, .f32⟩
  | .hbm, ⟨49, _⟩ => ⟨S4x16x8x16x8, .f32⟩
  | .hbm, ⟨50, _⟩ => ⟨S4x128x128, .f32⟩
  | .hbm, ⟨51, _⟩ => ⟨S1x4x128x128, .f32⟩
  | .hbm, ⟨52, _⟩ => ⟨S1x4x128x128, .f32⟩
  | .hbm, ⟨53, _⟩ => ⟨S2x4x128x128, .f32⟩
  | .hbm, ⟨54, _⟩ => ⟨S2x4x128x128, .bf16⟩
  | .hbm, ⟨55, _⟩ => ⟨S4x128, .f32⟩
  | .hbm, ⟨56, _⟩ => ⟨S128x4, .f32⟩
  | .hbm, ⟨57, _⟩ => ⟨S128x4x256, .f32⟩
  | .hbm, ⟨58, _⟩ => ⟨S128x1024, .f32⟩
  | .hbm, ⟨59, _⟩ => ⟨S8x1024, .f32⟩
  | .hbm, ⟨60, _⟩ => ⟨S1x8x1x1024, .f32⟩
  | .hbm, ⟨61, _⟩ => ⟨S16x8x1x1024, .f32⟩
  | .hbm, ⟨62, _⟩ => ⟨S128x1024, .f32⟩
  | .hbm, ⟨63, _⟩ => ⟨S1x128x1024, .f32⟩
  | .hbm, ⟨64, _⟩ => ⟨S1x128x1024, .f32⟩
  | .hbm, ⟨65, _⟩ => ⟨S2x128x1024, .f32⟩
  | .hbm, ⟨66, _⟩ => ⟨S2048x4, .f32⟩
  | .hbm, ⟨67, _⟩ => ⟨S2048x32, .f32⟩
  | .hbm, ⟨68, _⟩ => ⟨S_, .f32⟩
  | .hbm, ⟨69, _⟩ => ⟨S2048x92, .f32⟩
  | .hbm, ⟨70, _⟩ => ⟨S2048x128, .f32⟩
  | .hbm, ⟨71, _⟩ => ⟨S4, .f32⟩
  | .hbm, ⟨72, _⟩ => ⟨S32, .f32⟩
  | .hbm, ⟨73, _⟩ => ⟨S_, .f32⟩
  | .hbm, ⟨74, _⟩ => ⟨S92, .f32⟩
  | .hbm, ⟨75, _⟩ => ⟨S128, .f32⟩
  | .hbm, ⟨76, _⟩ => ⟨S1x128, .f32⟩
  | .hbm, ⟨77, _⟩ => ⟨S128x2x1024, .f32⟩
  | .hbm, ⟨78, _⟩ => ⟨S_, .i32⟩
  | .hbm, ⟨79, _⟩ => ⟨S_, .f32⟩
  | .hbm, ⟨80, _⟩ => ⟨S128x8x1024, .f32⟩
  | .hbm, ⟨81, _⟩ => ⟨S1024x1024, .f32⟩
  | .hbm, ⟨82, _⟩ => ⟨S1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S3x1024, .f32⟩
  | .hbm, ⟨87, _⟩ => ⟨S2048, .f32⟩
  | .hbm, ⟨88, _⟩ => ⟨S1x2048, .f32⟩
  | .hbm, ⟨89, _⟩ => ⟨S2048x128, .bf16⟩
  | .hbm, ⟨90, _⟩ => ⟨S9216x2048, .f32⟩
  | .hbm, ⟨91, _⟩ => ⟨S73728x128, .i32⟩
  | .hbm, ⟨92, _⟩ => ⟨S9216x128, .f32⟩
  | .hbm, ⟨93, _⟩ => ⟨S5x128x1024, .f32⟩
  | .hbm, ⟨94, _⟩ => ⟨S1024x1024, .f32⟩
  | .hbm, ⟨95, _⟩ => ⟨S5x2x1024, .f32⟩
  | .hbm, ⟨96, _⟩ => ⟨S1024x1024, .f32⟩
  | .local _ .vmem, ⟨0, _⟩ => ⟨S256x9216, .bf16⟩
  | .local _ .vmem, ⟨1, _⟩ => ⟨S256x9216, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S3x1024, .f32⟩
  | .local _ .vmem, ⟨11, _⟩ => ⟨S1x4x128x128, .bf16⟩
  | .local _ .vmem, ⟨12, _⟩ => ⟨S1x4x128x128, .bf16⟩
  | .local _ .vmem, ⟨13, _⟩ => ⟨S1x128x1024, .f32⟩
  | .local _ .vmem, ⟨14, _⟩ => ⟨S1x128x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x2048, .f32⟩
  | .local _ .vmem, ⟨19, _⟩ => ⟨S2048x128, .bf16⟩
  | .local _ .vmem, ⟨20, _⟩ => ⟨S1x128, .f32⟩
  | .local _ .vmem, ⟨21, _⟩ => ⟨S256x2048, .f32⟩
  | .local _ .vmem, ⟨22, _⟩ => ⟨S256x2048, .f32⟩
  | .local _ .vmem, ⟨23, _⟩ => ⟨S2048x128, .i32⟩
  | .local _ .vmem, ⟨24, _⟩ => ⟨S2048x128, .i32⟩
  | .local _ .vmem, ⟨25, _⟩ => ⟨S256x128, .f32⟩
  | .local _ .vmem, ⟨26, _⟩ => ⟨S256x128, .f32⟩
  | .local _ .vmem, ⟨27, _⟩ => ⟨S1x128x1024, .f32⟩
  | .local _ .vmem, ⟨28, _⟩ => ⟨S1x128x1024, .f32⟩
  | .local _ .vmem, ⟨29, _⟩ => ⟨S256x1024, .f32⟩
  | .local _ .vmem, ⟨30, _⟩ => ⟨S256x1024, .f32⟩
  | .local _ .vmem, ⟨31, _⟩ => ⟨S1x2x1024, .f32⟩
  | .local _ .vmem, ⟨32, _⟩ => ⟨S1x2x1024, .f32⟩
  | .local _ .vmem, ⟨33, _⟩ => ⟨S256x1024, .f32⟩
  | .local _ .vmem, ⟨34, _⟩ => ⟨S256x1024, .f32⟩
  | .local _ .vmem, ⟨35, _⟩ => ⟨S8x1024, .f32⟩
  | .local _ .vmem, ⟨36, _⟩ => ⟨S256x1024, .bf16⟩
  | .local _ .vmem, ⟨37, _⟩ => ⟨S256x1024, .bf16⟩
  | .local _ .vmem, ⟨38, _⟩ => ⟨S256x2048, .bf16⟩
  | _, _ => ⟨S9216x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_2 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_3 : Ref sig .tc := ⟨.hbm, 78, rfl⟩
abbrev main_call2_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55_0 : Ref sig .tc := ⟨.hbm, 90, rfl⟩
abbrev main_v55_1 : Ref sig .tc := ⟨.hbm, 91, rfl⟩
abbrev main_v55_2 : Ref sig .tc := ⟨.hbm, 92, rfl⟩
abbrev main_v55_3 : Ref sig .tc := ⟨.hbm, 93, rfl⟩
abbrev main_v55_4 : Ref sig .tc := ⟨.hbm, 94, rfl⟩
abbrev main_v55_5 : Ref sig .tc := ⟨.hbm, 95, rfl⟩
abbrev main_v55_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [BitOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_8 (i : grid0.Coords) : Fin 3 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_19 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_21 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Kernel4Ideal.lean ====
abbrev S9216x9216 : Shape := ⟨2, ![9216, 9216]⟩
abbrev S4x2048x2048 : Shape := ⟨3, ![4, 2048, 2048]⟩
abbrev S128x8x2048 : Shape := ⟨3, ![128, 8, 2048]⟩
abbrev S1x128x2x1024 : Shape := ⟨4, ![1, 128, 2, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x3x1024 : Shape := ⟨3, ![1, 3, 1024]⟩
abbrev S1024x2048 : Shape := ⟨2, ![1024, 2048]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S8192x2048 : Shape := ⟨2, ![8192, 2048]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S16x16 : Shape := ⟨2, ![16, 16]⟩
abbrev S1x16x1x16x1 : Shape := ⟨5, ![1, 16, 1, 16, 1]⟩
abbrev S4x8x8 : Shape := ⟨3, ![4, 8, 8]⟩
abbrev S4x1x8x1x8 : Shape := ⟨5, ![4, 1, 8, 1, 8]⟩
abbrev S4x16x8x16x8 : Shape := ⟨5, ![4, 16, 8, 16, 8]⟩
abbrev S2x4x128x128 : Shape := ⟨4, ![2, 4, 128, 128]⟩
abbrev S4x128 : Shape := ⟨2, ![4, 128]⟩
abbrev S128x4 : Shape := ⟨2, ![128, 4]⟩
abbrev S128x4x256 : Shape := ⟨3, ![128, 4, 256]⟩
abbrev S128x1024 : Shape := ⟨2, ![128, 1024]⟩
abbrev S8x1024 : Shape := ⟨2, ![8, 1024]⟩
abbrev S1x8x1x1024 : Shape := ⟨4, ![1, 8, 1, 1024]⟩
abbrev S16x8x1x1024 : Shape := ⟨4, ![16, 8, 1, 1024]⟩
abbrev S1x128x1024 : Shape := ⟨3, ![1, 128, 1024]⟩
abbrev S2x128x1024 : Shape := ⟨3, ![2, 128, 1024]⟩
abbrev S2048x4 : Shape := ⟨2, ![2048, 4]⟩
abbrev S2048x32 : Shape := ⟨2, ![2048, 32]⟩
abbrev S2048x92 : Shape := ⟨2, ![2048, 92]⟩
abbrev S2048x128 : Shape := ⟨2, ![2048, 128]⟩
abbrev S4 : Shape := ⟨1, ![4]⟩
abbrev S32 : Shape := ⟨1, ![32]⟩
abbrev S92 : Shape := ⟨1, ![92]⟩
abbrev S128 : Shape := ⟨1, ![128]⟩
abbrev S1x128 : Shape := ⟨2, ![1, 128]⟩
abbrev S128x2x1024 : Shape := ⟨3, ![128, 2, 1024]⟩
abbrev S128x8x1024 : Shape := ⟨3, ![128, 8, 1024]⟩
abbrev S1024x1024 : Shape := ⟨2, ![1024, 1024]⟩
abbrev S1024 : Shape := ⟨1, ![1024]⟩
abbrev S3x1024 : Shape := ⟨2, ![3, 1024]⟩
abbrev S2048 : Shape := ⟨1, ![2048]⟩
abbrev S9216x2048 : Shape := ⟨2, ![9216, 2048]⟩
abbrev S73728x2x128 : Shape := ⟨3, ![73728, 2, 128]⟩
abbrev S9216x128 : Shape := ⟨2, ![9216, 128]⟩
abbrev S5x128x1024 : Shape := ⟨3, ![5, 128, 1024]⟩
abbrev S5x2x1024 : Shape := ⟨3, ![5, 2, 1024]⟩
abbrev S73728x1x128 : Shape := ⟨3, ![73728, 1, 128]⟩
abbrev S73728x128 : Shape := ⟨2, ![73728, 128]⟩
abbrev S256x9216 : Shape := ⟨2, ![256, 9216]⟩
abbrev S256x2048 : Shape := ⟨2, ![256, 2048]⟩
abbrev S256x1024 : Shape := ⟨2, ![256, 1024]⟩
abbrev S2048x2x128 : Shape := ⟨3, ![2048, 2, 128]⟩
abbrev S2048x1x128 : Shape := ⟨3, ![2048, 1, 128]⟩
abbrev S256x128 : Shape := ⟨2, ![256, 128]⟩
abbrev S1x2x1024 : Shape := ⟨3, ![1, 2, 1024]⟩
abbrev S256 : Shape := ⟨1, ![256]⟩
abbrev S256x1 : Shape := ⟨2, ![256, 1]⟩
abbrev S1x1x128x128 : Shape := ⟨4, ![1, 1, 128, 128]⟩
abbrev S128x256 : Shape := ⟨2, ![128, 256]⟩
abbrev S1x128x256 : Shape := ⟨3, ![1, 128, 256]⟩
abbrev S2x1024 : Shape := ⟨2, ![2, 1024]⟩
abbrev S1024x256 : Shape := ⟨2, ![1024, 256]⟩
abbrev S256x256 : Shape := ⟨2, ![256, 256]⟩
abbrev S256x2x128 : Shape := ⟨3, ![256, 2, 128]⟩
abbrev S256x1x128 : Shape := ⟨3, ![256, 1, 128]⟩

abbrev nBuf : Space → Nat
  | .hbm => 97
  | .vmem => 39
  | .smem => 0
  | _ => 0

abbrev bufTy : (tb : Table) → Fin (tcTables nBuf tb) → BufTy
  | .hbm, ⟨0, _⟩ => ⟨S9216x9216, .bf16⟩
  | .hbm, ⟨1, _⟩ => ⟨S4x2048x2048, .f32⟩
  | .hbm, ⟨2, _⟩ => ⟨S128x8x2048, .f32⟩
  | .hbm, ⟨3, _⟩ => ⟨S1x128x2x1024, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x4x128, .f32⟩
  | .hbm, ⟨8, _⟩ => ⟨S1x3x1024, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S1x2048x4, .f32⟩
  | .hbm, ⟨14, _⟩ => ⟨S1x4, .f32⟩
  | .hbm, ⟨15, _⟩ => ⟨S1x2048x32, .f32⟩
  | .hbm, ⟨16, _⟩ => ⟨S1x32, .f32⟩
  | .hbm, ⟨17, _⟩ => ⟨S8192x2048, .f32⟩
  | .hbm, ⟨18, _⟩ => ⟨S1024x2048, .f32⟩
  | .hbm, ⟨19, _⟩ => ⟨S_, .i1⟩
  | .hbm, ⟨20, _⟩ => ⟨S128x128, .i1⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S128x128, .i1⟩
  | .hbm, ⟨27, _⟩ => ⟨S_, .i1⟩
  | .hbm, ⟨28, _⟩ => ⟨S128x128, .i1⟩
  | .hbm, ⟨29, _⟩ => ⟨S128x128, .i1⟩
  | .hbm, ⟨30, _⟩ => ⟨S1x128x128, .i1⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S16x16, .i32⟩
  | .hbm, ⟨38, _⟩ => ⟨S16x16, .i32⟩
  | .hbm, ⟨39, _⟩ => ⟨S_, .i32⟩
  | .hbm, ⟨40, _⟩ => ⟨S16x16, .i32⟩
  | .hbm, ⟨41, _⟩ => ⟨S16x16, .i32⟩
  | .hbm, ⟨42, _⟩ => ⟨S16x16, .i1⟩
  | .hbm, ⟨43, _⟩ => ⟨S16x16, .f32⟩
  | .hbm, ⟨44, _⟩ => ⟨S1x16x1x16x1, .f32⟩
  | .hbm, ⟨45, _⟩ => ⟨S4x8x8, .f32⟩
  | .hbm, ⟨46, _⟩ => ⟨S4x1x8x1x8, .f32⟩
  | .hbm, ⟨47, _⟩ => ⟨S4x16x8x16x8, .f32⟩
  | .hbm, ⟨48, _⟩ => ⟨S4x16x8x16x8, .f32⟩
  | .hbm, ⟨49, _⟩ => ⟨S4x16x8x16x8, .f32⟩
  | .hbm, ⟨50, _⟩ => ⟨S4x128x128, .f32⟩
  | .hbm, ⟨51, _⟩ => ⟨S1x4x128x128, .f32⟩
  | .hbm, ⟨52, _⟩ => ⟨S1x4x128x128, .f32⟩
  | .hbm, ⟨53, _⟩ => ⟨S2x4x128x128, .f32⟩
  | .hbm, ⟨54, _⟩ => ⟨S2x4x128x128, .bf16⟩
  | .hbm, ⟨55, _⟩ => ⟨S4x128, .f32⟩
  | .hbm, ⟨56, _⟩ => ⟨S128x4, .f32⟩
  | .hbm, ⟨57, _⟩ => ⟨S128x4x256, .f32⟩
  | .hbm, ⟨58, _⟩ => ⟨S128x1024, .f32⟩
  | .hbm, ⟨59, _⟩ => ⟨S8x1024, .f32⟩
  | .hbm, ⟨60, _⟩ => ⟨S1x8x1x1024, .f32⟩
  | .hbm, ⟨61, _⟩ => ⟨S16x8x1x1024, .f32⟩
  | .hbm, ⟨62, _⟩ => ⟨S128x1024, .f32⟩
  | .hbm, ⟨63, _⟩ => ⟨S1x128x1024, .f32⟩
  | .hbm, ⟨64, _⟩ => ⟨S1x128x1024, .f32⟩
  | .hbm, ⟨65, _⟩ => ⟨S2x128x1024, .f32⟩
  | .hbm, ⟨66, _⟩ => ⟨S2048x4, .f32⟩
  | .hbm, ⟨67, _⟩ => ⟨S2048x32, .f32⟩
  | .hbm, ⟨68, _⟩ => ⟨S_, .f32⟩
  | .hbm, ⟨69, _⟩ => ⟨S2048x92, .f32⟩
  | .hbm, ⟨70, _⟩ => ⟨S2048x128, .f32⟩
  | .hbm, ⟨71, _⟩ => ⟨S4, .f32⟩
  | .hbm, ⟨72, _⟩ => ⟨S32, .f32⟩
  | .hbm, ⟨73, _⟩ => ⟨S_, .f32⟩
  | .hbm, ⟨74, _⟩ => ⟨S92, .f32⟩
  | .hbm, ⟨75, _⟩ => ⟨S128, .f32⟩
  | .hbm, ⟨76, _⟩ => ⟨S1x128, .f32⟩
  | .hbm, ⟨77, _⟩ => ⟨S128x2x1024, .f32⟩
  | .hbm, ⟨78, _⟩ => ⟨S_, .i32⟩
  | .hbm, ⟨79, _⟩ => ⟨S_, .f32⟩
  | .hbm, ⟨80, _⟩ => ⟨S128x8x1024, .f32⟩
  | .hbm, ⟨81, _⟩ => ⟨S1024x1024, .f32⟩
  | .hbm, ⟨82, _⟩ => ⟨S1024, .f32⟩
  | .hbm, ⟨83, _⟩ => ⟨S1x1024, .f32⟩
  | .hbm, ⟨84, _⟩ => ⟨S1024, .f32⟩
  | .hbm, ⟨85, _⟩ => ⟨S1x1024, .f32⟩
  | .hbm, ⟨86, _⟩ => ⟨S3x1024, .f32⟩
  | .hbm, ⟨87, _⟩ => ⟨S2048, .f32⟩
  | .hbm, ⟨88, _⟩ => ⟨S1x2048, .f32⟩
  | .hbm, ⟨89, _⟩ => ⟨S2048x128, .bf16⟩
  | .hbm, ⟨90, _⟩ => ⟨S9216x2048, .f32⟩
  | .hbm, ⟨91, _⟩ => ⟨S73728x2x128, .bf16⟩
  | .hbm, ⟨92, _⟩ => ⟨S9216x128, .f32⟩
  | .hbm, ⟨93, _⟩ => ⟨S5x128x1024, .f32⟩
  | .hbm, ⟨94, _⟩ => ⟨S1024x1024, .f32⟩
  | .hbm, ⟨95, _⟩ => ⟨S5x2x1024, .f32⟩
  | .hbm, ⟨96, _⟩ => ⟨S1024x1024, .f32⟩
  | .local _ .vmem, ⟨0, _⟩ => ⟨S256x9216, .bf16⟩
  | .local _ .vmem, ⟨1, _⟩ => ⟨S256x9216, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S3x1024, .f32⟩
  | .local _ .vmem, ⟨11, _⟩ => ⟨S1x4x128x128, .bf16⟩
  | .local _ .vmem, ⟨12, _⟩ => ⟨S1x4x128x128, .bf16⟩
  | .local _ .vmem, ⟨13, _⟩ => ⟨S1x128x1024, .f32⟩
  | .local _ .vmem, ⟨14, _⟩ => ⟨S1x128x1024, .f32⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x2048, .f32⟩
  | .local _ .vmem, ⟨19, _⟩ => ⟨S2048x128, .bf16⟩
  | .local _ .vmem, ⟨20, _⟩ => ⟨S1x128, .f32⟩
  | .local _ .vmem, ⟨21, _⟩ => ⟨S256x2048, .f32⟩
  | .local _ .vmem, ⟨22, _⟩ => ⟨S256x2048, .f32⟩
  | .local _ .vmem, ⟨23, _⟩ => ⟨S2048x2x128, .bf16⟩
  | .local _ .vmem, ⟨24, _⟩ => ⟨S2048x2x128, .bf16⟩
  | .local _ .vmem, ⟨25, _⟩ => ⟨S256x128, .f32⟩
  | .local _ .vmem, ⟨26, _⟩ => ⟨S256x128, .f32⟩
  | .local _ .vmem, ⟨27, _⟩ => ⟨S1x128x1024, .f32⟩
  | .local _ .vmem, ⟨28, _⟩ => ⟨S1x128x1024, .f32⟩
  | .local _ .vmem, ⟨29, _⟩ => ⟨S256x1024, .f32⟩
  | .local _ .vmem, ⟨30, _⟩ => ⟨S256x1024, .f32⟩
  | .local _ .vmem, ⟨31, _⟩ => ⟨S1x2x1024, .f32⟩
  | .local _ .vmem, ⟨32, _⟩ => ⟨S1x2x1024, .f32⟩
  | .local _ .vmem, ⟨33, _⟩ => ⟨S256x1024, .f32⟩
  | .local _ .vmem, ⟨34, _⟩ => ⟨S256x1024, .f32⟩
  | .local _ .vmem, ⟨35, _⟩ => ⟨S8x1024, .f32⟩
  | .local _ .vmem, ⟨36, _⟩ => ⟨S256x1024, .bf16⟩
  | .local _ .vmem, ⟨37, _⟩ => ⟨S256x1024, .bf16⟩
  | .local _ .vmem, ⟨38, _⟩ => ⟨S256x2048, .bf16⟩
  | _, _ => ⟨S9216x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_0 : Ref sig .tc := ⟨.hbm, 27, rfl⟩
abbrev main_call0_v5 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c_0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_2 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_3 : Ref sig .tc := ⟨.hbm, 78, rfl⟩
abbrev main_call2_v0 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55_0 : Ref sig .tc := ⟨.hbm, 90, rfl⟩
abbrev main_v55_1 : Ref sig .tc := ⟨.hbm, 91, rfl⟩
abbrev main_v55_2 : Ref sig .tc := ⟨.hbm, 92, rfl⟩
abbrev main_v55_3 : Ref sig .tc := ⟨.hbm, 93, rfl⟩
abbrev main_v55_4 : Ref sig .tc := ⟨.hbm, 94, rfl⟩
abbrev main_v55_5 : Ref sig .tc := ⟨.hbm, 95, rfl⟩
abbrev main_v55_6 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_8 (i : grid0.Coords) : Fin 3 → Nat :=
  let arg0 : BitVec 32 := BitVec.ofNat 32 (i 0).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_19 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 3 → Nat :=
  let arg0 : BitVec 32 := BitVec.ofNat 32 (i 0).val
  let c32_i32 : BitVec 32 := 32#32
  let v0 : BitVec 1 := Scalar.cmpi .slt arg0 c32_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_21 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x2x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference4Ideal.lean ====
abbrev S9216x9216 : Shape := ⟨2, ![9216, 9216]⟩
abbrev S4x2048x2048 : Shape := ⟨3, ![4, 2048, 2048]⟩
abbrev S128x8x2048 : Shape := ⟨3, ![128, 8, 2048]⟩
abbrev S1x128x2x1024 : Shape := ⟨4, ![1, 128, 2, 1024]⟩
abbrev S1x1024 : Shape := ⟨2, ![1, 1024]⟩
abbrev S1x4x128x128 : Shape := ⟨4, ![1, 4, 128, 128]⟩
abbrev S1x4x128 : Shape := ⟨3, ![1, 4, 128]⟩
abbrev S1x3x1024 : Shape := ⟨3, ![1, 3, 1024]⟩
abbrev S1024x2048 : Shape := ⟨2, ![1024, 2048]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S9216x1024 : Shape := ⟨2, ![9216, 1024]⟩
abbrev S_ : Shape := ⟨0, ![]⟩
abbrev S9216 : Shape := ⟨1, ![9216]⟩
abbrev S9216x1 : Shape := ⟨2, ![9216, 1]⟩
abbrev S1024 : Shape := ⟨1, ![1024]⟩
abbrev S8192x1024 : Shape := ⟨2, ![8192, 1024]⟩
abbrev S4x2048x1024 : Shape := ⟨3, ![4, 2048, 1024]⟩
abbrev S4x2x1024 : Shape := ⟨3, ![4, 2, 1024]⟩
abbrev S4x128x1024 : Shape := ⟨3, ![4, 128, 1024]⟩
abbrev S2x1024 : Shape := ⟨2, ![2, 1024]⟩
abbrev S1x2x1024 : Shape := ⟨3, ![1, 2, 1024]⟩
abbrev S128x1024 : Shape := ⟨2, ![128, 1024]⟩
abbrev S1x128x1024 : Shape := ⟨3, ![1, 128, 1024]⟩
abbrev S5x2x1024 : Shape := ⟨3, ![5, 2, 1024]⟩
abbrev S1024x1024 : Shape := ⟨2, ![1024, 1024]⟩
abbrev S5x128x1024 : Shape := ⟨3, ![5, 128, 1024]⟩

abbrev nBuf : Space → Nat
  | .hbm => 65
  | .vmem => 0
  | .smem => 0
  | _ => 0

abbrev bufTy : (tb : Table) → Fin (tcTables nBuf tb) → BufTy
  | .hbm, ⟨0, _⟩ => ⟨S9216x9216, .bf16⟩
  | .hbm, ⟨1, _⟩ => ⟨S4x2048x2048, .f32⟩
  | .hbm, ⟨2, _⟩ => ⟨S128x8x2048, .f32⟩
  | .hbm, ⟨3, _⟩ => ⟨S1x128x2x1024, .f32⟩
  | .hbm, ⟨4, _⟩ => ⟨S1x1024, .f32⟩
  | .hbm, ⟨5, _⟩ => ⟨S1x1024, .f32⟩
  | .hbm, ⟨6, _⟩ => ⟨S1x4x128x128, .f32⟩
  | .hbm, ⟨7, _⟩ => ⟨S1x4x128, .f32⟩
  | .hbm, ⟨8, _⟩ => ⟨S1x3x1024, .f32⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S1x2048x4, .f32⟩
  | .hbm, ⟨14, _⟩ => ⟨S1x4, .f32⟩
  | .hbm, ⟨15, _⟩ => ⟨S1x2048x32, .f32⟩
  | .hbm, ⟨16, _⟩ => ⟨S1x32, .f32⟩
  | .hbm, ⟨17, _⟩ => ⟨S9216x9216, .f32⟩
  | .hbm, ⟨18, _⟩ => ⟨S9216x1024, .f32⟩
  | .hbm, ⟨19, _⟩ => ⟨S9216x1024, .f32⟩
  | .hbm, ⟨20, _⟩ => ⟨S9216x1024, .f32⟩
  | .hbm, ⟨21, _⟩ => ⟨S9216x1024, .f32⟩
  | .hbm, ⟨22, _⟩ => ⟨S_, .f32⟩
  | .hbm, ⟨23, _⟩ => ⟨S9216, .f32⟩
  | .hbm, ⟨24, _⟩ => ⟨S9216x1, .f32⟩
  | .hbm, ⟨25, _⟩ => ⟨S_, .f32⟩
  | .hbm, ⟨26, _⟩ => ⟨S9216x1, .f32⟩
  | .hbm, ⟨27, _⟩ => ⟨S9216x1, .f32⟩
  | .hbm, ⟨28, _⟩ => ⟨S9216x1024, .f32⟩
  | .hbm, ⟨29, _⟩ => ⟨S9216x1024, .f32⟩
  | .hbm, ⟨30, _⟩ => ⟨S9216x1024, .f32⟩
  | .hbm, ⟨31, _⟩ => ⟨S_, .f32⟩
  | .hbm, ⟨32, _⟩ => ⟨S9216, .f32⟩
  | .hbm, ⟨33, _⟩ => ⟨S9216x1, .f32⟩
  | .hbm, ⟨34, _⟩ => ⟨S_, .f32⟩
  | .hbm, ⟨35, _⟩ => ⟨S9216x1, .f32⟩
  | .hbm, ⟨36, _⟩ => ⟨S9216x1, .f32⟩
  | .hbm, ⟨37, _⟩ => ⟨S_, .f32⟩
  | .hbm, ⟨38, _⟩ => ⟨S9216x1, .f32⟩
  | .hbm, ⟨39, _⟩ => ⟨S9216x1, .f32⟩
  | .hbm, ⟨40, _⟩ => ⟨S9216x1, .f32⟩
  | .hbm, ⟨41, _⟩ => ⟨S9216x1024, .f32⟩
  | .hbm, ⟨42, _⟩ => ⟨S9216x1024, .f32⟩
  | .hbm, ⟨43, _⟩ => ⟨S1024, .f32⟩
  | .hbm, ⟨44, _⟩ => ⟨S1x1024, .f32⟩
  | .hbm, ⟨45, _⟩ => ⟨S9216x1024, .f32⟩
  | .hbm, ⟨46, _⟩ => ⟨S9216x1024, .f32⟩
  | .hbm, ⟨47, _⟩ => ⟨S1024, .f32⟩
  | .hbm, ⟨48, _⟩ => ⟨S1x1024, .f32⟩
  | .hbm, ⟨49, _⟩ => ⟨S9216x1024, .f32⟩
  | .hbm, ⟨50, _⟩ => ⟨S9216x1024, .f32⟩
  | .hbm, ⟨51, _⟩ => ⟨S8192x1024, .f32⟩
  | .hbm, ⟨52, _⟩ => ⟨S4x2048x1024, .f32⟩
  | .hbm, ⟨53, _⟩ => ⟨S4x2x1024, .f32⟩
  | .hbm, ⟨54, _⟩ => ⟨S8192x1024, .f32⟩
  | .hbm, ⟨55, _⟩ => ⟨S4x2048x1024, .f32⟩
  | .hbm, ⟨56, _⟩ => ⟨S4x128x1024, .f32⟩
  | .hbm, ⟨57, _⟩ => ⟨S2x1024, .f32⟩
  | .hbm, ⟨58, _⟩ => ⟨S1x2x1024, .f32⟩
  | .hbm, ⟨59, _⟩ => ⟨S128x1024, .f32⟩
  | .hbm, ⟨60, _⟩ => ⟨S1x128x1024, .f32⟩
  | .hbm, ⟨61, _⟩ => ⟨S5x2x1024, .f32⟩
  | .hbm, ⟨62, _⟩ => ⟨S1024x1024, .f32⟩
  | .hbm, ⟨63, _⟩ => ⟨S5x128x1024, .f32⟩
  | .hbm, ⟨64, _⟩ => ⟨S1024x1024, .f32⟩
  | _, _ => ⟨S9216x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Proof.Words.lean ====
/-
  The words the experts kernel computes its slots, cells and blocks from, at the numbers they stand for.
-/
module

public import proofs.«01_k».proof.Proof.Gen.KernelIdeal.Skeleton

@[expose] public section

set_option maxRecDepth 100000

noncomputable section

namespace Cert.KernelIdeal.Body

open Idealize.ShloMosaic Cert.KernelIdeal Cert.KernelIdeal.Gen

/-- The word of a number. -/
abbrev wd (n : ℕ) : BitVec 32 := BitVec.ofNat 32 n

theorem off7_all : ∀ s : Fin 106, k0_off7 (wd s) = ![(s.val + 1) % 2, 0] := by decide
theorem off8_all : ∀ s : Fin 106, k0_off8 (wd s) = ![(s.val + 1) % 2, 0, 0] := by decide
theorem off10_all : ∀ s : Fin 106, k0_off10 (wd s) = ![(s.val + 1) % 2, 1] := by decide
theorem off11_all : ∀ s : Fin 106, k0_off11 (wd s) = ![(s.val + 1) % 2, 0, 0] := by decide
theorem off12_all : ∀ s : Fin 106, k0_off12 (wd s) = ![(s.val + 1) % 2, 2] := by decide
theorem off13_all : ∀ s : Fin 106, k0_off13 (wd s) = ![(s.val + 1) % 2, 0, 0] := by decide
theorem off15_all : ∀ s : Fin 106, k0_off15 (wd s) = ![s.val % 2, 0] := by decide
theorem off16_all : ∀ s : Fin 106, k0_off16 (wd s) = ![s.val % 2, 0, 0] := by decide
theorem off18_all : ∀ s : Fin 106, k0_off18 (wd s) = ![s.val % 2, 1] := by decide
theorem off19_all : ∀ s : Fin 106, k0_off19 (wd s) = ![s.val % 2, 2] := by decide
theorem off20_all : ∀ s : Fin 106, k0_off20 (wd s) = ![s.val % 2, 0, 0] := by decide

/-- The slot word the kernel computes from the count of experts begun. -/
def slotWord (v105 : BitVec 32) : BitVec 32 :=
  let v107 : BitVec 32 := Scalar.select (Scalar.cmpi .eq 2#32 0#32) 1#32 2#32
  let v108 : BitVec 32 := Scalar.remsi v105 v107
  Scalar.select (Scalar.andi (Scalar.xori (Scalar.cmpi .slt v108 0#32) (Scalar.cmpi .slt v107 0#32)) (Scalar.cmpi .ne v108 0#32)) (Scalar.addi v108 v107) v108
theorem slotWord_all : ∀ s : Fin 106, slotWord (wd s) = wd (s.val % 2) := by decide

theorem off1_eq (e : Fin 32) : k0_off1 (wd e) = ![0, e.val, 0, 0] := by revert e; decide
theorem off2_eq (e : Fin 32) : k0_off2 (wd e) = ![0, e.val, 0, 0] := by revert e; decide
theorem off9_eq (e : Fin 32) : k0_off9 (wd e) = ![0, e.val, 0, 0] := by revert e; decide
theorem off14_eq (e : Fin 32) : k0_off14 (wd e) = ![0, e.val, 0, 0] := by revert e; decide
theorem off17_eq (e : Fin 32) : k0_off17 (wd e) = ![0, e.val, 0, 0] := by revert e; decide
theorem off21_eq (e : Fin 32) : k0_off21 (wd e) = ![0, e.val, 0, 0] := by revert e; decide
theorem off22_eq (p : Fin 2) : k0_off22 (wd p) = ![p.val, 0, 0] := by revert p; decide
theorem off23_eq (p : Fin 2) : k0_off23 (wd p) = ![p.val, 0, 0] := by revert p; decide

theorem N104 : grid0.N = 104 := by decide
theorem off3_eq : ∀ n : Fin 104, (![(BitVec.ofNat 32 n.val).toNat] : Fin 1 → ℕ) = ![n.val] := by decide
theorem off6_all : ∀ n : Fin 105, ∀ a : Fin 105, a.val < n.val → k0_off6 (wd n) (wd a) = ![a.val] := by decide
theorem cond4_all : ∀ n : Fin 105, ∀ a : Fin 105, (k0_cond4 (wd n) (wd a) = 1#1 ↔ a.val < n.val) := by decide

/-- The slot of the `s`-th expert begun. -/
def sl (s : ℕ) : Fin 2 := ⟨s % 2, Nat.mod_lt _ (by decide)⟩

theorem sl_succ_succ (s : ℕ) : sl (s + 2) = sl s := by unfold sl; congr 1; omega

theorem wd_inj {a b : ℕ} (ha : a < 2 ^ 32) (hb : b < 2 ^ 32) : wd a = wd b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem eq_wd {a b : ℕ} (ha : a < 2 ^ 32) (hb : b < 2 ^ 32) :
    Scalar.cmpi .eq (wd a) (wd b) = BitVec.ofBool (decide (a = b)) := by
  unfold Scalar.cmpi IntOp.cmpi
  congr 1
  rw [Bool.eq_iff_iff]
  simp only [beq_iff_eq, decide_eq_true_eq]
  exact wd_inj ha hb

theorem toInt_wd {a : ℕ} (ha : a < 2 ^ 31) : (wd a).toInt = (a : ℤ) := by
  rw [BitVec.toInt_eq_toNat_of_lt] <;> rw [BitVec.toNat_ofNat, Nat.mod_eq_of_lt (by omega)]
  omega

theorem slt_wd {a b : ℕ} (ha : a < 2 ^ 31) (hb : b < 2 ^ 31) :
    Scalar.cmpi .slt (wd a) (wd b) = BitVec.ofBool (decide (a < b)) := by
  unfold Scalar.cmpi IntOp.cmpi
  congr 1
  show BitVec.slt _ _ = _
  rw [BitVec.slt_eq_decide, toInt_wd ha, toInt_wd hb]
  simp

theorem sge_wd {a b : ℕ} (ha : a < 2 ^ 31) (hb : b < 2 ^ 31) :
    Scalar.cmpi .sge (wd a) (wd b) = BitVec.ofBool (decide (b ≤ a)) := by
  unfold Scalar.cmpi IntOp.cmpi
  congr 1
  show BitVec.sle _ _ = _
  rw [BitVec.sle_eq_decide, toInt_wd ha, toInt_wd hb]
  simp

/-- A bit widened and compared with zero is the bit. -/
theorem widen_bit (b : Bool) : Scalar.cmpi .ne (Scalar.extui (BitVec.ofBool b) : BitVec 32) 0#32 = BitVec.ofBool b := by
  cases b <;> decide
theorem ofBool_iff (b : Bool) : BitVec.ofBool b = 1#1 ↔ b = true := by cases b <;> decide

variable {i : grid0.Coords} {n : ℕ}

theorem i_lt (i : grid0.Coords) : (i 0).val < 104 := (i 0).isLt

theorem cond1_iff : k0_cond1 i = 1#1 ↔ (i 0).val = 0 := by
  have hi := i_lt i
  unfold k0_cond1
  dsimp only
  rw [eq_wd (a := (i 0).val) (b := 0) (by omega) (by decide), widen_bit, ofBool_iff]; simp
theorem cond2_iff (hn : n ≤ 104) : k0_cond2 i (wd n) = 1#1 ↔ (i 0).val < n := by
  have hi := i_lt i
  unfold k0_cond2
  dsimp only
  rw [slt_wd (by omega) (by omega), widen_bit, ofBool_iff]; simp
theorem cond5_iff (hn : n ≤ 104) : k0_cond5 i (wd n) = 1#1 ↔ n ≤ (i 0).val := by
  have hi := i_lt i
  unfold k0_cond5
  dsimp only
  rw [sge_wd (by omega) (by omega), widen_bit, ofBool_iff]; simp
theorem cond4_iff {a : ℕ} (hn : n ≤ 104) (ha : a ≤ 104) : k0_cond4 (wd n) (wd a) = 1#1 ↔ a < n := by
  unfold k0_cond4
  dsimp only
  rw [slt_wd (by omega) (by omega), widen_bit, ofBool_iff]; simp
theorem cond3_iff (a b : BitVec 32) : k0_cond3 i a b = 1#1 ↔ ((i 0).val = 0 ∨ a ≠ b) := by
  have hi := i_lt i
  unfold k0_cond3
  dsimp only
  rw [eq_wd (a := (i 0).val) (b := 0) (by omega) (by decide)]
  have : Scalar.cmpi .ne a b = BitVec.ofBool (decide (a ≠ b)) := by
    unfold Scalar.cmpi IntOp.cmpi; congr 1; rw [Bool.eq_iff_iff]; simp
  rw [this]
  have h2 : ∀ p q : Bool, Scalar.ori (BitVec.ofBool p) (BitVec.ofBool q) = BitVec.ofBool (p || q) := by decide
  rw [h2, widen_bit, ofBool_iff]; simp

theorem off3_i : k0_off3 i = ![(i 0).val] := by
  have hi := i_lt i
  unfold k0_off3; dsimp only
  rw [show (Scalar.indexCast (BitVec.ofNat 32 (i 0).val)).toNat = (i 0).val by
    show (BitVec.ofNat 32 (i 0).val).toNat = _
    rw [BitVec.toNat_ofNat, Nat.mod_eq_of_lt (by omega)]]
theorem off4_all : ∀ m : Fin 104, (![(Scalar.indexCast (Scalar.maxsi (Scalar.subi (BitVec.ofNat 32 m.val) 1#32) 0#32)).toNat] : Fin 1 → ℕ) = ![m.val - 1] := by decide
theorem off4_i : k0_off4 i = ![(i 0).val - 1] := off4_all ⟨(i 0).val, i_lt i⟩
theorem trips_eq : k0_t1_loop.trips = 104 := by decide
theorem iv_all : ∀ k : Fin 104, Scf.iv 0#32 1#32 k.val = wd k.val := by decide
theorem iv_eq (k : Fin k0_t1_loop.trips) : Scf.iv 0#32 1#32 k.val = wd k.val := iv_all ⟨k.val, trips_eq ▸ k.isLt⟩
theorem off5_k (k : Fin k0_t1_loop.trips) : k0_off5 k = ![k.val] := by
  have hk : k.val < 104 := trips_eq ▸ k.isLt
  unfold k0_off5; dsimp only
  rw [iv_eq, show (Scalar.indexCast (wd k.val)).toNat = k.val by
    show (BitVec.ofNat 32 k.val).toNat = _
    rw [BitVec.toNat_ofNat, Nat.mod_eq_of_lt (by omega)]]

/-- What one trip of the scan yields, on words. -/
theorem scan_word (a k : ℕ) (ha : a ≤ 104) (hk : k < 104) (hn : n ≤ 104) (x y : BitVec 32) :
    Scalar.select (Scalar.andi (Scalar.andi (Scalar.cmpi .eq (wd a) (wd k)) (Scalar.cmpi .slt (wd k) (wd n))) (Scalar.cmpi .eq x y))
      (Scalar.addi (wd k) 1#32) (wd a) = if (a = k ∧ k < n) ∧ x = y then wd (k + 1) else wd a := by
  rw [eq_wd (by omega) (by omega), slt_wd (by omega) (by omega)]
  have h3 : Scalar.cmpi .eq x y = BitVec.ofBool (decide (x = y)) := by
    unfold Scalar.cmpi IntOp.cmpi; congr 1
  have h2 : ∀ p q : Bool, Scalar.andi (BitVec.ofBool p) (BitVec.ofBool q) = BitVec.ofBool (p && q) := by decide
  have h4 : Scalar.addi (wd k) 1#32 = wd (k + 1) := (BitVec.ofNat_add (n := 32) k 1).symm
  rw [h3, h2, h2, h4]
  by_cases h : (a = k ∧ k < n) ∧ x = y
  · rw [if_pos h]; simp [h.1.1, h.1.2, h.2, Scalar.select]
  · rw [if_neg h]
    have : (decide (a = k) && decide (k < n) && decide (x = y)) = false := by
      rw [Bool.eq_false_iff]; intro hh; apply h; simpa using hh
    rw [this]; simp [Scalar.select]

theorem succ_word (s : ℕ) : Scalar.addi (wd s) 1#32 = wd (s + 1) := (BitVec.ofNat_add (n := 32) s 1).symm

/-- The cells and slots are inside their arrays. -/
theorem cell_inb : ∀ (p : Fin 2) (j : Fin 3), ∀ a : Fin 2, (![p.val, j.val] : Fin 2 → ℕ) a + S1x1.size a ≤ S2x3.size a := by decide
theorem slotS_inb : ∀ (p : Fin 2), ∀ a : Fin 3, (![p.val, 0, 0] : Fin 3 → ℕ) a + S1x2048x512.size a ≤ S2x2048x512.size a := by decide
theorem slotT_inb : ∀ (p : Fin 2), ∀ a : Fin 3, (![p.val, 0, 0] : Fin 3 → ℕ) a + S1x512x2048.size a ≤ S2x512x2048.size a := by decide
theorem blkE_inb : ∀ (e : Fin 32), ∀ a : Fin 4, (![0, e.val, 0, 0] : Fin 4 → ℕ) a + S1x1x2048x512.size a ≤ S1x32x2048x512.size a := by decide
theorem blkF_inb : ∀ (e : Fin 32), ∀ a : Fin 4, (![0, e.val, 0, 0] : Fin 4 → ℕ) a + S1x1x512x2048.size a ≤ S1x32x512x2048.size a := by decide
theorem word_inb : ∀ (m : Fin 104), ∀ a : Fin 1, (![m.val] : Fin 1 → ℕ) a + S1.size a ≤ S104.size a := by decide

section
variable {s : ℕ} (hs : s < 105)
include hs
theorem off7_s : k0_off7 (wd s) = ![(sl (s+1)).val, (0 : Fin 3).val] := off7_all ⟨s, by omega⟩
theorem off10_s : k0_off10 (wd s) = ![(sl (s+1)).val, (1 : Fin 3).val] := off10_all ⟨s, by omega⟩
theorem off12_s : k0_off12 (wd s) = ![(sl (s+1)).val, (2 : Fin 3).val] := off12_all ⟨s, by omega⟩
theorem off15_s : k0_off15 (wd s) = ![(sl s).val, (0 : Fin 3).val] := off15_all ⟨s, by omega⟩
theorem off18_s : k0_off18 (wd s) = ![(sl s).val, (1 : Fin 3).val] := off18_all ⟨s, by omega⟩
theorem off19_s : k0_off19 (wd s) = ![(sl s).val, (2 : Fin 3).val] := off19_all ⟨s, by omega⟩
theorem off8_s : k0_off8 (wd s) = ![(sl (s+1)).val, 0, 0] := off8_all ⟨s, by omega⟩
theorem off11_s : k0_off11 (wd s) = ![(sl (s+1)).val, 0, 0] := off11_all ⟨s, by omega⟩
theorem off13_s : k0_off13 (wd s) = ![(sl (s+1)).val, 0, 0] := off13_all ⟨s, by omega⟩
theorem off16_s : k0_off16 (wd s) = ![(sl s).val, 0, 0] := off16_all ⟨s, by omega⟩
theorem off20_s : k0_off20 (wd s) = ![(sl s).val, 0, 0] := off20_all ⟨s, by omega⟩
theorem slotWord_s : slotWord (wd s) = wd (sl s).val := slotWord_all ⟨s, by omega⟩

theorem chk4_s (v0 v11 v16 : BitVec 32) : k0_chk4 i v0 v11 v16 (wd s) := by
  unfold k0_chk4
  rw [off15_s hs, off16_s hs, off18_s hs, off19_s hs, off20_s hs]
  exact ⟨fun _ _ => cell_inb _ _, fun _ _ => slotS_inb _, fun _ _ => cell_inb _ _, fun _ _ => cell_inb _ _, fun _ _ => slotT_inb _⟩

theorem chk2_s {a : ℕ} (v11 v16 : BitVec 32) (hn : n ≤ 104) (ha : a ≤ 104) : k0_chk2 i (wd n) v11 v16 (wd s) (wd a) := by
  unfold k0_chk2
  rw [off7_s hs, off8_s hs, off10_s hs, off11_s hs, off12_s hs, off13_s hs, cond4_iff hn ha]
  refine ⟨fun _ _ h => ?_, fun _ _ _ => cell_inb _ _, fun _ _ _ => slotS_inb _, fun _ _ _ => cell_inb _ _, fun _ _ _ => slotS_inb _, fun _ _ _ => cell_inb _ _, fun _ _ _ => slotT_inb _⟩
  rw [off6_all ⟨n, by omega⟩ ⟨a, by omega⟩ h]
  exact word_inb ⟨a, by omega⟩
end

theorem off6_na {a : ℕ} (hn : n ≤ 104) (ha : a < n) : k0_off6 (wd n) (wd a) = ![a] := off6_all ⟨n, by omega⟩ ⟨a, by omega⟩ ha

theorem chk1_e (e : Fin 32) : k0_chk1 i (wd e) := by
  unfold k0_chk1; rw [off1_eq, off2_eq]; exact ⟨fun _ => blkE_inb _, fun _ => blkF_inb _⟩
theorem chk3_e (e : Fin 32) (v0 v11 v16 v122 : BitVec 32) : k0_chk3 i v0 v11 v16 v122 (wd e) := by
  unfold k0_chk3; rw [off9_eq, off14_eq]; exact ⟨fun _ _ _ => blkE_inb _, fun _ _ _ => blkF_inb _⟩
theorem chk5_e (e : Fin 32) (v0 v16 : BitVec 32) : k0_chk5 i v0 (wd e) v16 := by
  unfold k0_chk5; rw [off17_eq, off21_eq]; exact ⟨fun _ _ => blkE_inb _, fun _ _ => blkF_inb _⟩
theorem chk6_p (p : Fin 2) (v0 : BitVec 32) : k0_chk6 i v0 (wd p) := by
  unfold k0_chk6; rw [off22_eq, off23_eq]; exact ⟨fun _ => slotS_inb _, fun _ => slotT_inb _⟩

end Cert.KernelIdeal.Body

end
-- ==== Proof.Copies.lean ====
/-
  Copies of one block of an array into one slot of a buffer, carried from one grid point to a later one.

  A slot is a rectangle of a memref, held by its own elements at contents that read a given value. A copy in flight
  stands for the slot, the lent share of the array and the cell at zero; its wait gives the three back, the slot
  reading the array's block. Nothing here names a program.
-/
module

public import Idealize.ShloMosaic.Lib.Transfers
public import Idealize.ShloMosaic.Lib.Exec
public import Idealize.ShloMosaic.Lib.Memref
public import Idealize.ShloMosaic.Lib.Tactic

@[expose] public section

noncomputable section

namespace Cert.Proof.Copies

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] [Infinite Name] [CountersIn U]
variable {Λ : Labels} {defs : Defs nD τ sig Val Λ} (𝒱 : Variants) (c : Thread nD τ) (bd : Option 𝒱.V)

local notation "𝕄" => MT nD τ sig Ix Val Name U Lvl

/-- A slot of a memref, held whole at contents that read `X`. -/
def SlotAt {sp : Space} {s : Shape} {e : EltTy} (M : Memref sig c.2.kind sp s e) (r : Rect s) (X : r.shape.Idx → Val e) : sProp 𝕄 :=
  iprop(∃ f, ⌜(M.view.slice r).read Val f = X⌝ ∗ (M.view.loc c ↦[(M.view.slice r).set]{fullShare} f))

/-- A slot of a memref, held whole at some contents. -/
def SlotAny {sp : Space} {s : Shape} {e : EltTy} (M : Memref sig c.2.kind sp s e) (r : Rect s) : sProp 𝕄 :=
  iprop(∃ f, (M.view.loc c ↦[(M.view.slice r).set]{fullShare} f))

/-- What the block at `ra` of an array reads, laid out as a slot of shape `r`. -/
def blockOf {κ : Kind} {sp : Space} {s sa : Shape} {e : EltTy} (A : Memref sig κ sp sa e) (ra : Rect sa) (r : Rect s)
    (hn : r.shape.numel = ra.shape.numel) (fs : A.view.ty.Contents Val) : r.shape.Idx → Val e :=
  fun x => A.view.read Val fs (ra.emb (Shape.reshapeEquiv hn x))

/-- What the slot reads once the squeezed block has been written through the squeezed slot. -/
theorem blockOf_written {κ : Kind} {sp spa : Space} {s sa s' : Shape} {e : EltTy}
    (M : Memref sig κ sp s e) (r : Rect s) (hr : ∀ a, r.stride a = 1) (hq : r.shape.Squeezes s')
    (A : Memref sig κ spa sa e) (ra : Rect sa) (hra : ∀ a, ra.stride a = 1) (hqa : ra.shape.Squeezes s')
    (hn : r.shape.numel = ra.shape.numel) (fd : M.view.ty.Contents Val) (fs : A.view.ty.Contents Val) :
    (M.view.slice r).read Val (((M.slice r hr).squeeze s' hq).view.write Val fd
        (((A.slice ra hra).squeeze s' hqa).view.read Val fs) Finset.univ) = blockOf A ra r hn fs := by
  funext x
  have h1 := congrFun (View.read_write_univ (Val := Val) (v := ((M.slice r hr).squeeze s' hq).view) fd
    (((A.slice ra hra).squeeze s' hqa).view.read Val fs)) (Shape.reshapeEquiv hq.numel_eq.symm x)
  have e1 : Shape.reshapeEquiv hq.numel_eq (Shape.reshapeEquiv hq.numel_eq.symm x) = x := by
    rw [Shape.reshapeEquiv_reshapeEquiv, Shape.reshapeEquiv_self]
  have h2 : (M.view.slice r).read Val (((M.slice r hr).squeeze s' hq).view.write Val fd
        (((A.slice ra hra).squeeze s' hqa).view.read Val fs) Finset.univ) (Shape.reshapeEquiv hq.numel_eq (Shape.reshapeEquiv hq.numel_eq.symm x))
      = A.view.read Val fs (ra.emb (Shape.reshapeEquiv hqa.numel_eq (Shape.reshapeEquiv hq.numel_eq.symm x))) := h1
  rw [e1, Shape.reshapeEquiv_reshapeEquiv] at h2
  exact h2

/-- A copy of the block at `ra` of `A` (lent at share `q`) into the slot `r` of `M`, in flight on `sm`; the rest of the
    share stays beside it. -/
def Flying {sp spa : Space} {s sa : Shape} {e : EltTy} (M : Memref sig c.2.kind sp s e) (r : Rect s)
    (A : Memref sig c.2.kind spa sa e) (ra : Rect sa) (hn : r.shape.numel = ra.shape.numel) (sm : SemLoc sig) (ι : Ix) (N : ℕ)
    (q : PosShare TreeShare) (fs : Buf Val (A.view.loc c)) : sProp 𝕄 :=
  iprop(Transfers.Flight (countersEmb (nD := nD) (τ := τ) (sig := sig) (Ix := Ix) (Val := Val) (Name := Name) (U := U) (Lvl := Lvl)) c sm ι N
      iprop(SlotAt c M r (blockOf A ra r hn fs) ∗ (A.view.loc c ↦[(A.view.slice ra).set]{q} fs))
    ∗ (A.view.loc c ↦[Finset.univ \ (A.view.slice ra).set]{q} fs))

/-- Issue: the slot, the array's share and the cell at zero become the copy in flight. -/
theorem wp_issue {sp spa : Space} {s sa s' : Shape} {e : EltTy} {α : Type} {Q : α → sProp 𝕄}
    {M : Memref sig c.2.kind sp s e} {r : Rect s} {hr : ∀ a, r.stride a = 1} {hq : r.shape.Squeezes s'}
    {A : Memref sig c.2.kind spa sa e} {ra : Rect sa} {hra : ∀ a, ra.stride a = 1} {hqa : ra.shape.Squeezes s'}
    {sm : SemLoc sig}
    {hsrc : ((A.slice ra hra).squeeze s' hqa).view.WordExact} {hdst : ((M.slice r hr).squeeze s' hq).view.WordExact}
    {hsem : DmaTarget.Typed (nD := nD) spa sm (.here ((M.slice r hr).squeeze s' hq))}
    {k : PUnit → Prog (TpuEff nD τ sig Val Λ c.2) α} {q : PosShare TreeShare} {fs : Buf Val (A.view.loc c)}
    (hn : r.shape.numel = ra.shape.numel) (ι : Ix) (N : ℕ) (hN : ((M.slice r hr).squeeze s' hq).view.amount sm = N) (hN0 : 0 < N) :
    iprop((A.view.loc c ↦{q} fs) ∗ SlotAny c M r ∗ semVal (c, sm) 0)
      ⊢ iprop((Flying c M r A ra hn sm ι N q fs -∗ wp frame (wpE defs 𝒱 c bd) Set.univ (k ⟨⟩) Q)
          -∗ wp frame (wpE defs 𝒱 c bd) Set.univ
              (.op (.enqueueDmaAs ((A.slice ra hra).squeeze s' hqa) (.here ((M.slice r hr).squeeze s' hq)) .same sm hsrc hdst hsem) k) Q) := by
  have hs1 : ((A.slice ra hra).squeeze s' hqa).view.set = (A.view.slice ra).set := View.set_reshape ..
  have hs2 : ((M.slice r hr).squeeze s' hq).view.set = (M.view.slice r).set := View.set_reshape ..
  unfold SlotAny
  iintro ⟨HA, ⟨%fd, HS⟩, Hv⟩ Hk
  ihave HA' := (pointsTo_split_subset (Finset.subset_univ (A.view.slice ra).set)).1 $$ HA
  icases HA' with ⟨HA, HAr⟩
  have hw := Transfers.wp_dmaLocal (defs := defs) (Q := Q) countersEmb 𝒱 c bd (src := (A.slice ra hra).squeeze s' hqa) (via := .same) (dst := (M.slice r hr).squeeze s' hq) (hsrc := hsrc) (hdst := hdst) (hsem := hsem) (k := k)
    (Sd := (M.view.slice r).set) (fs := fs) (fd := fd) (q := q) ι N hN hN0 hs2.le
  rw [hs1] at hw
  iapply hw $$ [HA HS Hv]
  · isplitl [HA]; · iexact HA
    isplitl [HS]; · iexact HS
    iexact Hv
  iintro Hf
  iapply Hk
  unfold Flying
  isplitl [Hf]
  · iapply (Transfers.Flight_mono countersEmb c ?_) $$ Hf
    unfold SlotAt
    iintro ⟨H1, H2⟩
    isplitl [H1]
    · iexists _
      isplitr
      swap
      · iexact H1
      · ipureintro
        exact blockOf_written M r hr hq A ra hra hqa hn fd fs
    · iexact H2
  · iexact HAr

/-- Wait: the copy in flight becomes the slot reading the array's block, the array's share whole again, the cell at zero. -/
theorem wp_collect {sp spa sp2 sp3 : Space} {s sa s2 s3 : Shape} {e e2 e3 : EltTy} {α : Type} {Q : α → sProp 𝕄}
    {M : Memref sig c.2.kind sp s e} {r : Rect s} {A : Memref sig c.2.kind spa sa e} {ra : Rect sa} {hn : r.shape.numel = ra.shape.numel}
    {κ' : Kind} {sem : DmaSem sig} {srcw : Memref sig c.2.kind sp2 s2 e2} {dstw : Memref sig κ' sp3 s3 e3} {hsrc : srcw.view.WordExact} {hdst : dstw.view.WordExact}
    {k : PUnit → Prog (TpuEff nD τ sig Val Λ c.2) α} {q : PosShare TreeShare} {fs : Buf Val (A.view.loc c)}
    (ι : Ix) (N : ℕ) (hN : dstw.view.dmaCredit = N) {W : Waits sig Ix} :
    iprop(Flying c M r A ra hn (.dma sem) ι N q fs ∗ owes c 0 W)
      ⊢ iprop((iprop(SlotAt c M r (blockOf A ra r hn fs) ∗ (A.view.loc c ↦{q} fs) ∗ semVal (c, .dma sem) 0
                  ∗ owes c 0 (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold Flying
  iintro ⟨⟨Hf, HAr⟩, HO⟩ Hk
  iapply (Transfers.wp_waitLocal countersEmb 𝒱 c bd ι hN) $$ [Hf HO]
  · isplitl [Hf] <;> iassumption
  iintro ⟨⟨HS, HA⟩, Hv, HO⟩
  iapply Hk
  isplitl [HS]; · iexact HS
  isplitl [HA HAr]
  · iapply (pointsTo_split_subset (Finset.subset_univ (A.view.slice ra).set)).2
    isplitl [HA] <;> iassumption
  isplitl [Hv] <;> iassumption

/-- Load of a slot through the memref, at the slot's rectangle. -/
theorem wp_loadSlot {cs : CoreSpace} {s : Shape} {e : EltTy} {α : Type} {Q : α → sProp 𝕄} {E : Set Name}
    {M : Memref sig c.2.kind cs s e} {r : Rect s} {hl : M.view.LoadsAt r.toLoadRect}
    {k : (r.shape.Idx → Val e) → Prog (TpuEff nD τ sig Val Λ c.2) α} {X : r.shape.Idx → Val e} :
    SlotAt c M r X
      ⊢ iprop((SlotAt c M r X -∗ wp frame (wpE defs 𝒱 c bd) E (k X) Q)
          -∗ wp frame (wpE defs 𝒱 c bd) E (.op (.load M r.toLoadRect hl) k) Q) := by
  unfold SlotAt
  iintro ⟨%f, %hf, HS⟩ Hk
  iapply (wp_load_rect 𝒱 c bd E (m := M) (r := r) (f := f) (S := (M.view.slice r).set) (hl := hl) (k := k) (Q := Q) (q := fullShare) subset_rfl) $$ HS
  iintro HS
  rw [show (M.access r).read Val f = X from hf]
  iapply Hk
  iexists f
  isplitr
  · ipureintro; exact hf
  · iexact HS

/-- A slot free for a copy: its elements, the array's share, the cell at zero. -/
def Idle {sp spa : Space} {s sa : Shape} {e : EltTy} (M : Memref sig c.2.kind sp s e) (r : Rect s)
    (A : Memref sig c.2.kind spa sa e) (sm : SemLoc sig) (q : PosShare TreeShare) (fs : Buf Val (A.view.loc c)) : sProp 𝕄 :=
  iprop((A.view.loc c ↦{q} fs) ∗ SlotAny c M r ∗ semVal (c, sm) 0)

/-- A slot a copy has landed in: it reads the block at `ra`; the array's share is whole, the cell at zero. -/
def Landed {sp spa : Space} {s sa : Shape} {e : EltTy} (M : Memref sig c.2.kind sp s e) (r : Rect s)
    (A : Memref sig c.2.kind spa sa e) (ra : Rect sa) (hn : r.shape.numel = ra.shape.numel) (sm : SemLoc sig)
    (q : PosShare TreeShare) (fs : Buf Val (A.view.loc c)) : sProp 𝕄 :=
  iprop(SlotAt c M r (blockOf A ra r hn fs) ∗ (A.view.loc c ↦{q} fs) ∗ semVal (c, sm) 0)

/-- A slot that reads a value is a slot. -/
theorem SlotAt.any {sp : Space} {s : Shape} {e : EltTy} {M : Memref sig c.2.kind sp s e} {r : Rect s} {X : r.shape.Idx → Val e} :
    (SlotAt c M r X : sProp 𝕄) ⊢ SlotAny c M r := by
  unfold SlotAt SlotAny
  iintro ⟨%f, %hf, HS⟩
  iexists f; iexact HS

/-- A slot a copy has landed in is free for the next. -/
theorem Landed.idle {sp spa : Space} {s sa : Shape} {e : EltTy} {M : Memref sig c.2.kind sp s e} {r : Rect s}
    {A : Memref sig c.2.kind spa sa e} {ra : Rect sa} {hn : r.shape.numel = ra.shape.numel} {sm : SemLoc sig}
    {q : PosShare TreeShare} {fs : Buf Val (A.view.loc c)} :
    (Landed c M r A ra hn sm q fs : sProp 𝕄) ⊢ Idle c M r A sm q fs := by
  unfold Landed Idle
  iintro ⟨HS, HA, Hv⟩
  isplitl [HA]; · iexact HA
  isplitl [HS]
  · iapply (SlotAt.any c); iexact HS
  · iexact Hv

/-- Issue through rectangles and a semaphore written another way than the resources name them. -/
theorem wp_issueAt {sp spa : Space} {s sa s' : Shape} {e : EltTy} {α : Type} {Q : α → sProp 𝕄}
    {M : Memref sig c.2.kind sp s e} {off off' sz : Fin s.rank → Nat} {inb : ∀ a, off a + sz a ≤ s.size a} {inb' : ∀ a, off' a + sz a ≤ s.size a}
    {hr : ∀ a, (Rect.unit off sz inb).stride a = 1} {hq : (Rect.unit off sz inb).shape.Squeezes s'}
    {A : Memref sig c.2.kind spa sa e} {offa offa' sza : Fin sa.rank → Nat} {inba : ∀ a, offa a + sza a ≤ sa.size a} {inba' : ∀ a, offa' a + sza a ≤ sa.size a}
    {hra : ∀ a, (Rect.unit offa sza inba).stride a = 1} {hqa : (Rect.unit offa sza inba).shape.Squeezes s'}
    {sm sm' : DmaSem sig}
    {hsrc : ((A.slice (Rect.unit offa sza inba) hra).squeeze s' hqa).view.WordExact} {hdst : ((M.slice (Rect.unit off sz inb) hr).squeeze s' hq).view.WordExact}
    {hsem : DmaTarget.Typed (nD := nD) spa (.dma sm) (.here ((M.slice (Rect.unit off sz inb) hr).squeeze s' hq))}
    {k : PUnit → Prog (TpuEff nD τ sig Val Λ c.2) α} {q : PosShare TreeShare} {fs : Buf Val (A.view.loc c)}
    {hn : (Rect.unit off' sz inb').shape.numel = (Rect.unit offa' sza inba').shape.numel} (ι : Ix)
    (hoff : off = off') (hoffa : offa = offa') (hsm : sm = sm') (hpos : 0 < s'.numel) :
    Idle c M (Rect.unit off' sz inb') A (.dma sm') q fs
      ⊢ iprop((Flying c M (Rect.unit off' sz inb') A (Rect.unit offa' sza inba') hn (.dma sm') ι
                (sig.dmaCredit c.2.kind (c.2.kind.table sp) M.view.buf s' e) q fs -∗ wp frame (wpE defs 𝒱 c bd) Set.univ (k ⟨⟩) Q)
          -∗ wp frame (wpE defs 𝒱 c bd) Set.univ
              (Prog.lift (.enqueueDma ((A.slice (Rect.unit offa sza inba) hra).squeeze s' hqa) (.here ((M.slice (Rect.unit off sz inb) hr).squeeze s' hq)) (.dma sm) hsrc hdst hsem) >>= k) Q) := by
  subst hoff hoffa hsm
  exact wp_issue 𝒱 c bd hn ι _ rfl (sig.dmaCredit_pos _ _ M.view.buf s' e hpos)

/-- Wait through a semaphore written another way than the copy names it. -/
theorem wp_collectAt {sp spa sp2 : Space} {s sa s2 s' : Shape} {e e2 : EltTy} {α : Type} {Q : α → sProp 𝕄}
    {M : Memref sig c.2.kind sp s e} {r : Rect s} {A : Memref sig c.2.kind spa sa e} {ra : Rect sa} {hn : r.shape.numel = ra.shape.numel}
    {off sz : Fin s.rank → Nat} {inb : ∀ a, off a + sz a ≤ s.size a}
    {hr : ∀ a, (Rect.unit off sz inb).stride a = 1} {hq : (Rect.unit off sz inb).shape.Squeezes s'}
    {sem sem' : DmaSem sig} {srcw : Memref sig c.2.kind sp2 s2 e2} {hsrc : srcw.view.WordExact} {hdst : ((M.slice (Rect.unit off sz inb) hr).squeeze s' hq).view.WordExact}
    {k : PUnit → Prog (TpuEff nD τ sig Val Λ c.2) α} {q : PosShare TreeShare} {fs : Buf Val (A.view.loc c)}
    (ι : Ix) (hsem : sem = sem') {W : Waits sig Ix} :
    iprop(Flying c M r A ra hn (.dma sem') ι (sig.dmaCredit c.2.kind (c.2.kind.table sp) M.view.buf s' e) q fs ∗ owes c 0 W)
      ⊢ iprop((iprop(Landed c M r A ra hn (.dma sem') q fs
                  ∗ owes c 0 (insert (SemLoc.dma sem', ι) W)) -∗ wp frame (wpE defs 𝒱 c bd) Set.univ (k ⟨⟩) Q)
          -∗ wp frame (wpE defs 𝒱 c bd) Set.univ (Prog.lift (.waitDma2 sem srcw ((M.slice (Rect.unit off sz inb) hr).squeeze s' hq) hsrc hdst) >>= k) Q) := by
  subst hsem
  have h := wp_collect (defs := defs) 𝒱 c bd (Q := Q) (M := M) (r := r) (A := A) (ra := ra) (hn := hn) (sem := sem) (srcw := srcw)
    (dstw := (M.slice (Rect.unit off sz inb) hr).squeeze s' hq) (hsrc := hsrc) (hdst := hdst) (k := k) (q := q) (fs := fs) ι
    (sig.dmaCredit c.2.kind (c.2.kind.table sp) M.view.buf s' e) rfl (W := W)
  unfold Landed
  iintro H Hk
  iapply h $$ H
  iintro ⟨H1, H2, H3, H4⟩
  iapply Hk
  isplitl [H1 H2 H3]
  · isplitl [H1]; · iexact H1
    isplitl [H2] <;> iassumption
  · iexact H4

/-- Load of a landed slot through a rectangle written another way than the slot names it. -/
theorem wp_loadSlotAt {cs : CoreSpace} {spa : Space} {s sa : Shape} {e : EltTy} {α : Type} {Q : α → sProp 𝕄} {E : Set Name}
    {M : Memref sig c.2.kind cs s e} {off off' sz : Fin s.rank → Nat} {inb : ∀ a, off a + sz a ≤ s.size a} {inb' : ∀ a, off' a + sz a ≤ s.size a}
    {hl : M.view.LoadsAt (Rect.unit off sz inb).toLoadRect}
    {A : Memref sig c.2.kind spa sa e} {ra : Rect sa} {hn : (Rect.unit off' sz inb').shape.numel = ra.shape.numel} {sm : SemLoc sig}
    {q : PosShare TreeShare} {fs : Buf Val (A.view.loc c)}
    {k : ((Rect.unit off sz inb).shape.Idx → Val e) → Prog (TpuEff nD τ sig Val Λ c.2) α}
    (hoff : off = off') :
    Landed c M (Rect.unit off' sz inb') A ra hn sm q fs
      ⊢ iprop((Landed c M (Rect.unit off' sz inb') A ra hn sm q fs -∗ wp frame (wpE defs 𝒱 c bd) E (k (blockOf A ra (Rect.unit off' sz inb') hn fs)) Q)
          -∗ wp frame (wpE defs 𝒱 c bd) E (Prog.lift (.load M (Rect.unit off sz inb).toLoadRect hl) >>= k) Q) := by
  subst hoff
  unfold Landed
  iintro ⟨HS, HA⟩ Hk
  iapply (wp_loadSlot (defs := defs) 𝒱 c bd (M := M) (r := Rect.unit off sz inb) (hl := hl) (k := k)) $$ HS
  iintro HS
  iapply Hk
  isplitl [HS] <;> iassumption

/-- A check whose proposition holds. -/
theorem wp_check {P : Prop} {d : Decidable P} {α : Type} {Q : α → sProp 𝕄} {E : Set Name}
    {k : PLift P → Prog (TpuEff nD τ sig Val Λ c.2) α} (h : P) :
    (wp frame (wpE defs 𝒱 c bd) E (k ⟨h⟩) Q : sProp 𝕄) ⊢ wp frame (wpE defs 𝒱 c bd) E (Prog.lift (.assume P d) >>= k) Q :=
  wp_assume (Γ := .empty) 𝒱 c bd E h

/-- A word array held by its view's elements at contents that read `V`. -/
abbrev WordsAt {sp : Space} {s : Shape} {e : EltTy} (M : Memref sig c.2.kind sp s e) (q : PosShare TreeShare) (V : s.Idx → Val e) : sProp 𝕄 :=
  owns c M q V

/-- Load of one word, at the head of a program. -/
theorem wp_word {s : Shape} {e : EltTy} {α : Type} {Q : α → sProp 𝕄} {E : Set Name}
    {M : Memref sig c.2.kind .smem s e} {r : Rect s} {h1 : r.shape.numel = 1} {hp : e.packing = 1}
    {k : Val e → Prog (TpuEff nD τ sig Val Λ c.2) α} {q : PosShare TreeShare} {V : s.Idx → Val e} (w : Val e) (hV : ∀ x, V (r.emb x) = w) :
    WordsAt c M q V
      ⊢ iprop((WordsAt c M q V -∗ wp frame (wpE defs 𝒱 c bd) E (k w) Q)
          -∗ wp frame (wpE defs 𝒱 c bd) E (smemLoad M r h1 hp >>= k) Q) := by
  unfold WordsAt owns
  iintro ⟨%f, %hf, HS⟩ Hk
  have hsub : (M.access r).set ⊆ M.view.set := View.set_slice_subset ..
  have hw := wp_smemLoadElt (defs := defs) 𝒱 c bd (Γ := .empty) E (m := M) (r := r) (hw := View.loads_smem_one hp h1) (x := Shape.Idx.first (h1.symm ▸ Nat.one_pos)) (k := k) (Q := Q) (q := q) (f := f) hsub
  iapply hw $$ HS
  iintro HS
  subst hf
  have e : (M.access r).read Val f (Shape.Idx.first (h1.symm ▸ Nat.one_pos)) = w := hV _
  rw [e]
  iapply Hk
  iexists f
  isplitr
  · ipureintro; rfl
  · iexact HS

/-- Store through a rectangle: what the memref reads is the new values inside it, the old ones outside. -/
theorem wp_wordStore {cs : CoreSpace} {s : Shape} {e : EltTy} {α : Type} {Q : α → sProp 𝕄} {E : Set Name}
    {M : Memref sig c.2.kind cs s e} {r : Rect s} {w : r.shape.Idx → Val e} {hx : (M.access r).Stores Finset.univ} {hm : (Finset.univ : Finset r.shape.Idx) = Finset.univ ∨ ∀ a, r.stride a = 1}
    {k : PUnit → Prog (TpuEff nD τ sig Val Λ c.2) α} {V V' : s.Idx → Val e}
    (hin : ∀ x, V' (r.emb x) = w x) (hout : ∀ y, y ∉ Finset.univ.map r.emb → V' y = V y) :
    WordsAt c M fullShare V
      ⊢ iprop((WordsAt c M fullShare V' -∗ wp frame (wpE defs 𝒱 c bd) E (k ⟨⟩) Q)
          -∗ wp frame (wpE defs 𝒱 c bd) E (Prog.lift (.store M r w Finset.univ hx hm) >>= k) Q) := by
  unfold WordsAt owns
  iintro ⟨%f, %hf, HS⟩ Hk
  have hsub : (M.access r).setOn Finset.univ ⊆ M.view.set := by rw [View.setOn_univ]; exact View.set_slice_subset ..
  have hw := wp_store (defs := defs) 𝒱 c bd E (Γ := .empty) (m := M) (r := r) (w := w) (Mk := Finset.univ) (hx := hx) (hm := hm) (k := k) (Q := Q) (f := f) hsub
  iapply hw $$ HS
  iintro HS
  iapply Hk
  iexists (M.access r).write Val f w Finset.univ
  isplitr
  · ipureintro
    subst hf
    funext y
    by_cases hy : y ∈ Finset.univ.map r.emb
    · obtain ⟨x, -, rfl⟩ := Finset.mem_map.mp hy
      rw [hin]; exact View.read_slice_write_emb r f w (Finset.mem_univ x)
    · rw [hout y hy]; exact View.read_slice_write_of_not_mem r f w _ hy
  · iexact HS

/-- Load through a rectangle of an array held by what it reads. -/
theorem wp_loadAt {cs : CoreSpace} {s : Shape} {e : EltTy} {α : Type} {Q : α → sProp 𝕄} {E : Set Name}
    {M : Memref sig c.2.kind cs s e} {r : LoadRect s} {hl : M.view.LoadsAt r}
    {k : (r.shape.Idx → Val e) → Prog (TpuEff nD τ sig Val Λ c.2) α} {q : PosShare TreeShare} {V : s.Idx → Val e} :
    WordsAt c M q V
      ⊢ iprop((WordsAt c M q V -∗ wp frame (wpE defs 𝒱 c bd) E (k (fun x => V (r.idx x))) Q)
          -∗ wp frame (wpE defs 𝒱 c bd) E (Prog.lift (.load M r hl) >>= k) Q) := by
  unfold WordsAt owns
  iintro ⟨%f, %hf, HS⟩ Hk
  have hw := wp_load (defs := defs) 𝒱 c bd (Γ := .empty) E (m := M) (r := r) (hl := hl) (k := k) (Q := Q) (q := q) (f := f) (S := M.view.set) (View.setOn_subset_set _ _)
  iapply hw $$ HS
  iintro HS
  subst hf
  iapply Hk
  iexists f
  isplitr
  · ipureintro; rfl
  · iexact HS

/-- An array whose elements in `D` are those of `Y`. -/
def PartAt {sp : Space} {s : Shape} {e : EltTy} (M : Memref sig c.2.kind sp s e) (D : s.Idx → Prop) (Y : s.Idx → Val e) : sProp 𝕄 :=
  iprop(∃ V, ⌜∀ y, D y → V y = Y y⌝ ∗ WordsAt c M fullShare V)

/-- Load from an array part of which is known, where the value loaded is not used. -/
theorem wp_partLoad {cs : CoreSpace} {s : Shape} {e : EltTy} {α : Type} {Q : α → sProp 𝕄} {E : Set Name}
    {M : Memref sig c.2.kind cs s e} {r : LoadRect s} {hl : M.view.LoadsAt r}
    {k : (r.shape.Idx → Val e) → Prog (TpuEff nD τ sig Val Λ c.2) α} {D : s.Idx → Prop} {Y : s.Idx → Val e} :
    PartAt c M D Y
      ⊢ iprop((∀ v, PartAt c M D Y -∗ wp frame (wpE defs 𝒱 c bd) E (k v) Q)
          -∗ wp frame (wpE defs 𝒱 c bd) E (Prog.lift (.load M r hl) >>= k) Q) := by
  unfold PartAt
  iintro ⟨%V, %hV, HS⟩ Hk
  iapply (wp_loadAt (defs := defs) 𝒱 c bd) $$ HS
  iintro HS
  iapply Hk
  iexists V
  isplitr
  · ipureintro; exact hV
  · iexact HS

/-- Store of `Y`'s values through a rectangle. -/
theorem wp_partStore {cs : CoreSpace} {s : Shape} {e : EltTy} {α : Type} {Q : α → sProp 𝕄} {E : Set Name}
    {M : Memref sig c.2.kind cs s e} {r : Rect s} {w : r.shape.Idx → Val e} {hx : (M.access r).Stores Finset.univ} {hm : (Finset.univ : Finset r.shape.Idx) = Finset.univ ∨ ∀ a, r.stride a = 1}
    {k : PUnit → Prog (TpuEff nD τ sig Val Λ c.2) α} {D D' : s.Idx → Prop} {Y : s.Idx → Val e}
    (hw : ∀ x, w x = Y (r.emb x)) (hD : ∀ y, D' y → D y ∨ ∃ x, r.emb x = y) :
    PartAt c M D Y
      ⊢ iprop((PartAt c M D' Y -∗ wp frame (wpE defs 𝒱 c bd) E (k ⟨⟩) Q)
          -∗ wp frame (wpE defs 𝒱 c bd) E (Prog.lift (.store M r w Finset.univ hx hm) >>= k) Q) := by
  unfold PartAt
  iintro ⟨%V, %hV, HS⟩ Hk
  classical
  iapply (wp_wordStore (defs := defs) 𝒱 c bd (V' := fun y => if y ∈ Finset.univ.map r.emb then Y y else V y)
    (fun x => by
      rw [if_pos (Finset.mem_map.mpr ⟨x, Finset.mem_univ x, rfl⟩), hw])
    (fun y hy => by rw [if_neg hy])) $$ HS
  iintro HS
  iapply Hk
  iexists _
  isplitr
  swap
  · iexact HS
  · ipureintro
    intro y hy
    split
    · rfl
    · next hn =>
      rcases hD y hy with h | ⟨x, rfl⟩
      · exact hV y h
      · exact absurd (Finset.mem_map.mpr ⟨x, Finset.mem_univ x, rfl⟩) hn

end Cert.Proof.Copies

end
-- ==== Proof.Scan.lean ====
/-
  The scan for the next expert and the prefetch of its weights: the first part of the experts kernel's body.
-/
module

public import proofs.«01_k».proof.Proof.Words
public import proofs.«01_k».proof.Proof.Copies
public import proofs.«01_k».proof.Proof.Gen.KernelIdeal.Loops
public import Idealize.ShloMosaic.Lib.Pipeline.RegionArraysDT

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

/-- Slot `p` of a buffer of two gate or up matrices. -/
abbrev rS (p : Fin 2) : Rect S2x2048x512 := Rect.unit (s := S2x2048x512) ![p.val, 0, 0] S1x2048x512.size (slotS_inb p)
/-- Slot `p` of the buffer of two down matrices. -/
abbrev rT (p : Fin 2) : Rect S2x512x2048 := Rect.unit (s := S2x512x2048) ![p.val, 0, 0] S1x512x2048.size (slotT_inb p)
/-- Expert `e`'s gate or up matrix in its array. -/
abbrev rE (e : Fin 32) : Rect S1x32x2048x512 := Rect.unit (s := S1x32x2048x512) ![0, e.val, 0, 0] S1x1x2048x512.size (blkE_inb e)
/-- Expert `e`'s down matrix in its array. -/
abbrev rF (e : Fin 32) : Rect S1x32x512x2048 := Rect.unit (s := S1x32x512x2048) ![0, e.val, 0, 0] S1x1x512x2048.size (blkF_inb e)
/-- The semaphore of slot `p` and array `j`. -/
abbrev cell (arg11 : DmaSems sig S2x3) (p : Fin 2) (j : Fin 3) : DmaSem sig :=
  ((arg11.slice (Rect.unit (s := S2x3) ![p.val, j.val] S1x1.size (cell_inb p j))).squeeze S_ squeezes_S1x1_S_).sem

theorem cell_of (arg11 : DmaSems sig S2x3) (p : Fin 2) (j : Fin 3) (off : Fin 2 → ℕ) (inb : ∀ a, off a + S1x1.size a ≤ S2x3.size a)
    (h : off = ![p.val, j.val]) :
    ((arg11.slice (Rect.unit (s := S2x3) off S1x1.size inb)).squeeze S_ squeezes_S1x1_S_).sem = cell arg11 p j := by
  subst h; rfl

/-- Of each array's share half is lent to the copies into slot 0 and half to those into slot 1. -/
def half (p : Fin 2) : PosShare TreeShare := if p.val = 0 then fullShare.left else fullShare.right

theorem nS (p : Fin 2) (e : Fin 32) : (rS p).shape.numel = (rE e).shape.numel := by
  show Shape.numel S1x2048x512 = Shape.numel S1x1x2048x512
  decide
theorem nT (p : Fin 2) (e : Fin 32) : (rT p).shape.numel = (rF e).shape.numel := by
  show Shape.numel S1x512x2048 = Shape.numel S1x1x512x2048
  decide

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

section Res
variable (W4 : Buf (Elt F) (arg4.view.loc (c : Thread nD τ))) (W5 : Buf (Elt F) (arg5.view.loc (c : Thread nD τ))) (W6 : Buf (Elt F) (arg6.view.loc (c : Thread nD τ)))

/-- Slot `p` of the three buffers, free. -/
def Free (p : Fin 2) : sProp 𝕄 :=
  iprop(Idle (c : Thread nD τ) arg8 (rS p) arg4 (.dma (cell arg11 p 0)) (half p) W4
    ∗ Idle (c : Thread nD τ) arg9 (rS p) arg5 (.dma (cell arg11 p 1)) (half p) W5
    ∗ Idle (c : Thread nD τ) arg10 (rT p) arg6 (.dma (cell arg11 p 2)) (half p) W6)
/-- Expert `e`'s gate matrix on its way to slot `p`. -/
abbrev Fly0 (p : Fin 2) (e : Fin 32) : sProp 𝕄 :=
  Flying (c : Thread nD τ) arg8 (rS p) arg4 (rE e) (nS p e) (.dma (cell arg11 p 0)) () (sig.dmaCredit .tc (Kind.tc.table .vmem) arg8.view.buf S2048x512 .f32) (half p) W4
/-- Expert `e`'s up matrix on its way to slot `p`. -/
abbrev Fly1 (p : Fin 2) (e : Fin 32) : sProp 𝕄 :=
  Flying (c : Thread nD τ) arg9 (rS p) arg5 (rE e) (nS p e) (.dma (cell arg11 p 1)) () (sig.dmaCredit .tc (Kind.tc.table .vmem) arg9.view.buf S2048x512 .f32) (half p) W5
/-- Expert `e`'s down matrix on its way to slot `p`. -/
abbrev Fly2 (p : Fin 2) (e : Fin 32) : sProp 𝕄 :=
  Flying (c : Thread nD τ) arg10 (rT p) arg6 (rF e) (nT p e) (.dma (cell arg11 p 2)) () (sig.dmaCredit .tc (Kind.tc.table .vmem) arg10.view.buf S512x2048 .f32) (half p) W6
/-- Expert `e`'s weights on their way to slot `p`. -/
def Fly (p : Fin 2) (e : Fin 32) : sProp 𝕄 :=
  iprop(Fly0 c arg4 arg8 arg11 W4 p e ∗ Fly1 c arg5 arg9 arg11 W5 p e ∗ Fly2 c arg6 arg10 arg11 W6 p e)
/-- Expert `e`'s gate matrix in slot `p`. -/
abbrev Hold0 (p : Fin 2) (e : Fin 32) : sProp 𝕄 :=
  Landed (c : Thread nD τ) arg8 (rS p) arg4 (rE e) (nS p e) (.dma (cell arg11 p 0)) (half p) W4
/-- Expert `e`'s up matrix in slot `p`. -/
abbrev Hold1 (p : Fin 2) (e : Fin 32) : sProp 𝕄 :=
  Landed (c : Thread nD τ) arg9 (rS p) arg5 (rE e) (nS p e) (.dma (cell arg11 p 1)) (half p) W5
/-- Expert `e`'s down matrix in slot `p`. -/
abbrev Hold2 (p : Fin 2) (e : Fin 32) : sProp 𝕄 :=
  Landed (c : Thread nD τ) arg10 (rT p) arg6 (rF e) (nT p e) (.dma (cell arg11 p 2)) (half p) W6
/-- Expert `e`'s weights in slot `p`. -/
def Hold (p : Fin 2) (e : Fin 32) : sProp 𝕄 :=
  iprop(Hold0 c arg4 arg8 arg11 W4 p e ∗ Hold1 c arg5 arg9 arg11 W5 p e ∗ Hold2 c arg6 arg10 arg11 W6 p e)

/-- Weights that are no longer needed leave their slot free. -/
theorem Hold.free (p : Fin 2) (e : Fin 32) :
    Hold c arg4 arg5 arg6 arg8 arg9 arg10 arg11 W4 W5 W6 p e ⊢ Free c arg4 arg5 arg6 arg8 arg9 arg10 arg11 W4 W5 W6 p := by
  unfold Hold Free
  iintro ⟨H0, H1, H2⟩
  isplitl [H0]; · iapply (Landed.idle (c : Thread nD τ)) $$ H0
  isplitl [H1]; · iapply (Landed.idle (c : Thread nD τ)) $$ H1
  iapply (Landed.idle (c : Thread nD τ)) $$ H2
end Res

/-- The two words the kernel keeps between points: how many experts it has begun, and the current one's slot. -/
def seenV (a b : BitVec 32) : S2.Idx → Elt F .i32 := fun x => if (x 0).val = 0 then a else b
/-- The two kept words. -/
abbrev Seen (a b : BitVec 32) : sProp 𝕄 := WordsAt (c : Thread nD τ) arg12 fullShare (seenV a b)
/-- The table of the tiles' experts. -/
abbrev Table (q : PosShare TreeShare) (V : ℕ → BitVec 32) : sProp 𝕄 :=
  WordsAt (c : Thread nD τ) arg1 q (fun x : S104.Idx => (V (x 0).val : Elt F .i32))
/-- What the core owes: nothing, whatever it has waited on. -/
def Owes : sProp 𝕄 := iprop(∃ W, owes (c : Thread nD τ) 0 W)

theorem emb_S2 (k : ℕ) (inb : ∀ a, (![k] : Fin 1 → ℕ) a + S1.size a ≤ S2.size a) (x : (Rect.unit (s := S2) ![k] S1.size inb).shape.Idx) :
    ((Rect.unit (s := S2) ![k] S1.size inb).emb x 0).val = k := by
  have hx : (x 0).val = 0 := by have := (x 0).isLt; change (x 0).val < 1 at this; omega
  show k + 1 * (x 0).val = k
  omega
theorem emb_S104 (k : ℕ) (inb : ∀ a, (![k] : Fin 1 → ℕ) a + S1.size a ≤ S104.size a) (x : (Rect.unit (s := S104) ![k] S1.size inb).shape.Idx) :
    ((Rect.unit (s := S104) ![k] S1.size inb).emb x 0).val = k := by
  have hx : (x 0).val = 0 := by have := (x 0).isLt; change (x 0).val < 1 at this; omega
  show k + 1 * (x 0).val = k
  omega
theorem emb_S104' (off : Fin 1 → ℕ) (k : ℕ) (h : off = ![k]) (inb : ∀ a, off a + S1.size a ≤ S104.size a) (x : (Rect.unit (s := S104) off S1.size inb).shape.Idx) :
    ((Rect.unit (s := S104) off S1.size inb).emb x 0).val = k := by
  subst h; exact emb_S104 k inb x

theorem mem_S2 (k : ℕ) (inb : ∀ a, (![k] : Fin 1 → ℕ) a + S1.size a ≤ S2.size a) (y : S2.Idx) (h : (y 0).val = k) :
    y ∈ Finset.univ.map (Rect.unit (s := S2) ![k] S1.size inb).emb := by
  refine Finset.mem_map.mpr ⟨fun a => ⟨0, (by decide : ∀ a : Fin 1, 0 < S1.size a) a⟩, Finset.mem_univ _, ?_⟩
  funext a
  obtain rfl : a = 0 := Subsingleton.elim _ _
  apply Fin.ext
  rw [h]; rfl

/-- The scan from tile `i + 1` for the first tile of another expert has come to `a` after `k` trips. -/
def Scan (T : ℕ → Fin 32) (n i k a : ℕ) : Prop :=
  i + 1 ≤ a ∧ a ≤ n ∧ (∀ m, i ≤ m → m < a → T m = T i) ∧ (a < k → ¬(a < n ∧ T a = T i))

theorem Scan.start {T : ℕ → Fin 32} {n i : ℕ} (h : i < n) : Scan T n i 0 (i + 1) :=
  ⟨le_rfl, h, fun m h1 h2 => by rw [show m = i by omega], fun h => absurd h (by omega)⟩
theorem Scan.step {T : ℕ → Fin 32} {n i k a : ℕ} (h : Scan T n i k a) :
    Scan T n i (k + 1) (if (a = k ∧ k < n) ∧ T k = T i then k + 1 else a) := by
  obtain ⟨h1, h2, h3, h4⟩ := h
  split
  · next hc =>
    obtain ⟨⟨rfl, hk⟩, hT⟩ := hc
    exact ⟨by omega, hk, fun m hm1 hm2 => (Nat.lt_succ_iff_lt_or_eq.mp hm2).elim (h3 m hm1) (fun e => e ▸ hT), fun h => absurd h (by omega)⟩
  · next hc =>
    refine ⟨h1, h2, h3, fun h => ?_⟩
    rcases Nat.lt_succ_iff_lt_or_eq.mp h with h | rfl
    · exact h4 h
    · intro hh; exact hc ⟨⟨rfl, hh.1⟩, hh.2⟩

section P1
variable {n : ℕ} {V : ℕ → BitVec 32} {T : ℕ → Fin 32}
variable (arg0 : BitVec 32) (k0_h2 : k0_cond2 i (wd n) = 1#1) (v16 : BitVec 32) (v11 : BitVec 32) (k0_hw5 : k0_chk5 i (wd n) v11 v16) (k0_h3 : k0_cond3 i v11 v16 = 1#1)

/-- One trip of the scan. -/
theorem trip (q : PosShare TreeShare) (hn : n ≤ 104) (hV : ∀ m < n, V m = wd (T m).val) (hv : v11 = wd (T (i 0).val).val) (k : Fin k0_t1_loop.trips) (acc : BitVec 32) :
    iprop(∃ a, ⌜acc = wd a ∧ Scan T n (i 0).val k.val a⌝ ∗ Table (F := F) c arg1 q V)
      ⊢ wp frame (wpE (defs₀ (F := F)) 𝒱 (c : Thread nD τ) bd) Set.univ
          (k0_t1_body (F := F) i arg1 harg1 arg2 harg2 arg3 harg3 arg4 harg4 arg5 harg5 arg6 harg6 arg7 harg7 arg8 harg8 arg9 harg9 arg10 harg10 arg11 arg12 harg12 arg0 (wd n) k0_h2 v11 v16 k0_hw5 k0_h3 k acc)
          (fun acc => iprop(∃ a, ⌜acc = wd a ∧ Scan T n (i 0).val (k.val + 1) a⌝ ∗ Table (F := F) c arg1 q V)) := by
  have hk : k.val < 104 := trips_eq ▸ k.isLt
  unfold k0_t1_body
  iintro ⟨%a, %ha, HT⟩
  obtain ⟨rfl, ha⟩ := ha
  iapply (wp_word (defs := defs₀ (F := F)) 𝒱 (c : Thread nD τ) bd (e := .i32) (V k.val) (fun x => congrArg V (emb_S104' _ _ (off5_k k) _ x))) $$ HT
  iintro HT
  rw [wp_pure]; imodintro
  iexists (if (a = k.val ∧ k.val < n) ∧ T k.val = T (i 0).val then k.val + 1 else a)
  isplitr
  · ipureintro
    refine ⟨?_, ha.step⟩
    rw [iv_eq k, scan_word a k.val (ha.2.1.trans hn) hk hn]
    have hiff : ((a = k.val ∧ k.val < n) ∧ V k.val = v11) ↔ ((a = k.val ∧ k.val < n) ∧ T k.val = T (i 0).val) := by
      refine and_congr_right fun h => ?_
      rw [hV _ h.2, hv, wd_inj (by omega) (by omega), Fin.ext_iff]
    simp only [hiff]
    split <;> rfl
  · iexact HT
end P1

theorem seen_fst (a b : BitVec 32) (inb : ∀ a, (![0] : Fin 1 → ℕ) a + S1.size a ≤ S2.size a) (x : (Rect.unit (s := S2) ![0] S1.size inb).shape.Idx) :
    seenV (F := F) a b ((Rect.unit (s := S2) ![0] S1.size inb).emb x) = a := by
  unfold seenV; rw [if_pos (emb_S2 0 _ x)]
theorem seen_snd (a b : BitVec 32) (inb : ∀ a, (![1] : Fin 1 → ℕ) a + S1.size a ≤ S2.size a) (x : (Rect.unit (s := S2) ![1] S1.size inb).shape.Idx) :
    seenV (F := F) a b ((Rect.unit (s := S2) ![1] S1.size inb).emb x) = b := by
  unfold seenV; rw [if_neg (by rw [emb_S2 1 _ x]; decide)]
theorem seen_put0 (a a' b : BitVec 32) (inb : ∀ a, (![0] : Fin 1 → ℕ) a + S1.size a ≤ S2.size a) (y : S2.Idx)
    (hy : y ∉ Finset.univ.map (Rect.unit (s := S2) ![0] S1.size inb).emb) : seenV (F := F) a' b y = seenV a b y := by
  have h : (y 0).val ≠ 0 := fun h => hy (mem_S2 0 inb y h)
  unfold seenV; rw [if_neg h, if_neg h]
theorem seen_put1 (a b b' : BitVec 32) (inb : ∀ a, (![1] : Fin 1 → ℕ) a + S1.size a ≤ S2.size a) (y : S2.Idx)
    (hy : y ∉ Finset.univ.map (Rect.unit (s := S2) ![1] S1.size inb).emb) : seenV (F := F) a b' y = seenV a b y := by
  have h : (y 0).val = 0 := by
    have h1 : (y 0).val ≠ 1 := fun h => hy (mem_S2 1 inb y h)
    have h2 : (y 0).val < 2 := (y 0).isLt
    omega
  unfold seenV; rw [if_pos h, if_pos h]

section Ahead
variable (W4 : Buf (Elt F) (arg4.view.loc (c : Thread nD τ))) (W5 : Buf (Elt F) (arg5.view.loc (c : Thread nD τ))) (W6 : Buf (Elt F) (arg6.view.loc (c : Thread nD τ)))
/-- What slot `p` is at when the scan has come to tile `a`: the weights of `a`'s expert on their way, or free past the last tile. -/
def Ahead (T : ℕ → Fin 32) (n a : ℕ) (p : Fin 2) : sProp 𝕄 :=
  if a < n then Fly c arg4 arg5 arg6 arg8 arg9 arg10 arg11 W4 W5 W6 p (T a) else Free c arg4 arg5 arg6 arg8 arg9 arg10 arg11 W4 W5 W6 p
end Ahead

/-- Tile `a` is the first after tile `i` of another expert (`n` when there is none). -/
def Found (T : ℕ → Fin 32) (n i a : ℕ) : Prop :=
  i + 1 ≤ a ∧ a ≤ n ∧ (∀ m, i ≤ m → m < a → T m = T i) ∧ (a < n → T a ≠ T i)

theorem Scan.found {T : ℕ → Fin 32} {n i a : ℕ} (hn : n ≤ 104) (h : Scan T n i 104 a) : Found T n i a :=
  ⟨h.1, h.2.1, h.2.2.1, fun ha hT => h.2.2.2 (by omega) ⟨ha, hT⟩⟩

end Cert.KernelIdeal.Body

end
-- ==== Proof.Part1.lean ====
/-
  The first part of the experts kernel's body, run at an expert's first tile.
-/
module

public import proofs.«01_k».proof.Proof.Scan

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

section Part1
variable {n : ℕ} {V : ℕ → BitVec 32} {T : ℕ → Fin 32}
variable (W4 : Buf (Elt F) (arg4.view.loc (c : Thread nD τ))) (W5 : Buf (Elt F) (arg5.view.loc (c : Thread nD τ))) (W6 : Buf (Elt F) (arg6.view.loc (c : Thread nD τ)))
variable (arg0 : BitVec 32) (k0_h2 : k0_cond2 i (wd n) = 1#1) (v16 : BitVec 32) (v11 : BitVec 32) (k0_hw5 : k0_chk5 i (wd n) v11 v16) (k0_h3 : k0_cond3 i v11 v16 = 1#1)

set_option maxHeartbeats 4000000 in
/-- The first point of an expert: it finds the next expert's first tile, sends that expert's weights to the other slot,
    and waits for its own gate matrix. -/
theorem part1 (q : PosShare TreeShare) (hn : n ≤ 104) (hi : (i 0).val < n) (hV : ∀ m < n, V m = wd (T m).val) (hv : v11 = wd (T (i 0).val).val)
    (h0 : arg0 = wd (i 0).val) (s : ℕ) (hs : s < 105) (b : BitVec 32) :
    iprop(Table (F := F) c arg1 q V ∗ Seen (F := F) c arg12 (wd s) b
        ∗ Fly c arg4 arg5 arg6 arg8 arg9 arg10 arg11 W4 W5 W6 (sl s) (T (i 0).val)
        ∗ Free c arg4 arg5 arg6 arg8 arg9 arg10 arg11 W4 W5 W6 (sl (s + 1)) ∗ Owes (F := F) c)
      ⊢ wp frame (wpE (defs₀ (F := F)) 𝒱 (c : Thread nD τ) bd) Set.univ
          (k0_part1 (F := F) i arg1 harg1 arg2 harg2 arg3 harg3 arg4 harg4 arg5 harg5 arg6 harg6 arg7 harg7 arg8 harg8 arg9 harg9 arg10 harg10 arg11 arg12 harg12 arg0 (wd n) k0_h2 v11 v16 k0_hw5 k0_h3)
          (fun x => iprop(⌜x.1 = wd s⌝ ∗ Table (F := F) c arg1 q V ∗ Seen (F := F) c arg12 (wd (s + 1)) (wd (sl s).val)
            ∗ Hold0 c arg4 arg8 arg11 W4 (sl s) (T (i 0).val)
            ∗ Fly1 c arg5 arg9 arg11 W5 (sl s) (T (i 0).val) ∗ Fly2 c arg6 arg10 arg11 W6 (sl s) (T (i 0).val)
            ∗ (∃ a, ⌜Found T n (i 0).val a⌝ ∗ Ahead c arg4 arg5 arg6 arg8 arg9 arg10 arg11 W4 W5 W6 T n a (sl (s + 1)))
            ∗ Owes (F := F) c)) := by
  simp only [k0_part1_eq_skeleton]
  unfold k0_part1_skel
  iintro ⟨HT, HS, HF, HG, HO⟩
  iapply (wp_word (defs := defs₀ (F := F)) 𝒱 (c : Thread nD τ) bd (e := .i32) (wd s) (fun x => seen_fst _ _ _ x)) $$ HS
  iintro HS
  iapply (wp_check (defs := defs₀ (F := F)) 𝒱 (c : Thread nD τ) bd (chk4_s hs _ _ _))
  iapply (wp_word (defs := defs₀ (F := F)) 𝒱 (c : Thread nD τ) bd (e := .i32) (wd s) (fun x => seen_fst _ _ _ x)) $$ HS
  iintro HS
  iapply (wp_word (defs := defs₀ (F := F)) 𝒱 (c : Thread nD τ) bd (e := .i32) (wd s) (fun x => seen_fst _ _ _ x)) $$ HS
  iintro HS
  iapply (wp_wordStore (defs := defs₀ (F := F)) 𝒱 (c : Thread nD τ) bd (V' := seenV (wd (s + 1)) b) (fun x => (seen_fst _ _ _ x).trans (succ_word s).symm) (fun y hy => seen_put0 _ _ _ _ y hy)) $$ HS
  iintro HS
  iapply (wp_word (defs := defs₀ (F := F)) 𝒱 (c : Thread nD τ) bd (e := .i32) b (fun x => seen_snd _ _ _ x)) $$ HS
  iintro HS
  iapply (wp_wordStore (defs := defs₀ (F := F)) 𝒱 (c : Thread nD τ) bd (V' := seenV (wd (s + 1)) (wd (sl s).val)) (fun x => (seen_snd _ _ _ x).trans (slotWord_s hs).symm) (fun y hy => seen_put1 _ _ _ _ y hy)) $$ HS
  iintro HS
  iapply (Scf.wp_for_bind frame (wpE (defs₀ (F := F)) 𝒱 (c : Thread nD τ) bd) Set.univ _ _ _ _ _ _
    (fun k acc => iprop(∃ a, ⌜acc = wd a ∧ Scan T n (i 0).val k a⌝ ∗ Table (F := F) c arg1 q V))
    (fun k acc => trip 𝒱 c bd i arg1 harg1 arg2 harg2 arg3 harg3 arg4 harg4 arg5 harg5 arg6 harg6 arg7 harg7 arg8 harg8 arg9 harg9 arg10 harg10 arg11 arg12 harg12 arg0 k0_h2 v16 v11 k0_hw5 k0_h3 q hn hV hv k acc)) $$ [HT]
  · iexists (i 0).val + 1
    isplitr
    · ipureintro
      refine ⟨?_, Scan.start hi⟩
      subst h0; exact succ_word _
    · iexact HT
  iintro %acc ⟨%a, %ha, HT⟩
  obtain ⟨rfl, ha⟩ := ha
  rw [show Scf.trips k0_t1_loop.lb k0_t1_loop.ub k0_t1_loop.st = 104 from trips_eq] at ha
  have hf := ha.found hn
  have ha4 : a ≤ 104 := hf.2.1.trans hn
  iapply (wp_check (defs := defs₀ (F := F)) 𝒱 (c : Thread nD τ) bd (chk2_s hs _ _ hn ha4))
  unfold Fly
  icases HF with ⟨HF0, HF1, HF2⟩
  by_cases hc : a < n
  · have hc4 : k0_cond4 (wd n) (wd a) = 1#1 := (cond4_iff hn ha4).2 hc
    dsimp only
    rw [dif_pos hc4]
    iapply (wp_word (defs := defs₀ (F := F)) 𝒱 (c : Thread nD τ) bd (e := .i32) (wd (T a).val)
      (fun x => (congrArg V (emb_S104' _ _ (off6_na hn hc) _ x)).trans (hV a hc))) $$ HT
    iintro HT
    iapply (wp_check (defs := defs₀ (F := F)) 𝒱 (c : Thread nD τ) bd (chk3_e (T a) _ _ _ _))
    unfold Free
    icases HG with ⟨HG0, HG1, HG2⟩
    iapply (wp_issueAt (defs := defs₀ (F := F)) 𝒱 (c : Thread nD τ) bd (hn := nS (sl (s + 1)) (T a)) () (off8_s hs) (off9_eq (T a)) (cell_of arg11 _ _ _ _ (off7_s hs)) (by decide)) $$ HG0
    iintro HG0
    iapply (wp_issueAt (defs := defs₀ (F := F)) 𝒱 (c : Thread nD τ) bd (hn := nS (sl (s + 1)) (T a)) () (off11_s hs) (off9_eq (T a)) (cell_of arg11 _ _ _ _ (off10_s hs)) (by decide)) $$ HG1
    iintro HG1
    iapply (wp_issueAt (defs := defs₀ (F := F)) 𝒱 (c : Thread nD τ) bd (hn := nT (sl (s + 1)) (T a)) () (off13_s hs) (off14_eq (T a)) (cell_of arg11 _ _ _ _ (off12_s hs)) (by decide)) $$ HG2
    iintro HG2
    unfold Owes
    icases HO with ⟨%W, HO⟩
    iapply (wp_collectAt (defs := defs₀ (F := F)) 𝒱 (c : Thread nD τ) bd () (cell_of arg11 _ _ _ _ (off15_s hs))) $$ [HF0 HO]
    · isplitl [HF0] <;> iassumption
    iintro ⟨HF0, HO⟩
    rw [wp_pure]; imodintro
    isplitr; · ipureintro; rfl
    isplitl [HT]; · iexact HT
    isplitl [HS]; · iexact HS
    isplitl [HF0]; · iexact HF0
    isplitl [HF1]; · iexact HF1
    isplitl [HF2]; · iexact HF2
    isplitl [HG0 HG1 HG2]
    · iexists a
      isplitr; · ipureintro; exact hf
      unfold Ahead
      rw [if_pos hc]
      unfold Fly
      isplitl [HG0]; · iexact HG0
      isplitl [HG1]; · iexact HG1
      iexact HG2
    · iexists _; iexact HO
  · have hc4 : ¬ k0_cond4 (wd n) (wd a) = 1#1 := fun h => hc ((cond4_iff hn ha4).1 h)
    dsimp only
    rw [dif_neg hc4]
    unfold Owes
    icases HO with ⟨%W, HO⟩
    iapply (wp_collectAt (defs := defs₀ (F := F)) 𝒱 (c : Thread nD τ) bd () (cell_of arg11 _ _ _ _ (off15_s hs))) $$ [HF0 HO]
    · isplitl [HF0] <;> iassumption
    iintro ⟨HF0, HO⟩
    rw [wp_pure]; imodintro
    isplitr; · ipureintro; rfl
    isplitl [HT]; · iexact HT
    isplitl [HS]; · iexact HS
    isplitl [HF0]; · iexact HF0
    isplitl [HF1]; · iexact HF1
    isplitl [HF2]; · iexact HF2
    isplitl [HG]
    · iexists a
      isplitr; · ipureintro; exact hf
      unfold Ahead
      rw [if_neg hc]
      iexact HG
    · iexists _; iexact HO
end Part1

end Cert.KernelIdeal.Body

end
-- ==== Proof.Part2.lean ====
/-
  The experts kernel's body up to its matrix products, run at any tile that counts.
-/
module

public import proofs.«01_k».proof.Proof.Part1

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

/-- The words of column block 0 and 8 of the tile's rows. -/
def ld0 (X : S2048x128.Idx → Elt F .i32) : S256x128.Idx → Elt F .i32 := fun x => X ((⟨![0, 0], S256x128.size, ![8, 1], inb_S2048x128_S256x128_0_0_s_8_1⟩ : LoadRect S2048x128).idx x)
/-- The words of column block 1 and 9 of the tile's rows. -/
def ld1 (X : S2048x128.Idx → Elt F .i32) : S256x128.Idx → Elt F .i32 := fun x => X ((⟨![1, 0], S256x128.size, ![8, 1], inb_S2048x128_S256x128_1_0_s_8_1⟩ : LoadRect S2048x128).idx x)
/-- The words of column block 2 and 10 of the tile's rows. -/
def ld2 (X : S2048x128.Idx → Elt F .i32) : S256x128.Idx → Elt F .i32 := fun x => X ((⟨![2, 0], S256x128.size, ![8, 1], inb_S2048x128_S256x128_2_0_s_8_1⟩ : LoadRect S2048x128).idx x)
/-- The words of column block 3 and 11 of the tile's rows. -/
def ld3 (X : S2048x128.Idx → Elt F .i32) : S256x128.Idx → Elt F .i32 := fun x => X ((⟨![3, 0], S256x128.size, ![8, 1], inb_S2048x128_S256x128_3_0_s_8_1⟩ : LoadRect S2048x128).idx x)
/-- The words of column block 4 and 12 of the tile's rows. -/
def ld4 (X : S2048x128.Idx → Elt F .i32) : S256x128.Idx → Elt F .i32 := fun x => X ((⟨![4, 0], S256x128.size, ![8, 1], inb_S2048x128_S256x128_4_0_s_8_1⟩ : LoadRect S2048x128).idx x)
/-- The words of column block 5 and 13 of the tile's rows. -/
def ld5 (X : S2048x128.Idx → Elt F .i32) : S256x128.Idx → Elt F .i32 := fun x => X ((⟨![5, 0], S256x128.size, ![8, 1], inb_S2048x128_S256x128_5_0_s_8_1⟩ : LoadRect S2048x128).idx x)
/-- The words of column block 6 and 14 of the tile's rows. -/
def ld6 (X : S2048x128.Idx → Elt F .i32) : S256x128.Idx → Elt F .i32 := fun x => X ((⟨![6, 0], S256x128.size, ![8, 1], inb_S2048x128_S256x128_6_0_s_8_1⟩ : LoadRect S2048x128).idx x)
/-- The words of column block 7 and 15 of the tile's rows. -/
def ld7 (X : S2048x128.Idx → Elt F .i32) : S256x128.Idx → Elt F .i32 := fun x => X ((⟨![7, 0], S256x128.size, ![8, 1], inb_S2048x128_S256x128_7_0_s_8_1⟩ : LoadRect S2048x128).idx x)
/-- What the second part yields: the slot's word and the sixteen column blocks of the tile, unpacked. -/
def unpacked (i : grid0.Coords) (n : ℕ) (p : Fin 2) (X : S2048x128.Idx → Elt F .i32) :
    Σ' (v21 : Elt F .i32) (k0_hw6 : k0_chk6 i (wd n) v21) (v30 : FVec F S256x128 .f32) (v31 : FVec F S256x128 .f32) (v32 : FVec F S256x128 .f32) (v33 : FVec F S256x128 .f32) (v34 : FVec F S256x128 .f32) (v35 : FVec F S256x128 .f32) (v36 : FVec F S256x128 .f32) (v37 : FVec F S256x128 .f32) (v38 : FVec F S256x128 .f32) (v39 : FVec F S256x128 .f32) (v40 : FVec F S256x128 .f32) (v41 : FVec F S256x128 .f32) (v42 : FVec F S256x128 .f32) (v43 : FVec F S256x128 .f32) (v44 : FVec F S256x128 .f32), FVec F S256x128 .f32 :=
  ⟨wd p.val, chk6_p p (wd n), k0_pay8 (ld0 X), k0_pay9 (ld1 X), k0_pay10 (ld2 X), k0_pay11 (ld3 X), k0_pay12 (ld4 X), k0_pay13 (ld5 X), k0_pay14 (ld6 X), k0_pay15 (ld7 X), k0_pay16 (ld0 X), k0_pay17 (ld1 X), k0_pay18 (ld2 X), k0_pay19 (ld3 X), k0_pay20 (ld4 X), k0_pay21 (ld5 X), k0_pay22 (ld6 X), k0_pay23 (ld7 X)⟩

section Part2
variable {n : ℕ} {V : ℕ → BitVec 32} {T : ℕ → Fin 32}
variable (W4 : Buf (Elt F) (arg4.view.loc (c : Thread nD τ))) (W5 : Buf (Elt F) (arg5.view.loc (c : Thread nD τ))) (W6 : Buf (Elt F) (arg6.view.loc (c : Thread nD τ)))

/-- Tile `j` has been gone through, or is being: its expert is the `s`-th begun, its weights are in their slot, and the next
    expert's, from tile `a` on, are on their way to the other. -/
def At (T : ℕ → Fin 32) (n j s a : ℕ) : sProp 𝕄 :=
  iprop(Seen (F := F) c arg12 (wd (s + 1)) (wd (sl s).val)
    ∗ Hold c arg4 arg5 arg6 arg8 arg9 arg10 arg11 W4 W5 W6 (sl s) (T j)
    ∗ Ahead c arg4 arg5 arg6 arg8 arg9 arg10 arg11 W4 W5 W6 T n a (sl (s + 1)))
/-- After tile `j`. -/
def After (T : ℕ → Fin 32) (n j : ℕ) : sProp 𝕄 :=
  iprop(∃ s a, ⌜s ≤ j ∧ Found T n j a⌝ ∗ At c arg4 arg5 arg6 arg8 arg9 arg10 arg11 arg12 W4 W5 W6 T n j s a)
/-- Before tile `j` when it is its expert's first: the weights are on their way. -/
def Fresh (T : ℕ → Fin 32) (j s : ℕ) : sProp 𝕄 :=
  iprop((∃ b, Seen (F := F) c arg12 (wd s) b)
    ∗ Fly c arg4 arg5 arg6 arg8 arg9 arg10 arg11 W4 W5 W6 (sl s) (T j)
    ∗ Free c arg4 arg5 arg6 arg8 arg9 arg10 arg11 W4 W5 W6 (sl (s + 1)))
/-- Before tile `j`: its expert's first, or one more of the same expert. -/
def Before (T : ℕ → Fin 32) (n j : ℕ) : sProp 𝕄 :=
  iprop((∃ s, ⌜s ≤ j ∧ (j = 0 ∨ T j ≠ T (j - 1))⌝ ∗ Fresh c arg4 arg5 arg6 arg8 arg9 arg10 arg11 arg12 W4 W5 W6 T j s)
    ∨ (∃ s a, ⌜s ≤ j ∧ ¬(j = 0 ∨ T j ≠ T (j - 1)) ∧ Found T n j a⌝ ∗ At c arg4 arg5 arg6 arg8 arg9 arg10 arg11 arg12 W4 W5 W6 T n j s a))

/-- After one tile is before the next. -/
theorem After.before {j : ℕ} (hj : j + 1 < n) :
    After c arg4 arg5 arg6 arg8 arg9 arg10 arg11 arg12 W4 W5 W6 T n j ⊢ Before c arg4 arg5 arg6 arg8 arg9 arg10 arg11 arg12 W4 W5 W6 T n (j + 1) := by
  unfold After Before
  iintro ⟨%s, %a, %h, H⟩
  obtain ⟨hs, h1, h2, h3, h4⟩ := h
  by_cases hT : T (j + 1) = T j
  · have ha : j + 1 ≠ a := fun e => h4 (by omega) (e ▸ hT)
    iright
    iexists s, a
    isplitr
    · ipureintro
      refine ⟨by omega, ?_, by omega, h2, fun m hm1 hm2 => by rw [h3 m (by omega) hm2, hT], fun h => by rw [hT]; exact h4 h⟩
      rintro (h | h)
      · omega
      · exact h hT
    · unfold At
      rw [hT]
      iexact H
  · have ha : a = j + 1 := by
      by_contra hne
      exact hT (h3 (j + 1) (by omega) (by omega))
    subst ha
    ileft
    iexists s + 1
    isplitr
    · ipureintro
      exact ⟨by omega, Or.inr hT⟩
    · unfold At Fresh Ahead
      rw [if_pos hj, show sl (s + 1 + 1) = sl s from sl_succ_succ s]
      icases H with ⟨HS, HH, HF⟩
      isplitl [HS]
      · iexists _; iexact HS
      isplitl [HF]; · iexact HF
      iapply (Hold.free c arg4 arg5 arg6 arg8 arg9 arg10 arg11 W4 W5 W6 (sl s) (T j)) $$ HH

set_option maxHeartbeats 4000000 in
/-- The second part: the tile's expert is at hand, the tile's words are unpacked. -/
theorem part2 (q q3 : PosShare TreeShare) (X : S2048x128.Idx → Elt F .i32) (hn : n ≤ 104) (hi : (i 0).val < n) (hV : ∀ m < n, V m = wd (T m).val)
    (k0_h2 : k0_cond2 i (wd n) = 1#1) :
    iprop(Table (F := F) c arg1 q V ∗ Before c arg4 arg5 arg6 arg8 arg9 arg10 arg11 arg12 W4 W5 W6 T n (i 0).val
        ∗ WordsAt (c : Thread nD τ) arg3 q3 X ∗ Owes (F := F) c)
      ⊢ wp frame (wpE (defs₀ (F := F)) 𝒱 (c : Thread nD τ) bd) Set.univ
          (k0_part2 (F := F) i arg1 harg1 arg2 harg2 arg3 harg3 arg4 harg4 arg5 harg5 arg6 harg6 arg7 harg7 arg8 harg8 arg9 harg9 arg10 harg10 arg11 arg12 harg12 (wd (i 0).val) (wd n) k0_h2)
          (fun x => iprop(∃ s a, ⌜s ≤ (i 0).val ∧ Found T n (i 0).val a ∧ x = unpacked i n (sl s) X⌝
            ∗ Table (F := F) c arg1 q V ∗ At c arg4 arg5 arg6 arg8 arg9 arg10 arg11 arg12 W4 W5 W6 T n (i 0).val s a
            ∗ WordsAt (c : Thread nD τ) arg3 q3 X ∗ Owes (F := F) c)) := by
  have hil := i_lt i
  have hc3 : k0_cond3 i (V (i 0).val) (V ((i 0).val - 1)) = 1#1 ↔ ((i 0).val = 0 ∨ T (i 0).val ≠ T ((i 0).val - 1)) := by
    rw [cond3_iff, hV _ hi, hV _ (by omega), Ne, wd_inj (by omega) (by omega), ← Fin.ext_iff]
  simp only [k0_part2_eq_skeleton]
  unfold k0_part2_skel
  iintro ⟨HT, HB, HX, HO⟩
  iapply (wp_word (defs := defs₀ (F := F)) 𝒱 (c : Thread nD τ) bd (e := .i32) (V (i 0).val) (fun x => congrArg V (emb_S104' _ _ off3_i _ x))) $$ HT
  iintro HT
  iapply (wp_word (defs := defs₀ (F := F)) 𝒱 (c : Thread nD τ) bd (e := .i32) (V ((i 0).val - 1)) (fun x => congrArg V (emb_S104' _ _ off4_i _ x))) $$ HT
  iintro HT
  iapply (wp_check (defs := defs₀ (F := F)) 𝒱 (c : Thread nD τ) bd (by rw [hV _ hi]; exact chk5_e _ _ _))
  unfold Before
  icases HB with (⟨%s, %hs, HB⟩ | ⟨%s, %a, %hs, HB⟩)
  · have hc := hc3.2 hs.2
    dsimp only
    rw [dif_pos hc]
    unfold Fresh
    icases HB with ⟨⟨%b, HS⟩, HF, HG⟩
    rw [wp_bind]
    iapply (wp_wand_r frame (wpE (defs₀ (F := F)) 𝒱 (c : Thread nD τ) bd))
    isplitl [HT HS HF HG HO]
    · iapply (part1 𝒱 c bd i arg1 harg1 arg2 harg2 arg3 harg3 arg4 harg4 arg5 harg5 arg6 harg6 arg7 harg7 arg8 harg8 arg9 harg9 arg10 harg10 arg11 arg12 harg12 W4 W5 W6 (wd (i 0).val) k0_h2 (V ((i 0).val - 1)) (V (i 0).val) _ hc q hn hi hV (hV _ hi) rfl s (by omega) b)
      isplitl [HT]; · iexact HT
      isplitl [HS]; · iexact HS
      isplitl [HF]; · iexact HF
      isplitl [HG]; · iexact HG
      iexact HO
    iintro %x ⟨%hx, HT, HS, H0, H1, H2, ⟨%a, %ha, HA⟩, HO⟩
    obtain ⟨x1, x2⟩ := x
    dsimp only at hx
    subst hx
    dsimp only
    unfold Owes
    icases HO with ⟨%W, HO⟩
    iapply (wp_collectAt (defs := defs₀ (F := F)) 𝒱 (c : Thread nD τ) bd () (cell_of arg11 _ _ _ _ (off18_s (by omega)))) $$ [H1 HO]
    · isplitl [H1] <;> iassumption
    iintro ⟨H1, HO⟩
    iapply (wp_collectAt (defs := defs₀ (F := F)) 𝒱 (c : Thread nD τ) bd () (cell_of arg11 _ _ _ _ (off19_s (by omega)))) $$ [H2 HO]
    · isplitl [H2] <;> iassumption
    iintro ⟨H2, HO⟩
    iapply (wp_word (defs := defs₀ (F := F)) 𝒱 (c : Thread nD τ) bd (e := .i32) (wd (sl s).val) (fun x => seen_snd _ _ _ x)) $$ HS
    iintro HS
    iapply (wp_check (defs := defs₀ (F := F)) 𝒱 (c : Thread nD τ) bd (chk6_p _ _))
    iterate 8
      iapply (wp_loadAt (defs := defs₀ (F := F)) 𝒱 (c : Thread nD τ) bd) $$ HX
      iintro HX
    rw [wp_pure]; imodintro
    iexists s, a
    isplitr
    · ipureintro
      exact ⟨hs.1, ha, rfl⟩
    isplitl [HT]; · iexact HT
    isplitl [HS H0 H1 H2 HA]
    · unfold At Hold
      isplitl [HS]; · iexact HS
      isplitl [H0 H1 H2]
      · isplitl [H0]; · iexact H0
        isplitl [H1]; · iexact H1
        iexact H2
      iexact HA
    isplitl [HX]; · iexact HX
    iexists _; iexact HO
  · have hc := fun h => hs.2.1 (hc3.1 h)
    dsimp only
    rw [dif_neg hc]
    unfold At
    icases HB with ⟨HS, HH, HA⟩
    iapply (wp_word (defs := defs₀ (F := F)) 𝒱 (c : Thread nD τ) bd (e := .i32) (wd (sl s).val) (fun x => seen_snd _ _ _ x)) $$ HS
    iintro HS
    iapply (wp_check (defs := defs₀ (F := F)) 𝒱 (c : Thread nD τ) bd (chk6_p _ _))
    iterate 8
      iapply (wp_loadAt (defs := defs₀ (F := F)) 𝒱 (c : Thread nD τ) bd) $$ HX
      iintro HX
    rw [wp_pure]; imodintro
    iexists s, a
    isplitr
    · ipureintro
      exact ⟨hs.1, hs.2.2, rfl⟩
    isplitl [HT]; · iexact HT
    isplitl [HS HH HA]
    · isplitl [HS]; · iexact HS
      isplitl [HH]; · iexact HH
      iexact HA
    isplitl [HX]; · iexact HX
    iexact HO
end Part2

end Cert.KernelIdeal.Body

end
-- ==== Proof.Part3.lean ====
/-
  The experts kernel's body from the matrix products on: one tile's block of results, and the body whole.
-/
module

public import proofs.«01_k».proof.Proof.Part2

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

/-- Rows `8 r + k` of a block, of its packed rows in groups of eight. -/
abbrev rowRect (k : ℕ) (h : ∀ a, S256x2x128.size a = 0 ∨ (![k, 0, 0] : Fin 3 → ℕ) a + (![8, 1, 1] : Fin 3 → ℕ) a * (S256x2x128.size a - 1) < S2048x2x128.size a) : Rect S2048x2x128 :=
  ⟨(⟨![k, 0, 0], S256x2x128.size, ![8, 1, 1], h⟩ : LoadRect S2048x2x128), spos_8_1_1⟩

/-- Where element `y` of a block lies among the rows of its remainder modulo eight. -/
def ix (y : S2048x2x128.Idx) : S256x2x128.Idx := fun a =>
  ⟨if a.val = 0 then (y a).val / 8 else (y a).val, by
    have h := (y a).isLt
    match a, h with
    | ⟨0, _⟩, h => exact Nat.div_lt_of_lt_mul h
    | ⟨1, _⟩, h => exact h
    | ⟨2, _⟩, h => exact h⟩

/-- The two column blocks of a tile's results that rows `8 r + k` of its block pack. -/
def rowPay (M : FVec F S256x2048 .f32) : ℕ → S256x2x128.Idx → Elt F .bf16
  | 0 => interleaveRows S256x2x128 (shapeCast S256x1x128 (truncf .bf16 (extractStridedSlice S256x128 ![0, 0] M slices_S256x2048_o0_0_S256x128) : FVec F S256x128 .bf16) shapeCasts_S256x128_S256x1x128) (shapeCast S256x1x128 (truncf .bf16 (extractStridedSlice S256x128 ![0, 1024] M slices_S256x2048_o0_1024_S256x128) : FVec F S256x128 .bf16) shapeCasts_S256x128_S256x1x128) bitcasts_S256x2x128_w16_S256x1x128_w32
  | 1 => interleaveRows S256x2x128 (shapeCast S256x1x128 (truncf .bf16 (extractStridedSlice S256x128 ![0, 128] M slices_S256x2048_o0_128_S256x128) : FVec F S256x128 .bf16) shapeCasts_S256x128_S256x1x128) (shapeCast S256x1x128 (truncf .bf16 (extractStridedSlice S256x128 ![0, 1152] M slices_S256x2048_o0_1152_S256x128) : FVec F S256x128 .bf16) shapeCasts_S256x128_S256x1x128) bitcasts_S256x2x128_w16_S256x1x128_w32
  | 2 => interleaveRows S256x2x128 (shapeCast S256x1x128 (truncf .bf16 (extractStridedSlice S256x128 ![0, 256] M slices_S256x2048_o0_256_S256x128) : FVec F S256x128 .bf16) shapeCasts_S256x128_S256x1x128) (shapeCast S256x1x128 (truncf .bf16 (extractStridedSlice S256x128 ![0, 1280] M slices_S256x2048_o0_1280_S256x128) : FVec F S256x128 .bf16) shapeCasts_S256x128_S256x1x128) bitcasts_S256x2x128_w16_S256x1x128_w32
  | 3 => interleaveRows S256x2x128 (shapeCast S256x1x128 (truncf .bf16 (extractStridedSlice S256x128 ![0, 384] M slices_S256x2048_o0_384_S256x128) : FVec F S256x128 .bf16) shapeCasts_S256x128_S256x1x128) (shapeCast S256x1x128 (truncf .bf16 (extractStridedSlice S256x128 ![0, 1408] M slices_S256x2048_o0_1408_S256x128) : FVec F S256x128 .bf16) shapeCasts_S256x128_S256x1x128) bitcasts_S256x2x128_w16_S256x1x128_w32
  | 4 => interleaveRows S256x2x128 (shapeCast S256x1x128 (truncf .bf16 (extractStridedSlice S256x128 ![0, 512] M slices_S256x2048_o0_512_S256x128) : FVec F S256x128 .bf16) shapeCasts_S256x128_S256x1x128) (shapeCast S256x1x128 (truncf .bf16 (extractStridedSlice S256x128 ![0, 1536] M slices_S256x2048_o0_1536_S256x128) : FVec F S256x128 .bf16) shapeCasts_S256x128_S256x1x128) bitcasts_S256x2x128_w16_S256x1x128_w32
  | 5 => interleaveRows S256x2x128 (shapeCast S256x1x128 (truncf .bf16 (extractStridedSlice S256x128 ![0, 640] M slices_S256x2048_o0_640_S256x128) : FVec F S256x128 .bf16) shapeCasts_S256x128_S256x1x128) (shapeCast S256x1x128 (truncf .bf16 (extractStridedSlice S256x128 ![0, 1664] M slices_S256x2048_o0_1664_S256x128) : FVec F S256x128 .bf16) shapeCasts_S256x128_S256x1x128) bitcasts_S256x2x128_w16_S256x1x128_w32
  | 6 => interleaveRows S256x2x128 (shapeCast S256x1x128 (truncf .bf16 (extractStridedSlice S256x128 ![0, 768] M slices_S256x2048_o0_768_S256x128) : FVec F S256x128 .bf16) shapeCasts_S256x128_S256x1x128) (shapeCast S256x1x128 (truncf .bf16 (extractStridedSlice S256x128 ![0, 1792] M slices_S256x2048_o0_1792_S256x128) : FVec F S256x128 .bf16) shapeCasts_S256x128_S256x1x128) bitcasts_S256x2x128_w16_S256x1x128_w32
  | _ => interleaveRows S256x2x128 (shapeCast S256x1x128 (truncf .bf16 (extractStridedSlice S256x128 ![0, 896] M slices_S256x2048_o0_896_S256x128) : FVec F S256x128 .bf16) shapeCasts_S256x128_S256x1x128) (shapeCast S256x1x128 (truncf .bf16 (extractStridedSlice S256x128 ![0, 1920] M slices_S256x2048_o0_1920_S256x128) : FVec F S256x128 .bf16) shapeCasts_S256x128_S256x1x128) bitcasts_S256x2x128_w16_S256x1x128_w32

/-- The block of results of a tile whose products are `M`. -/
def blockY (M : FVec F S256x2048 .f32) : S2048x2x128.Idx → Elt F .bf16 := fun y => rowPay M ((y 0).val % 8) (ix y)

theorem ix_emb (k : ℕ) (hk : k < 8) (h) (x : (rowRect k h).shape.Idx) : ((rowRect k h).emb x 0).val % 8 = k ∧ ix ((rowRect k h).emb x) = x := by
  have e0 : ((rowRect k h).emb x 0).val = k + 8 * (x 0).val := rfl
  refine ⟨by rw [e0]; omega, ?_⟩
  funext a
  apply Fin.ext
  match a with
  | ⟨0, _⟩ =>
    show ((rowRect k h).emb x 0).val / 8 = (x 0).val
    rw [e0]; omega
  | ⟨1, _⟩ =>
    show 0 + 1 * (x 1).val = (x 1).val
    omega
  | ⟨2, _⟩ =>
    show 0 + 1 * (x 2).val = (x 2).val
    omega

theorem row_at (M : FVec F S256x2048 .f32) (k : ℕ) (hk : k < 8) (h) (x : (rowRect k h).shape.Idx) : rowPay M k x = blockY M ((rowRect k h).emb x) := by
  obtain ⟨h1, h2⟩ := ix_emb k hk h x
  unfold blockY
  rw [h1, h2]

/-- The rows of remainder below `k` modulo eight. -/
def rowsTo (k : ℕ) : S2048x2x128.Idx → Prop := fun y => (y 0).val % 8 < k

theorem rows_cover (k : ℕ) (hk : k < 8) (h) (y : S2048x2x128.Idx) (hy : rowsTo (k + 1) y) : rowsTo k y ∨ ∃ x, (rowRect k h).emb x = y := by
  unfold rowsTo at *
  by_cases hlt : (y 0).val % 8 < k
  · exact Or.inl hlt
  · right
    refine ⟨ix y, ?_⟩
    funext a
    apply Fin.ext
    match a with
    | ⟨0, _⟩ =>
      show k + 8 * ((y 0).val / 8) = (y 0).val
      omega
    | ⟨1, _⟩ =>
      show 0 + 1 * (y 1).val = (y 1).val
      omega
    | ⟨2, _⟩ =>
      show 0 + 1 * (y 2).val = (y 2).val
      omega

/-- Expert `e`'s gate or up matrix, as its array holds it. -/
def matE (arg4 : Memref sig .tc .hbm S1x32x2048x512 .f32) (W : arg4.view.ty.Contents (Elt F)) (e : Fin 32) : S1x2048x512.Idx → Elt F .f32 :=
  blockOf arg4 (rE e) (rS 0) (nS 0 e) W
/-- Expert `e`'s down matrix, as its array holds it. -/
def matF (arg6 : Memref sig .tc .hbm S1x32x512x2048 .f32) (W : arg6.view.ty.Contents (Elt F)) (e : Fin 32) : S1x512x2048.Idx → Elt F .f32 :=
  blockOf arg6 (rF e) (rT 0) (nT 0 e) W

/-- The products of a tile of words `X` with an expert's three matrices. -/
def products (X : S2048x128.Idx → Elt F .i32) (G U : S1x2048x512.Idx → Elt F .f32) (D : S1x512x2048.Idx → Elt F .f32) : FVec F S256x2048 .f32 :=
  k0_pay24 (k0_pay8 (ld0 X)) (k0_pay9 (ld1 X)) (k0_pay10 (ld2 X)) (k0_pay11 (ld3 X)) (k0_pay12 (ld4 X)) (k0_pay13 (ld5 X)) (k0_pay14 (ld6 X)) (k0_pay15 (ld7 X)) (k0_pay16 (ld0 X)) (k0_pay17 (ld1 X)) (k0_pay18 (ld2 X)) (k0_pay19 (ld3 X)) (k0_pay20 (ld4 X)) (k0_pay21 (ld5 X)) (k0_pay22 (ld6 X)) (k0_pay23 (ld7 X)) G U D

section Part3
variable {n : ℕ} {V : ℕ → BitVec 32} {T : ℕ → Fin 32}
variable (W4 : Buf (Elt F) (arg4.view.loc (c : Thread nD τ))) (W5 : Buf (Elt F) (arg5.view.loc (c : Thread nD τ))) (W6 : Buf (Elt F) (arg6.view.loc (c : Thread nD τ)))

/-- What a tile's block of results holds: tile of words `X`, expert `e`. -/
def result (X : S2048x128.Idx → Elt F .i32) (e : Fin 32) : S2048x2x128.Idx → Elt F .bf16 :=
  blockY (products X (matE arg4 W4 e) (matE arg5 W5 e) (matF arg6 W6 e))

set_option maxHeartbeats 4000000 in
/-- The third part: the products, and the first two groups of rows. -/
theorem part3 (X : S2048x128.Idx → Elt F .i32) (j s a : ℕ) (k0_h2 : k0_cond2 i (wd n) = 1#1) (Y : S2048x2x128.Idx → Elt F .bf16)
    (M : FVec F S256x2048 .f32) (hM : M = products X (matE arg4 W4 (T j)) (matE arg5 W5 (T j)) (matF arg6 W6 (T j))) :
    iprop(At c arg4 arg5 arg6 arg8 arg9 arg10 arg11 arg12 W4 W5 W6 T n j s a ∗ PartAt (c : Thread nD τ) arg7 (rowsTo 0) (blockY M))
      ⊢ wp frame (wpE (defs₀ (F := F)) 𝒱 (c : Thread nD τ) bd) Set.univ
          (k0_part3 (F := F) i arg1 harg1 arg2 harg2 arg3 harg3 arg4 harg4 arg5 harg5 arg6 harg6 arg7 harg7 arg8 harg8 arg9 harg9 arg10 harg10 arg11 arg12 harg12 (wd n) k0_h2 (wd (sl s).val) (chk6_p (sl s) (wd n)) (k0_pay8 (ld0 X)) (k0_pay9 (ld1 X)) (k0_pay10 (ld2 X)) (k0_pay11 (ld3 X)) (k0_pay12 (ld4 X)) (k0_pay13 (ld5 X)) (k0_pay14 (ld6 X)) (k0_pay15 (ld7 X)) (k0_pay16 (ld0 X)) (k0_pay17 (ld1 X)) (k0_pay18 (ld2 X)) (k0_pay19 (ld3 X)) (k0_pay20 (ld4 X)) (k0_pay21 (ld5 X)) (k0_pay22 (ld6 X)) (k0_pay23 (ld7 X)))
          (fun x => iprop(⌜x = ⟨M, extractStridedSlice S256x128 ![0, 1280] M slices_S256x2048_o0_1280_S256x128, truncf .bf16 (extractStridedSlice S256x128 ![0, 256] M slices_S256x2048_o0_256_S256x128)⟩⌝
            ∗ At c arg4 arg5 arg6 arg8 arg9 arg10 arg11 arg12 W4 W5 W6 T n j s a ∗ PartAt (c : Thread nD τ) arg7 (rowsTo 2) (blockY M))) := by
  simp only [k0_part3_eq_skeleton]
  unfold k0_part3_skel
  subst hM
  unfold At Hold
  iintro ⟨⟨HS, ⟨H0, H1, H2⟩, HA⟩, HY⟩
  iapply (wp_loadSlotAt (defs := defs₀ (F := F)) 𝒱 (c : Thread nD τ) bd (off22_eq (sl s))) $$ H0
  iintro H0
  iapply (wp_loadSlotAt (defs := defs₀ (F := F)) 𝒱 (c : Thread nD τ) bd (off22_eq (sl s))) $$ H1
  iintro H1
  iapply (wp_loadSlotAt (defs := defs₀ (F := F)) 𝒱 (c : Thread nD τ) bd (off23_eq (sl s))) $$ H2
  iintro H2
  iapply (wp_partLoad (defs := defs₀ (F := F)) 𝒱 (c : Thread nD τ) bd) $$ HY
  iintro %_ HY
  iapply (wp_partStore (defs := defs₀ (F := F)) 𝒱 (c : Thread nD τ) bd (D' := rowsTo 1) (fun x => row_at _ 0 (by decide) _ x) (fun y hy => rows_cover 0 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := rowsTo 2) (fun x => row_at _ 1 (by decide) _ x) (fun y hy => rows_cover 1 (by decide) _ y hy)) $$ HY
  iintro HY
  rw [wp_pure]; imodintro
  isplitr; · ipureintro; rfl
  isplitl [HS H0 H1 H2 HA]
  · isplitl [HS]; · iexact HS
    isplitl [H0 H1 H2]
    · isplitl [H0]; · iexact H0
      isplitl [H1]; · iexact H1
      iexact H2
    iexact HA
  iexact HY
end Part3

end Cert.KernelIdeal.Body

end
-- ==== Proof.Body.lean ====
/-
  The experts kernel's body at one grid point, whole.
-/
module

public import proofs.«01_k».proof.Proof.Part3

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

/-- The rectangle of a whole block places an element at itself. -/
theorem whole_emb (x : S2048x2x128.Idx) : (Rect.unit (s := S2048x2x128) ![0, 0, 0] S2048x2x128.size inb_S2048x2x128_S2048x2x128_0_0_0).emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

section Root
variable {n : ℕ} {V : ℕ → BitVec 32} {T : ℕ → Fin 32}
variable (W4 : Buf (Elt F) (arg4.view.loc (c : Thread nD τ))) (W5 : Buf (Elt F) (arg5.view.loc (c : Thread nD τ))) (W6 : Buf (Elt F) (arg6.view.loc (c : Thread nD τ)))

/-- Before the first point: both slots free, the kept words at anything. -/
def Init : sProp 𝕄 :=
  iprop((∃ a b, Seen (F := F) c arg12 a b) ∗ Free c arg4 arg5 arg6 arg8 arg9 arg10 arg11 W4 W5 W6 0 ∗ Free c arg4 arg5 arg6 arg8 arg9 arg10 arg11 W4 W5 W6 1)
/-- What is kept from point to point: before point `j`. -/
def State (T : ℕ → Fin 32) (n j : ℕ) : sProp 𝕄 :=
  if j = 0 then Init c arg4 arg5 arg6 arg8 arg9 arg10 arg11 arg12 W4 W5 W6 else After c arg4 arg5 arg6 arg8 arg9 arg10 arg11 arg12 W4 W5 W6 T n (min j n - 1)

theorem State.zero : State c arg4 arg5 arg6 arg8 arg9 arg10 arg11 arg12 W4 W5 W6 T n 0 = Init c arg4 arg5 arg6 arg8 arg9 arg10 arg11 arg12 W4 W5 W6 := if_pos rfl
theorem State.pos {j : ℕ} (h : j ≠ 0) : State c arg4 arg5 arg6 arg8 arg9 arg10 arg11 arg12 W4 W5 W6 T n j = After c arg4 arg5 arg6 arg8 arg9 arg10 arg11 arg12 W4 W5 W6 T n (min j n - 1) := if_neg h
/-- Any two words are the kept words at some values. -/
theorem words_seen (S : S2.Idx → Elt F .i32) : ∃ a b, S = seenV a b := by
  refine ⟨S (fun a => ⟨0, (by decide : ∀ a : Fin 1, 0 < S2.size a) a⟩), S (fun a => ⟨1, (by decide : ∀ a : Fin 1, 1 < S2.size a) a⟩), ?_⟩
  funext y
  unfold seenV
  have hy : (y 0).val < 2 := (y 0).isLt
  split
  · next h =>
    congr 1; funext a; obtain rfl : a = 0 := Subsingleton.elim _ _; exact Fin.ext h
  · next h =>
    congr 1; funext a; obtain rfl : a = 0 := Subsingleton.elim _ _; exact Fin.ext (by show (y 0).val = 1; omega)

theorem emb_S1 (V : S1.Idx → Elt F .i32) (w : Elt F .i32) (h : ∀ y, V y = w) (r : Rect S1) (x : r.shape.Idx) : V (r.emb x) = w := h _

set_option maxHeartbeats 8000000 in
/-- A point whose tile counts: the tile's block is the products of its words with its expert's matrices. -/
theorem body_tile (q q2 q3 : PosShare TreeShare) (X : S2048x128.Idx → Elt F .i32) (hn : n ≤ 104) (hi : (i 0).val < n) (hV : ∀ m < n, V m = wd (T m).val) :
    iprop(Table (F := F) c arg1 q V ∗ WordsAt (c : Thread nD τ) arg2 q2 (fun _ => (wd n : Elt F .i32))
        ∗ State c arg4 arg5 arg6 arg8 arg9 arg10 arg11 arg12 W4 W5 W6 T n (i 0).val
        ∗ WordsAt (c : Thread nD τ) arg3 q3 X ∗ (∃ Y, WordsAt (c : Thread nD τ) arg7 fullShare Y) ∗ Owes (F := F) c)
      ⊢ wp frame (wpE (defs₀ (F := F)) 𝒱 (c : Thread nD τ) bd) Set.univ (cc0_experts (F := F) i arg1 harg1 arg2 harg2 arg3 harg3 arg4 harg4 arg5 harg5 arg6 harg6 arg7 harg7 arg8 harg8 arg9 harg9 arg10 harg10 arg11 arg12 harg12)
          (fun _ => iprop(Table (F := F) c arg1 q V ∗ WordsAt (c : Thread nD τ) arg2 q2 (fun _ => (wd n : Elt F .i32))
            ∗ State c arg4 arg5 arg6 arg8 arg9 arg10 arg11 arg12 W4 W5 W6 T n ((i 0).val + 1)
            ∗ WordsAt (c : Thread nD τ) arg3 q3 X ∗ WordsAt (c : Thread nD τ) arg7 fullShare (result arg4 arg5 arg6 (c := c) W4 W5 W6 X (T (i 0).val)) ∗ Owes (F := F) c)) := by
  have hil := i_lt i
  have hc2 : k0_cond2 i (wd n) = 1#1 := (cond2_iff hn).2 hi
  have hc5 : ¬ k0_cond5 i (wd n) = 1#1 := fun h => absurd ((cond5_iff hn).1 h) (by omega)
  simp only [cc0_experts_eq_skeleton]
  unfold cc0_experts_skel
  iintro ⟨HT, HN, HB, HX, ⟨%Y, HY⟩, HO⟩
  ihave HY := (show WordsAt (c : Thread nD τ) arg7 fullShare Y ⊢ PartAt (c : Thread nD τ) arg7 (rowsTo 0) (result arg4 arg5 arg6 (c := c) W4 W5 W6 X (T (i 0).val)) from by
    unfold PartAt
    iintro H
    iexists Y
    isplitr
    · ipureintro; intro y hy; exact absurd hy (Nat.not_lt_zero _)
    · iexact H) $$ HY
  iapply (wp_word (defs := defs₀ (F := F)) 𝒱 (c : Thread nD τ) bd (e := .i32) (wd n) (fun x => emb_S1 _ _ (fun _ => rfl) _ x)) $$ HN
  iintro HN
  by_cases h0 : (i 0).val = 0
  · have hc1 : k0_cond1 i = 1#1 := cond1_iff.2 h0
    dsimp only
    rw [dif_pos hc1]
    ihave HB := (show State c arg4 arg5 arg6 arg8 arg9 arg10 arg11 arg12 W4 W5 W6 T n (i 0).val ⊢ Init c arg4 arg5 arg6 arg8 arg9 arg10 arg11 arg12 W4 W5 W6 from by rw [h0, State.zero]) $$ HB
    unfold Init
    icases HB with ⟨⟨%w, %b, HS⟩, HG, HG'⟩
    iapply (wp_word (defs := defs₀ (F := F)) 𝒱 (c : Thread nD τ) bd (e := .i32) w (fun x => seen_fst _ _ _ x)) $$ HS
    iintro HS
    iapply (wp_wordStore (defs := defs₀ (F := F)) 𝒱 (c : Thread nD τ) bd (V' := seenV (wd 0) b) (fun x => seen_fst _ _ _ x) (fun y hy => seen_put0 _ _ _ _ y hy)) $$ HS
    iintro HS
    iapply (wp_word (defs := defs₀ (F := F)) 𝒱 (c : Thread nD τ) bd (e := .i32) (wd (T 0).val)
      (fun x => (congrArg V (emb_S104 0 _ x)).trans (hV 0 (by omega)))) $$ HT
    iintro HT
    iapply (wp_check (defs := defs₀ (F := F)) 𝒱 (c : Thread nD τ) bd (chk1_e (T 0)))
    unfold Free
    icases HG with ⟨HG0, HG1, HG2⟩
    iapply (wp_issueAt (defs := defs₀ (F := F)) 𝒱 (c : Thread nD τ) bd (hn := nS 0 (T 0)) () rfl (off1_eq (T 0)) (cell_of arg11 0 0 _ _ rfl) (by decide)) $$ HG0
    iintro HG0
    iapply (wp_issueAt (defs := defs₀ (F := F)) 𝒱 (c : Thread nD τ) bd (hn := nS 0 (T 0)) () rfl (off1_eq (T 0)) (cell_of arg11 0 1 _ _ rfl) (by decide)) $$ HG1
    iintro HG1
    iapply (wp_issueAt (defs := defs₀ (F := F)) 𝒱 (c : Thread nD τ) bd (hn := nT 0 (T 0)) () rfl (off2_eq (T 0)) (cell_of arg11 0 2 _ _ rfl) (by decide)) $$ HG2
    iintro HG2
    ihave HB := (show iprop(Seen (F := F) c arg12 (wd 0) b ∗ (Fly0 c arg4 arg8 arg11 W4 0 (T 0) ∗ Fly1 c arg5 arg9 arg11 W5 0 (T 0) ∗ Fly2 c arg6 arg10 arg11 W6 0 (T 0))
        ∗ (Idle (c : Thread nD τ) arg8 (rS 1) arg4 (.dma (cell arg11 1 0)) (half 1) W4
    ∗ Idle (c : Thread nD τ) arg9 (rS 1) arg5 (.dma (cell arg11 1 1)) (half 1) W5
    ∗ Idle (c : Thread nD τ) arg10 (rT 1) arg6 (.dma (cell arg11 1 2)) (half 1) W6))
        ⊢ Before c arg4 arg5 arg6 arg8 arg9 arg10 arg11 arg12 W4 W5 W6 T n (i 0).val from by
      rw [h0]
      iintro ⟨HS, HF, HG⟩
      unfold Before
      ileft
      iexists 0
      isplitr
      · ipureintro; exact ⟨le_rfl, Or.inl rfl⟩
      unfold Fresh Fly Free
      isplitl [HS]
      · iexists b; iexact HS
      isplitl [HF]; · iexact HF
      iexact HG) $$ [HS HG0 HG1 HG2 HG']
    · isplitl [HS]; · iexact HS
      isplitl [HG0 HG1 HG2]
      · isplitl [HG0]; · iexact HG0
        isplitl [HG1]; · iexact HG1
        iexact HG2
      iexact HG'
    rw [dif_pos hc2, wp_bind]
    iapply (wp_wand_r frame (wpE (defs₀ (F := F)) 𝒱 (c : Thread nD τ) bd))
    isplitl [HT HB HX HO]
    · iapply (part2 𝒱 c bd i arg1 harg1 arg2 harg2 arg3 harg3 arg4 harg4 arg5 harg5 arg6 harg6 arg7 harg7 arg8 harg8 arg9 harg9 arg10 harg10 arg11 arg12 harg12 W4 W5 W6 q q3 X hn hi hV hc2)
      isplitl [HT]; · iexact HT
      isplitl [HB]; · iexact HB
      isplitl [HX]; · iexact HX
      iexact HO
    iintro %x ⟨%s, %a, %hx, HT, HA, HX, HO⟩
    obtain ⟨hs, hf, rfl⟩ := hx
    unfold unpacked
    dsimp only
    rw [wp_bind]
    iapply (wp_wand_r frame (wpE (defs₀ (F := F)) 𝒱 (c : Thread nD τ) bd))
    isplitl [HA HY]
    · iapply (part3 𝒱 c bd i arg1 harg1 arg2 harg2 arg3 harg3 arg4 harg4 arg5 harg5 arg6 harg6 arg7 harg7 arg8 harg8 arg9 harg9 arg10 harg10 arg11 arg12 harg12 W4 W5 W6 X (i 0).val s a hc2 (blockY (products X (matE arg4 W4 (T (i 0).val)) (matE arg5 W5 (T (i 0).val)) (matF arg6 W6 (T (i 0).val)))) _ rfl)
      isplitl [HA]; · iexact HA
      iexact HY
    iintro %x ⟨%hx, HA, HY⟩
    subst hx
    dsimp only
    iapply (wp_partLoad (defs := defs₀ (F := F)) 𝒱 (c : Thread nD τ) bd) $$ HY
    iintro %_ HY
    iapply (wp_partStore (defs := defs₀ (F := F)) 𝒱 (c : Thread nD τ) bd (D' := rowsTo 3) (fun x => row_at _ 2 (by decide) _ x) (fun y hy => rows_cover 2 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 4) (fun x => row_at _ 3 (by decide) _ x) (fun y hy => rows_cover 3 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 5) (fun x => row_at _ 4 (by decide) _ x) (fun y hy => rows_cover 4 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 6) (fun x => row_at _ 5 (by decide) _ x) (fun y hy => rows_cover 5 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 7) (fun x => row_at _ 6 (by decide) _ x) (fun y hy => rows_cover 6 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 8) (fun x => row_at _ 7 (by decide) _ x) (fun y hy => rows_cover 7 (by decide) _ y hy)) $$ HY
    iintro HY
    rw [dif_neg hc5, wp_pure]; imodintro
    isplitl [HT]; · iexact HT
    isplitl [HN]; · iexact HN
    isplitl [HA]
    · rw [State.pos _ _ _ _ _ _ _ _ _ _ _ _ (by omega : (i 0).val + 1 ≠ 0), show min ((i 0).val + 1) n - 1 = (i 0).val by omega]
      unfold After
      iexists s, a
      isplitr
      · ipureintro; exact ⟨hs, hf⟩
      · iexact HA
    isplitl [HX]; · iexact HX
    isplitl [HY]
    · unfold PartAt
      icases HY with ⟨%Z, %hZ, HY⟩
      rw [show Z = result arg4 arg5 arg6 (c := c) W4 W5 W6 X (T (i 0).val) from funext fun y => hZ y (Nat.mod_lt _ (by decide))]
      iexact HY
    iexact HO
  · have hc1 : ¬ k0_cond1 i = 1#1 := fun h => h0 (cond1_iff.1 h)
    dsimp only
    rw [dif_neg hc1]
    ihave HB := (show State c arg4 arg5 arg6 arg8 arg9 arg10 arg11 arg12 W4 W5 W6 T n (i 0).val ⊢ Before c arg4 arg5 arg6 arg8 arg9 arg10 arg11 arg12 W4 W5 W6 T n (i 0).val from by
      have h := After.before (F := F) c arg4 arg5 arg6 arg8 arg9 arg10 arg11 arg12 W4 W5 W6 (n := n) (T := T) (j := (i 0).val - 1) (by omega)
      rw [show (i 0).val - 1 + 1 = (i 0).val by omega] at h
      rw [State.pos _ _ _ _ _ _ _ _ _ _ _ _ h0, show min (i 0).val n - 1 = (i 0).val - 1 by omega]
      exact h) $$ HB
    rw [dif_pos hc2, wp_bind]
    iapply (wp_wand_r frame (wpE (defs₀ (F := F)) 𝒱 (c : Thread nD τ) bd))
    isplitl [HT HB HX HO]
    · iapply (part2 𝒱 c bd i arg1 harg1 arg2 harg2 arg3 harg3 arg4 harg4 arg5 harg5 arg6 harg6 arg7 harg7 arg8 harg8 arg9 harg9 arg10 harg10 arg11 arg12 harg12 W4 W5 W6 q q3 X hn hi hV hc2)
      isplitl [HT]; · iexact HT
      isplitl [HB]; · iexact HB
      isplitl [HX]; · iexact HX
      iexact HO
    iintro %x ⟨%s, %a, %hx, HT, HA, HX, HO⟩
    obtain ⟨hs, hf, rfl⟩ := hx
    unfold unpacked
    dsimp only
    rw [wp_bind]
    iapply (wp_wand_r frame (wpE (defs₀ (F := F)) 𝒱 (c : Thread nD τ) bd))
    isplitl [HA HY]
    · iapply (part3 𝒱 c bd i arg1 harg1 arg2 harg2 arg3 harg3 arg4 harg4 arg5 harg5 arg6 harg6 arg7 harg7 arg8 harg8 arg9 harg9 arg10 harg10 arg11 arg12 harg12 W4 W5 W6 X (i 0).val s a hc2 (blockY (products X (matE arg4 W4 (T (i 0).val)) (matE arg5 W5 (T (i 0).val)) (matF arg6 W6 (T (i 0).val)))) _ rfl)
      isplitl [HA]; · iexact HA
      iexact HY
    iintro %x ⟨%hx, HA, HY⟩
    subst hx
    dsimp only
    iapply (wp_partLoad (defs := defs₀ (F := F)) 𝒱 (c : Thread nD τ) bd) $$ HY
    iintro %_ HY
    iapply (wp_partStore (defs := defs₀ (F := F)) 𝒱 (c : Thread nD τ) bd (D' := rowsTo 3) (fun x => row_at _ 2 (by decide) _ x) (fun y hy => rows_cover 2 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 4) (fun x => row_at _ 3 (by decide) _ x) (fun y hy => rows_cover 3 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 5) (fun x => row_at _ 4 (by decide) _ x) (fun y hy => rows_cover 4 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 6) (fun x => row_at _ 5 (by decide) _ x) (fun y hy => rows_cover 5 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 7) (fun x => row_at _ 6 (by decide) _ x) (fun y hy => rows_cover 6 (by decide) _ y hy)) $$ HY
    iintro HY
    iapply (wp_partLoad (defs := defs₀ (F := F)) 𝒱 (c : Thread nD τ) bd) $$ HY
    iintro %_ HY
    iapply (wp_partStore (defs := defs₀ (F := F)) 𝒱 (c : Thread nD τ) bd (D' := rowsTo 8) (fun x => row_at _ 7 (by decide) _ x) (fun y hy => rows_cover 7 (by decide) _ y hy)) $$ HY
    iintro HY
    rw [dif_neg hc5, wp_pure]; imodintro
    isplitl [HT]; · iexact HT
    isplitl [HN]; · iexact HN
    isplitl [HA]
    · rw [State.pos _ _ _ _ _ _ _ _ _ _ _ _ (by omega : (i 0).val + 1 ≠ 0), show min ((i 0).val + 1) n - 1 = (i 0).val by omega]
      unfold After
      iexists s, a
      isplitr
      · ipureintro; exact ⟨hs, hf⟩
      · iexact HA
    isplitl [HX]; · iexact HX
    isplitl [HY]
    · unfold PartAt
      icases HY with ⟨%Z, %hZ, HY⟩
      rw [show Z = result arg4 arg5 arg6 (c := c) W4 W5 W6 X (T (i 0).val) from funext fun y => hZ y (Nat.mod_lt _ (by decide))]
      iexact HY
    iexact HO

set_option maxHeartbeats 4000000 in
/-- A point past the last tile that counts: its block is zeros. -/
theorem body_rest (q q2 q3 : PosShare TreeShare) (X : S2048x128.Idx → Elt F .i32) (hn : n ≤ 104) (hn0 : 0 < n) (hi : n ≤ (i 0).val) :
    iprop(Table (F := F) c arg1 q V ∗ WordsAt (c : Thread nD τ) arg2 q2 (fun _ => (wd n : Elt F .i32))
        ∗ State c arg4 arg5 arg6 arg8 arg9 arg10 arg11 arg12 W4 W5 W6 T n (i 0).val
        ∗ WordsAt (c : Thread nD τ) arg3 q3 X ∗ (∃ Y, WordsAt (c : Thread nD τ) arg7 fullShare Y) ∗ Owes (F := F) c)
      ⊢ wp frame (wpE (defs₀ (F := F)) 𝒱 (c : Thread nD τ) bd) Set.univ (cc0_experts (F := F) i arg1 harg1 arg2 harg2 arg3 harg3 arg4 harg4 arg5 harg5 arg6 harg6 arg7 harg7 arg8 harg8 arg9 harg9 arg10 harg10 arg11 arg12 harg12)
          (fun _ => iprop(Table (F := F) c arg1 q V ∗ WordsAt (c : Thread nD τ) arg2 q2 (fun _ => (wd n : Elt F .i32))
            ∗ State c arg4 arg5 arg6 arg8 arg9 arg10 arg11 arg12 W4 W5 W6 T n ((i 0).val + 1)
            ∗ WordsAt (c : Thread nD τ) arg3 q3 X ∗ WordsAt (c : Thread nD τ) arg7 fullShare (k0_pay7 (F := F)) ∗ Owes (F := F) c)) := by
  have hil := i_lt i
  have hc1 : ¬ k0_cond1 i = 1#1 := fun h => absurd (cond1_iff.1 h) (by omega)
  have hc2 : ¬ k0_cond2 i (wd n) = 1#1 := fun h => absurd ((cond2_iff hn).1 h) (by omega)
  have hc5 : k0_cond5 i (wd n) = 1#1 := (cond5_iff hn).2 hi
  simp only [cc0_experts_eq_skeleton]
  unfold cc0_experts_skel
  iintro ⟨HT, HN, HB, HX, ⟨%Y, HY⟩, HO⟩
  iapply (wp_word (defs := defs₀ (F := F)) 𝒱 (c : Thread nD τ) bd (e := .i32) (wd n) (fun x => emb_S1 _ _ (fun _ => rfl) _ x)) $$ HN
  iintro HN
  dsimp only
  rw [dif_neg hc1, dif_neg hc2, dif_pos hc5]
  iapply (wp_loadAt (defs := defs₀ (F := F)) 𝒱 (c : Thread nD τ) bd) $$ HY
  iintro HY
  iapply (wp_wordStore (defs := defs₀ (F := F)) 𝒱 (c : Thread nD τ) bd (V' := k0_pay7 (F := F)) (fun x => congrArg (k0_pay7 (F := F)) (whole_emb x)) (fun y hy => absurd (Finset.mem_map.mpr ⟨y, Finset.mem_univ _, whole_emb y⟩) hy)) $$ HY
  iintro HY
  rw [wp_pure]; imodintro
  isplitl [HT]; · iexact HT
  isplitl [HN]; · iexact HN
  isplitl [HB]
  · ihave HB := (show State c arg4 arg5 arg6 arg8 arg9 arg10 arg11 arg12 W4 W5 W6 T n (i 0).val ⊢ State c arg4 arg5 arg6 arg8 arg9 arg10 arg11 arg12 W4 W5 W6 T n ((i 0).val + 1) from by
      rw [State.pos _ _ _ _ _ _ _ _ _ _ _ _ (by omega : (i 0).val ≠ 0), State.pos _ _ _ _ _ _ _ _ _ _ _ _ (by omega : (i 0).val + 1 ≠ 0), show min ((i 0).val + 1) n = min (i 0).val n by omega]) $$ HB
    iexact HB
  isplitl [HX]; · iexact HX
  isplitl [HY]; · iexact HY
  iexact HO
end Root

end Cert.KernelIdeal.Body

end
-- ==== Proof.Slots.lean ====
/-
  What the experts kernel owns between grid points, taken apart at the first and put together after the last.
-/
module

public import proofs.«01_k».proof.Proof.Body

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x2x128 .bf16) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

/-- The two slots make up the buffer of gate or up matrices. -/
theorem rS_cover : (rS 0).set ∪ (rS 1).set = Finset.univ := by
  ext y
  have h0 : (y 0).val < 2 := (y 0).isLt
  have h1 : (y 1).val < 2048 := (y 1).isLt
  have h2 : (y 2).val < 512 := (y 2).isLt
  rw [Finset.mem_union, Rect.mem_set_unit, Rect.mem_set_unit]
  refine ⟨fun _ => Finset.mem_univ _, fun _ => ?_⟩
  by_cases h : (y 0).val = 0
  · left
    intro a
    match a with
    | ⟨0, _⟩ => show 0 ≤ (y 0).val ∧ (y 0).val < 0 + 1; omega
    | ⟨1, _⟩ => show 0 ≤ (y 1).val ∧ (y 1).val < 0 + 2048; omega
    | ⟨2, _⟩ => show 0 ≤ (y 2).val ∧ (y 2).val < 0 + 512; omega
  · right
    intro a
    match a with
    | ⟨0, _⟩ => show 1 ≤ (y 0).val ∧ (y 0).val < 1 + 1; omega
    | ⟨1, _⟩ => show 0 ≤ (y 1).val ∧ (y 1).val < 0 + 2048; omega
    | ⟨2, _⟩ => show 0 ≤ (y 2).val ∧ (y 2).val < 0 + 512; omega
/-- The two slots make up the buffer of down matrices. -/
theorem rT_cover : (rT 0).set ∪ (rT 1).set = Finset.univ := by
  ext y
  have h0 : (y 0).val < 2 := (y 0).isLt
  have h1 : (y 1).val < 512 := (y 1).isLt
  have h2 : (y 2).val < 2048 := (y 2).isLt
  rw [Finset.mem_union, Rect.mem_set_unit, Rect.mem_set_unit]
  refine ⟨fun _ => Finset.mem_univ _, fun _ => ?_⟩
  by_cases h : (y 0).val = 0
  · left
    intro a
    match a with
    | ⟨0, _⟩ => show 0 ≤ (y 0).val ∧ (y 0).val < 0 + 1; omega
    | ⟨1, _⟩ => show 0 ≤ (y 1).val ∧ (y 1).val < 0 + 512; omega
    | ⟨2, _⟩ => show 0 ≤ (y 2).val ∧ (y 2).val < 0 + 2048; omega
  · right
    intro a
    match a with
    | ⟨0, _⟩ => show 1 ≤ (y 0).val ∧ (y 0).val < 1 + 1; omega
    | ⟨1, _⟩ => show 0 ≤ (y 1).val ∧ (y 1).val < 0 + 512; omega
    | ⟨2, _⟩ => show 0 ≤ (y 2).val ∧ (y 2).val < 0 + 2048; omega
/-- The two slots share no element. -/
theorem rS_disjoint : Disjoint (rS 0).set (rS 1).set := by
  rw [Finset.disjoint_left]
  intro y h h'
  have a := (Rect.mem_set_unit.mp h 0).2
  have b := (Rect.mem_set_unit.mp h' 0).1
  change (y 0).val < 0 + 1 at a
  change 1 ≤ (y 0).val at b
  omega
/-- The two slots share no element. -/
theorem rT_disjoint : Disjoint (rT 0).set (rT 1).set := by
  rw [Finset.disjoint_left]
  intro y h h'
  have a := (Rect.mem_set_unit.mp h 0).2
  have b := (Rect.mem_set_unit.mp h' 0).1
  change (y 0).val < 0 + 1 at a
  change 1 ≤ (y 0).val at b
  omega

/-- A whole buffer is its two slots, when two rectangles make it up. -/
theorem slots_split {sp : Space} {s : Shape} {e : EltTy} (M : Memref sig .tc sp s e) (hM : M.IsWhole) (r r' : Rect s)
    (hc : r.set ∪ r'.set = Finset.univ) (hd : Disjoint r.set r'.set) :
    iprop(∃ f : Buf (Elt F) (M.view.loc (c : Thread nD τ)), (M.view.loc (c : Thread nD τ) ↦{fullShare} f)) ⊢ (iprop(SlotAny (c : Thread nD τ) M r ∗ SlotAny (c : Thread nD τ) M r') : sProp 𝕄) := by
  iintro ⟨%f, H⟩
  unfold SlotAny
  have hd' : Disjoint (M.view.slice r).set (M.view.slice r').set := by
    rw [View.set_slice, View.set_slice]; exact (Finset.disjoint_map _).mpr hd
  have hc' : (M.view.slice r).set ∪ (M.view.slice r').set = Finset.univ := by
    rw [View.set_slice, View.set_slice, ← Finset.map_union, hc]; exact hM.set_eq_univ
  ihave H := (show (M.view.loc (c : Thread nD τ) ↦{fullShare} f : sProp 𝕄) ⊢ iprop((M.view.loc (c : Thread nD τ) ↦[(M.view.slice r).set]{fullShare} f) ∗ (M.view.loc (c : Thread nD τ) ↦[(M.view.slice r').set]{fullShare} f)) from by
    rw [← hc']; exact (pointsTo_union hd').1) $$ H
  icases H with ⟨H, H'⟩
  isplitl [H]
  · iexists f; iexact H
  · iexists f; iexact H'
/-- Two slots that make up a buffer are the whole of it, at some contents. -/
theorem slots_join {sp : Space} {s : Shape} {e : EltTy} (M : Memref sig .tc sp s e) (hM : M.IsWhole) (r r' : Rect s)
    (hc : r.set ∪ r'.set = Finset.univ) (hd : Disjoint r.set r'.set) :
    (iprop(SlotAny (c : Thread nD τ) M r ∗ SlotAny (c : Thread nD τ) M r') : sProp 𝕄) ⊢ iprop(∃ f : Buf (Elt F) (M.view.loc (c : Thread nD τ)), (M.view.loc (c : Thread nD τ) ↦{fullShare} f)) := by
  unfold SlotAny
  iintro ⟨⟨%f, H⟩, ⟨%g, H'⟩⟩
  have hd' : Disjoint (M.view.slice r).set (M.view.slice r').set := by
    rw [View.set_slice, View.set_slice]; exact (Finset.disjoint_map _).mpr hd
  have hc' : (M.view.slice r).set ∪ (M.view.slice r').set = Finset.univ := by
    rw [View.set_slice, View.set_slice, ← Finset.map_union, hc]; exact hM.set_eq_univ
  iexists _
  ihave H := (pointsTo_join (f := f) (g := g) hd') $$ [H H']
  · isplitl [H] <;> iassumption
  rw [hc']
  iexact H

section Ends
variable {n : ℕ} {T : ℕ → Fin 32}
variable (W4 : Buf (Elt F) (arg4.view.loc (c : Thread nD τ))) (W5 : Buf (Elt F) (arg5.view.loc (c : Thread nD τ))) (W6 : Buf (Elt F) (arg6.view.loc (c : Thread nD τ)))

/-- The buffers, semaphores and arrays the kernel's own copies use, each whole. -/
def Loose : sProp 𝕄 :=
  iprop((∃ V, WordsAt (c : Thread nD τ) arg12 fullShare V)
    ∗ (∃ f : Buf (Elt F) (arg8.view.loc (c : Thread nD τ)), (arg8.view.loc (c : Thread nD τ) ↦{fullShare} f))
    ∗ (∃ f : Buf (Elt F) (arg9.view.loc (c : Thread nD τ)), (arg9.view.loc (c : Thread nD τ) ↦{fullShare} f))
    ∗ (∃ f : Buf (Elt F) (arg10.view.loc (c : Thread nD τ)), (arg10.view.loc (c : Thread nD τ) ↦{fullShare} f))
    ∗ (semVal ((c : Thread nD τ), .dma (cell arg11 0 0)) 0 ∗ semVal ((c : Thread nD τ), .dma (cell arg11 0 1)) 0 ∗ semVal ((c : Thread nD τ), .dma (cell arg11 0 2)) 0
      ∗ semVal ((c : Thread nD τ), .dma (cell arg11 1 0)) 0 ∗ semVal ((c : Thread nD τ), .dma (cell arg11 1 1)) 0 ∗ semVal ((c : Thread nD τ), .dma (cell arg11 1 2)) 0)
    ∗ (arg4.view.loc (c : Thread nD τ) ↦{fullShare} W4) ∗ (arg5.view.loc (c : Thread nD τ) ↦{fullShare} W5) ∗ (arg6.view.loc (c : Thread nD τ) ↦{fullShare} W6))

theorem half_split {ℓ : Loc nD τ sig} (f : Buf (Elt F) ℓ) : (ℓ ↦{fullShare} f : sProp 𝕄) ⊢ iprop((ℓ ↦{half 0} f) ∗ (ℓ ↦{half 1} f)) :=
  (pointsTo_share (PosShare.mem_left_op_right fullShare)).1
theorem half_join {ℓ : Loc nD τ sig} (f : Buf (Elt F) ℓ) : (iprop((ℓ ↦{half 0} f) ∗ (ℓ ↦{half 1} f)) : sProp 𝕄) ⊢ (ℓ ↦{fullShare} f) :=
  (pointsTo_share (PosShare.mem_left_op_right fullShare)).2

include harg8 harg9 harg10 in
/-- What is whole at the start is the kept state before the first point. -/
theorem Loose.init : Loose c arg4 arg5 arg6 arg8 arg9 arg10 arg11 arg12 W4 W5 W6 ⊢ Init c arg4 arg5 arg6 arg8 arg9 arg10 arg11 arg12 W4 W5 W6 := by
  unfold Loose Init Free Idle
  iintro ⟨⟨%V, HV⟩, H8, H9, H10, ⟨S00, S01, S02, S10, S11, S12⟩, H4, H5, H6⟩
  ihave H8 := (slots_split c arg8 harg8 (rS 0) (rS 1) rS_cover rS_disjoint) $$ H8
  ihave H9 := (slots_split c arg9 harg9 (rS 0) (rS 1) rS_cover rS_disjoint) $$ H9
  ihave H10 := (slots_split c arg10 harg10 (rT 0) (rT 1) rT_cover rT_disjoint) $$ H10
  ihave H4 := (half_split W4) $$ H4
  ihave H5 := (half_split W5) $$ H5
  ihave H6 := (half_split W6) $$ H6
  icases H8 with ⟨H80, H81⟩
  icases H9 with ⟨H90, H91⟩
  icases H10 with ⟨H100, H101⟩
  icases H4 with ⟨H40, H41⟩
  icases H5 with ⟨H50, H51⟩
  icases H6 with ⟨H60, H61⟩
  obtain ⟨a, b, rfl⟩ := words_seen V
  isplitl [HV]
  · iexists a, b; unfold Seen; iexact HV
  isplitl [H40 H50 H60 H80 H90 H100 S00 S01 S02]
  · isplitl [H40 H80 S00]
    · isplitl [H40]; · iexact H40
      isplitl [H80]; · iexact H80
      iexact S00
    isplitl [H50 H90 S01]
    · isplitl [H50]; · iexact H50
      isplitl [H90]; · iexact H90
      iexact S01
    isplitl [H60]; · iexact H60
    isplitl [H100]; · iexact H100
    iexact S02
  · isplitl [H41 H81 S10]
    · isplitl [H41]; · iexact H41
      isplitl [H81]; · iexact H81
      iexact S10
    isplitl [H51 H91 S11]
    · isplitl [H51]; · iexact H51
      isplitl [H91]; · iexact H91
      iexact S11
    isplitl [H61]; · iexact H61
    isplitl [H101]; · iexact H101
    iexact S12

include harg8 harg9 harg10 in
/-- With both slots free everything is whole again. -/
theorem Loose.of_free (a b : Elt F .i32) : iprop(Seen (F := F) c arg12 a b ∗ Free c arg4 arg5 arg6 arg8 arg9 arg10 arg11 W4 W5 W6 0 ∗ Free c arg4 arg5 arg6 arg8 arg9 arg10 arg11 W4 W5 W6 1) ⊢ Loose c arg4 arg5 arg6 arg8 arg9 arg10 arg11 arg12 W4 W5 W6 := by
  unfold Loose Free Idle
  iintro ⟨HV, ⟨⟨H40, H80, S00⟩, ⟨H50, H90, S01⟩, ⟨H60, H100, S02⟩⟩, ⟨⟨H41, H81, S10⟩, ⟨H51, H91, S11⟩, ⟨H61, H101, S12⟩⟩⟩
  ihave H8 := (slots_join c arg8 harg8 (rS 0) (rS 1) rS_cover rS_disjoint) $$ [H80 H81]
  · isplitl [H80] <;> iassumption
  ihave H9 := (slots_join c arg9 harg9 (rS 0) (rS 1) rS_cover rS_disjoint) $$ [H90 H91]
  · isplitl [H90] <;> iassumption
  ihave H10 := (slots_join c arg10 harg10 (rT 0) (rT 1) rT_cover rT_disjoint) $$ [H100 H101]
  · isplitl [H100] <;> iassumption
  ihave H4 := (half_join W4) $$ [H40 H41]
  · isplitl [H40] <;> iassumption
  ihave H5 := (half_join W5) $$ [H50 H51]
  · isplitl [H50] <;> iassumption
  ihave H6 := (half_join W6) $$ [H60 H61]
  · isplitl [H60] <;> iassumption
  isplitl [HV]
  · iexists (seenV a b); unfold Seen; iexact HV
  isplitl [H8]; · iexact H8
  isplitl [H9]; · iexact H9
  isplitl [H10]; · iexact H10
  isplitl [S00 S01 S02 S10 S11 S12]
  · isplitl [S00]; · iexact S00
    isplitl [S01]; · iexact S01
    isplitl [S02]; · iexact S02
    isplitl [S10]; · iexact S10
    isplitl [S11]; · iexact S11
    iexact S12
  isplitl [H4]; · iexact H4
  isplitl [H5]; · iexact H5
  iexact H6

theorem sl_cases (s : ℕ) : (sl s = 0 ∧ sl (s + 1) = 1) ∨ (sl s = 1 ∧ sl (s + 1) = 0) := by
  unfold sl
  rcases Nat.mod_two_eq_zero_or_one s with h | h
  · left
    constructor
    · apply Fin.ext; show s % 2 = 0; omega
    · apply Fin.ext; show (s + 1) % 2 = 1; omega
  · right
    constructor
    · apply Fin.ext; show s % 2 = 1; omega
    · apply Fin.ext; show (s + 1) % 2 = 0; omega

include harg8 harg9 harg10 in
/-- After the last tile nothing is in flight, and everything is whole again. -/
theorem After.loose (hn : 0 < n) : After c arg4 arg5 arg6 arg8 arg9 arg10 arg11 arg12 W4 W5 W6 T n (n - 1) ⊢ Loose c arg4 arg5 arg6 arg8 arg9 arg10 arg11 arg12 W4 W5 W6 := by
  unfold After At
  iintro ⟨%s, %a, %h, HV, HH, HA⟩
  obtain ⟨-, h1, h2, -, -⟩ := h
  have ha : a = n := by omega
  subst ha
  ihave HA := (show Ahead c arg4 arg5 arg6 arg8 arg9 arg10 arg11 W4 W5 W6 T a a (sl (s + 1)) ⊢ Free c arg4 arg5 arg6 arg8 arg9 arg10 arg11 W4 W5 W6 (sl (s + 1)) from by
    unfold Ahead; rw [if_neg (Nat.lt_irrefl _)]) $$ HA
  ihave HH := (Hold.free c arg4 arg5 arg6 arg8 arg9 arg10 arg11 W4 W5 W6 (sl s) (T (a - 1))) $$ HH
  iapply (Loose.of_free c arg4 arg5 arg6 arg8 harg8 arg9 harg9 arg10 harg10 arg11 arg12 W4 W5 W6 (wd (s + 1)) (wd (sl s).val))
  isplitl [HV]; · iexact HV
  rcases sl_cases s with ⟨e, e'⟩ | ⟨e, e'⟩
  · ihave HH := (Entails.of_eq (congrArg (Free c arg4 arg5 arg6 arg8 arg9 arg10 arg11 W4 W5 W6) e)) $$ HH
    ihave HA := (Entails.of_eq (congrArg (Free c arg4 arg5 arg6 arg8 arg9 arg10 arg11 W4 W5 W6) e')) $$ HA
    isplitl [HH]; · iexact HH
    iexact HA
  · ihave HH := (Entails.of_eq (congrArg (Free c arg4 arg5 arg6 arg8 arg9 arg10 arg11 W4 W5 W6) e)) $$ HH
    ihave HA := (Entails.of_eq (congrArg (Free c arg4 arg5 arg6 arg8 arg9 arg10 arg11 W4 W5 W6) e')) $$ HA
    isplitl [HA]; · iexact HA
    iexact HH
end Ends

end Cert.KernelIdeal.Body

end
-- ==== Proof.Rows.lean ====
/-
  The rows kernel's body: it unpacks the array of words into the rows they hold.
-/
module

public import proofs.«01_k».proof.Proof.Slots

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies

variable {F : FTy → Type} [FloatOps F]

local notation "𝕄" => MT nD τ sig Unit (Elt F) ℕ (Pipeline.UD sig nD τ) ℕ

/-- The words of remainder `s` modulo eight lie in the array of words. -/
theorem raw_inb (s : Fin 8) : ∀ a, S26624x2x128.size a = 0 ∨ (![s.val, 0, 0] : Fin 3 → Nat) a + (![8, 1, 1] : Fin 3 → Nat) a * (S26624x2x128.size a - 1) < S212992x2x128.size a := by
  revert s; decide

/-- The words of remainder `s` modulo eight, a word row for each row. -/
def rawRows (B : S212992x2x128.Idx → Elt F .bf16) (s : Fin 8) : Vec F S26624x2x128 .bf16 :=
  fun x => B ((⟨![s.val, 0, 0], S26624x2x128.size, ![8, 1, 1], raw_inb s⟩ : LoadRect S212992x2x128).idx x)

/-- The low (`p = 0`) or high halves of words, widened. -/
def halfPay : ℕ → Vec F S26624x2x128 .bf16 → FVec F S26624x128 .f32
  | 0, v => k1_pay1 v
  | _, v => k1_pay2 v

/-- The place in a group of 128 columns of a place in the row array. -/
def colIx (y : S26624x2048.Idx) : S26624x128.Idx := fun a => match a with
  | ⟨0, _⟩ => ⟨(y 0).val, (y 0).isLt⟩
  | ⟨1, _⟩ => ⟨(y 1).val % 128, Nat.mod_lt _ (by decide)⟩

/-- The row array: columns `128 k + l` of row `r` come from lane `l` of the word of row `r` of remainder `k % 8`, its half `k / 8`. -/
def rowsOut (B : S212992x2x128.Idx → Elt F .bf16) : S26624x2048.Idx → Elt F .f32 := fun y =>
  halfPay ((y 1).val / 128 / 8) (rawRows B ⟨(y 1).val / 128 % 8, Nat.mod_lt _ (by decide)⟩) (colIx y)

/-- The group `k` of 128 columns stores what the row array holds there. -/
theorem col_at (B : S212992x2x128.Idx → Elt F .bf16) (k : ℕ) (hk : k < 16) (h) (x : (Rect.unit (s := S26624x2048) ![0, 128 * k] S26624x128.size h).shape.Idx) :
    halfPay (k / 8) (rawRows B ⟨k % 8, Nat.mod_lt _ (by decide)⟩) x = rowsOut B ((Rect.unit (s := S26624x2048) ![0, 128 * k] S26624x128.size h).emb x) := by
  have e1 : ((Rect.unit (s := S26624x2048) ![0, 128 * k] S26624x128.size h).emb x 1).val = 128 * k + 1 * (x 1).val := rfl
  have h1 : (x 1).val < 128 := (x 1).isLt
  have hd : ((Rect.unit (s := S26624x2048) ![0, 128 * k] S26624x128.size h).emb x 1).val / 128 = k := by rw [e1]; omega
  have hc : colIx ((Rect.unit (s := S26624x2048) ![0, 128 * k] S26624x128.size h).emb x) = x := by
    funext a
    apply Fin.ext
    match a with
    | ⟨0, _⟩ => show 0 + 1 * (x 0).val = (x 0).val; omega
    | ⟨1, _⟩ => show (128 * k + 1 * (x 1).val) % 128 = (x 1).val; omega
  unfold rowsOut
  rw [hc]
  congr 2
  · rw [hd]
  · congr 1; rw [hd]

/-- The columns of the groups stored so far. -/
def colsIn (S : List ℕ) : S26624x2048.Idx → Prop := fun y => (y 1).val / 128 ∈ S

/-- Storing group `k` adds it to the groups stored. -/
theorem cols_cover (S : List ℕ) (k : ℕ) (hk : k < 16) (h) (y : S26624x2048.Idx) (hy : colsIn (k :: S) y) :
    colsIn S y ∨ ∃ x, (Rect.unit (s := S26624x2048) ![0, 128 * k] S26624x128.size h).emb x = y := by
  unfold colsIn at *
  rcases List.mem_cons.1 hy with e | e
  · right
    refine ⟨colIx y, ?_⟩
    funext a
    apply Fin.ext
    match a with
    | ⟨0, _⟩ => show 0 + 1 * (y 0).val = (y 0).val; omega
    | ⟨1, _⟩ => show 128 * k + 1 * ((y 1).val % 128) = (y 1).val; omega
  · exact Or.inl e

variable (𝒱 : Variants) (c : Dev nD) (bd : Option 𝒱.V)
variable (arg0 : Memref sig .tc .vmem S212992x2x128 .bf16) (harg0 : arg0.IsWhole) (arg1 : Memref sig .tc .vmem S26624x2048 .f32) (harg1 : arg1.IsWhole)

set_option maxHeartbeats 4000000 in
/-- The first groups of columns. -/
theorem rows_part1 (q : PosShare TreeShare) (B : S212992x2x128.Idx → Elt F .bf16) :
    (iprop(WordsAt (c : Thread nD τ) arg0 q B ∗ PartAt (c : Thread nD τ) arg1 (colsIn []) (rowsOut B)) : sProp 𝕄)
      ⊢ wp frame (wpE (defs₀ (F := F)) 𝒱 (c : Thread nD τ) bd) Set.univ (k1_part1 (F := F) arg0 harg0 arg1 harg1)
          (fun x => iprop(⌜x = k1_pay2 (rawRows B 2)⌝ ∗ WordsAt (c : Thread nD τ) arg0 q B ∗ PartAt (c : Thread nD τ) arg1 (colsIn [2, 9, 1, 8, 0]) (rowsOut B))) := by
  simp only [k1_part1_eq_skeleton]
  unfold k1_part1_skel
  iintro ⟨HB, HY⟩
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [0]) (fun x => col_at B 0 (by decide) _ x) (fun y hy => cols_cover _ 0 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [8, 0]) (fun x => col_at B 8 (by decide) _ x) (fun y hy => cols_cover _ 8 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [1, 8, 0]) (fun x => col_at B 1 (by decide) _ x) (fun y hy => cols_cover _ 1 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [9, 1, 8, 0]) (fun x => col_at B 9 (by decide) _ x) (fun y hy => cols_cover _ 9 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [2, 9, 1, 8, 0]) (fun x => col_at B 2 (by decide) _ x) (fun y hy => cols_cover _ 2 (by decide) _ y hy)) $$ HY
  iintro HY
  rw [wp_pure]
  imodintro
  isplitr
  · ipureintro; rfl
  isplitl [HB]; · iexact HB
  iexact HY

set_option maxHeartbeats 4000000 in
/-- The groups of columns after those. -/
theorem rows_part2 (q : PosShare TreeShare) (B : S212992x2x128.Idx → Elt F .bf16) :
    (iprop(WordsAt (c : Thread nD τ) arg0 q B ∗ PartAt (c : Thread nD τ) arg1 (colsIn [2, 9, 1, 8, 0]) (rowsOut B)) : sProp 𝕄)
      ⊢ wp frame (wpE (defs₀ (F := F)) 𝒱 (c : Thread nD τ) bd) Set.univ (k1_part2 (F := F) arg0 harg0 arg1 harg1 (k1_pay2 (rawRows B 2)))
          (fun x => iprop(⌜x = ⟨k1_pay1 (rawRows B 5), k1_pay2 (rawRows B 5)⟩⌝ ∗ WordsAt (c : Thread nD τ) arg0 q B ∗ PartAt (c : Thread nD τ) arg1 (colsIn [12, 4, 11, 3, 10, 2, 9, 1, 8, 0]) (rowsOut B))) := by
  simp only [k1_part2_eq_skeleton]
  unfold k1_part2_skel
  iintro ⟨HB, HY⟩
  iapply (wp_partLoad (defs := defs₀ (F := F)) 𝒱 (c : Thread nD τ) bd) $$ HY
  iintro %_ HY
  iapply (wp_partStore (defs := defs₀ (F := F)) 𝒱 (c : Thread nD τ) bd (D' := colsIn [10, 2, 9, 1, 8, 0]) (fun x => col_at B 10 (by decide) _ x) (fun y hy => cols_cover _ 10 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [3, 10, 2, 9, 1, 8, 0]) (fun x => col_at B 3 (by decide) _ x) (fun y hy => cols_cover _ 3 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [11, 3, 10, 2, 9, 1, 8, 0]) (fun x => col_at B 11 (by decide) _ x) (fun y hy => cols_cover _ 11 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [4, 11, 3, 10, 2, 9, 1, 8, 0]) (fun x => col_at B 4 (by decide) _ x) (fun y hy => cols_cover _ 4 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [12, 4, 11, 3, 10, 2, 9, 1, 8, 0]) (fun x => col_at B 12 (by decide) _ x) (fun y hy => cols_cover _ 12 (by decide) _ y hy)) $$ HY
  iintro HY
  iapply (wp_loadAt (defs := defs₀ (F := F)) 𝒱 (c : Thread nD τ) bd) $$ HB
  iintro HB
  rw [wp_pure]
  imodintro
  isplitr
  · ipureintro; rfl
  isplitl [HB]; · iexact HB
  iexact HY

set_option maxHeartbeats 4000000 in
/-- The rows kernel's body: the row array is what the words hold. -/
theorem rows_body (q : PosShare TreeShare) (B : S212992x2x128.Idx → Elt F .bf16) :
    (iprop(WordsAt (c : Thread nD τ) arg0 q B ∗ (∃ Y, WordsAt (c : Thread nD τ) arg1 fullShare Y)) : sProp 𝕄)
      ⊢ wp frame (wpE (defs₀ (F := F)) 𝒱 (c : Thread nD τ) bd) Set.univ (cc1_rows (F := F) arg0 harg0 arg1 harg1)
          (fun _ => iprop(WordsAt (c : Thread nD τ) arg0 q B ∗ WordsAt (c : Thread nD τ) arg1 fullShare (rowsOut B))) := by
  simp only [cc1_rows_eq_skeleton]
  unfold cc1_rows_skel
  iintro ⟨HB, ⟨%Y, HY⟩⟩
  ihave HY := (show (WordsAt (c : Thread nD τ) arg1 fullShare Y : sProp 𝕄) ⊢ PartAt (c : Thread nD τ) arg1 (colsIn []) (rowsOut B) from by
    unfold PartAt
    iintro H
    iexists Y
    isplitr
    · ipureintro; intro y hy; unfold colsIn at hy; exact absurd hy List.not_mem_nil
    · iexact H) $$ HY
  rw [wp_bind]
  iapply (wp_wand_r frame (wpE (defs₀ (F := F)) 𝒱 (c : Thread nD τ) bd))
  isplitl [HB HY]
  · iapply (rows_part1 𝒱 c bd arg0 harg0 arg1 harg1 q B)
    isplitl [HB]; · iexact HB
    iexact HY
  iintro %x ⟨%hx, HB, HY⟩
  subst hx
  rw [wp_bind]
  iapply (wp_wand_r frame (wpE (defs₀ (F := F)) 𝒱 (c : Thread nD τ) bd))
  isplitl [HB HY]
  · iapply (rows_part2 𝒱 c bd arg0 harg0 arg1 harg1 q B)
    isplitl [HB]; · iexact HB
    iexact HY
  iintro %x ⟨%hx, HB, HY⟩
  subst hx
  dsimp only
  iapply (wp_partLoad (defs := defs₀ (F := F)) 𝒱 (c : Thread nD τ) bd) $$ HY
  iintro %_ HY
  iapply (wp_partStore (defs := defs₀ (F := F)) 𝒱 (c : Thread nD τ) bd (D' := colsIn [5, 12, 4, 11, 3, 10, 2, 9, 1, 8, 0]) (fun x => col_at B 5 (by decide) _ x) (fun y hy => cols_cover _ 5 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [13, 5, 12, 4, 11, 3, 10, 2, 9, 1, 8, 0]) (fun x => col_at B 13 (by decide) _ x) (fun y hy => cols_cover _ 13 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [6, 13, 5, 12, 4, 11, 3, 10, 2, 9, 1, 8, 0]) (fun x => col_at B 6 (by decide) _ x) (fun y hy => cols_cover _ 6 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [14, 6, 13, 5, 12, 4, 11, 3, 10, 2, 9, 1, 8, 0]) (fun x => col_at B 14 (by decide) _ x) (fun y hy => cols_cover _ 14 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [7, 14, 6, 13, 5, 12, 4, 11, 3, 10, 2, 9, 1, 8, 0]) (fun x => col_at B 7 (by decide) _ x) (fun y hy => cols_cover _ 7 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [15, 7, 14, 6, 13, 5, 12, 4, 11, 3, 10, 2, 9, 1, 8, 0]) (fun x => col_at B 15 (by decide) _ x) (fun y hy => cols_cover _ 15 (by decide) _ y hy)) $$ HY
  iintro HY
  rw [wp_pure]
  imodintro
  isplitl [HB]; · iexact HB
  unfold PartAt
  icases HY with ⟨%Z, %hZ, HY⟩
  ihave HY := (Entails.of_eq (congrArg (WordsAt (c : Thread nD τ) arg1 fullShare) (funext fun y => hZ y (by
    unfold colsIn
    have h1 : (y 1).val < 2048 := (y 1).isLt
    have h2 : (y 1).val / 128 < 16 := by omega
    exact (by decide : ∀ j : Fin 16, j.val ∈ [15, 7, 14, 6, 13, 5, 12, 4, 11, 3, 10, 2, 9, 1, 8, 0]) ⟨_, h2⟩)))) $$ HY
  iexact HY

end Cert.KernelIdeal.Body
end
-- ==== Proof.Data.lean ====
/-
  What the windows, tables, buffers and semaphores of the two kernels' regions hold at each grid point.
-/
module

public import proofs.«01_k».proof.Proof.Rows
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionArraysDT
public import Idealize.ShloMosaic.Lib.Pipeline.FrameBody

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

/-- What the tables hold: `n` tiles count, tile `i` of them is expert `T i`'s. -/
structure Tiles (W : Dev nD → Valuation τ sig (Elt F)) (n : ℕ) (T : ℕ → Fin 32) : Prop where
  pos : 0 < n
  le : n ≤ 104
  nused : ∀ c, W c (Proc.devRef .tc main_v30) = fun _ => (wd n : Elt F .i32)
  te : ∀ c (x : S104.Idx), (x 0).val < n → W c (Proc.devRef .tc main_v29) x = wd (T (x 0).val).val

/-- The tables' contents. -/
def tables (W : Dev nD → Valuation τ sig (Elt F)) : pre0.Contents (Elt F) := fun k => W 0 (Proc.devRef .tc (pre0.ref k))

theorem dev_eq (c : Dev nD) : c = 0 := Subsingleton.elim _ _

/-- A grid point's coordinate is its number. -/
theorem coord_eq : ∀ t : Fin grid0.N, ((grid0.coords t) 0).val = t.val := by decide +kernel

/-- The block of words a tile reads, at every tile and count. -/
theorem transform_all : ∀ i : Fin 104, ∀ n : Fin 105, 0 < n.val →
    (![(Scalar.minsi (BitVec.ofNat 32 i.val) (Scalar.subi (wd n.val) 1#32)).toNat, (0#32).toNat] : Fin 2 → ℕ) = ![min i.val (n.val - 1), 0] := by decide

section Data
variable {W : Dev nD → Valuation τ sig (Elt F)} {n : ℕ} {T : ℕ → Fin 32} (hW : Tiles W n T)
include hW

/-- The block of words a tile reads: its own, or the last that counts. -/
theorem transform_eq (i : grid0.Coords) : cc0_transform_0 inb_S1_S1_0 numel1_S1 (tables W) i = ![min (i 0).val (n - 1), 0] := by
  have hi := i_lt i
  have hp := hW.pos
  have hl := hW.le
  have e : (tables W).at 1 (Rect.unit (s := S1) ![0] S1.size inb_S1_S1_0) numel1_S1 = wd n := congrFun (hW.nused 0) _
  unfold cc0_transform_0
  dsimp only
  rw [e]
  exact transform_all ⟨(i 0).val, hi⟩ ⟨n, by omega⟩ hp

/-- Every block of words the tables name is inside the array. -/
theorem tables_ok : ok0 (F := F) (tables W) := by
  intro i
  have hi := i_lt i
  refine ⟨?_, Or.inl rfl⟩
  rw [transform_eq hW]
  intro a
  match a with
  | ⟨0, _⟩ => show (min (i 0).val (n - 1) + 1) * 2048 ≤ 212992; omega
  | ⟨1, _⟩ => show (0 + 1) * 128 ≤ 128; omega

/-- The tables as contents the region admits. -/
def adm0 : (pcfg0 (F := F)).Adm := ⟨tables W, tables_ok hW⟩
end Data

/-- The block of words of a point. -/
def words0 (a0 : (pcfg0 (F := F)).Adm) (W : Dev nD → Valuation τ sig (Elt F)) (c : Dev nD) (t : Fin grid0.N) : S2048x128.Idx → Elt F .i32 :=
  (((cfg0 a0).win 0).blk t).view.read (Elt F) (W c (Proc.devRef .tc main_arg1))

/-- The block of results of a point. -/
def block0 (a0 : (pcfg0 (F := F)).Adm) (W : Dev nD → Valuation τ sig (Elt F)) (n : ℕ) (T : ℕ → Fin 32) (c : Dev nD) (t : Fin grid0.N) : S2048x2x128.Idx → Elt F .bf16 :=
  if t.val < n then result (c := c) (Memref.whole main_arg2) (Memref.whole main_arg3) (Memref.whole main_arg4)
        (W c (Proc.devRef .tc main_arg2)) (W c (Proc.devRef .tc main_arg3)) (W c (Proc.devRef .tc main_arg4)) (words0 a0 W c t) (T t.val) else k0_pay7

/-- What is held between points besides the windows: before point `j`. -/
def Phi0 (a0 : (pcfg0 (F := F)).Adm) (W : Dev nD → Valuation τ sig (Elt F)) (n : ℕ) (T : ℕ → Fin 32) (c : Dev nD) (j : ℕ) : sProp 𝕄 :=
  iprop(State c (Memref.whole main_arg2) (Memref.whole main_arg3) (Memref.whole main_arg4) (Memref.whole cc0_scratch0) (Memref.whole cc0_scratch1) (Memref.whole cc0_scratch2) cc0_scratch3 (Memref.whole cc0_scratch4)
        (W c (Proc.devRef .tc main_arg2)) (W c (Proc.devRef .tc main_arg3)) (W c (Proc.devRef .tc main_arg4)) T n j
      ∗ Pipeline.prefHeld pre0 c (fun _ => fullShare) a0.1
      ∗ (∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ r, prngReg c r))

/-- The windows' proof data of the experts' region at admissible tables. -/
def dat0 (a0 : (pcfg0 (F := F)).Adm) (W : Dev nD → Valuation τ sig (Elt F)) (n : ℕ) (T : ℕ → Fin 32) (c : Dev nD) :
    Dat τ (Elt F) Unit ℕ (Pipeline.UD sig nD τ) ℕ (cfg0 a0) c where
  A w := W c (Proc.devRef .tc (Pipeline.arrRef spec0 w))
  after w t := match w with
    | ⟨0, _⟩ => words0 a0 W c t
    | ⟨1, _⟩ => block0 a0 W n T c t
  Φ t := Phi0 a0 W n T c t.val
  q _ := fullShare
  owed _ := 0

/-- The windows' proof data of the rows' region. -/
def dat1 (W : Dev nD → Valuation τ sig (Elt F)) (c : Dev nD) :
    Dat τ (Elt F) Unit ℕ (Pipeline.UD sig nD τ) ℕ cfg1 c where
  A w := W c (Proc.devRef .tc (Pipeline.arrRef spec1 w))
  after w t := match w with
    | ⟨0, _⟩ => W c (Proc.devRef .tc main_v31)
    | ⟨1, _⟩ => rowsOut (W c (Proc.devRef .tc main_v31))
  Φ _ := iprop(Pipeline.scopedRest spec1 c ∗ (∃ r, prngReg c r))
  q _ := fullShare
  owed _ := 0

end Cert.KernelIdeal.Body
end
-- ==== Proof.Region0.lean ====
/-
  The experts kernel's region: its body at each grid point, its entry and its exit.
-/
module

public import proofs.«01_k».proof.Proof.Data

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

/-! ## The experts' region -/

section Body0
variable (W : Dev nD → Valuation τ sig (Elt F)) (n : ℕ) (T : ℕ → Fin 32) (hW : Tiles W n T)

/-- The two tables, each whole. -/
theorem tables_held (c : Dev nD) (q : PosShare TreeShare) (pf : pre0.Contents (Elt F)) :
    (Pipeline.prefHeld pre0 c (fun _ => q) pf : sProp 𝕄)
      = iprop((((c : Thread nD τ).loc main_v29) ↦{q} (pf 0 : Buf (Elt F) ((c : Thread nD τ).loc main_v29))) ∗ (((c : Thread nD τ).loc main_v30) ↦{q} (pf 1 : Buf (Elt F) ((c : Thread nD τ).loc main_v30)))) := by
  unfold Pipeline.prefHeld
  exact bigSep_univ_eq_bigSepL [(0 : Fin 2), (1 : Fin 2)] (by decide) (by decide) _

/-- The words of the first table, by number. -/
def teV (c : Dev nD) : ℕ → BitVec 32 := fun m => if h : m < 104 then W c (Proc.devRef .tc main_v29) (fun a => ⟨m, by obtain rfl : a = (0 : Fin 1) := Subsingleton.elim _ _; exact h⟩ : S104.Idx) else 0

theorem teV_val (c : Dev nD) (x : S104.Idx) : teV W c (x 0).val = W c (Proc.devRef .tc main_v29) x := by
  have hx : (x 0).val < 104 := (x 0).isLt
  unfold teV
  rw [dif_pos hx]
  congr 1
  funext a
  obtain rfl : a = (0 : Fin 1) := Subsingleton.elim _ _
  rfl

/-- The staging buffers' numbers at a point. -/
def slots0 (a0 : (pcfg0 (F := F)).Adm) (t : Fin grid0.N) : ∀ w, Fin (spec0 w).nbuf := (cfg0 a0).slots t

/-- The kernel body at a point. -/
def bodyAt0 (a0 : (pcfg0 (F := F)).Adm) (t : Fin grid0.N) : Prog (TpuEff nD τ sig (Elt F) Λ₀ .tc) PUnit :=
  cc0_experts (grid0.coords t) (Memref.whole main_v29) (Memref.isWhole_whole _) (Memref.whole main_v30) (Memref.isWhole_whole _) (spec0_0.stage (slots0 a0 t 0)) (hstage0_0 ((slots0 a0 t 0).cast nbuf0_0)) (Memref.whole main_arg2) (Memref.isWhole_whole _) (Memref.whole main_arg3) (Memref.isWhole_whole _) (Memref.whole main_arg4) (Memref.isWhole_whole _) (spec0_1.stage (slots0 a0 t 1)) (hstage0_1 ((slots0 a0 t 1).cast nbuf0_1)) (Memref.whole cc0_scratch0) (Memref.isWhole_whole _) (Memref.whole cc0_scratch1) (Memref.isWhole_whole _) (Memref.whole cc0_scratch2) (Memref.isWhole_whole _) cc0_scratch3 (Memref.whole cc0_scratch4) (Memref.isWhole_whole _)

theorem defs₀_row0 (a0 : (pcfg0 (F := F)).Adm) (t : Fin (cfg0 a0).N) :
    defs₀ (F := F) .tc (cfg0 a0).body ((cfg0 a0).bodyArgs t ((cfg0 a0).slots t)) = bodyAt0 a0 t := by
  unfold defs₀; rw [Defs.onTc_tc]; rfl

include hW in
/-- No point leaves the window of results unwritten. -/
theorem idle_false (i : grid0.Coords) : idle0 (tables W) 1 i = false := by
  have hi := i_lt i
  have e : (tables W).atD 1 ![0] = wd n := by
    unfold Pipeline.Prefetch.Contents.atD
    rw [dif_pos (by decide)]
    exact congrFun (hW.nused 0) _
  show (!(k0_cond2 i ((tables W).atD 1 ![0]) == 1#1) && !(k0_cond5 i ((tables W).atD 1 ![0]) == 1#1)) = false
  rw [e]
  by_cases h : (i 0).val < n
  · rw [(cond2_iff hW.le).2 h]; rfl
  · rw [(cond5_iff hW.le).2 (by omega)]; simp

/-- The staging buffers of a point. -/
abbrev stW (a0 : (pcfg0 (F := F)).Adm) (t : Fin grid0.N) := spec0_0.stage (slots0 a0 t 0)
abbrev stR (a0 : (pcfg0 (F := F)).Adm) (t : Fin grid0.N) := spec0_1.stage (slots0 a0 t 1)

/-- The body's run between what is held before a point and after it. -/
theorem point0 (c : Dev nD) (t : Fin grid0.N) (X : S2048x128.Idx → Elt F .i32) (hX : X = words0 (adm0 hW) W c t) :
    (iprop(Phi0 (adm0 hW) W n T c t.val ∗ Owes (F := F) c ∗ WordsAt (c : Thread nD τ) (stW (adm0 hW) t) fullShare X ∗ (∃ Y, WordsAt (c : Thread nD τ) (stR (adm0 hW) t) fullShare Y)) : sProp 𝕄)
      ⊢ wp frame (wpE (defs₀ (F := F)) Variants.none (c : Thread nD τ) none) Set.univ (bodyAt0 (adm0 hW) t)
          (fun _ => iprop(Phi0 (adm0 hW) W n T c (t.val + 1) ∗ Owes (F := F) c ∗ WordsAt (c : Thread nD τ) (stW (adm0 hW) t) fullShare X
            ∗ WordsAt (c : Thread nD τ) (stR (adm0 hW) t) fullShare (block0 (adm0 hW) W n T c t))) := by
  have ht : t.val < 104 := lt_of_lt_of_eq t.isLt N_0
  have hc : ((grid0.coords t) 0).val = t.val := coord_eq t
  have hV : ∀ m < n, teV W c m = wd (T m).val := by
    intro m hm
    have hl := hW.le
    have h := hW.te c (fun a => ⟨m, by obtain rfl : a = (0 : Fin 1) := Subsingleton.elim _ _; show m < 104; omega⟩ : S104.Idx) hm
    unfold teV
    rw [dif_pos (by omega)]
    exact h
  have eT : ((adm0 hW).1 0 : Buf (Elt F) ((c : Thread nD τ).loc main_v29)) = (fun x : S104.Idx => teV W c (x 0).val) := by
    funext x
    exact (congrFun (congrArg (fun d => W d (Proc.devRef .tc main_v29)) (dev_eq c).symm) x).trans (teV_val W c x).symm
  have eN : ((adm0 hW).1 1 : Buf (Elt F) ((c : Thread nD τ).loc main_v30)) = (fun _ : S1.Idx => (wd n : Elt F .i32)) := hW.nused 0
  unfold Phi0 bodyAt0
  rw [tables_held, eT, eN]
  subst hX
  iintro ⟨⟨HS, ⟨HT, HN⟩, HA, HB, HP⟩, HO, HX, HY⟩
  ihave HT := (show ((((c : Thread nD τ).loc main_v29) ↦{fullShare} (fun x : S104.Idx => teV W c (x 0).val)) : sProp 𝕄) ⊢ Table c (Memref.whole main_v29) fullShare (teV W c) from
    Entails.of_eq (owns_whole (c : Thread nD τ) main_v29 fullShare (show main_v29.ty.Contents (Elt F) from fun x : S104.Idx => teV W c (x 0).val)).symm) $$ HT
  ihave HN := (show ((((c : Thread nD τ).loc main_v30) ↦{fullShare} (fun _ : S1.Idx => (wd n : Elt F .i32))) : sProp 𝕄) ⊢ WordsAt (c : Thread nD τ) (Memref.whole main_v30) fullShare (fun _ => (wd n : Elt F .i32)) from
    Entails.of_eq (owns_whole (c : Thread nD τ) main_v30 fullShare (show main_v30.ty.Contents (Elt F) from fun _ : S1.Idx => (wd n : Elt F .i32))).symm) $$ HN
  ihave HS := (Entails.of_eq (congrArg (State c (Memref.whole main_arg2) (Memref.whole main_arg3) (Memref.whole main_arg4) (Memref.whole cc0_scratch0) (Memref.whole cc0_scratch1) (Memref.whole cc0_scratch2) cc0_scratch3 (Memref.whole cc0_scratch4)
        (W c (Proc.devRef .tc main_arg2)) (W c (Proc.devRef .tc main_arg3)) (W c (Proc.devRef .tc main_arg4)) T n) hc.symm)) $$ HS
  ihave Hw := (show iprop(Table (F := F) c (Memref.whole main_v29) fullShare (teV W c) ∗ WordsAt (c : Thread nD τ) (Memref.whole main_v30) fullShare (fun _ => (wd n : Elt F .i32))
        ∗ State c (Memref.whole main_arg2) (Memref.whole main_arg3) (Memref.whole main_arg4) (Memref.whole cc0_scratch0) (Memref.whole cc0_scratch1) (Memref.whole cc0_scratch2) cc0_scratch3 (Memref.whole cc0_scratch4)
            (W c (Proc.devRef .tc main_arg2)) (W c (Proc.devRef .tc main_arg3)) (W c (Proc.devRef .tc main_arg4)) T n ((grid0.coords t) 0).val
        ∗ WordsAt (c : Thread nD τ) (stW (adm0 hW) t) fullShare (words0 (adm0 hW) W c t) ∗ (∃ Y, WordsAt (c : Thread nD τ) (stR (adm0 hW) t) fullShare Y) ∗ Owes (F := F) c)
      ⊢ wp frame (wpE (defs₀ (F := F)) Variants.none (c : Thread nD τ) none) Set.univ (bodyAt0 (adm0 hW) t)
          (fun _ => iprop(Table (F := F) c (Memref.whole main_v29) fullShare (teV W c) ∗ WordsAt (c : Thread nD τ) (Memref.whole main_v30) fullShare (fun _ => (wd n : Elt F .i32))
            ∗ State c (Memref.whole main_arg2) (Memref.whole main_arg3) (Memref.whole main_arg4) (Memref.whole cc0_scratch0) (Memref.whole cc0_scratch1) (Memref.whole cc0_scratch2) cc0_scratch3 (Memref.whole cc0_scratch4)
                (W c (Proc.devRef .tc main_arg2)) (W c (Proc.devRef .tc main_arg3)) (W c (Proc.devRef .tc main_arg4)) T n (((grid0.coords t) 0).val + 1)
            ∗ WordsAt (c : Thread nD τ) (stW (adm0 hW) t) fullShare (words0 (adm0 hW) W c t)
            ∗ WordsAt (c : Thread nD τ) (stR (adm0 hW) t) fullShare (block0 (adm0 hW) W n T c t) ∗ Owes (F := F) c)) from by
    unfold block0
    by_cases hn : t.val < n
    · rw [if_pos hn, ← hc]
      exact (body_tile Variants.none c none (grid0.coords t) (Memref.whole main_v29) (Memref.isWhole_whole _) (Memref.whole main_v30) (Memref.isWhole_whole _) (stW (adm0 hW) t) (hstage0_0 ((slots0 (adm0 hW) t 0).cast nbuf0_0)) (Memref.whole main_arg2) (Memref.isWhole_whole _) (Memref.whole main_arg3) (Memref.isWhole_whole _) (Memref.whole main_arg4) (Memref.isWhole_whole _) (stR (adm0 hW) t) (hstage0_1 ((slots0 (adm0 hW) t 1).cast nbuf0_1)) (Memref.whole cc0_scratch0) (Memref.isWhole_whole _) (Memref.whole cc0_scratch1) (Memref.isWhole_whole _) (Memref.whole cc0_scratch2) (Memref.isWhole_whole _) cc0_scratch3 (Memref.whole cc0_scratch4) (Memref.isWhole_whole _)
        (W c (Proc.devRef .tc main_arg2)) (W c (Proc.devRef .tc main_arg3)) (W c (Proc.devRef .tc main_arg4)) fullShare fullShare fullShare (words0 (adm0 hW) W c t) hW.le (by omega) hV)
    · rw [if_neg hn]
      exact (body_rest Variants.none c none (grid0.coords t) (Memref.whole main_v29) (Memref.isWhole_whole _) (Memref.whole main_v30) (Memref.isWhole_whole _) (stW (adm0 hW) t) (hstage0_0 ((slots0 (adm0 hW) t 0).cast nbuf0_0)) (Memref.whole main_arg2) (Memref.isWhole_whole _) (Memref.whole main_arg3) (Memref.isWhole_whole _) (Memref.whole main_arg4) (Memref.isWhole_whole _) (stR (adm0 hW) t) (hstage0_1 ((slots0 (adm0 hW) t 1).cast nbuf0_1)) (Memref.whole cc0_scratch0) (Memref.isWhole_whole _) (Memref.whole cc0_scratch1) (Memref.isWhole_whole _) (Memref.whole cc0_scratch2) (Memref.isWhole_whole _) cc0_scratch3 (Memref.whole cc0_scratch4) (Memref.isWhole_whole _)
        (W c (Proc.devRef .tc main_arg2)) (W c (Proc.devRef .tc main_arg3)) (W c (Proc.devRef .tc main_arg4)) fullShare fullShare fullShare (words0 (adm0 hW) W c t) hW.le hW.pos (by omega))) $$ [HT HN HS HX HY HO]
  · isplitl [HT]; · iexact HT
    isplitl [HN]; · iexact HN
    isplitl [HS]; · iexact HS
    isplitl [HX]; · iexact HX
    isplitl [HY]; · iexact HY
    iexact HO
  iapply (wp_wand_r frame (wpE (defs₀ (F := F)) Variants.none (c : Thread nD τ) none))
  isplitl [Hw]; · iexact Hw
  iintro %x ⟨HT, HN, HS, HX, HY, HO⟩
  ihave HT := (show Table (F := F) c (Memref.whole main_v29) fullShare (teV W c) ⊢ ((((c : Thread nD τ).loc main_v29) ↦{fullShare} (fun x : S104.Idx => teV W c (x 0).val)) : sProp 𝕄) from
    Entails.of_eq (owns_whole (c : Thread nD τ) main_v29 fullShare (show main_v29.ty.Contents (Elt F) from fun x : S104.Idx => teV W c (x 0).val))) $$ HT
  ihave HN := (show WordsAt (c : Thread nD τ) (Memref.whole main_v30) fullShare (fun _ => (wd n : Elt F .i32)) ⊢ ((((c : Thread nD τ).loc main_v30) ↦{fullShare} (fun _ : S1.Idx => (wd n : Elt F .i32))) : sProp 𝕄) from
    Entails.of_eq (owns_whole (c : Thread nD τ) main_v30 fullShare (show main_v30.ty.Contents (Elt F) from fun _ : S1.Idx => (wd n : Elt F .i32)))) $$ HN
  ihave HS := (Entails.of_eq (congrArg (fun j => State c (Memref.whole main_arg2) (Memref.whole main_arg3) (Memref.whole main_arg4) (Memref.whole cc0_scratch0) (Memref.whole cc0_scratch1) (Memref.whole cc0_scratch2) cc0_scratch3 (Memref.whole cc0_scratch4)
        (W c (Proc.devRef .tc main_arg2)) (W c (Proc.devRef .tc main_arg3)) (W c (Proc.devRef .tc main_arg4)) T n (j + 1)) hc)) $$ HS
  isplitl [HS HT HN HA HB HP]
  · isplitl [HS]; · iexact HS
    isplitl [HT HN]
    · isplitl [HT]; · iexact HT
      iexact HN
    isplitl [HA]; · iexact HA
    isplitl [HB]; · iexact HB
    iexact HP
  isplitl [HO]; · iexact HO
  isplitl [HX]; · iexact HX
  iexact HY

set_option maxHeartbeats 4000000 in
/-- At every grid point the body leaves what the windows' data says. -/
theorem body0 (c : Dev nD) : BodyObligation (dat0 (adm0 hW) W n T c) (defs₀ (F := F)) Variants.none () Set.univ := fun t => by
  have hidle : (cfg0 (adm0 hW)).idle 1 ((cfg0 (adm0 hW)).grid.coords t) = false := idle_false W n T hW _
  have hd : ∀ d, (dat0 (adm0 hW) W n T c).before 0 t d = words0 (adm0 hW) W c t :=
    fun d => ((dat0 (adm0 hW) W n T c).before_in_eq_fetched 0 rfl (fun _ => rfl) (fun _ _ _ => rfl) (fun t => rfl) t d).trans rfl
  have hpost : (dat0 (adm0 hW) W n T c).leavesExact 1 t = owns (c : Thread nD τ) (stR (adm0 hW) t) fullShare (block0 (adm0 hW) W n T c t) := by
    unfold Dat.leavesExact; rw [hidle]; rfl
  rw [bigSep_W0, bigSep_W0, defs₀_row0]
  refine triple_restated (point0 W n T hW c t _ rfl) rfl ?_ fun _ => ?_
  · show iprop(Phi0 (adm0 hW) W n T c t.val ∗ (dat0 (adm0 hW) W n T c).owesAt () t.castSucc
      ∗ (∃ d, owns (c : Thread nD τ) (stW (adm0 hW) t) fullShare ((dat0 (adm0 hW) W n T c).before 0 t d))
      ∗ (∃ d, owns (c : Thread nD τ) (stR (adm0 hW) t) fullShare ((dat0 (adm0 hW) W n T c).before 1 t d))) ⊢ _
    unfold Dat.owesAt Pipeline.owesWithin Owes
    rw [show (dat0 (adm0 hW) W n T c).owed t.castSucc = 0 from rfl]
    iintro ⟨HΦ, ⟨%V, -, HO⟩, ⟨%d, HX⟩, ⟨%e, HY⟩⟩
    isplitl [HΦ]; · iexact HΦ
    isplitl [HO]; · iexists V; iexact HO
    isplitl [HX]
    · ihave HX := (Entails.of_eq (congrArg (owns (c : Thread nD τ) (stW (adm0 hW) t) fullShare) (hd d))) $$ HX
      iexact HX
    iexists _; iexact HY
  · show _ ⊢ iprop(Phi0 (adm0 hW) W n T c (t.val + 1) ∗ (dat0 (adm0 hW) W n T c).owesAt () t.succ
      ∗ owns (c : Thread nD τ) (stW (adm0 hW) t) fullShare (words0 (adm0 hW) W c t) ∗ (dat0 (adm0 hW) W n T c).leavesExact 1 t)
    rw [hpost]
    unfold Dat.owesAt Pipeline.owesWithin Owes
    rw [show (dat0 (adm0 hW) W n T c).owed t.succ = 0 from rfl]
    iintro ⟨HΦ, ⟨%V, HO⟩, HX, HY⟩
    isplitl [HΦ]; · iexact HΦ
    isplitl [HO]
    · iexists V; isplitr; · ipureintro; exact fun _ _ => Or.inl trivial
      iexact HO
    isplitl [HX]; · iexact HX
    iexact HY
end Body0

end Cert.KernelIdeal.Body
end
-- ==== Proof.Ends.lean ====
/-
  The experts kernel's region: what it is entered with, and what it leaves.
-/
module

public import proofs.«01_k».proof.Proof.Region0

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

/-- The kernel's own six semaphores. -/
def osem0 : Fin 6 → SemLoc sig := ![.dma 4, .dma 5, .dma 6, .dma 7, .dma 8, .dma 9]

theorem osem0_ok : Pipeline.OwnSemFacts spec0 osem0 := by decide

/-- The arrays the kernel copies from itself. -/
def own0 : Finset (Ref sig .tc) := {main_arg2, main_arg3, main_arg4}

theorem own0_eq (W : Valuation τ sig (Elt F)) (c : Dev nD) :
    (bigSep own0 (fun b => ((c.tc : Thread nD τ).loc b) ↦{fullShare} W (Proc.devRef .tc b)) : sProp 𝕄)
      = iprop((((c : Thread nD τ).loc main_arg2) ↦{fullShare} (W (Proc.devRef .tc main_arg2))) ∗ (((c : Thread nD τ).loc main_arg3) ↦{fullShare} (W (Proc.devRef .tc main_arg3)))
          ∗ (((c : Thread nD τ).loc main_arg4) ↦{fullShare} (W (Proc.devRef .tc main_arg4)))) := by
  rw [show own0 = ([main_arg2, main_arg3, main_arg4] : List (Ref sig .tc)).toFinset from by decide, bigSep_eq_bigSepL _ (by decide)]
  rfl

theorem sems0_eq (c : Dev nD) :
    (Pipeline.ownSems0 (Ix := Unit) (Name := ℕ) (U := Pipeline.UD sig nD τ) (Lvl := ℕ) (Val := Elt F) (τ := τ) osem0 c : sProp 𝕄)
      = iprop((semVal ((c : Thread nD τ), .dma (cell cc0_scratch3 0 0)) 0 ∗ semVal ((c : Thread nD τ), .dma (cell cc0_scratch3 0 1)) 0 ∗ semVal ((c : Thread nD τ), .dma (cell cc0_scratch3 0 2)) 0
      ∗ semVal ((c : Thread nD τ), .dma (cell cc0_scratch3 1 0)) 0 ∗ semVal ((c : Thread nD τ), .dma (cell cc0_scratch3 1 1)) 0 ∗ semVal ((c : Thread nD τ), .dma (cell cc0_scratch3 1 2)) 0)) := by
  rw [Pipeline.ownSems0_eq_of_list c osem0 [0, 1, 2, 3, 4, 5] (by decide) (by decide)]
  rfl

section Ends0
variable (W : Dev nD → Valuation τ sig (Elt F)) (n : ℕ) (T : ℕ → Fin 32) (hW : Tiles W n T)

/-- What the region is entered with is what is held before the first point. -/
theorem enter0 (c : Dev nD) :
    iprop(iprop(Pipeline.scopedRest spec0 c ∗ (∃ r, prngReg c r) ∗ Pipeline.ownSems0 osem0 c
        ∗ (bigSep own0 fun b => ((c.tc : Thread nD τ).loc b) ↦{fullShare} W c (Proc.devRef .tc b)) ∗ Transfers.MayWaits (c : Thread nD τ) () 0) ∗ Pipeline.prefHeld pre0 c (fun _ => fullShare) (adm0 hW).1)
      ⊢ (Phi0 (adm0 hW) W n T c 0 : sProp 𝕄) := by
  rw [scopedRest0_eq, own0_eq, sems0_eq]
  unfold Phi0
  rw [State.zero]
  iintro ⟨⟨⟨H8, H9, H10, HA, HB, H12⟩, HP, HS, ⟨H4, H5, H6⟩, -⟩, HT⟩
  isplitl [H8 H9 H10 H12 HS H4 H5 H6]
  · iapply (Loose.init c _ _ _ _ (Memref.isWhole_whole _) _ (Memref.isWhole_whole _) _ (Memref.isWhole_whole _) _ _ _ _ _)
    unfold Loose
    isplitl [H12]
    · icases H12 with ⟨%f, H12⟩
      iexists f
      ihave H12 := (Entails.of_eq (owns_whole (c : Thread nD τ) cc0_scratch4 fullShare f).symm) $$ H12
      iexact H12
    isplitl [H8]; · iexact H8
    isplitl [H9]; · iexact H9
    isplitl [H10]; · iexact H10
    isplitl [HS]; · iexact HS
    isplitl [H4]; · iexact H4
    isplitl [H5]; · iexact H5
    iexact H6
  isplitl [HT]; · iexact HT
  isplitl [HA]; · iexact HA
  isplitl [HB]; · iexact HB
  iexact HP

include hW in
/-- What is held after the last point is what the region leaves. -/
theorem leave0 (c : Dev nD) :
    (Phi0 (adm0 hW) W n T c 104 : sProp 𝕄) ⊢ iprop(iprop(Pipeline.scopedRest spec0 c ∗ (∃ r, prngReg c r) ∗ Pipeline.ownSems0 osem0 c
        ∗ (bigSep own0 fun b => ((c.tc : Thread nD τ).loc b) ↦{fullShare} W c (Proc.devRef .tc b))) ∗ Pipeline.prefHeld pre0 c (fun _ => fullShare) (adm0 hW).1) := by
  rw [scopedRest0_eq, own0_eq, sems0_eq]
  unfold Phi0
  have e : State c (Memref.whole main_arg2) (Memref.whole main_arg3) (Memref.whole main_arg4) (Memref.whole cc0_scratch0) (Memref.whole cc0_scratch1) (Memref.whole cc0_scratch2) cc0_scratch3 (Memref.whole cc0_scratch4)
        (W c (Proc.devRef .tc main_arg2)) (W c (Proc.devRef .tc main_arg3)) (W c (Proc.devRef .tc main_arg4)) T n 104
      = After c (Memref.whole main_arg2) (Memref.whole main_arg3) (Memref.whole main_arg4) (Memref.whole cc0_scratch0) (Memref.whole cc0_scratch1) (Memref.whole cc0_scratch2) cc0_scratch3 (Memref.whole cc0_scratch4)
        (W c (Proc.devRef .tc main_arg2)) (W c (Proc.devRef .tc main_arg3)) (W c (Proc.devRef .tc main_arg4)) T n (n - 1) :=
    (State.pos c _ _ _ _ _ _ _ _ _ _ _ (by decide)).trans (by rw [Nat.min_eq_right hW.le])
  rw [e]
  iintro ⟨HL, HT, HA, HB, HP⟩
  ihave HL := (After.loose c _ _ _ _ (Memref.isWhole_whole _) _ (Memref.isWhole_whole _) _ (Memref.isWhole_whole _) _ _ _ _ _ hW.pos) $$ HL
  unfold Loose
  icases HL with ⟨⟨%f, H12⟩, H8, H9, H10, HS, H4, H5, H6⟩
  ihave H12 := (Entails.of_eq (owns_whole (c : Thread nD τ) cc0_scratch4 fullShare f)) $$ H12
  isplitr [HT]
  · isplitl [H8 H9 H10 H12 HA HB]
    · isplitl [H8]; · iexact H8
      isplitl [H9]; · iexact H9
      isplitl [H10]; · iexact H10
      isplitl [HA]; · iexact HA
      isplitl [HB]; · iexact HB
      iexists f; iexact H12
    isplitl [HP]; · iexact HP
    isplitl [HS]; · iexact HS
    isplitl [H4]; · iexact H4
    isplitl [H5]; · iexact H5
    iexact H6
  iexact HT

end Ends0

end Cert.KernelIdeal.Body
end
-- ==== Proof.Region1.lean ====
/-
  The rows kernel's region: its body at its one grid point.
-/
module

public import proofs.«01_k».proof.Proof.Region0

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

/-- The staging buffer of the words. -/
abbrev st1A (t : Fin (cfg1).N) : Memref sig .tc .vmem S212992x2x128 .bf16 := ((cfg1).win 0).stage ((cfg1).slots t 0)
/-- The staging buffer of the rows. -/
abbrev st1B (t : Fin (cfg1).N) : Memref sig .tc .vmem S26624x2048 .f32 := ((cfg1).win 1).stage ((cfg1).slots t 1)

theorem defs₀_row1 (t : Fin (cfg1).N) :
    defs₀ (F := F) .tc (cfg1).body ((cfg1).bodyArgs t ((cfg1).slots t)) = bodyAt1 t := by
  unfold defs₀; rw [Defs.onTc_tc]

/-- The window of words is its whole array. -/
theorem read1 (W : Dev nD → Valuation τ sig (Elt F)) (c : Dev nD) (t : Fin (cfg1).N) :
    (((cfg1).win 0).blk t).view.read (Elt F) (W c (Proc.devRef .tc main_v31)) = (W c (Proc.devRef .tc main_v31) : S212992x2x128.Idx → Elt F .bf16) := by
  obtain rfl := fin_N1 t
  funext x
  show W c (Proc.devRef .tc main_v31) _ = W c (Proc.devRef .tc main_v31) x
  congr 1
  funext a
  apply Fin.ext
  match a with
  | ⟨0, _⟩ => show 0 * 212992 + 1 * (x 0).val = (x 0).val; omega
  | ⟨1, _⟩ => show 0 * 2 + 1 * (x 1).val = (x 1).val; omega
  | ⟨2, _⟩ => show 0 * 128 + 1 * (x 2).val = (x 2).val; omega

/-- The body at its point, beside whatever else is held. -/
theorem point1 (W : Dev nD → Valuation τ sig (Elt F)) (c : Dev nD) (t : Fin cfg1.N) (K : sProp 𝕄) :
    iprop(K ∗ Owes (F := F) c ∗ WordsAt (c : Thread nD τ) (st1A t) fullShare (W c (Proc.devRef .tc main_v31)) ∗ (∃ Y, WordsAt (c : Thread nD τ) (st1B t) fullShare Y))
      ⊢ wp frame (wpE (defs₀ (F := F)) Variants.none (c : Thread nD τ) none) Set.univ (bodyAt1 t)
          (fun _ => iprop(K ∗ Owes (F := F) c ∗ WordsAt (c : Thread nD τ) (st1A t) fullShare (W c (Proc.devRef .tc main_v31)) ∗ WordsAt (c : Thread nD τ) (st1B t) fullShare (rowsOut (W c (Proc.devRef .tc main_v31))))) := by
  iintro ⟨HK, HO, HX, HY⟩
  ihave Hw := (rows_body (F := F) Variants.none c none (st1A t) (hstage1_0 0) (st1B t) (hstage1_1 0) fullShare (W c (Proc.devRef .tc main_v31))) $$ [HX HY]
  · isplitl [HX]; · iexact HX
    iexact HY
  iapply (wp_wand_r frame (wpE (defs₀ (F := F)) Variants.none (c : Thread nD τ) none))
  isplitl [Hw]; · iexact Hw
  iintro %x ⟨HX, HY⟩
  isplitl [HK]; · iexact HK
  isplitl [HO]; · iexact HO
  isplitl [HX]; · iexact HX
  iexact HY

set_option maxHeartbeats 4000000 in
/-- At its one point the body leaves what the windows' data says. -/
theorem body1 (W : Dev nD → Valuation τ sig (Elt F)) (c : Dev nD) : BodyObligation (dat1 W c) (defs₀ (F := F)) Variants.none () Set.univ := fun t => by
  have hd : ∀ d, (dat1 W c).before 0 t d = (W c (Proc.devRef .tc main_v31) : S212992x2x128.Idx → Elt F .bf16) :=
    fun d => ((dat1 W c).before_in_eq_fetched 0 rfl (fun _ => rfl) (fun _ _ _ => rfl) (fun t => (read1 W c t).symm) t d).trans (read1 W c t)
  rw [bigSep_W1, bigSep_W1, defs₀_row1]
  refine triple_restated (point1 W c t iprop(Pipeline.scopedRest spec1 c ∗ (∃ r, prngReg c r))) rfl ?_ fun _ => ?_
  · show iprop(iprop(Pipeline.scopedRest spec1 c ∗ (∃ r, prngReg c r)) ∗ (dat1 W c).owesAt () t.castSucc
      ∗ (∃ d, owns (c : Thread nD τ) (st1A t) fullShare ((dat1 W c).before 0 t d))
      ∗ (∃ d, owns (c : Thread nD τ) (st1B t) fullShare ((dat1 W c).before 1 t d))) ⊢ _
    unfold Dat.owesAt Pipeline.owesWithin Owes
    rw [show (dat1 W c).owed t.castSucc = 0 from rfl]
    iintro ⟨HΦ, ⟨%V, -, HO⟩, ⟨%d, HX⟩, ⟨%e, HY⟩⟩
    isplitl [HΦ]; · iexact HΦ
    isplitl [HO]; · iexists V; iexact HO
    isplitl [HX]
    · ihave HX := (Entails.of_eq (congrArg (owns (c : Thread nD τ) (st1A t) fullShare) (hd d))) $$ HX
      iexact HX
    iexists _; iexact HY
  · show _ ⊢ iprop(iprop(Pipeline.scopedRest spec1 c ∗ (∃ r, prngReg c r)) ∗ (dat1 W c).owesAt () t.succ
      ∗ owns (c : Thread nD τ) (st1A t) fullShare (W c (Proc.devRef .tc main_v31)) ∗ owns (c : Thread nD τ) (st1B t) fullShare (rowsOut (W c (Proc.devRef .tc main_v31))))
    unfold Dat.owesAt Pipeline.owesWithin Owes
    rw [show (dat1 W c).owed t.succ = 0 from rfl]
    iintro ⟨HΦ, ⟨%V, HO⟩, HX, HY⟩
    isplitl [HΦ]; · iexact HΦ
    isplitl [HO]
    · iexists V; isplitr; · ipureintro; exact fun _ _ => Or.inl trivial
      iexact HO
    isplitl [HX]; · iexact HX
    iexact HY

end Cert.KernelIdeal.Body
end
-- ==== Proof.Segs.lean ====
/-
  The two regions as records: what each is entered with and what it leaves.
-/
module

public import proofs.«01_k».proof.Proof.Ends
public import proofs.«01_k».proof.Proof.Region1

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

section Records
variable (W : Dev nD → Valuation τ sig (Elt F)) (n : ℕ) (T : ℕ → Fin 32) (hW : Tiles W n T)

/-- The results the experts' region leaves. -/
def wordsOut (c : Dev nD) : Buf (Elt F) ((c : Thread nD τ).loc main_v31) := (dat0 (adm0 hW) W n T c).arrAt 1 (cfg0 (adm0 hW)).N
/-- The buffers between the two regions. -/
def Wmid (c : Dev nD) : Valuation τ sig (Elt F) := Function.update (W c) (Proc.devRef .tc main_v31) (wordsOut W n T hW c)
/-- The rows the second region leaves. -/
def rowsEnd (c : Dev nD) : Buf (Elt F) ((c : Thread nD τ).loc main_v32) := (dat1 (Wmid W n T hW) c).arrAt 1 cfg1.N
/-- The buffers after both regions. -/
def Wend (c : Dev nD) : Valuation τ sig (Elt F) := Function.update (Wmid W n T hW c) (Proc.devRef .tc main_v32) (rowsEnd W n T hW c)

/-- The tables each region runs at. -/
def adms : (p : Fin 2) → (pcfgs (F := F) p).Adm
  | ⟨0, _⟩ => adm0 hW
  | ⟨1, _⟩ => ⟨Pipeline.Prefetch.Contents.none, trivial⟩
  | ⟨_ + 2, h⟩ => absurd h (by omega)

/-- The windows' proof data of each region. -/
def datas : (p : Fin 2) → (c : Dev nD) → Dat τ (Elt F) Unit ℕ (Pipeline.UD sig nD τ) ℕ (Pipeline.pin (pcfgs (F := F)) (adms W n T hW) p) c
  | ⟨0, _⟩ => fun c => dat0 (adm0 hW) W n T c
  | ⟨1, _⟩ => fun c => dat1 (Wmid W n T hW) c
  | ⟨_ + 2, h⟩ => absurd h (by omega)

/-- Where waits are allowed: on the cores' threads. -/
def Lev : GSem nD τ sig → Finset Unit := fun g => if g.1.2 = .tc then {()} else ∅
/-- All at one level. -/
def lev : GSem nD τ sig → Unit → ℕ := fun _ _ => 0

theorem cut (a : (p : Fin 2) → (pcfgs (F := F) p).Adm) (p : Fin 2) : Pipeline.LevelCut (pcfgs (F := F)) a () Lev lev p (fun _ => 0) (fun _ => 0) where
  hι c w s := by unfold Lev; rw [if_pos rfl]; exact Finset.mem_singleton_self _
  hιb c w s := le_refl _
  hD c g i h := absurd h (lt_irrefl _)

/-- What is held besides the arrays, the tables and the arrays the kernel copies from. -/
def rest0 : Finset (DevRef τ sig) := (Pipeline.ucRefs τ sig \ Pipeline.arrRefs spec0) \ Pipeline.tblRefs pre0

theorem own0_rest : Pipeline.hbmRefs (τ := τ) own0 ⊆ rest0 := fun b hb => by
  have hu := Pipeline.hbmRefs_sub_ucRefs (τ := τ) own0 (by decide) hb
  obtain ⟨r, hr, rfl⟩ := Finset.mem_map.mp hb
  unfold rest0
  refine Finset.mem_sdiff.mpr ⟨Finset.mem_sdiff.mpr ⟨hu, fun h => ?_⟩, fun h => ?_⟩
  · obtain ⟨r', hr', e⟩ := Finset.mem_map.mp h
    have e' : r' = r := Proc.devRef_injective _ e
    subst e'
    obtain ⟨w, -, e⟩ := Finset.mem_image.mp hr'
    exact (by decide : ∀ w : Fin 2, Pipeline.arrRef spec0 w ∉ own0) w (e ▸ hr)
  · obtain ⟨r', hr', e⟩ := Finset.mem_map.mp h
    have e' : r' = r := Proc.devRef_injective _ e
    subst e'
    obtain ⟨w, -, e⟩ := Finset.mem_image.mp hr'
    exact (by decide : ∀ w : Fin 2, pre0.ref w ∉ own0) w (e ▸ hr)

theorem Wmid_of (c : Dev nD) (r : Ref sig .tc) (h : r ≠ main_v31) : Wmid W n T hW c (Proc.devRef .tc r) = W c (Proc.devRef .tc r) := by
  unfold Wmid; exact Function.update_of_ne (StableHlo.devRef_ne_of_ne h) _ _
theorem Wmid_self (c : Dev nD) : Wmid W n T hW c (Proc.devRef .tc main_v31) = wordsOut W n T hW c := by
  unfold Wmid; exact Function.update_self _ _ _
theorem Wend_of (c : Dev nD) (r : Ref sig .tc) (h : r ≠ main_v32) : Wend W n T hW c (Proc.devRef .tc r) = Wmid W n T hW c (Proc.devRef .tc r) := by
  unfold Wend; exact Function.update_of_ne (StableHlo.devRef_ne_of_ne h) _ _
theorem Wend_self (c : Dev nD) : Wend W n T hW c (Proc.devRef .tc main_v32) = rowsEnd W n T hW c := by
  unfold Wend; exact Function.update_self _ _ _

theorem arr1_in (V : Dev nD → Valuation τ sig (Elt F)) (c : Dev nD) : (dat1 V c).arrAt 0 cfg1.N = V c (Proc.devRef .tc main_v31) :=
  ((dat1 V c).arrAt_in 0 rfl _).trans rfl

attribute [local irreducible] Wmid Wend

/-- The experts' region. -/
def reg0 : RegionSeg (pcfgs (F := F)) (adms W n T hW) (datas W n T hW) () defs₀ Variants.none Lev lev 0 :=
  RegionSeg.ofHeldDHT (pcfgs (F := F)) (adms W n T hW) (datas W n T hW) () defs₀ Variants.none Lev lev 0 (fun _ => 0) () osem0 osem0_ok own0 rest0 own0_rest launch0
    (fun c => (body0 W n T hW c).loose) (fun _ _ => rfl) (fun _ => rfl) (fun c => (dat0 (adm0 hW) W n T c).share_full fun _ => rfl)
    (fun c => (show _ ⊢ (BI.emp : sProp 𝕄) from Affine.affine).trans (Transfers.MayWaits.zero _ _)) W (Wmid W n T hW)
    (fun c => enter0 W n T hW c) (fun c => leave0 W n T hW c) (fun _ => 0) (cut _ _) (fun _ => iprop(emp))
    (fun c w => rfl) (fun c k => by rw [dev_eq c]; rfl)
    (fun c w => match w with
      | ⟨0, _⟩ => ((dat0 (adm0 hW) W n T c).arrAt_in 0 rfl _).trans (Wmid_of W n T hW c main_arg1 (by decide)).symm
      | ⟨1, _⟩ => (Wmid_self W n T hW c).symm)
    (fun c k => match k with
      | ⟨0, _⟩ => by rw [dev_eq c]; exact (Wmid_of W n T hW 0 main_v29 (by decide)).symm
      | ⟨1, _⟩ => by rw [dev_eq c]; exact (Wmid_of W n T hW 0 main_v30 (by decide)).symm)

/-- The rows' region. -/
def reg1 : RegionSeg (pcfgs (F := F)) (adms W n T hW) (datas W n T hW) () defs₀ Variants.none Lev lev 1 :=
  RegionSeg.ofHeld (pcfgs (F := F)) (adms W n T hW) (datas W n T hW) () defs₀ Variants.none Lev lev 1 (fun _ => 0)
    (fun c => iprop(∃ r, prngReg c r)) (fun c => iprop(∃ r, prngReg c r)) launch1 rfl
    (fun c => (body1 (Wmid W n T hW) c).loose) (fun _ _ => rfl) (fun _ => rfl) (fun c => (dat1 (Wmid W n T hW) c).share_full fun _ => rfl)
    (fun c => .rfl) (fun c => .rfl) (fun _ => 0) (cut _ _)
    (fun c => StableHlo.held (c : Thread nD τ) (Pipeline.ucRefs τ sig \ Pipeline.arrRefs spec1) (Wmid W n T hW c))
    (Wmid W n T hW) (Wend W n T hW)
    (fun c w => rfl)
    (fun c w => match w with
      | ⟨0, _⟩ => (arr1_in (Wmid W n T hW) c).trans (Wend_of W n T hW c main_v31 (by decide)).symm
      | ⟨1, _⟩ => (Wend_self W n T hW c).symm)

end Records

end Cert.KernelIdeal.Body
end
-- ==== Proof.Run.lean ====
/-
  The whole program runs: its arguments end unchanged, its result is what the second region leaves.
-/
module

public import proofs.«01_k».proof.Proof.Segs

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Copies
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

section Run
variable (m : (ℓ : Loc nD τ sig) → Buf (Elt F) ℓ) (ρ : Dev nD → PrngReg)

/-- What is held beside the buffers between items: the generator's register, and nothing owed. -/
def Beside (c : Dev nD) : sProp 𝕄 := iprop((∃ r, prngReg c r) ∗ ∃ Wd, owes (c : Thread nD τ) 0 Wd)

section Steps
variable (W : Dev nD → Valuation τ sig (Elt F)) (n : ℕ) (T : ℕ → Fin 32) (hW : Tiles W n T)

/-- All the buffers, split as the first region takes them. -/
theorem split0 (c : Dev nD) (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) (Pipeline.tblRefs pre0) V ∗ StableHlo.held (c : Thread nD τ) rest0 V) := by
  rw [StableHlo.held_sub_split (c : Thread nD τ) (Pipeline.arrRefs_sub_ucRefs (τ := τ) spec0 (by decide)) V]
  congr 1
  exact StableHlo.held_sub_split (c : Thread nD τ) (Pipeline.tblRefs_sub_ucRefs_sdiff (τ := τ) spec0 pre0 (by decide) (by decide)) V

/-- The buffers the first region does not take are as they were. -/
theorem rest0_mid (c : Dev nD) : (StableHlo.held (c : Thread nD τ) rest0 (W c) : sProp 𝕄) = StableHlo.held (c : Thread nD τ) rest0 (Wmid W n T hW c) :=
  StableHlo.held_congr (c : Thread nD τ) fun b hb => by
    unfold Wmid
    refine (Function.update_of_ne ?_ _ _).symm
    rintro rfl
    unfold rest0 at hb
    exact (Finset.mem_sdiff.mp (Finset.mem_sdiff.mp hb).1).2 (Finset.mem_map.mpr ⟨main_v31, Finset.mem_image.mpr ⟨1, Finset.mem_univ _, rfl⟩, rfl⟩)

/-- The buffers the second region does not take are as they were. -/
theorem rest1_end (c : Dev nD) : (StableHlo.held (c : Thread nD τ) (Pipeline.ucRefs τ sig \ Pipeline.arrRefs spec1) (Wmid W n T hW c) : sProp 𝕄)
      = StableHlo.held (c : Thread nD τ) (Pipeline.ucRefs τ sig \ Pipeline.arrRefs spec1) (Wend W n T hW c) :=
  StableHlo.held_congr (c : Thread nD τ) fun b hb => by
    unfold Wend
    refine (Function.update_of_ne ?_ _ _).symm
    rintro rfl
    exact (Finset.mem_sdiff.mp hb).2 (Finset.mem_map.mpr ⟨main_v32, Finset.mem_image.mpr ⟨1, Finset.mem_univ _, rfl⟩, rfl⟩)

theorem pre_reg0 (c : Dev nD) : iprop(StableHlo.held (c : Thread nD τ) (Pipeline.ucRefs τ sig) (W c) ∗ Beside (F := F) c) ⊢ (reg0 W n T hW).pre c := by
  rw [split0]
  show _ ⊢ iprop(StableHlo.held (c : Thread nD τ) (Pipeline.arrRefs spec0) (W c) ∗ StableHlo.held (c : Thread nD τ) (Pipeline.tblRefs pre0) (W c) ∗ (∃ r, prngReg c r)
    ∗ (StableHlo.held (c : Thread nD τ) rest0 (W c) ∗ emp) ∗ ∃ Wd, owes (c : Thread nD τ) 0 Wd)
  unfold Beside
  iintro ⟨⟨HA, HT, HR⟩, HP, HO⟩
  isplitl [HA]; · iexact HA
  isplitl [HT]; · iexact HT
  isplitl [HP]; · iexact HP
  isplitl [HR]
  · isplitl [HR]; · iexact HR
    iempintro
  iexact HO

theorem post_reg0 (c : Dev nD) : (reg0 W n T hW).post c ⊢ iprop(StableHlo.held (c : Thread nD τ) (Pipeline.ucRefs τ sig) (Wmid W n T hW c) ∗ Beside (F := F) c) := by
  rw [split0, ← rest0_mid]
  show iprop(StableHlo.held (c : Thread nD τ) (Pipeline.arrRefs spec0) (Wmid W n T hW c) ∗ StableHlo.held (c : Thread nD τ) (Pipeline.tblRefs pre0) (Wmid W n T hW c) ∗ (∃ r, prngReg c r)
    ∗ (StableHlo.held (c : Thread nD τ) rest0 (W c) ∗ emp) ∗ ∃ Wd, owes (c : Thread nD τ) 0 Wd) ⊢ _
  unfold Beside
  iintro ⟨HA, HT, HP, ⟨HR, -⟩, HO⟩
  isplitl [HA HT HR]
  · isplitl [HA]; · iexact HA
    isplitl [HT]; · iexact HT
    iexact HR
  isplitl [HP]; · iexact HP
  iexact HO

theorem pre_reg1 (c : Dev nD) : iprop(StableHlo.held (c : Thread nD τ) (Pipeline.ucRefs τ sig) (Wmid W n T hW c) ∗ Beside (F := F) c) ⊢ (reg1 W n T hW).pre c := by
  rw [StableHlo.held_sub_split (c : Thread nD τ) (Pipeline.arrRefs_sub_ucRefs (τ := τ) spec1 (by decide)) (Wmid W n T hW c)]
  show _ ⊢ iprop(StableHlo.held (c : Thread nD τ) (Pipeline.arrRefs spec1) (Wmid W n T hW c) ∗ (∃ r, prngReg c r)
    ∗ StableHlo.held (c : Thread nD τ) (Pipeline.ucRefs τ sig \ Pipeline.arrRefs spec1) (Wmid W n T hW c) ∗ ∃ Wd, owes (c : Thread nD τ) 0 Wd)
  unfold Beside
  iintro ⟨⟨HA, HR⟩, HP, HO⟩
  isplitl [HA]; · iexact HA
  isplitl [HP]; · iexact HP
  isplitl [HR]; · iexact HR
  iexact HO

theorem post_reg1 (c : Dev nD) : (reg1 W n T hW).post c ⊢ iprop(StableHlo.held (c : Thread nD τ) (Pipeline.ucRefs τ sig) (Wend W n T hW c) ∗ Beside (F := F) c) := by
  rw [StableHlo.held_sub_split (c : Thread nD τ) (Pipeline.arrRefs_sub_ucRefs (τ := τ) spec1 (by decide)) (Wend W n T hW c), ← rest1_end]
  show iprop(StableHlo.held (c : Thread nD τ) (Pipeline.arrRefs spec1) (Wend W n T hW c) ∗ (∃ r, prngReg c r)
    ∗ StableHlo.held (c : Thread nD τ) (Pipeline.ucRefs τ sig \ Pipeline.arrRefs spec1) (Wmid W n T hW c) ∗ ∃ Wd, owes (c : Thread nD τ) 0 Wd) ⊢ _
  unfold Beside
  iintro ⟨HA, HP, HR, HO⟩
  isplitl [HA HR]
  · isplitl [HA]; · iexact HA
    iexact HR
  isplitl [HP]; · iexact HP
  iexact HO
end Steps

variable (n : ℕ) (T : ℕ → Fin 32) (hW : Tiles (V9 m) n T)

/-- An argument reaches the end as launched. -/
theorem arg_end (outs : Outs (F := F)) (c : Dev nD) (r : Ref sig .tc) (h1 : r ≠ main_v31) (h2 : r ≠ main_v32) (h : V11 m outs c (Proc.devRef .tc r) = m ((c : Thread nD τ).loc r)) :
    Wend (V9 m) n T hW c (Proc.devRef .tc r) = m ((c : Thread nD τ).loc r) := by
  rw [Wend_of _ _ _ _ _ _ h2, Wmid_of _ _ _ _ _ _ h1, ← h, V11_of m outs c r (by simpa using h2), V10_of m outs c r (by simpa using h1)]

/-- What a final state holds: the arguments as launched, the result at what the second region leaves. -/
def Final (c : Dev nD) (s : MemSt nD τ sig (Elt F)) : Prop :=
  s.mem ((c.tc : Thread nD τ).loc main_v32) = rowsEnd (V9 m) n T hW c
    ∧ (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- The buffers held at the end say what the memory holds. -/
theorem read_end (c : Dev nD) (s' : Phys nD τ sig (Elt F)) :
    iprop(StableHlo.held (c : Thread nD τ) (Pipeline.ucRefs τ sig) (Wend (V9 m) n T hW c) ∗ SI s') ⊢ (|={Set.univ}=> iprop(⌜Final m n T hW c s'.mem⌝ ∗ SI s') : sProp 𝕄) := by
  unfold StableHlo.held
  iintro ⟨Hh, HSI⟩
  ihave Hr := (pointsTo_read_all (Pipeline.ucRefs τ sig) (fun b => ((c : Thread nD τ).1, b)) (Wend (V9 m) n T hW c) s') $$ [Hh HSI]
  · isplitl [Hh] <;> iassumption
  icases Hr with ⟨%h, HSI⟩
  imodintro
  isplitr
  · ipureintro
    let outs : Outs (F := F) := fun _ r c => m ((c : Thread nD τ).loc r)
    exact ⟨(h _ (mem_uc main_v32 (by decide))).trans (Wend_self (V9 m) n T hW c),
      (h _ (mem_uc main_arg0 (by decide))).trans (arg_end m n T hW outs c main_arg0 (by decide) (by decide) (V11_main_arg0 m outs c)),
      (h _ (mem_uc main_arg1 (by decide))).trans (arg_end m n T hW outs c main_arg1 (by decide) (by decide) (V11_main_arg1 m outs c)),
      (h _ (mem_uc main_arg2 (by decide))).trans (arg_end m n T hW outs c main_arg2 (by decide) (by decide) (V11_main_arg2 m outs c)),
      (h _ (mem_uc main_arg3 (by decide))).trans (arg_end m n T hW outs c main_arg3 (by decide) (by decide) (V11_main_arg3 m outs c)),
      (h _ (mem_uc main_arg4 (by decide))).trans (arg_end m n T hW outs c main_arg4 (by decide) (by decide) (V11_main_arg4 m outs c))⟩
  · iexact HSI

/-- The tokens of the two pipelines at launch. -/
def tok₀ : Pipeline.UD sig nD τ :=
  (initOf (Pipeline.cells (Pipeline.pin (pcfgs (F := F)) (adms (V9 m) n T hW)) (cellOf_inj (adms (V9 m) n T hW)))
    (Pipeline.launchToks (Pipeline.pin (pcfgs (F := F)) (adms (V9 m) n T hW)) (cellOf_inj (adms (V9 m) n T hW))), 1)

set_option backward.isDefEq.respectTransparency.types false in
/-- Every run terminates with the result at what the second region leaves, the arguments unchanged and every semaphore at zero. -/
theorem run_end : θ_run defs (onTc (τ := τ) (main (F := F))) ⟨m, fun _ => 0, ρ⟩ (fun r => (∀ c : Dev nD, Final m n T hW c r.2) ∧ r.2.sem = fun _ => 0) := by
  refine Pipeline.θ_run_regions_kit_dev_sems (pcfgs (F := F)) (adms (V9 m) n T hW) (datas (V9 m) n T hW) () (cellOf_inj _) (embL : Emb (UR sig nD τ) 𝕄) defs₀ Variants.none Lev lev m ρ main
    (segs m Variants.none Lev lev (fun _ => Beside (F := F)) () (adms (V9 m) n T hW) (datas (V9 m) n T hW) (reg0 (V9 m) n T hW) (reg1 (V9 m) n T hW))
    ?hmain (fun c => by simp only [segs, Seg.pipes_host, Seg.pipes_region, Seg.pipes_nil]; decide) (fun _ => 0) (fun g h => if_neg h) (fun _ => iprop(emp)) (tok₀ m n T hW)
    ?hu
    (T₀ := fun c => iprop(StableHlo.held (c : Thread nD τ) (Pipeline.ucRefs τ sig) (V0 m c) ∗ Beside (F := F) c))
    (Tₙ := fun c => StableHlo.held (c : Thread nD τ) (Pipeline.ucRefs τ sig) (Wend (V9 m) n T hW c))
    (hch := fun c => ⟨.rfl, .rfl, .rfl, .rfl, .rfl, .rfl, .rfl, .rfl, .rfl, pre_reg0 (V9 m) n T hW c, (post_reg0 (V9 m) n T hW c).trans (pre_reg1 (V9 m) n T hW c),
      (post_reg1 (V9 m) n T hW c).trans (sep_mono .rfl (show Beside (F := F) c ⊢ iprop(∃ W, owes (c : Thread nD τ) (0 : CellTallies nD τ sig Unit) W) from by unfold Beside; iintro ⟨-, HO⟩; iexact HO))⟩)
    (hinit := ?hinit) (QY := Final m n T hW) (hfin := read_end m n T hW)
    (hQ := fun _ h hz => ⟨h, funext fun g => hz g (.inr (regions_no_unscoped g.2))⟩)
  case hmain =>
    intro c Q
    rewrite [main_chain c, Seg.run_eq_chain]
    exact .rfl
  case hu =>
    unfold tok₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case hinit =>
    refine Pipeline.initEach Lev lev fun c => ?_
    rw [show unscopedBufs c (fun b => m ((c : Thread nD τ).loc b)) = StableHlo.held (c : Thread nD τ) (Pipeline.ucRefs τ sig) (V0 m c) from Pipeline.unscopedBufs_held c (V0 m c)]
    unfold Beside
    iintro ⟨⟨Hh, -, HO, -, HP, -⟩, -⟩
    imodintro
    isplitl [Hh]; · iexact Hh
    isplitl [HP]; · iexists _; iexact HP
    iexists ∅; iexact HO

end Run

end Cert.KernelIdeal.Body
end
-- ==== Proof.Counts.lean ====
/-
  The integers the host makes of the counts: the ends of the padded groups, the number of tiles in use, the expert of each tile.
-/
module

public import Idealize.ShloMosaic.Lib.Routing.Ops
public import Idealize.ShloMosaic.Lib.StableHlo
public import Idealize.ShloMosaic.PureOps

@[expose] public section

set_option maxRecDepth 100000

noncomputable section

namespace Cert.Proof.Counts

open Idealize.ShloMosaic Idealize.ShloMosaic.Routing Idealize.ShloMosaic.ValueIdx

/-- One word, as a scalar. -/
abbrev word (a : BitVec 32) : IVec shape0 32 := constantI shape0 32 a
/-- A scalar at each of thirty-two places. -/
abbrev all32 (x : IVec shape0 32) : IVec (shape1 32) 32 := broadcastInDim (shape1 32) ![] (by decide) x

/-- The quotient by a word, rounded down, of each of thirty-two words. -/
def floorDiv (x : IVec (shape1 32) 32) (d : IVec shape0 32) : IVec (shape1 32) 32 :=
  select (andi (cmpi .ne (signi x) (all32 (signi d))) (cmpi .ne (Host.remsi x (all32 d)) (all32 (word 0#32))))
    (subi (Host.divsi x (all32 d)) (all32 (word 1#32))) (Host.divsi x (all32 d))
/-- The quotient by a word, rounded down, of one word. -/
def floorDiv₁ (x d : IVec shape0 32) : IVec shape0 32 :=
  select (andi (cmpi .ne (signi x) (signi d)) (cmpi .ne (Host.remsi x d) (word 0#32))) (subi (Host.divsi x d) (word 1#32)) (Host.divsi x d)

/-- How many tiles each group takes. -/
def tilesOf (C : IVec (shape1 32) 32) : IVec (shape1 32) 32 := floorDiv (subi (addi C (all32 (word 256#32))) (all32 (word 1#32))) (word 256#32)
/-- How many rows each group takes. -/
def padded (C : IVec (shape1 32) 32) : IVec (shape1 32) 32 := muli (tilesOf C) (all32 (word 256#32))
/-- The row each group ends at. -/
def ends (C : IVec (shape1 32) 32) : IVec (shape1 32) 32 :=
  Host.reduceWindow IntOp.addi ![32] ![1] ![31] ![0] (padded C) (broadcastInDim shape0 ![] (by decide) (word 0#32)) (by decide) (by decide)
/-- The row the last group ends at. -/
def last (C : IVec (shape1 32) 32) : IVec shape0 32 := shapeCast shape0 (extractStridedSlice (shape1 1) ![31] (ends C) (by decide)) (by decide)
/-- The number of tiles in use. -/
def used (C : IVec (shape1 32) 32) : IVec shape0 32 := floorDiv₁ (last C) (word 256#32)
/-- How many groups end at or before each tile's first row. -/
def hits (C : IVec (shape1 32) 32) : IVec (shape1 104) 32 :=
  Host.reduce IntOp.addi (extui 32 (cmpi .sge
      (broadcastInDim (shape2 104 32) ![0, 1] (by decide) (muli (broadcastInDim (shape2 104 1) ![0] (by decide) (iotaInDim (shape1 104) 32 0)) (broadcastInDim (shape2 104 1) ![] (by decide) (word 256#32))))
      (broadcastInDim (shape2 104 32) ![0, 1] (by decide) (broadcastInDim (shape2 1 32) ![1] (by decide) (ends C)))) (by decide)) (word 0#32) (by decide : (shape2 104 32).ReducesTo [1] (shape1 104)) (by decide)
/-- How many groups end at or before the last used tile's first row. -/
def hitsLast (C : IVec (shape1 32) 32) : IVec shape0 32 :=
  Host.reduce IntOp.addi (extui 32 (cmpi .sge (all32 (muli (subi (used C) (word 1#32)) (word 256#32))) (ends C)) (by decide)) (word 0#32) (by decide : (shape1 32).ReducesTo [0] shape0) (by decide)
/-- Each tile's expert. -/
def expertOf (C : IVec (shape1 32) 32) : IVec (shape1 104) 32 :=
  select (cmpi .slt (iotaInDim (shape1 104) 32 0) (broadcastInDim (shape1 104) ![] (by decide) (used C))) (hits C) (broadcastInDim (shape1 104) ![] (by decide) (hitsLast C))

/-- Each group ends at a whole number of tiles. -/
theorem ends_tiles (C : IVec (shape1 32) 32) : ∃ g : ℕ → ℕ, ∀ j : Fin 32, ends C (ix1 j) = BitVec.ofNat 32 (256 * g j.val) := by
  refine ⟨fun j => ((List.range (j + 1)).map fun i => if h : i < 32 then (tilesOf C (ix1 ⟨i, h⟩)).toNat else 0).sum, fun j => ?_⟩
  unfold ends
  rw [cumsum1 (N := 32) (Nm1 := 31) rfl (padded C) (fun i => 256 * if h : i < 32 then (tilesOf C (ix1 ⟨i, h⟩)).toNat else 0) ?_ _ ?_ _ _ j]
  · congr 1
    exact List.sum_map_mul_left ..
  · intro i
    show tilesOf C (ix1 i) * 256#32 = _
    rw [dif_pos i.isLt]
    apply BitVec.eq_of_toNat_eq
    rw [BitVec.toNat_mul, BitVec.toNat_ofNat, BitVec.toNat_ofNat, Nat.mul_comm]
  · rfl

/-- The last row, read. -/
theorem last_eq (C : IVec (shape1 32) 32) : last C ix0 = ends C (ix1 31) := by
  unfold last
  refine (shapeCast_apply _ _ _ (ix1 0) ?_).trans ?_
  · rfl
  · exact slice1 31 (ends C) (by decide) 0 (by decide)

/-- The last group's end lies between one tile and all the tiles. -/
def Fits (C : IVec (shape1 32) 32) : Prop := andi (cmpi .sge (last C) (word 256#32)) (cmpi .sle (last C) (word 26624#32)) ix0 = 1#1

/-- Then it is a whole number of tiles. -/
theorem Fits.exists {C : IVec (shape1 32) 32} (h : Fits C) : ∃ n : ℕ, 0 < n ∧ n ≤ 104 ∧ ends C (ix1 31) = BitVec.ofNat 32 (256 * n) := by
  obtain ⟨g, hg⟩ := ends_tiles C
  have h31 := hg 31
  set N := g (31 : Fin 32).val with hN
  have hl : last C ix0 = BitVec.ofNat 32 (256 * N) := (last_eq C).trans h31
  have h' : (BitVec.ofBool ((256#32).sle (last C ix0))) &&& (BitVec.ofBool ((last C ix0).sle 26624#32)) = 1#1 := h
  rw [hl] at h'
  have hA : (256#32).sle (BitVec.ofNat 32 (256 * N)) = true ∧ (BitVec.ofNat 32 (256 * N)).sle 26624#32 = true := by
    revert h'
    cases (256#32).sle (BitVec.ofNat 32 (256 * N)) <;> cases (BitVec.ofNat 32 (256 * N)).sle 26624#32 <;> decide
  have h1 := BitVec.sle_iff_toInt_le.mp hA.1
  have h2 := BitVec.sle_iff_toInt_le.mp hA.2
  have e1 : (256#32).toInt = 256 := by decide
  have e2 : (26624#32).toInt = 26624 := by decide
  rw [e1] at h1
  rw [e2] at h2
  have h3 := BitVec.toInt_eq_toNat_cond (BitVec.ofNat 32 (256 * N))
  have h4 := BitVec.toNat_ofNat (256 * N) 32
  have h5 : 2 * (BitVec.ofNat 32 (256 * N)).toNat < 2 ^ 32 := by
    by_contra hc
    rw [if_neg hc] at h3
    have := (BitVec.ofNat 32 (256 * N)).isLt
    omega
  rw [if_pos h5] at h3
  refine ⟨256 * N % 2 ^ 32 / 256, ?_, ?_, ?_⟩
  · omega
  · omega
  · rw [h31]
    apply BitVec.eq_of_toNat_eq
    rw [h4, BitVec.toNat_ofNat]
    omega

theorem div_all : ∀ n : Fin 105, floorDiv₁ (word (BitVec.ofNat 32 (256 * n.val))) (word 256#32) ix0 = BitVec.ofNat 32 n.val := by decide +kernel

theorem floorDiv₁_at (x d : IVec shape0 32) : floorDiv₁ x d ix0 = floorDiv₁ (word (x ix0)) (word (d ix0)) ix0 := rfl

/-- The number of tiles in use, read. -/
theorem used_eq {C : IVec (shape1 32) 32} {n : ℕ} (hn : n ≤ 104) (h : ends C (ix1 31) = BitVec.ofNat 32 (256 * n)) (j : shape0.Idx) : used C j = BitVec.ofNat 32 n := by
  rw [show j = ix0 from funext fun a => a.elim0]
  unfold used
  rw [floorDiv₁_at, last_eq, h]
  exact div_all ⟨n, by omega⟩

/-- How many groups end at or before row `r`. -/
def groups (C : IVec (shape1 32) 32) (r : ℕ) : ℕ := Nat.count (fun e => ∃ h : e < 32, (ends C (ix1 ⟨e, h⟩)).toInt ≤ r) 32

/-- The groups ending at or before a row, under the last end: some are left. -/
theorem groups_lt {C : IVec (shape1 32) 32} {n : ℕ} (hn : n ≤ 104) (h : ends C (ix1 31) = BitVec.ofNat 32 (256 * n)) {r : ℕ} (hr : r < 256 * n) : groups C r < 32 := by
  unfold groups
  rw [Nat.count_succ, if_neg]
  · exact Nat.lt_succ_of_le (Nat.count_le _)
  · rintro ⟨_, hc⟩
    rw [show ends C (ix1 ⟨31, _⟩) = _ from h] at hc
    rw [BitVec.toInt_eq_toNat_cond, BitVec.toNat_ofNat] at hc
    rw [if_pos (by omega)] at hc
    omega

/-- The expert of tile `i`. -/
def T (C : IVec (shape1 32) 32) (i : ℕ) : Fin 32 := ⟨groups C (256 * i) % 32, Nat.mod_lt _ (by decide)⟩

theorem T_val {C : IVec (shape1 32) 32} {n : ℕ} (hn : n ≤ 104) (h : ends C (ix1 31) = BitVec.ofNat 32 (256 * n)) {i : ℕ} (hi : i < n) : (T C i).val = groups C (256 * i) :=
  Nat.mod_eq_of_lt (groups_lt hn h (by omega))

theorem slt_all : ∀ (n : Fin 105) (i : Fin 104), i.val < n.val → BitVec.ofBool ((BitVec.ofNat 32 i.val).slt (BitVec.ofNat 32 n.val)) = 1#1 := by decide +kernel

theorem mul_all : ∀ i : Fin 104, BitVec.ofNat 32 i.val * 256#32 = BitVec.ofNat 32 (256 * i.val) ∧ (BitVec.ofNat 32 (256 * i.val)).toInt = (256 * i.val : ℕ) := by decide +kernel

theorem ofBool_eq_one (b : Bool) : BitVec.ofBool b = 1#1 ↔ b = true := by cases b <;> decide

/-- The groups before tile `i`, as counted. -/
theorem hits_eq (C : IVec (shape1 32) 32) (i : Fin 104) : hits C (ix1 i) = BitVec.ofNat 32 (groups C (256 * i.val)) := by
  unfold hits groups
  refine reduce_count (by decide) _ _ _ _ i _ fun q => ?_
  show BitVec.ofBool ((broadcastInDim (shape2 104 32) ![0, 1] _ (broadcastInDim (shape2 1 32) ![1] _ (ends C)) (ix2 i q)).sle
    (broadcastInDim (shape2 104 32) ![0, 1] _ (muli (broadcastInDim (shape2 104 1) ![0] _ (iotaInDim (shape1 104) 32 0)) (broadcastInDim (shape2 104 1) ![] _ (word 256#32))) (ix2 i q))) = 1#1 ↔ _
  rw [bcCols, show broadcastInDim (shape2 104 32) ![0, 1] _ (muli (broadcastInDim (shape2 104 1) ![0] _ (iotaInDim (shape1 104) 32 0)) (broadcastInDim (shape2 104 1) ![] _ (word 256#32))) (ix2 i q)
    = BitVec.ofNat 32 i.val * 256#32 from rfl, (mul_all i).1, ofBool_eq_one, BitVec.sle_iff_toInt_le, (mul_all i).2]
  constructor
  · exact fun h => ⟨q.isLt, h⟩
  · exact fun ⟨_, h⟩ => h

/-- The expert of a tile in use, read. -/
theorem expertOf_eq {C : IVec (shape1 32) 32} {n : ℕ} (hn : n ≤ 104) (h : ends C (ix1 31) = BitVec.ofNat 32 (256 * n)) (i : Fin 104) (hi : i.val < n) :
    expertOf C (ix1 i) = BitVec.ofNat 32 (T C i.val).val := by
  unfold expertOf
  have hc : cmpi .slt (iotaInDim (shape1 104) 32 0) (broadcastInDim (shape1 104) ![] (by decide) (used C)) (ix1 i) = 1#1 := by
    show BitVec.ofBool ((BitVec.ofNat 32 i.val).slt (broadcastInDim (shape1 104) ![] _ (used C) (ix1 i))) = 1#1
    rw [bc0, used_eq hn h]
    exact slt_all ⟨n, by omega⟩ i hi
  rw [T_val hn h hi, ← hits_eq]
  show (if _ = _ then _ else _) = _
  exact if_pos hc

end Cert.Proof.Counts
end
-- ==== Proof.Host.lean ====
/-
  What the host leaves in the tables before the regions, as the integers of the counts.
-/
module

public import proofs.«01_k».proof.Proof.Run
public import proofs.«01_k».proof.Proof.Counts
public import Idealize.ShloMosaic.Lib.StableHlo.ReadAt

@[expose] public section

set_option maxRecDepth 100000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof
open Cert.KernelIdeal Cert.KernelIdeal.Gen Cert.Proof.Copies
open Idealize.ShloMosaic.Pipeline (Dat BodyObligation BodyObligationLoose RegionSeg)

variable {F : FTy → Type} [FloatOps F]

local notation "𝕄" => MT nD τ sig Unit (Elt F) ℕ (Pipeline.UD sig nD τ) ℕ

section Host
variable (V : Valuation τ sig (Elt F))

theorem host0 : StableHlo.after hostOps0 V (Proc.devRef .tc main_v3) = subi (addi (V (Proc.devRef .tc main_arg0) : IVec S32 32) (Counts.all32 (Counts.word 256#32))) (Counts.all32 (Counts.word 1#32)) := by
  after_reads_simp
theorem host0_c : StableHlo.after hostOps0 V (Proc.devRef .tc main_c_1) = Counts.word 256#32 := by
  after_reads_simp
theorem host1 : StableHlo.after hostOps0_1 V (Proc.devRef .tc main_v4) = Counts.floorDiv (V (Proc.devRef .tc main_v3)) (V (Proc.devRef .tc main_c_1)) := by
  after_reads_simp
  rfl
theorem host2 : StableHlo.after hostOps0_2 V (Proc.devRef .tc main_v6) = muli (V (Proc.devRef .tc main_v4) : IVec S32 32) (Counts.all32 (Counts.word 256#32)) := by
  after_reads_simp
attribute [local irreducible] Host.reduceWindow in
theorem host3 : StableHlo.after hostOps0_3 V (Proc.devRef .tc main_v7) = (Host.reduceWindow IntOp.addi ![32] ![1] ![31] ![0] (V (Proc.devRef .tc main_v6) : IVec S32 32)
    (broadcastInDim S_ ![] (by decide) (Counts.word 0#32)) (by decide : S32.ReduceWindows ![32] ![1] ![31] ![0] S32) (by decide) : IVec S32 32) := by
  after_reads_simp
  rfl
theorem host4 : StableHlo.after hostOps0_4 V (Proc.devRef .tc main_v9) = shapeCast S_ (extractStridedSlice S1 ![31] (V (Proc.devRef .tc main_v7) : IVec S32 32) (by decide)) (by decide) := by
  after_reads_simp
  rfl
theorem host4_c : StableHlo.after hostOps0_4 V (Proc.devRef .tc main_c_3) = Counts.word 256#32 := by
  after_reads_simp
theorem host5 : StableHlo.after hostOps0_5 V (Proc.devRef .tc main_v10) = Counts.floorDiv₁ (V (Proc.devRef .tc main_v9)) (V (Proc.devRef .tc main_c_3)) := by
  after_reads_simp
  rfl

section Six
variable (C : IVec S32 32) (h7 : V (Proc.devRef .tc main_v7) = Counts.ends C) (h10 : V (Proc.devRef .tc main_v10) = Counts.used C)
include h7 in
theorem host6_hits : StableHlo.after hostOps0_6 V (Proc.devRef .tc main_v20) = Counts.hits C := by
  after_reads_simp
  rw [h7]
  rfl
include h7 h10 in
theorem host6_last : StableHlo.after hostOps0_6 V (Proc.devRef .tc main_v26) = Counts.hitsLast C := by
  after_reads_simp
  rw [h7, h10]
  rfl
include h10 in
theorem host6_lt : StableHlo.after hostOps0_6 V (Proc.devRef .tc main_v28) = cmpi .slt (iotaInDim S104 32 0) (broadcastInDim S104 ![] (by decide) (Counts.used C)) := by
  after_reads_simp
  rw [h10]
end Six

theorem host7 : StableHlo.after hostOps0_7 V (Proc.devRef .tc main_v29) = (select (V (Proc.devRef .tc main_v28) : IVec S104 1) (V (Proc.devRef .tc main_v20) : IVec S104 32)
    (broadcastInDim S104 ![] (by decide) (V (Proc.devRef .tc main_v26) : IVec S_ 32)) : IVec S104 32) := by
  after_reads_simp
  rfl
theorem host8 : StableHlo.after hostOps0_8 V (Proc.devRef .tc main_v30) = shapeCast S1 (V (Proc.devRef .tc main_v10) : IVec S_ 32) (by decide) := by
  after_reads_simp
  rfl

end Host

section Tables
variable (m : (ℓ : Loc nD τ sig) → Buf (Elt F) ℓ) (c : Dev nD)

/-- The counts, as launched. -/
abbrev countsOf : IVec S32 32 := m ((c : Thread nD τ).loc main_arg0)

theorem V4_ends : V4 m c (Proc.devRef .tc main_v7) = Counts.ends (countsOf m c) := by
  refine (host3 (V3 m c)).trans ?_
  rw [show V3 m c (Proc.devRef .tc main_v6) = Counts.padded (countsOf m c) from ?_]
  · rfl
  refine (host2 (V2 m c)).trans ?_
  rw [show V2 m c (Proc.devRef .tc main_v4) = Counts.tilesOf (countsOf m c) from ?_]
  · rfl
  refine (host1 (V1 m c)).trans ?_
  rw [show V1 m c (Proc.devRef .tc main_v3) = _ from host0 (V0 m c), show V1 m c (Proc.devRef .tc main_c_1) = _ from host0_c (V0 m c)]
  rfl

theorem V6_used : V6 m c (Proc.devRef .tc main_v10) = Counts.used (countsOf m c) := by
  refine (host5 (V5 m c)).trans ?_
  rw [show V5 m c (Proc.devRef .tc main_c_3) = _ from host4_c (V4 m c), show V5 m c (Proc.devRef .tc main_v9) = _ from host4 (V4 m c), V4_ends]
  rfl

theorem V6_ends : V6 m c (Proc.devRef .tc main_v7) = Counts.ends (countsOf m c) :=
  (V6_of m c main_v7 (by decide)).trans <| (V5_of m c main_v7 (by decide)).trans (V4_ends m c)

/-- The first table holds each tile's expert. -/
theorem V9_expert : V9 m c (Proc.devRef .tc main_v29) = Counts.expertOf (countsOf m c) := by
  refine (V9_of m c main_v29 (by decide)).trans <| (host7 (V7 m c)).trans ?_
  rw [show V7 m c (Proc.devRef .tc main_v28) = _ from host6_lt (V6 m c) (countsOf m c) (V6_used m c),
    show V7 m c (Proc.devRef .tc main_v20) = _ from host6_hits (V6 m c) (countsOf m c) (V6_ends m c),
    show V7 m c (Proc.devRef .tc main_v26) = _ from host6_last (V6 m c) (countsOf m c) (V6_ends m c) (V6_used m c)]
  rfl

/-- The second table holds the number of tiles in use. -/
theorem V9_used : V9 m c (Proc.devRef .tc main_v30) = shapeCast S1 (Counts.used (countsOf m c)) (by decide) := by
  refine (host8 (V8 m c)).trans ?_
  rw [show V8 m c (Proc.devRef .tc main_v10) = Counts.used (countsOf m c) from
    (V8_of m c main_v10 (by decide)).trans <| (V7_of m c main_v10 (by decide)).trans (V6_used m c)]

end Tables

/-- The tables hold what the run needs, when the rows in use fit. -/
theorem tiles (m : (ℓ : Loc nD τ sig) → Buf (Elt F) ℓ) (n : ℕ) (hp : 0 < n) (hn : n ≤ 104) (h : Counts.ends (countsOf m 0) (ValueIdx.ix1 31) = BitVec.ofNat 32 (256 * n)) :
    Tiles (V9 m) n (Counts.T (countsOf m 0)) where
  pos := hp
  le := hn
  nused c := by
    obtain rfl := dev_eq c
    refine (V9_used m 0).trans (funext fun j => ?_)
    exact Counts.used_eq hn h _
  te c x hx := by
    obtain rfl := dev_eq c
    rw [V9_expert, Idealize.ShloMosaic.ValueIdx.eq_ix1 x]
    exact Counts.expertOf_eq hn h (x 0) hx

/-- A run of the program, when the rows in use fit. -/
theorem run_fits (m : (ℓ : Loc nD τ sig) → Buf (Elt F) ℓ) (ρ : Dev nD → PrngReg) (h : Counts.Fits (countsOf m 0)) :
    ∃ n, Counts.ends (countsOf m 0) (ValueIdx.ix1 31) = BitVec.ofNat 32 (256 * n) ∧ ∃ hW : Tiles (V9 m) n (Counts.T (countsOf m 0)),
      θ_run defs (onTc main) ⟨m, fun _ => 0, ρ⟩ (fun r => (∀ c, Final m n (Counts.T (countsOf m 0)) hW c r.2) ∧ r.2.sem = fun _ => 0) := by
  obtain ⟨n, hp, hn, he⟩ := h.exists
  exact ⟨n, he, tiles m n hp hn he, run_end m ρ n _ (tiles m n hp hn he)⟩

end Cert.KernelIdeal.Body
end
-- ==== Proof.BPart3.lean ====
/-
  The experts kernel's body from the matrix products on: one tile's block of results, and the body whole.
-/
module

public import proofs.«01_k».proof.Proof.BPart2

@[expose] public section

set_option maxRecDepth 100000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Copies

variable {F : FTy → Type} [BitOps F]

local notation "𝕄" => MT nD τ sig Unit (Elt F) ℕ (Pipeline.UD sig nD τ) ℕ

variable (𝒱 : Variants) (c : Dev nD) (bd : Option 𝒱.V)
variable (i : grid0.Coords) (arg1 : Memref sig .tc .smem S104 .i32) (harg1 : arg1.IsWhole) (arg2 : Memref sig .tc .smem S1 .i32) (harg2 : arg2.IsWhole) (arg3 : Memref sig .tc .vmem S2048x128 .i32) (harg3 : arg3.IsWhole) (arg4 : Memref sig .tc .hbm S1x32x2048x512 .f32) (harg4 : arg4.IsWhole) (arg5 : Memref sig .tc .hbm S1x32x2048x512 .f32) (harg5 : arg5.IsWhole) (arg6 : Memref sig .tc .hbm S1x32x512x2048 .f32) (harg6 : arg6.IsWhole) (arg7 : Memref sig .tc .vmem S2048x128 .i32) (harg7 : arg7.IsWhole) (arg8 : Memref sig .tc .vmem S2x2048x512 .f32) (harg8 : arg8.IsWhole) (arg9 : Memref sig .tc .vmem S2x2048x512 .f32) (harg9 : arg9.IsWhole) (arg10 : Memref sig .tc .vmem S2x512x2048 .f32) (harg10 : arg10.IsWhole) (arg11 : DmaSems sig S2x3) (arg12 : Memref sig .tc .smem S2 .i32) (harg12 : arg12.IsWhole)

/-- Rows `8 r + k` of a block, of its packed rows in groups of eight. -/
abbrev rowRect (k : ℕ) (h : ∀ a, S256x128.size a = 0 ∨ (![k, 0] : Fin 2 → ℕ) a + (![8, 1] : Fin 2 → ℕ) a * (S256x128.size a - 1) < S2048x128.size a) : Rect S2048x128 :=
  ⟨(⟨![k, 0], S256x128.size, ![8, 1], h⟩ : LoadRect S2048x128), spos_8_1⟩

/-- Where element `y` of a block lies among the rows of its remainder modulo eight. -/
def ix (y : S2048x128.Idx) : S256x128.Idx := fun a =>
  ⟨if a.val = 0 then (y a).val / 8 else (y a).val, by
    have h := (y a).isLt
    match a, h with
    | ⟨0, _⟩, h => exact Nat.div_lt_of_lt_mul h
    | ⟨1, _⟩, h => exact h⟩

/-- The two column blocks of a tile's results that rows `8 r + k` of its block pack. -/
def rowPay (M : FVec F S256x2048 .f32) : ℕ → S256x128.Idx → Elt F .i32
  | 0 => packElementwise (extractStridedSlice S256x128 ![0, 0] M slices_S256x2048_o0_0_S256x128 : FVec F S256x128 .f32) (extractStridedSlice S256x128 ![0, 1024] M slices_S256x2048_o0_1024_S256x128)
  | 1 => packElementwise (extractStridedSlice S256x128 ![0, 128] M slices_S256x2048_o0_128_S256x128 : FVec F S256x128 .f32) (extractStridedSlice S256x128 ![0, 1152] M slices_S256x2048_o0_1152_S256x128)
  | 2 => packElementwise (extractStridedSlice S256x128 ![0, 256] M slices_S256x2048_o0_256_S256x128 : FVec F S256x128 .f32) (extractStridedSlice S256x128 ![0, 1280] M slices_S256x2048_o0_1280_S256x128)
  | 3 => packElementwise (extractStridedSlice S256x128 ![0, 384] M slices_S256x2048_o0_384_S256x128 : FVec F S256x128 .f32) (extractStridedSlice S256x128 ![0, 1408] M slices_S256x2048_o0_1408_S256x128)
  | 4 => packElementwise (extractStridedSlice S256x128 ![0, 512] M slices_S256x2048_o0_512_S256x128 : FVec F S256x128 .f32) (extractStridedSlice S256x128 ![0, 1536] M slices_S256x2048_o0_1536_S256x128)
  | 5 => packElementwise (extractStridedSlice S256x128 ![0, 640] M slices_S256x2048_o0_640_S256x128 : FVec F S256x128 .f32) (extractStridedSlice S256x128 ![0, 1664] M slices_S256x2048_o0_1664_S256x128)
  | 6 => packElementwise (extractStridedSlice S256x128 ![0, 768] M slices_S256x2048_o0_768_S256x128 : FVec F S256x128 .f32) (extractStridedSlice S256x128 ![0, 1792] M slices_S256x2048_o0_1792_S256x128)
  | _ => packElementwise (extractStridedSlice S256x128 ![0, 896] M slices_S256x2048_o0_896_S256x128 : FVec F S256x128 .f32) (extractStridedSlice S256x128 ![0, 1920] M slices_S256x2048_o0_1920_S256x128)

/-- The block of results of a tile whose products are `M`. -/
def blockY (M : FVec F S256x2048 .f32) : S2048x128.Idx → Elt F .i32 := fun y => rowPay M ((y 0).val % 8) (ix y)

theorem ix_emb (k : ℕ) (hk : k < 8) (h) (x : (rowRect k h).shape.Idx) : ((rowRect k h).emb x 0).val % 8 = k ∧ ix ((rowRect k h).emb x) = x := by
  have e0 : ((rowRect k h).emb x 0).val = k + 8 * (x 0).val := rfl
  refine ⟨by rw [e0]; omega, ?_⟩
  funext a
  apply Fin.ext
  match a with
  | ⟨0, _⟩ =>
    show ((rowRect k h).emb x 0).val / 8 = (x 0).val
    rw [e0]; omega
  | ⟨1, _⟩ =>
    show 0 + 1 * (x 1).val = (x 1).val
    omega

theorem row_at (M : FVec F S256x2048 .f32) (k : ℕ) (hk : k < 8) (h) (x : (rowRect k h).shape.Idx) : rowPay M k x = blockY M ((rowRect k h).emb x) := by
  obtain ⟨h1, h2⟩ := ix_emb k hk h x
  unfold blockY
  rw [h1, h2]

/-- The rows of remainder below `k` modulo eight. -/
def rowsTo (k : ℕ) : S2048x128.Idx → Prop := fun y => (y 0).val % 8 < k

theorem rows_cover (k : ℕ) (hk : k < 8) (h) (y : S2048x128.Idx) (hy : rowsTo (k + 1) y) : rowsTo k y ∨ ∃ x, (rowRect k h).emb x = y := by
  unfold rowsTo at *
  by_cases hlt : (y 0).val % 8 < k
  · exact Or.inl hlt
  · right
    refine ⟨ix y, ?_⟩
    funext a
    apply Fin.ext
    match a with
    | ⟨0, _⟩ =>
      show k + 8 * ((y 0).val / 8) = (y 0).val
      omega
    | ⟨1, _⟩ =>
      show 0 + 1 * (y 1).val = (y 1).val
      omega

/-- Expert `e`'s gate or up matrix, as its array holds it. -/
def matE (arg4 : Memref sig .tc .hbm S1x32x2048x512 .f32) (W : arg4.view.ty.Contents (Elt F)) (e : Fin 32) : S1x2048x512.Idx → Elt F .f32 :=
  blockOf arg4 (rE e) (rS 0) (nS 0 e) W
/-- Expert `e`'s down matrix, as its array holds it. -/
def matF (arg6 : Memref sig .tc .hbm S1x32x512x2048 .f32) (W : arg6.view.ty.Contents (Elt F)) (e : Fin 32) : S1x512x2048.Idx → Elt F .f32 :=
  blockOf arg6 (rF e) (rT 0) (nT 0 e) W

/-- The products of a tile of words `X` with an expert's three matrices. -/
def products (X : S2048x128.Idx → Elt F .i32) (G U : S1x2048x512.Idx → Elt F .f32) (D : S1x512x2048.Idx → Elt F .f32) : FVec F S256x2048 .f32 :=
  k0_pay23 (k0_pay7 (ld0 X)) (k0_pay8 (ld1 X)) (k0_pay9 (ld2 X)) (k0_pay10 (ld3 X)) (k0_pay11 (ld4 X)) (k0_pay12 (ld5 X)) (k0_pay13 (ld6 X)) (k0_pay14 (ld7 X)) (k0_pay15 (ld0 X)) (k0_pay16 (ld1 X)) (k0_pay17 (ld2 X)) (k0_pay18 (ld3 X)) (k0_pay19 (ld4 X)) (k0_pay20 (ld5 X)) (k0_pay21 (ld6 X)) (k0_pay22 (ld7 X)) G U D

section Part3
variable {n : ℕ} {V : ℕ → BitVec 32} {T : ℕ → Fin 32}
variable (W4 : Buf (Elt F) (arg4.view.loc (c : Thread nD τ))) (W5 : Buf (Elt F) (arg5.view.loc (c : Thread nD τ))) (W6 : Buf (Elt F) (arg6.view.loc (c : Thread nD τ)))

/-- What a tile's block of results holds: tile of words `X`, expert `e`. -/
def result (X : S2048x128.Idx → Elt F .i32) (e : Fin 32) : S2048x128.Idx → Elt F .i32 :=
  blockY (products X (matE arg4 W4 e) (matE arg5 W5 e) (matF arg6 W6 e))

set_option maxHeartbeats 4000000 in
/-- The third part: the products, and the first three groups of rows. -/
theorem part3 (X : S2048x128.Idx → Elt F .i32) (j s a : ℕ) (k0_h2 : k0_cond2 i (wd n) = 1#1) (Y : S2048x128.Idx → Elt F .i32)
    (M : FVec F S256x2048 .f32) (hM : M = products X (matE arg4 W4 (T j)) (matE arg5 W5 (T j)) (matF arg6 W6 (T j))) :
    iprop(At c arg4 arg5 arg6 arg8 arg9 arg10 arg11 arg12 W4 W5 W6 T n j s a ∗ PartAt (c : Thread nD τ) arg7 (rowsTo 0) (blockY M))
      ⊢ wp frame (wpE (defs₀ (F := F)) 𝒱 (c : Thread nD τ) bd) Set.univ
          (k0_part3 (F := F) i arg1 harg1 arg2 harg2 arg3 harg3 arg4 harg4 arg5 harg5 arg6 harg6 arg7 harg7 arg8 harg8 arg9 harg9 arg10 harg10 arg11 arg12 harg12 (wd n) k0_h2 (wd (sl s).val) (chk6_p (sl s) (wd n)) (k0_pay7 (ld0 X)) (k0_pay8 (ld1 X)) (k0_pay9 (ld2 X)) (k0_pay10 (ld3 X)) (k0_pay11 (ld4 X)) (k0_pay12 (ld5 X)) (k0_pay13 (ld6 X)) (k0_pay14 (ld7 X)) (k0_pay15 (ld0 X)) (k0_pay16 (ld1 X)) (k0_pay17 (ld2 X)) (k0_pay18 (ld3 X)) (k0_pay19 (ld4 X)) (k0_pay20 (ld5 X)) (k0_pay21 (ld6 X)) (k0_pay22 (ld7 X)))
          (fun x => iprop(⌜x = M⌝
            ∗ At c arg4 arg5 arg6 arg8 arg9 arg10 arg11 arg12 W4 W5 W6 T n j s a ∗ PartAt (c : Thread nD τ) arg7 (rowsTo 3) (blockY M))) := by
  simp only [k0_part3_eq_skeleton]
  unfold k0_part3_skel
  subst hM
  unfold At Hold
  iintro ⟨⟨HS, ⟨H0, H1, H2⟩, HA⟩, HY⟩
  iapply (wp_loadSlotAt (defs := defs₀ (F := F)) 𝒱 (c : Thread nD τ) bd (off22_eq (sl s))) $$ H0
  iintro H0
  iapply (wp_loadSlotAt (defs := defs₀ (F := F)) 𝒱 (c : Thread nD τ) bd (off22_eq (sl s))) $$ H1
  iintro H1
  iapply (wp_loadSlotAt (defs := defs₀ (F := F)) 𝒱 (c : Thread nD τ) bd (off23_eq (sl s))) $$ H2
  iintro H2
  iapply (wp_partLoad (defs := defs₀ (F := F)) 𝒱 (c : Thread nD τ) bd) $$ HY
  iintro %_ HY
  iapply (wp_partStore (defs := defs₀ (F := F)) 𝒱 (c : Thread nD τ) bd (D' := rowsTo 1) (fun x => row_at _ 0 (by decide) _ x) (fun y hy => rows_cover 0 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := rowsTo 2) (fun x => row_at _ 1 (by decide) _ x) (fun y hy => rows_cover 1 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := rowsTo 3) (fun x => row_at _ 2 (by decide) _ x) (fun y hy => rows_cover 2 (by decide) _ y hy)) $$ HY
  iintro HY
  rw [wp_pure]; imodintro
  isplitr; · ipureintro; rfl
  isplitl [HS H0 H1 H2 HA]
  · isplitl [HS]; · iexact HS
    isplitl [H0 H1 H2]
    · isplitl [H0]; · iexact H0
      isplitl [H1]; · iexact H1
      iexact H2
    iexact HA
  iexact HY
end Part3

end Cert.Kernel.Body

end
-- ==== Proof.BRows.lean ====
/-
  The rows kernel's body: it unpacks the array of words into the rows they hold.
-/
module

public import proofs.«01_k».proof.Proof.BSlots

@[expose] public section

set_option maxRecDepth 100000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen Cert.Proof.Copies

variable {F : FTy → Type} [BitOps F]

local notation "𝕄" => MT nD τ sig Unit (Elt F) ℕ (Pipeline.UD sig nD τ) ℕ

/-- The words of remainder `s` modulo eight lie in the array of words. -/
theorem raw_inb (s : Fin 8) : ∀ a, S26624x128.size a = 0 ∨ (![s.val, 0] : Fin 2 → Nat) a + (![8, 1] : Fin 2 → Nat) a * (S26624x128.size a - 1) < S212992x128.size a := by
  revert s; decide

/-- The words of remainder `s` modulo eight, a word row for each row. -/
def rawRows (B : S212992x128.Idx → Elt F .i32) (s : Fin 8) : Vec F S26624x128 .i32 :=
  fun x => B ((⟨![s.val, 0], S26624x128.size, ![8, 1], raw_inb s⟩ : LoadRect S212992x128).idx x)

/-- The low (`p = 0`) or high halves of words, widened. -/
def halfPay : ℕ → Vec F S26624x128 .i32 → FVec F S26624x128 .f32
  | 0, v => k1_pay8 v
  | _, v => k1_pay9 v

/-- The place in a group of 128 columns of a place in the row array. -/
def colIx (y : S26624x2048.Idx) : S26624x128.Idx := fun a => match a with
  | ⟨0, _⟩ => ⟨(y 0).val, (y 0).isLt⟩
  | ⟨1, _⟩ => ⟨(y 1).val % 128, Nat.mod_lt _ (by decide)⟩

/-- The row array: columns `128 k + l` of row `r` come from lane `l` of the word of row `r` of remainder `k % 8`, its half `k / 8`. -/
def rowsOut (B : S212992x128.Idx → Elt F .i32) : S26624x2048.Idx → Elt F .f32 := fun y =>
  halfPay ((y 1).val / 128 / 8) (rawRows B ⟨(y 1).val / 128 % 8, Nat.mod_lt _ (by decide)⟩) (colIx y)

/-- The group `k` of 128 columns stores what the row array holds there. -/
theorem col_at (B : S212992x128.Idx → Elt F .i32) (k : ℕ) (hk : k < 16) (h) (x : (Rect.unit (s := S26624x2048) ![0, 128 * k] S26624x128.size h).shape.Idx) :
    halfPay (k / 8) (rawRows B ⟨k % 8, Nat.mod_lt _ (by decide)⟩) x = rowsOut B ((Rect.unit (s := S26624x2048) ![0, 128 * k] S26624x128.size h).emb x) := by
  have e1 : ((Rect.unit (s := S26624x2048) ![0, 128 * k] S26624x128.size h).emb x 1).val = 128 * k + 1 * (x 1).val := rfl
  have h1 : (x 1).val < 128 := (x 1).isLt
  have hd : ((Rect.unit (s := S26624x2048) ![0, 128 * k] S26624x128.size h).emb x 1).val / 128 = k := by rw [e1]; omega
  have hc : colIx ((Rect.unit (s := S26624x2048) ![0, 128 * k] S26624x128.size h).emb x) = x := by
    funext a
    apply Fin.ext
    match a with
    | ⟨0, _⟩ => show 0 + 1 * (x 0).val = (x 0).val; omega
    | ⟨1, _⟩ => show (128 * k + 1 * (x 1).val) % 128 = (x 1).val; omega
  unfold rowsOut
  rw [hc]
  congr 2
  · rw [hd]
  · congr 1; rw [hd]

/-- The columns of the groups stored so far. -/
def colsIn (S : List ℕ) : S26624x2048.Idx → Prop := fun y => (y 1).val / 128 ∈ S

/-- Storing group `k` adds it to the groups stored. -/
theorem cols_cover (S : List ℕ) (k : ℕ) (hk : k < 16) (h) (y : S26624x2048.Idx) (hy : colsIn (k :: S) y) :
    colsIn S y ∨ ∃ x, (Rect.unit (s := S26624x2048) ![0, 128 * k] S26624x128.size h).emb x = y := by
  unfold colsIn at *
  rcases List.mem_cons.1 hy with e | e
  · right
    refine ⟨colIx y, ?_⟩
    funext a
    apply Fin.ext
    match a with
    | ⟨0, _⟩ => show 0 + 1 * (y 0).val = (y 0).val; omega
    | ⟨1, _⟩ => show 128 * k + 1 * ((y 1).val % 128) = (y 1).val; omega
  · exact Or.inl e

variable (𝒱 : Variants) (c : Dev nD) (bd : Option 𝒱.V)
variable (arg0 : Memref sig .tc .vmem S212992x128 .i32) (harg0 : arg0.IsWhole) (arg1 : Memref sig .tc .vmem S26624x2048 .f32) (harg1 : arg1.IsWhole)

set_option maxHeartbeats 4000000 in
/-- The first groups of columns. -/
theorem rows_part1 (q : PosShare TreeShare) (B : S212992x128.Idx → Elt F .i32) :
    (iprop(WordsAt (c : Thread nD τ) arg0 q B ∗ PartAt (c : Thread nD τ) arg1 (colsIn []) (rowsOut B)) : sProp 𝕄)
      ⊢ wp frame (wpE (defs₀ (F := F)) 𝒱 (c : Thread nD τ) bd) Set.univ (k1_part1 (F := F) arg0 harg0 arg1 harg1)
          (fun _ => iprop(WordsAt (c : Thread nD τ) arg0 q B ∗ PartAt (c : Thread nD τ) arg1 (colsIn [10, 2, 9, 1, 8, 0]) (rowsOut B))) := by
  simp only [k1_part1_eq_skeleton]
  unfold k1_part1_skel
  iintro ⟨HB, HY⟩
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [0]) (fun x => col_at B 0 (by decide) _ x) (fun y hy => cols_cover _ 0 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [8, 0]) (fun x => col_at B 8 (by decide) _ x) (fun y hy => cols_cover _ 8 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [1, 8, 0]) (fun x => col_at B 1 (by decide) _ x) (fun y hy => cols_cover _ 1 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [9, 1, 8, 0]) (fun x => col_at B 9 (by decide) _ x) (fun y hy => cols_cover _ 9 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [2, 9, 1, 8, 0]) (fun x => col_at B 2 (by decide) _ x) (fun y hy => cols_cover _ 2 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [10, 2, 9, 1, 8, 0]) (fun x => col_at B 10 (by decide) _ x) (fun y hy => cols_cover _ 10 (by decide) _ y hy)) $$ HY
  iintro HY
  rw [wp_pure]
  imodintro
  isplitl [HB]; · iexact HB
  iexact HY

set_option maxHeartbeats 4000000 in
/-- The groups of columns after those. -/
theorem rows_part2 (q : PosShare TreeShare) (B : S212992x128.Idx → Elt F .i32) :
    (iprop(WordsAt (c : Thread nD τ) arg0 q B ∗ PartAt (c : Thread nD τ) arg1 (colsIn [10, 2, 9, 1, 8, 0]) (rowsOut B)) : sProp 𝕄)
      ⊢ wp frame (wpE (defs₀ (F := F)) 𝒱 (c : Thread nD τ) bd) Set.univ (k1_part2 (F := F) arg0 harg0 arg1 harg1)
          (fun _ => iprop(WordsAt (c : Thread nD τ) arg0 q B ∗ PartAt (c : Thread nD τ) arg1 (colsIn [13, 5, 12, 4, 11, 3, 10, 2, 9, 1, 8, 0]) (rowsOut B))) := by
  simp only [k1_part2_eq_skeleton]
  unfold k1_part2_skel
  iintro ⟨HB, HY⟩
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [3, 10, 2, 9, 1, 8, 0]) (fun x => col_at B 3 (by decide) _ x) (fun y hy => cols_cover _ 3 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [11, 3, 10, 2, 9, 1, 8, 0]) (fun x => col_at B 11 (by decide) _ x) (fun y hy => cols_cover _ 11 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [4, 11, 3, 10, 2, 9, 1, 8, 0]) (fun x => col_at B 4 (by decide) _ x) (fun y hy => cols_cover _ 4 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [12, 4, 11, 3, 10, 2, 9, 1, 8, 0]) (fun x => col_at B 12 (by decide) _ x) (fun y hy => cols_cover _ 12 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [5, 12, 4, 11, 3, 10, 2, 9, 1, 8, 0]) (fun x => col_at B 5 (by decide) _ x) (fun y hy => cols_cover _ 5 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [13, 5, 12, 4, 11, 3, 10, 2, 9, 1, 8, 0]) (fun x => col_at B 13 (by decide) _ x) (fun y hy => cols_cover _ 13 (by decide) _ y hy)) $$ HY
  iintro HY
  rw [wp_pure]
  imodintro
  isplitl [HB]; · iexact HB
  iexact HY

set_option maxHeartbeats 4000000 in
/-- The rows kernel's body: the row array is what the words hold. -/
theorem rows_body (q : PosShare TreeShare) (B : S212992x128.Idx → Elt F .i32) :
    (iprop(WordsAt (c : Thread nD τ) arg0 q B ∗ (∃ Y, WordsAt (c : Thread nD τ) arg1 fullShare Y)) : sProp 𝕄)
      ⊢ wp frame (wpE (defs₀ (F := F)) 𝒱 (c : Thread nD τ) bd) Set.univ (cc1_rows (F := F) arg0 harg0 arg1 harg1)
          (fun _ => iprop(WordsAt (c : Thread nD τ) arg0 q B ∗ WordsAt (c : Thread nD τ) arg1 fullShare (rowsOut B))) := by
  simp only [cc1_rows_eq_skeleton]
  unfold cc1_rows_skel
  iintro ⟨HB, ⟨%Y, HY⟩⟩
  ihave HY := (show (WordsAt (c : Thread nD τ) arg1 fullShare Y : sProp 𝕄) ⊢ PartAt (c : Thread nD τ) arg1 (colsIn []) (rowsOut B) from by
    unfold PartAt
    iintro H
    iexists Y
    isplitr
    · ipureintro; intro y hy; unfold colsIn at hy; exact absurd hy List.not_mem_nil
    · iexact H) $$ HY
  rw [wp_bind]
  iapply (wp_wand_r frame (wpE (defs₀ (F := F)) 𝒱 (c : Thread nD τ) bd))
  isplitl [HB HY]
  · iapply (rows_part1 𝒱 c bd arg0 harg0 arg1 harg1 q B)
    isplitl [HB]; · iexact HB
    iexact HY
  iintro %_ ⟨HB, HY⟩
  rw [wp_bind]
  iapply (wp_wand_r frame (wpE (defs₀ (F := F)) 𝒱 (c : Thread nD τ) bd))
  isplitl [HB HY]
  · iapply (rows_part2 𝒱 c bd arg0 harg0 arg1 harg1 q B)
    isplitl [HB]; · iexact HB
    iexact HY
  iintro %_ ⟨HB, HY⟩
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [6, 13, 5, 12, 4, 11, 3, 10, 2, 9, 1, 8, 0]) (fun x => col_at B 6 (by decide) _ x) (fun y hy => cols_cover _ 6 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [14, 6, 13, 5, 12, 4, 11, 3, 10, 2, 9, 1, 8, 0]) (fun x => col_at B 14 (by decide) _ x) (fun y hy => cols_cover _ 14 (by decide) _ y hy)) $$ HY
  iintro HY
  iapply (wp_loadAt (defs := defs₀ (F := F)) 𝒱 (c : Thread nD τ) bd) $$ HB
  iintro HB
  iapply (wp_partLoad (defs := defs₀ (F := F)) 𝒱 (c : Thread nD τ) bd) $$ HY
  iintro %_ HY
  iapply (wp_partStore (defs := defs₀ (F := F)) 𝒱 (c : Thread nD τ) bd (D' := colsIn [7, 14, 6, 13, 5, 12, 4, 11, 3, 10, 2, 9, 1, 8, 0]) (fun x => col_at B 7 (by decide) _ x) (fun y hy => cols_cover _ 7 (by decide) _ y hy)) $$ HY
  iintro HY
  iapply (wp_partLoad (defs := defs₀ (F := F)) 𝒱 (c : Thread nD τ) bd) $$ HY
  iintro %_ HY
  iapply (wp_partStore (defs := defs₀ (F := F)) 𝒱 (c : Thread nD τ) bd (D' := colsIn [15, 7, 14, 6, 13, 5, 12, 4, 11, 3, 10, 2, 9, 1, 8, 0]) (fun x => col_at B 15 (by decide) _ x) (fun y hy => cols_cover _ 15 (by decide) _ y hy)) $$ HY
  iintro HY
  rw [wp_pure]
  imodintro
  isplitl [HB]; · iexact HB
  unfold PartAt
  icases HY with ⟨%Z, %hZ, HY⟩
  ihave HY := (Entails.of_eq (congrArg (WordsAt (c : Thread nD τ) arg1 fullShare) (funext fun y => hZ y (by
    unfold colsIn
    have h1 : (y 1).val < 2048 := (y 1).isLt
    have h2 : (y 1).val / 128 < 16 := by omega
    exact (by decide : ∀ j : Fin 16, j.val ∈ [15, 7, 14, 6, 13, 5, 12, 4, 11, 3, 10, 2, 9, 1, 8, 0]) ⟨_, h2⟩)))) $$ HY
  iexact HY

end Cert.Kernel.Body
end
-- ==== Proof.Claims.lean ====
/-
  The claims that state no value: the three programs' frames and the rewrites' statements.
-/
module

public import proofs.«01_k».proof.Defs
public import proofs.«01_k».proof.Proof.Host
public import proofs.«01_k».proof.Proof.BHost
public import proofs.«01_k».proof.Proof.Gen.ReferenceIdeal
public import Idealize.ShloMosaic.Lib.Claim
public import Idealize.ShloMosaic.Lib.Bf16Pair
public import Idealize.ShloMosaic.Lib.Bf16PairInverse

@[expose] public section

set_option maxRecDepth 100000

noncomputable section

namespace Cert.Proof

open Idealize.ShloMosaic Idealize.ShloMosaic.TcCoe Idealize.ShloMosaic.StableHlo Idealize.SL.Sem

/-- The precondition's operations are taken at the shapes they state. -/
instance preFacts : Cert.Pre_fills.Facts where
  bcast_S_S32 := by decide
  bcast_S_S_ := by decide
  reduceWindows_S32_S32_w32s1p31_0 := by decide
  h_S_ := by decide
  slices_S32_S1_31 := by decide
  shapeCasts_S1_S_ := by decide

/-- The precondition at the counts is that the rows in use fit. -/
theorem fn_fits {F : FTy → Type} [FloatOps F] (C : IVec Cert.Pre_fills.S32 32) (a1 : IVec Cert.Pre_fills.S212992x128 32) (a2 a3 : FVec F Cert.Pre_fills.S1x32x2048x512 .f32) (a4 : FVec F Cert.Pre_fills.S1x32x512x2048 .f32)
    (h : Cert.Pre_fills.fn (F := F) C a1 a2 a3 a4 = fun _ => 1#1) : Counts.Fits C :=
  congrFun h ValueIdx.ix0

/-- The kernel's run leaves its arguments and its semaphores. -/
theorem frame_P : Cert.quiescent_Kernel := fun m g h => by
  obtain ⟨n, _, hW, hr⟩ := Cert.Kernel.Body.run_fits (F := Bits) m g (fn_fits _ _ _ _ _ (h 0))
  exact (θ_run Cert.Kernel.defs _ _).mono (fun _ h => ⟨fun c => (h.1 c).2, h.2⟩) hr

/-- The idealized kernel's run leaves its arguments and its semaphores. -/
theorem frame_PI : Cert.quiescent_KernelIdeal := fun m g h => by
  obtain ⟨n, _, hW, hr⟩ := Cert.KernelIdeal.Body.run_fits (F := Ideal) m g (fn_fits _ _ _ _ _ (h 0))
  exact (θ_run Cert.KernelIdeal.defs _ _).mono (fun _ h => ⟨fun c => (h.1 c).2, h.2⟩) hr

/-- The reference's run leaves its arguments and its semaphores. -/
theorem frame_RI : Cert.quiescent_ReferenceIdeal := by
  intro m g _
  hlo_run
  · exact fun _ => ⟨trivial, trivial, trivial, trivial, trivial⟩
  · exact sem_eq_zero_of_no_sems (sig := Cert.ReferenceIdeal.sig) (by decide) _

/-- Each rewrite's statement, in order of first appearance. -/
theorem preserves : Cert.preserves_Kernel_KernelIdeal :=
  ⟨IdealRules.bf16_pair.bufferStatement _ _, IdealRules.bf16_pair.bufferStatement _ _, IdealRules.bf16_pair.packStatement _, IdealRules.bf16_pair.statement _ _, IdealRules.bf16_pair.packStatement _,
    IdealRules.bf16_pair.statement _ _, IdealRules.bf16_pair.statement _ _, IdealRules.bf16_pair.statement _ _⟩

end Cert.Proof

end
-- ==== Proof.KVal.lean ====
/-
  One tile's block of results, read at an index.
-/
module

public import proofs.«01_k».proof.Proof.Rows
public import Idealize.ShloMosaic.Lib.Pointwise.Contract
public import Idealize.ShloMosaic.Lib.Pointwise.Sums
public import Idealize.ShloMosaic.Lib.Pointwise.Select
public import Idealize.ShloMosaic.Lib.Pointwise.SelectCore
public import Idealize.ShloMosaic.Lib.Pointwise.ShapeOps
public import Idealize.ShloMosaic.Lib.Pointwise.Reshape
public import Idealize.ShloMosaic.Lib.Pointwise.Elementwise
public import Idealize.ShloMosaic.Lib.Pointwise.Reduce
public import Idealize.ShloMosaic.Lib.Pointwise.IndexBridge
public import Idealize.ShloMosaic.Lib.Pointwise.Blocks
public import Idealize.ShloMosaic.Lib.Pointwise.Tactic
public import Idealize.ShloMosaic.Lib.IdealHost
public import Idealize.ShloMosaic.Lib.Bf16Pair

@[expose] public section

set_option maxRecDepth 16384

noncomputable section

namespace Cert.KernelIdeal.Body

open Idealize.ShloMosaic Cert.KernelIdeal Cert.KernelIdeal.Gen

/-- A sixteen-bit pattern and the 32-bit pattern with the same sign and exponent and its fraction sixteen places up denote the same value. -/
theorem widen (b : BitVec 16) (w : BitVec 32) (h1 : w.extractLsb' 31 1 = b.extractLsb' 15 1) (h2 : w.extractLsb' 23 8 = b.extractLsb' 7 8)
    (h3 : (w.extractLsb' 0 23).toNat = (b.extractLsb' 0 7).toNat * 65536) : Ideal.ieee 8 7 b = Ideal.ieee 8 23 w := by
  unfold Ideal.ieee
  dsimp only
  rw [h1, h2, h3]
  generalize (b.extractLsb' 7 8).toNat = e
  generalize (b.extractLsb' 0 7).toNat = f
  generalize (b.extractLsb' 15 1 == 1#1) = s
  have hf : f * 65536 = 0 ↔ f = 0 := by omega
  simp only [hf]
  congr 1
  congr 1
  · congr 1
    rw [show (1 - (2 ^ (8 - 1) - 1) - ((7 : ℕ) : ℤ) : ℤ) = (1 - (2 ^ (8 - 1) - 1) - ((23 : ℕ) : ℤ)) + 16 by norm_num, zpow_add₀ (by norm_num)]
    push_cast
    norm_num
    ring
  · congr 1
    rw [show ((e : ℤ) - (2 ^ (8 - 1) - 1) - ((7 : ℕ) : ℤ) : ℤ) = ((e : ℤ) - (2 ^ (8 - 1) - 1) - ((23 : ℕ) : ℤ)) + 16 by push_cast; ring, zpow_add₀ (by norm_num)]
    push_cast
    norm_num
    ring

/-- The low half of a word, widened, is the word moved up by sixteen bits. -/
theorem low_half (w : BitVec 32) : Ideal.ofBits .bf16 (w.extractLsb' (0 * 16) 16) = Ideal.ofBits .f32 (IntOp.shli .host w 16#32) := by
  show Ideal.ieee 8 7 (w.extractLsb' 0 16) = Ideal.ieee 8 23 (w <<< 16)
  refine widen _ _ ?_ ?_ ?_
  · apply BitVec.eq_of_toNat_eq
    simp only [BitVec.extractLsb'_toNat, BitVec.toNat_shiftLeft, Nat.shiftLeft_eq, Nat.shiftRight_eq_div_pow]
    have := w.isLt
    omega
  · apply BitVec.eq_of_toNat_eq
    simp only [BitVec.extractLsb'_toNat, BitVec.toNat_shiftLeft, Nat.shiftLeft_eq, Nat.shiftRight_eq_div_pow]
    have := w.isLt
    omega
  · simp only [BitVec.extractLsb'_toNat, BitVec.toNat_shiftLeft, Nat.shiftLeft_eq, Nat.shiftRight_eq_div_pow]
    have := w.isLt
    omega

/-- The high half of a word, widened, is the word with its low half cleared. -/
theorem high_half (w : BitVec 32) : Ideal.ofBits .bf16 (w.extractLsb' (1 * 16) 16) = Ideal.ofBits .f32 (IntOp.andi w 4294901760#32) := by
  show Ideal.ieee 8 7 (w.extractLsb' 16 16) = Ideal.ieee 8 23 (w &&& 4294901760#32)
  have e : w &&& 4294901760#32 = (w >>> 16) <<< 16 := by
    ext i hi
    have h : ∀ k : Fin 32, (4294901760#32).getLsbD k.val = decide (16 ≤ k.val) := by decide
    have hk := h ⟨i, hi⟩
    rw [BitVec.getElem_and, ← BitVec.getLsbD_eq_getElem, ← BitVec.getLsbD_eq_getElem, ← BitVec.getLsbD_eq_getElem, hk, BitVec.getLsbD_shiftLeft, BitVec.getLsbD_ushiftRight]
    by_cases h16 : 16 ≤ i
    · simp [h16, hi, Nat.not_lt.2 h16, show 16 + (i - 16) = i by omega]
    · simp [h16]
  rw [e]
  refine widen _ _ ?_ ?_ ?_
  · apply BitVec.eq_of_toNat_eq
    simp only [BitVec.extractLsb'_toNat, BitVec.toNat_shiftLeft, BitVec.toNat_ushiftRight, Nat.shiftLeft_eq, Nat.shiftRight_eq_div_pow]
    have := w.isLt
    omega
  · apply BitVec.eq_of_toNat_eq
    simp only [BitVec.extractLsb'_toNat, BitVec.toNat_shiftLeft, BitVec.toNat_ushiftRight, Nat.shiftLeft_eq, Nat.shiftRight_eq_div_pow]
    have := w.isLt
    omega
  · simp only [BitVec.extractLsb'_toNat, BitVec.toNat_shiftLeft, BitVec.toNat_ushiftRight, Nat.shiftLeft_eq, Nat.shiftRight_eq_div_pow]
    have := w.isLt
    omega

/-- A feature of a tile's token, read from the tile's packed words. -/
def tileFeature (X : S2048x128.Idx → BitVec 32) (p : Fin 256) (d : Fin 2048) : EReal :=
  if h : d.val < 1024 then Ideal.ofBits .f32 (IntOp.shli .host (X (ix2 ⟨p.val * 8 + d.val / 128, by omega⟩ ⟨d.val % 128, by omega⟩)) 16#32)
  else Ideal.ofBits .f32 (IntOp.andi (X (ix2 ⟨p.val * 8 + (d.val - 1024) / 128, by omega⟩ ⟨(d.val - 1024) % 128, by omega⟩)) 4294901760#32)

/-- Column block `k` of a tile. -/
def colBlock (X : S2048x128.Idx → BitVec 32) : Fin 16 → S256x128.Idx → EReal :=
  ![k0_pay8 (F := Ideal) (ld0 (F := Ideal) X), k0_pay9 (F := Ideal) (ld1 (F := Ideal) X), k0_pay10 (F := Ideal) (ld2 (F := Ideal) X), k0_pay11 (F := Ideal) (ld3 (F := Ideal) X),
    k0_pay12 (F := Ideal) (ld4 (F := Ideal) X), k0_pay13 (F := Ideal) (ld5 (F := Ideal) X), k0_pay14 (F := Ideal) (ld6 (F := Ideal) X), k0_pay15 (F := Ideal) (ld7 (F := Ideal) X),
    k0_pay16 (F := Ideal) (ld0 (F := Ideal) X), k0_pay17 (F := Ideal) (ld1 (F := Ideal) X), k0_pay18 (F := Ideal) (ld2 (F := Ideal) X), k0_pay19 (F := Ideal) (ld3 (F := Ideal) X),
    k0_pay20 (F := Ideal) (ld4 (F := Ideal) X), k0_pay21 (F := Ideal) (ld5 (F := Ideal) X), k0_pay22 (F := Ideal) (ld6 (F := Ideal) X), k0_pay23 (F := Ideal) (ld7 (F := Ideal) X)]

/-- The sixteen column blocks of a tile, together. -/
def cols (X : S2048x128.Idx → BitVec 32) : FVec Ideal S256x2048 .f32 :=
  concatenate S256x2048 1 (List.ofFn fun k : Fin 16 => ⟨S256x128, colBlock X k⟩)
    concatenates_S256x128_S256x128_S256x128_S256x128_S256x128_S256x128_S256x128_S256x128_S256x128_S256x128_S256x128_S256x128_S256x128_S256x128_S256x128_S256x128_S256x2048_d1

/-- A column block, read: low halves of the words in the first eight, high halves in the others. -/
theorem colBlock_apply (X : S2048x128.Idx → BitVec 32) (k : Fin 16) (p : Fin 256) (l : Fin 128) :
    colBlock X k (ix2 p l) = if k.val < 8 then Ideal.ofBits .f32 (IntOp.shli .host (X (ix2 ⟨p.val * 8 + k.val % 8, by omega⟩ l)) 16#32)
      else Ideal.ofBits .f32 (IntOp.andi (X (ix2 ⟨p.val * 8 + k.val % 8, by omega⟩ l)) 4294901760#32) := by
  rw [← low_half, ← high_half]
  fin_cases k
  case «0» =>
    pointwise [colBlock, k0_pay8, ld0]
    congr 4
    exact Fin.ext (show 8 * p.val = p.val * 8 + 0 % 8 by omega)
  case «1» =>
    pointwise [colBlock, k0_pay9, ld1]
    congr 4
    exact Fin.ext (show 1 + 8 * p.val = p.val * 8 + 1 % 8 by omega)
  case «2» =>
    pointwise [colBlock, k0_pay10, ld2]
    congr 4
    exact Fin.ext (show 2 + 8 * p.val = p.val * 8 + 2 % 8 by omega)
  case «3» =>
    pointwise [colBlock, k0_pay11, ld3]
    congr 4
    exact Fin.ext (show 3 + 8 * p.val = p.val * 8 + 3 % 8 by omega)
  case «4» =>
    pointwise [colBlock, k0_pay12, ld4]
    congr 4
    exact Fin.ext (show 4 + 8 * p.val = p.val * 8 + 4 % 8 by omega)
  case «5» =>
    pointwise [colBlock, k0_pay13, ld5]
    congr 4
    exact Fin.ext (show 5 + 8 * p.val = p.val * 8 + 5 % 8 by omega)
  case «6» =>
    pointwise [colBlock, k0_pay14, ld6]
    congr 4
    exact Fin.ext (show 6 + 8 * p.val = p.val * 8 + 6 % 8 by omega)
  case «7» =>
    pointwise [colBlock, k0_pay15, ld7]
    congr 4
    exact Fin.ext (show 7 + 8 * p.val = p.val * 8 + 7 % 8 by omega)
  case «8» =>
    pointwise [colBlock, k0_pay16, ld0]
    congr 4
    exact Fin.ext (show 8 * p.val = p.val * 8 + 8 % 8 by omega)
  case «9» =>
    pointwise [colBlock, k0_pay17, ld1]
    congr 4
    exact Fin.ext (show 1 + 8 * p.val = p.val * 8 + 9 % 8 by omega)
  case «10» =>
    pointwise [colBlock, k0_pay18, ld2]
    congr 4
    exact Fin.ext (show 2 + 8 * p.val = p.val * 8 + 10 % 8 by omega)
  case «11» =>
    pointwise [colBlock, k0_pay19, ld3]
    congr 4
    exact Fin.ext (show 3 + 8 * p.val = p.val * 8 + 11 % 8 by omega)
  case «12» =>
    pointwise [colBlock, k0_pay20, ld4]
    congr 4
    exact Fin.ext (show 4 + 8 * p.val = p.val * 8 + 12 % 8 by omega)
  case «13» =>
    pointwise [colBlock, k0_pay21, ld5]
    congr 4
    exact Fin.ext (show 5 + 8 * p.val = p.val * 8 + 13 % 8 by omega)
  case «14» =>
    pointwise [colBlock, k0_pay22, ld6]
    congr 4
    exact Fin.ext (show 6 + 8 * p.val = p.val * 8 + 14 % 8 by omega)
  case «15» =>
    pointwise [colBlock, k0_pay23, ld7]
    congr 4
    exact Fin.ext (show 7 + 8 * p.val = p.val * 8 + 15 % 8 by omega)

/-- The column blocks, read. -/
theorem cols_apply (X : S2048x128.Idx → BitVec 32) (p : Fin 256) (d : Fin 2048) : cols X (ix2 p d) = tileFeature X p d := by
  have hd := d.isLt
  unfold cols
  refine (concatenate_ofFn_apply (t := S256x2048) (s₁ := S256x128) 1 (colBlock X) _ rfl 128 rfl (ix2 p d) ⟨d.val / 128, by omega⟩ rfl (ix2 p ⟨d.val % 128, by omega⟩) rfl ?_).trans ?_
  rotate_left
  · rw [colBlock_apply]
    unfold tileFeature
    by_cases h : d.val < 1024
    · rw [if_pos (show d.val / 128 < 8 by omega), dif_pos h]
      congr 5
      show p.val * 8 + d.val / 128 % 8 = p.val * 8 + d.val / 128
      omega
    · rw [if_neg (show ¬ d.val / 128 < 8 by omega), dif_neg h]
      congr 4
      · apply Fin.ext
        show p.val * 8 + d.val / 128 % 8 = p.val * 8 + (d.val - 1024) / 128
        omega
      · apply Fin.ext
        show d.val % 128 = (d.val - 1024) % 128
        omega
  · intro b hb
    match b, hb with
    | ⟨0, _⟩, _ => rfl
    | ⟨1, _⟩, hb => exact absurd rfl hb

/-- A tile's tokens against a matrix. -/
def tileProj (X : S2048x128.Idx → BitVec 32) (G : S1x2048x512.Idx → EReal) : FVec Ideal S256x512 .f32 :=
  matmul (F := Ideal) dot_S256x2048_S2048x512_S256x512_1_0_0_1_n_n none (truncf .bf16 (cols X) bitsLt_bf16_f32) (truncf .bf16 (shapeCast S2048x512 G shapeCasts_S1x2048x512_S2048x512 : FVec Ideal S2048x512 .f32) bitsLt_bf16_f32) (constant S256x512 .f32 0x00000000#32)

/-- The tile's tokens against a matrix, read. -/
theorem tileProj_apply (X : S2048x128.Idx → BitVec 32) (G : S1x2048x512.Idx → EReal) (p : Fin 256) (f : Fin 512) :
    tileProj X G (ix2 p f) = ∑ d : Fin 2048, tileFeature X p d * G (ix3 0 d f) := by
  pointwise [tileProj]
  exact Finset.sum_congr rfl fun d _ => by rw [cols_apply]

/-- A tile's products, in its projections. -/
theorem products_eq (X : S2048x128.Idx → BitVec 32) (G U : S1x2048x512.Idx → EReal) (D : S1x512x2048.Idx → EReal) :
    products (F := Ideal) X G U D = matmul (F := Ideal) dot_S256x512_S512x2048_S256x2048_1_0_0_1_n_n none
      (truncf .bf16 (mulf (mulf (tileProj X G) (divf (broadcast S256x512 (Scalar.ofBits .f32 0x3F800000#32)) (addf (broadcast S256x512 (Scalar.ofBits .f32 0x3F800000#32))
        (exp (subf (broadcast S256x512 (Scalar.ofBits .f32 0x00000000#32)) (tileProj X G)))))) (tileProj X U)) bitsLt_bf16_f32)
      (truncf .bf16 (shapeCast S512x2048 D shapeCasts_S1x512x2048_S512x2048 : FVec Ideal S512x2048 .f32) bitsLt_bf16_f32) (constant S256x2048 .f32 0x00000000#32) := rfl

/-- A tile's products, read. -/
theorem products_apply (X : S2048x128.Idx → BitVec 32) (G U : S1x2048x512.Idx → EReal) (D : S1x512x2048.Idx → EReal) (p : Fin 256) (j : Fin 2048) :
    products (F := Ideal) X G U D (ix2 p j) = ∑ f : Fin 512, tileProj X G (ix2 p f) * Ideal.div 1 (1 + Ideal.exp (-tileProj X G (ix2 p f))) * tileProj X U (ix2 p f) * D (ix3 0 f j) := by
  rw [products_eq]
  generalize tileProj X G = g
  generalize tileProj X U = u
  pointwise
  exact Finset.sum_congr rfl fun f _ => by rw [zero_sub]

/-- A tile's block of results, read. -/
theorem blockY_apply (M : FVec Ideal S256x2048 .f32) (y0 : Fin 2048) (h : Fin 2) (l : Fin 128) :
    blockY (F := Ideal) M (ix3 y0 h l) = M (ix2 ⟨y0.val / 8, by omega⟩ ⟨h.val * 1024 + y0.val % 8 * 128 + l.val, by omega⟩) := by
  have h8 : ∀ (k : Fin 8) (a : Fin 256) (b : Fin 2) (c : Fin 128), rowPay (F := Ideal) M k.val (ix3 a b c) = M (ix2 a ⟨b.val * 1024 + k.val * 128 + c.val, by omega⟩) := by
    intro k a b c
    fin_cases k
    all_goals
      pointwise [rowPay]
      fin_cases b
      · rw [if_pos (by decide)]
        congr 2
        try exact Fin.ext (by simp)
      · rw [if_neg (by decide)]
        congr 2
        try exact Fin.ext (by simp)
  have e : ix (ix3 y0 h l) = ix3 ⟨y0.val / 8, by omega⟩ h l := by
    funext a
    match a with
    | ⟨0, _⟩ => rfl
    | ⟨1, _⟩ => rfl
    | ⟨2, _⟩ => rfl
  unfold blockY
  rw [e]
  exact h8 ⟨y0.val % 8, Nat.mod_lt _ (by decide)⟩ _ _ _

/-- The block of a tile that does not count is zero. -/
theorem pay7_apply (y : S2048x2x128.Idx) : k0_pay7 (F := Ideal) y = (0 : EReal) := by
  idx_vars y
  pointwise [k0_pay7]
  exact ite_self _

/-- The row array, read. -/
theorem rowsOut_apply (B : S212992x2x128.Idx → EReal) (r : Fin 26624) (j : Fin 2048) :
    rowsOut (F := Ideal) B (ix2 r j) = B (ix3 ⟨r.val * 8 + j.val / 128 % 8, by omega⟩ ⟨j.val / 1024, by omega⟩ ⟨j.val % 128, by omega⟩) := by
  have h2 : ∀ (k : Fin 2) (v : S26624x2x128.Idx → EReal) (r : Fin 26624) (l : Fin 128), halfPay (F := Ideal) k.val v (ix2 r l) = v (ix3 r k l) := by
    intro k v r l
    fin_cases k
    · pointwise [halfPay, k1_pay1]
    · pointwise [halfPay, k1_pay2]
  have e : colIx (ix2 r j) = ix2 r ⟨j.val % 128, by omega⟩ := by
    funext a
    match a with
    | ⟨0, _⟩ => rfl
    | ⟨1, _⟩ => rfl
  unfold rowsOut
  rw [e]
  refine (h2 ⟨j.val / 128 / 8, by omega⟩ _ r ⟨j.val % 128, by omega⟩).trans ?_
  unfold rawRows
  congr 1
  funext a
  apply Fin.ext
  match a with
  | ⟨0, _⟩ => show j.val / 128 % 8 + 8 * r.val = r.val * 8 + j.val / 128 % 8; omega
  | ⟨1, _⟩ => show 0 + 1 * (j.val / 128 / 8) = j.val / 1024; omega
  | ⟨2, _⟩ => show 0 + 1 * (j.val % 128) = j.val % 128; omega

end Cert.KernelIdeal.Body

end
-- ==== Proof.KEnd.lean ====
/-
  The rows the run leaves, in the words, the matrices and the tables.
-/
module

public import proofs.«01_k».proof.Proof.KVal
public import proofs.«01_k».proof.Proof.Segs
public import Idealize.ShloMosaic.Lib.Pipeline.ValueKit.Geometry
public import Idealize.ShloMosaic.Lib.Pipeline.Covers

@[expose] public section

set_option maxRecDepth 100000

noncomputable section

namespace Cert.KernelIdeal.Body

open Idealize.ShloMosaic Idealize.ShloMosaic.TcCoe Idealize.SL Idealize.SL.Sem
open Cert.KernelIdeal Cert.KernelIdeal.Gen Cert.Proof.Copies
open Idealize.ShloMosaic.Pipeline (Dat Window)

/-- The block of results a point writes is its own. -/
theorem index1_eq : ∀ t : Fin grid0.N, cc0_transform_4 (grid0.coords t) 0 = t.val ∧ cc0_transform_4 (grid0.coords t) 1 = 0 ∧ cc0_transform_4 (grid0.coords t) 2 = 0 := by decide +kernel

section
variable (W : Dev nD → Valuation τ sig (Elt Ideal)) (n : ℕ) (T : ℕ → Fin 32) (hW : Tiles W n T) (c : Dev nD)

/-- The results the first region leaves, read: word row `2048 t + y` is row `y` of tile `t`. -/
theorem wordsOut_apply (t : Fin grid0.N) (y : Fin 2048) (h : Fin 2) (l : Fin 128) (hb : t.val * 2048 + y.val < 212992) :
    wordsOut W n T hW c (ix3 ⟨t.val * 2048 + y.val, hb⟩ h l) = block0 (adm0 hW) W n T c t (ix3 y h l) := by
  have hN : grid0.N = 104 := rfl
  have key : wordsOut W n T hW c = fun i : S212992x2x128.Idx => block0 (adm0 hW) W n T c ⟨(i 0).val / 2048, by have : (i 0).val < 212992 := (i 0).isLt; omega⟩
      (ix3 ⟨(i 0).val % 2048, Nat.mod_lt _ (by decide)⟩ (i 1) (i 2)) := by
    unfold wordsOut
    refine (dat0 (adm0 hW) W n T c).arrAt_eq_of_covers 1 _ ?_ ?_
    · refine Window.covers_of_index_surj _ rfl ?_ fun β => ?_
      · intro a
        match a with
        | ⟨0, _⟩ => show 0 < 2048; omega
        | ⟨1, _⟩ => show 0 < 2; omega
        | ⟨2, _⟩ => show 0 < 128; omega
      · have h0 : (β (0 : Fin 3)).val < 104 := Nat.lt_of_lt_of_eq (β (0 : Fin 3)).isLt (show (212992 + 2048 - 1) / 2048 = 104 by norm_num)
        have h1 : (β (1 : Fin 3)).val < 1 := Nat.lt_of_lt_of_eq (β (1 : Fin 3)).isLt (show (2 + 2 - 1) / 2 = 1 by norm_num)
        have h2 : (β (2 : Fin 3)).val < 1 := Nat.lt_of_lt_of_eq (β (2 : Fin 3)).isLt (show (128 + 128 - 1) / 128 = 1 by norm_num)
        refine ⟨⟨(β (0 : Fin 3)).val, h0⟩, fun a => ?_⟩
        match a with
        | ⟨0, _⟩ => exact (index1_eq ⟨(β (0 : Fin 3)).val, h0⟩).1
        | ⟨1, _⟩ => exact (Nat.lt_one_iff.1 h1).symm
        | ⟨2, _⟩ => exact (Nat.lt_one_iff.1 h2).symm
    · intro t hf y
      have he : ∀ a : Fin 3, ((((cfg0 (adm0 hW)).win 1).blk t).view.emb y a).val = ((cfg0 (adm0 hW)).win 1).index t a * ((cfg0 (adm0 hW)).win 1).size a + (y a).val :=
        fun a => Window.rect_emb_val ((cfg0 (adm0 hW)).win 1) t y a rfl
      have e0 : ((((cfg0 (adm0 hW)).win 1).blk t).view.emb y (0 : Fin 3)).val = t.val * 2048 + (y (0 : Fin 3)).val := by
        rw [he 0, show ((cfg0 (adm0 hW)).win 1).index t (0 : Fin 3) = t.val from (index1_eq t).1]; rfl
      have e1 : ((((cfg0 (adm0 hW)).win 1).blk t).view.emb y (1 : Fin 3)).val = (y (1 : Fin 3)).val := by
        rw [he 1, show ((cfg0 (adm0 hW)).win 1).index t (1 : Fin 3) = 0 from (index1_eq t).2.1, Nat.zero_mul, Nat.zero_add]
      have e2 : ((((cfg0 (adm0 hW)).win 1).blk t).view.emb y (2 : Fin 3)).val = (y (2 : Fin 3)).val := by
        rw [he 2, show ((cfg0 (adm0 hW)).win 1).index t (2 : Fin 3) = 0 from (index1_eq t).2.2, Nat.zero_mul, Nat.zero_add]
      have hy0 : (y (0 : Fin 3)).val < 2048 := (y (0 : Fin 3)).isLt
      show block0 (adm0 hW) W n T c t _ = block0 (adm0 hW) W n T c _ _
      congr 1
      · exact Fin.ext (show t.val = _ / 2048 by rw [e0]; omega)
      · funext a
        apply Fin.ext
        match a with
        | ⟨0, _⟩ => exact (show (y (0 : Fin 3)).val = _ % 2048 by rw [e0]; omega)
        | ⟨1, _⟩ => exact e1.symm
        | ⟨2, _⟩ => exact e2.symm
  rw [key]
  have h1 : (t.val * 2048 + y.val) / 2048 = t.val := by omega
  have h2 : (t.val * 2048 + y.val) % 2048 = y.val := by omega
  show block0 (adm0 hW) W n T c ⟨(t.val * 2048 + y.val) / 2048, _⟩ (ix3 ⟨(t.val * 2048 + y.val) % 2048, _⟩ h l) = _
  simp only [h1, h2]

/-- The words a tile that counts reads. -/
theorem words0_apply (t : Fin grid0.N) (ht : t.val < n) (y : Fin 2048) (l : Fin 128) (hb : t.val * 2048 + y.val < 212992) :
    words0 (adm0 hW) W c t (ix2 y l) = W c (Proc.devRef .tc main_arg1) (ix2 ⟨t.val * 2048 + y.val, hb⟩ l) := by
  have hix : ((cfg0 (adm0 hW)).win 0).index t = ![t.val, 0] := by
    refine (transform_eq hW (grid0.coords t)).trans ?_
    rw [coord_eq t, Nat.min_eq_left (by omega)]
  show W c (Proc.devRef .tc main_arg1) ((((cfg0 (adm0 hW)).win 0).blk t).view.emb (ix2 y l)) = _
  congr 1
  have he : ∀ a : Fin 2, ((((cfg0 (adm0 hW)).win 0).blk t).view.emb (ix2 y l) a).val = ((cfg0 (adm0 hW)).win 0).index t a * ((cfg0 (adm0 hW)).win 0).size a + (ix2 y l a).val :=
    fun a => Window.rect_emb_val ((cfg0 (adm0 hW)).win 0) t (ix2 y l) a rfl
  funext a
  apply Fin.ext
  match a with
  | ⟨0, _⟩ => exact (he 0).trans (by rw [hix]; rfl)
  | ⟨1, _⟩ => exact (he 1).trans (by rw [hix]; show 0 * 128 + l.val = l.val; omega)

/-- An expert's gate or up matrix, read. -/
theorem matE_apply (A : Memref sig .tc .hbm S1x32x2048x512 .f32) (b : A.view.ty.Contents (Elt Ideal)) (e : Fin 32) (d : Fin 2048) (f : Fin 512) :
    matE (F := Ideal) A b e (ix3 0 d f) = A.view.read (Elt Ideal) b (ix4 0 e d f) := by
  unfold matE blockOf
  congr 1
  have hr : Shape.reshapeEquiv (nS 0 e) (ix3 (0 : Fin 1) d f : (rS 0).shape.Idx) = (ix4 (0 : Fin 1) (0 : Fin 1) d f : (rE e).shape.Idx) := by
    refine (Shape.reshapeEquiv_cons_one (d := ![1, 2048, 512]) (nS 0 e) _).trans ?_
    funext a
    match a with
    | ⟨0, _⟩ => rfl
    | ⟨1, _⟩ => rfl
    | ⟨2, _⟩ => rfl
    | ⟨3, _⟩ => rfl
  rw [hr]
  funext a
  apply Fin.ext
  rw [ValueKit.rect_emb_unit_val]
  match a with
  | ⟨0, _⟩ => rfl
  | ⟨1, _⟩ => rfl
  | ⟨2, _⟩ => exact Nat.zero_add _
  | ⟨3, _⟩ => exact Nat.zero_add _

/-- An expert's down matrix, read. -/
theorem matF_apply (A : Memref sig .tc .hbm S1x32x512x2048 .f32) (b : A.view.ty.Contents (Elt Ideal)) (e : Fin 32) (f : Fin 512) (j : Fin 2048) :
    matF (F := Ideal) A b e (ix3 0 f j) = A.view.read (Elt Ideal) b (ix4 0 e f j) := by
  unfold matF blockOf
  congr 1
  have hr : Shape.reshapeEquiv (nT 0 e) (ix3 (0 : Fin 1) f j : (rT 0).shape.Idx) = (ix4 (0 : Fin 1) (0 : Fin 1) f j : (rF e).shape.Idx) := by
    refine (Shape.reshapeEquiv_cons_one (d := ![1, 512, 2048]) (nT 0 e) _).trans ?_
    funext a
    match a with
    | ⟨0, _⟩ => rfl
    | ⟨1, _⟩ => rfl
    | ⟨2, _⟩ => rfl
    | ⟨3, _⟩ => rfl
  rw [hr]
  funext a
  apply Fin.ext
  rw [ValueKit.rect_emb_unit_val]
  match a with
  | ⟨0, _⟩ => rfl
  | ⟨1, _⟩ => rfl
  | ⟨2, _⟩ => exact Nat.zero_add _
  | ⟨3, _⟩ => exact Nat.zero_add _

/-- The rows the second region leaves. -/
theorem rowsEnd_eq : rowsEnd W n T hW c = rowsOut (F := Ideal) (wordsOut W n T hW c) := by
  unfold rowsEnd
  refine (dat1 (Wmid W n T hW) c).arrAt_eq_of_after_last 1 ⟨0, by decide⟩ (by decide +kernel) _ fun j => ?_
  show rowsOut (F := Ideal) (Wmid W n T hW c (Proc.devRef .tc main_v31)) _ = _
  rw [Wmid_self]
  rfl

end

end Cert.KernelIdeal.Body

end
-- ==== Proof.Ref.lean ====
module

public import proofs.«01_k».proof.Defs
public import proofs.«01_k».proof.Proof.Counts
public import proofs.«01_k».proof.Proof.Gen.ReferenceIdeal
public import Idealize.ShloMosaic.Lib.Claim

@[expose] public section

set_option maxRecDepth 100000

noncomputable section

namespace Cert.ReferenceIdeal.Body

open Idealize.ShloMosaic Idealize.ShloMosaic.TcCoe Idealize.ShloMosaic.StableHlo Idealize.SL.Sem Cert.ReferenceIdeal Cert.ReferenceIdeal.Facts₀ Cert.ReferenceIdeal.Facts Cert.Proof

/-- The packed words, a row of them to a token. -/
def wordRows (A : IVec S212992x128 32) : IVec S26624x1024 32 := fun i => shapeCast S26624x1024 A shapeCasts_S212992x128_S26624x1024 i
/-- The tokens: the words' low halves, then their high halves. -/
def tokens (A : IVec S212992x128 32) : FVec Ideal S26624x2048 .f32 :=
  concatenate S26624x2048 1 [⟨S26624x1024, bitcastToFloat .f32 (Host.shli (wordRows A) (broadcastInDim S26624x1024 ![] bcast_S_S26624x1024 (constantI S_ 32 16#32)))⟩,
    ⟨S26624x1024, bitcastToFloat .f32 (andi (wordRows A) (broadcastInDim S26624x1024 ![] bcast_S_S26624x1024 (constantI S_ 32 4294901760#32)))⟩] concatenates_S26624x1024_S26624x1024_S26624x2048_d1
/-- Each row's number, over the groups. -/
def groupOf (C : IVec S32 32) : IVec S26624 32 :=
  Host.reduce IntOp.addi (extui 32 (cmpi .sge
      (broadcastInDim S26624x32 ![0, 1] bcast_S26624x1_S26624x32_0_1 (broadcastInDim S26624x1 ![0] bcast_S26624_S26624x1_0 (iotaInDim S26624 32 0)))
      (broadcastInDim S26624x32 ![0, 1] bcast_S1x32_S26624x32_0_1 (broadcastInDim S1x32 ![1] bcast_S32_S1x32_1 (Counts.ends C)))) natLt_1_32) (constantI S_ 32 0#32) reducesTo_S26624x32_S26624_d1 h_S_
/-- The weight of each group at each row: one or zero. -/
def weights (C : IVec S32 32) : FVec Ideal S26624x32 .f32 :=
  select (broadcastInDim S26624x32 ![0, 1] bcast_S26624x1_S26624x32_0_1 (cmpi .slt (broadcastInDim S26624x1 ![0] bcast_S26624_S26624x1_0 (iotaInDim S26624 32 0))
      (broadcastInDim S26624x1 ![] bcast_S_S26624x1 (fun i => shapeCast S_ (extractStridedSlice S1 ![31] (Counts.ends C) slices_S32_S1_31) shapeCasts_S1_S_ i))))
    (uitofp .f32 (cmpi .eq (broadcastInDim S26624x32 ![0, 1] bcast_S26624x1_S26624x32_0_1 (broadcastInDim S26624x1 ![0] bcast_S26624_S26624x1_0 (groupOf C)))
      (broadcastInDim S26624x32 ![0, 1] bcast_S1x32_S26624x32_0_1 (iotaInDim S1x32 32 1))))
    (broadcastInDim S26624x32 ![] bcast_S_S26624x32 (constant S_ .f32 0x00000000#32))
/-- The tokens against each group's columns. -/
def proj (A : IVec S212992x128 32) (G : FVec Ideal S1x32x2048x512 .f32) : FVec Ideal S26624x32x512 .f32 :=
  Host.dotGeneral dot_S26624x2048_S32x2048x512_S26624x32x512_1_1_0_02_n_n none (tokens A) (fun i => shapeCast S32x2048x512 G shapeCasts_S1x32x2048x512_S32x2048x512 i)
/-- The gate. -/
def gate (x : FVec Ideal S26624x32x512 .f32) : FVec Ideal S26624x32x512 .f32 :=
  mulf x (Host.divf (broadcastInDim S26624x32x512 ![] bcast_S_S26624x32x512 (constant S_ .f32 0x3F800000#32)) (addf (broadcastInDim S26624x32x512 ![] bcast_S_S26624x32x512 (constant S_ .f32 0x3F800000#32)) (Host.exp (Host.negf x))))
/-- The hidden rows under their weights. -/
def hidden (C : IVec S32 32) (A : IVec S212992x128 32) (G U : FVec Ideal S1x32x2048x512 .f32) : FVec Ideal S26624x32x512 .f32 :=
  mulf (mulf (gate (proj A G)) (proj A U)) (broadcastInDim S26624x32x512 ![0, 1, 2] bcast_S26624x32x1_S26624x32x512_0_1_2 (broadcastInDim S26624x32x1 ![0, 1] bcast_S26624x32_S26624x32x1_0_1 (weights C)))
/-- What the reference returns. -/
def out (C : IVec S32 32) (A : IVec S212992x128 32) (G U : FVec Ideal S1x32x2048x512 .f32) (D : FVec Ideal S1x32x512x2048 .f32) : FVec Ideal S26624x2048 .f32 :=
  Host.dotGeneral dot_S26624x32x512_S32x512x2048_S26624x2048_12_01_0_2_n_n none (hidden C A G U) (fun i => shapeCast S32x512x2048 D shapeCasts_S1x32x512x2048_S32x512x2048 i)

end Cert.ReferenceIdeal.Body

end
-- ==== Proof.RefRun.lean ====
module

public import proofs.«01_k».proof.Defs
public import proofs.«01_k».proof.Proof.Ref
public import proofs.«01_k».proof.Proof.Counts
public import proofs.«01_k».proof.Proof.Gen.ReferenceIdeal
public import Idealize.ShloMosaic.Lib.Claim

@[expose] public section

set_option maxRecDepth 100000

noncomputable section

namespace Cert.ReferenceIdeal.Body

open Idealize.ShloMosaic Idealize.ShloMosaic.TcCoe Idealize.ShloMosaic.StableHlo Idealize.SL.Sem Cert.ReferenceIdeal Cert.ReferenceIdeal.Facts₀ Cert.ReferenceIdeal.Facts Cert.Proof

set_option maxHeartbeats 2000000 in
attribute [local irreducible] Host.reduceWindow Host.reduce in
/-- The reference's run: its result is `out` of the arguments, which it leaves. -/
theorem run (m : (ℓ : Loc nD τ sig) → Buf (Elt Ideal) ℓ) (ρ : Dev nD → PrngReg) (v : (c : Dev nD) → Buf (Elt Ideal) ((c.tc : Thread nD τ).loc main_v41))
    (hv : ∀ c : Dev nD, out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) = v c) :
    θ_run (defs (F := Ideal)) (onTc (τ := τ) (main (F := Ideal))) ⟨m, fun _ => 0, ρ⟩ (fun r => ∀ c : Dev nD,
          r.2.mem ((c.tc : Thread nD τ).loc main_v41) = v c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)) := by
  hlo_run
  refine Eq.trans ?_ (hv _)
  simp only [TRef.ofBuf_toBuf]
  rfl

end Cert.ReferenceIdeal.Body

end
-- ==== Proof.Spec.lean ====
module

public import proofs.«01_k».proof.Proof.Ref
public import Idealize.ShloMosaic.Lib.Pointwise.Contract
public import Idealize.ShloMosaic.Lib.Pointwise.Sums
public import Idealize.ShloMosaic.Lib.Pointwise.Select
public import Idealize.ShloMosaic.Lib.Pointwise.SelectCore
public import Idealize.ShloMosaic.Lib.Pointwise.ShapeOps
public import Idealize.ShloMosaic.Lib.Pointwise.Reshape
public import Idealize.ShloMosaic.Lib.Pointwise.Elementwise
public import Idealize.ShloMosaic.Lib.Pointwise.Reduce
public import Idealize.ShloMosaic.Lib.Pointwise.IndexBridge
public import Idealize.ShloMosaic.Lib.Pointwise.Blocks
public import Idealize.ShloMosaic.Lib.Pointwise.Tactic
public import Idealize.ShloMosaic.Lib.IdealHost

@[expose] public section

set_option maxRecDepth 16384

noncomputable section

namespace Cert.ReferenceIdeal.Body

open Idealize.ShloMosaic Cert.ReferenceIdeal Cert.ReferenceIdeal.Facts₀ Cert.ReferenceIdeal.Facts Cert.Proof

/-- A token's feature, read from the packed words: the low half of its word in the first half of the features, the high half in the second. -/
def feature (A : IVec S212992x128 32) (r : Fin 26624) (d : Fin 2048) : EReal :=
  if h : d.val < 1024 then Ideal.ofBits .f32 (IntOp.shli .host (A (ix2 ⟨r.val * 8 + d.val / 128, by omega⟩ ⟨d.val % 128, by omega⟩)) 16#32)
  else Ideal.ofBits .f32 (IntOp.andi (A (ix2 ⟨r.val * 8 + (d.val - 1024) / 128, by omega⟩ ⟨(d.val - 1024) % 128, by omega⟩)) 4294901760#32)

/-- A token against a group's column. -/
def dotx (A : IVec S212992x128 32) (G : FVec Ideal S1x32x2048x512 .f32) (r : Fin 26624) (e : Fin 32) (f : Fin 512) : EReal :=
  ∑ d : Fin 2048, feature A r d * G (ix4 0 e d f)

/-- A hidden value. -/
def hid (A : IVec S212992x128 32) (G U : FVec Ideal S1x32x2048x512 .f32) (r : Fin 26624) (e : Fin 32) (f : Fin 512) : EReal :=
  dotx A G r e f * Ideal.div 1 (1 + Ideal.exp (-dotx A G r e f)) * dotx A U r e f

/-- A row's result under one group's matrices. -/
def rowOut (A : IVec S212992x128 32) (G U : FVec Ideal S1x32x2048x512 .f32) (D : FVec Ideal S1x32x512x2048 .f32) (r : Fin 26624) (e : Fin 32) (j : Fin 2048) : EReal :=
  ∑ f : Fin 512, hid A G U r e f * D (ix4 0 e f j)

/-- The tokens, read. -/
theorem tokens_apply (A : IVec S212992x128 32) (r : Fin 26624) (d : Fin 2048) : tokens A (ix2 r d) = feature A r d := by
  pointwise [tokens, wordRows]
  rfl

/-- The projection, read. -/
theorem proj_apply (A : IVec S212992x128 32) (G : FVec Ideal S1x32x2048x512 .f32) (r : Fin 26624) (e : Fin 32) (f : Fin 512) :
    proj A G (ix3 r e f) = dotx A G r e f := by
  have h : proj A G (ix3 r e f) = ∑ d : Fin 2048, tokens A (ix2 r d) * G (ix4 0 e d f) := by
    pointwise [proj]
  rw [h]
  exact Finset.sum_congr rfl fun d _ => by rw [tokens_apply]

/-- The number of groups ending at or before a row, as counted. -/
theorem groupOf_apply (C : IVec S32 32) (r : Fin 26624) : groupOf C (ix1 r) = BitVec.ofNat 32 (Counts.groups C r.val) := by
  unfold groupOf Counts.groups
  rw [ix1_eq_valueIdx]
  refine Routing.reduce_count (by decide) _ _ _ _ r _ fun q => ?_
  have e : (cmpi .sge
      (broadcastInDim S26624x32 ![0, 1] bcast_S26624x1_S26624x32_0_1 (broadcastInDim S26624x1 ![0] bcast_S26624_S26624x1_0 (iotaInDim S26624 32 0)))
      (broadcastInDim S26624x32 ![0, 1] bcast_S1x32_S26624x32_0_1 (broadcastInDim S1x32 ![1] bcast_S32_S1x32_1 (Counts.ends C)))) (ix2 r q)
      = BitVec.ofBool ((Counts.ends C (ix1 q)).sle (BitVec.ofNat 32 r.val)) := by
    pointwise
    rfl
  rw [← ix2_eq_valueIdx, e, Counts.ofBool_eq_one, BitVec.sle_iff_toInt_le]
  have hr : (BitVec.ofNat 32 r.val).toInt = (r.val : ℕ) := by
    rw [BitVec.toInt_eq_toNat_cond, BitVec.toNat_ofNat]
    have := r.isLt
    rw [if_pos (by omega)]
    omega
  rw [hr, ix1_eq_valueIdx]
  constructor
  · exact fun h => ⟨q.isLt, h⟩
  · exact fun ⟨_, h⟩ => h

/-- The weights, read, where the rows in use are `256 n`. -/
theorem weights_apply {C : IVec S32 32} {n : ℕ} (hn : n ≤ 104) (h : Counts.ends C (ValueIdx.ix1 31) = BitVec.ofNat 32 (256 * n)) (r : Fin 26624) (e : Fin 32) :
    weights C (ix2 r e) = if r.val < 256 * n then (if Counts.groups C r.val = e.val then 1 else 0) else 0 := by
  have hw : weights C (ix2 r e) = Scalar.select (IntOp.cmpi CmpIPredicate.slt (BitVec.ofNat 32 r.val) (Counts.ends C (ix1 31)))
      (FloatOps.uitofp (F := Ideal) FTy.f32 (IntOp.cmpi CmpIPredicate.eq (groupOf C (ix1 r)) (BitVec.ofNat 32 e.val))) 0 := by
    pointwise [weights]
  have hr := r.isLt
  have hg : Counts.groups C r.val ≤ 32 := Nat.count_le _
  have hs : IntOp.cmpi CmpIPredicate.slt (BitVec.ofNat 32 r.val) (BitVec.ofNat 32 (256 * n)) = BitVec.ofBool (decide (r.val < 256 * n)) := by
    show BitVec.ofBool (BitVec.slt _ _) = _
    congr 1
    rw [Bool.eq_iff_iff, BitVec.slt_iff_toInt_lt, decide_eq_true_iff, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    omega
  have he : IntOp.cmpi CmpIPredicate.eq (BitVec.ofNat 32 (Counts.groups C r.val)) (BitVec.ofNat 32 e.val) = BitVec.ofBool (decide (Counts.groups C r.val = e.val)) := by
    show BitVec.ofBool (_ == _) = _
    congr 1
    rw [Bool.eq_iff_iff, beq_iff_eq, decide_eq_true_iff, ← BitVec.toNat_inj, BitVec.toNat_ofNat, BitVec.toNat_ofNat, Nat.mod_eq_of_lt (by omega), Nat.mod_eq_of_lt (by omega)]
  rw [hw, groupOf_apply, ix1_eq_valueIdx, h, hs, he]
  by_cases h1 : r.val < 256 * n
  · rw [if_pos h1, decide_eq_true h1]
    by_cases h2 : Counts.groups C r.val = e.val
    · rw [if_pos h2, decide_eq_true h2]
      show (((1#1 : BitVec 1).toNat : ℝ) : EReal) = 1
      simp
    · rw [if_neg h2, decide_eq_false h2]
      show (((0#1 : BitVec 1).toNat : ℝ) : EReal) = 0
      simp
  · rw [if_neg h1, decide_eq_false h1]
    rfl

/-- The hidden rows, read. -/
theorem hidden_apply (C : IVec S32 32) (A : IVec S212992x128 32) (G U : FVec Ideal S1x32x2048x512 .f32) (r : Fin 26624) (e : Fin 32) (f : Fin 512) :
    hidden C A G U (ix3 r e f) = hid A G U r e f * weights C (ix2 r e) := by
  pointwise [hidden, gate]
  rw [proj_apply, proj_apply]
  rfl

/-- The reference's result, read as the sum over groups and hidden columns. -/
theorem out_apply (C : IVec S32 32) (A : IVec S212992x128 32) (G U : FVec Ideal S1x32x2048x512 .f32) (D : FVec Ideal S1x32x512x2048 .f32) (r : Fin 26624) (j : Fin 2048) :
    out C A G U D (ix2 r j) = ∑ e : Fin 32, ∑ f : Fin 512, hidden C A G U (ix3 r e f) * D (ix4 0 e f j) := by
  pointwise [out]

/-- The reference's result, read: a row in use has its group's, any other row has zero. -/
theorem out_eq {C : IVec S32 32} {n : ℕ} (hn : n ≤ 104) (h : Counts.ends C (ValueIdx.ix1 31) = BitVec.ofNat 32 (256 * n)) (A : IVec S212992x128 32) (G U : FVec Ideal S1x32x2048x512 .f32) (D : FVec Ideal S1x32x512x2048 .f32) (r : Fin 26624) (j : Fin 2048) (e : Fin 32)
    (he : r.val < 256 * n → Counts.groups C r.val = e.val) :
    out C A G U D (ix2 r j) = if r.val < 256 * n then rowOut A G U D r e j else 0 := by
  rw [out_apply]
  by_cases hr : r.val < 256 * n
  · rw [if_pos hr, Finset.sum_eq_single e]
    · exact Finset.sum_congr rfl fun f _ => by rw [hidden_apply, weights_apply hn h, if_pos hr, if_pos (he hr), mul_one]
    · intro e' _ hne
      refine Finset.sum_eq_zero fun f _ => ?_
      rw [hidden_apply, weights_apply hn h, if_pos hr, if_neg (fun hh => hne (Fin.ext (hh.symm.trans (he hr)))), mul_zero, zero_mul]
    · exact fun hh => absurd (Finset.mem_univ e) hh
  · rw [if_neg hr]
    refine Finset.sum_eq_zero fun e' _ => Finset.sum_eq_zero fun f _ => ?_
    rw [hidden_apply, weights_apply hn h, if_neg hr, mul_zero, zero_mul]

end Cert.ReferenceIdeal.Body

end
-- ==== Proof.Value.lean ====
/-
  The idealized kernel's rows are the idealized reference's.
-/
module

public import proofs.«01_k».proof.Proof.Claims
public import proofs.«01_k».proof.Proof.KEnd
public import proofs.«01_k».proof.Proof.RefRun
public import proofs.«01_k».proof.Proof.Spec

@[expose] public section

set_option maxRecDepth 100000

noncomputable section

namespace Cert.Proof.Counts

open Idealize.ShloMosaic Idealize.ShloMosaic.Routing Idealize.ShloMosaic.ValueIdx

/-- As many groups end at or before a row as at or before the first row of its tile. -/
theorem groups_tile (C : IVec (shape1 32) 32) (r : ℕ) : groups C r = groups C (256 * (r / 256)) := by
  obtain ⟨g, hg⟩ := ends_tiles C
  unfold groups
  congr 1
  funext e
  refine propext (exists_congr fun h => ?_)
  rw [hg]
  obtain ⟨k, hk⟩ : ∃ k : ℤ, (BitVec.ofNat 32 (256 * g (⟨e, h⟩ : Fin 32).val)).toInt = 256 * k := by
    rw [BitVec.toInt_eq_toNat_cond, BitVec.toNat_ofNat]
    split
    · exact ⟨((256 * g e % 2 ^ 32 / 256 : ℕ) : ℤ), by push_cast; omega⟩
    · exact ⟨((256 * g e % 2 ^ 32 / 256 : ℕ) : ℤ) - 2 ^ 24, by push_cast; omega⟩
  rw [hk]
  push_cast
  omega

end Cert.Proof.Counts

namespace Cert.KernelIdeal.Body

open Idealize.ShloMosaic Idealize.ShloMosaic.TcCoe
open Cert.KernelIdeal Cert.KernelIdeal.Gen

/-- A tile's word array's features are the word array's. -/
theorem feature_eq (A : S212992x128.Idx → BitVec 32) (X : S2048x128.Idx → BitVec 32) (t : ℕ) (ht : t < 104)
    (hX : ∀ (y : Fin 2048) (l : Fin 128), X (ix2 y l) = A (ix2 ⟨t * 2048 + y.val, by omega⟩ l)) (r : Fin 26624) (p : Fin 256) (hr : r.val = t * 256 + p.val) (d : Fin 2048) :
    tileFeature X p d = Cert.ReferenceIdeal.Body.feature A r d := by
  unfold tileFeature Cert.ReferenceIdeal.Body.feature
  by_cases h : d.val < 1024
  · rw [dif_pos h, dif_pos h, hX]
    congr 5
    show t * 2048 + (p.val * 8 + d.val / 128) = r.val * 8 + d.val / 128
    omega
  · rw [dif_neg h, dif_neg h, hX]
    congr 4
    apply Fin.ext
    show t * 2048 + (p.val * 8 + (d.val - 1024) / 128) = r.val * 8 + (d.val - 1024) / 128
    omega

/-- The host's operations leave an argument. -/
theorem V9_arg {F : FTy → Type} [FloatOps F] (m : (ℓ : Loc nD τ sig) → Buf (Elt F) ℓ) (c : Dev nD) (b : Ref sig .tc) (h9 : b ∉ hostOps0_8_W) (h8 : b ∉ hostOps0_7_W) (h7 : b ∉ hostOps0_6_W) (h6 : b ∉ hostOps0_5_W)
    (h5 : b ∉ hostOps0_4_W) (h4 : b ∉ hostOps0_3_W) (h3 : b ∉ hostOps0_2_W) (h2 : b ∉ hostOps0_1_W) (h1 : b ∉ hostOps0_W) : V9 m c (Proc.devRef .tc b) = m ((c.tc : Thread nD τ).loc b) :=
  (V9_of m c b h9).trans <| (V8_of m c b h8).trans <| (V7_of m c b h7).trans <| (V6_of m c b h6).trans <| (V5_of m c b h5).trans <| (V4_of m c b h4).trans <| (V3_of m c b h3).trans <|
    (V2_of m c b h2).trans <| V1_of m c b h1

/-- The rows the run leaves, read. -/
theorem rowsEnd_apply (m : (ℓ : Loc nD τ sig) → Buf (Elt Ideal) ℓ) (n : ℕ) (T : ℕ → Fin 32) (hW : Tiles (V9 m) n T) (c : Dev nD) (r : Fin 26624) (j : Fin 2048) :
    rowsEnd (V9 m) n T hW c (ix2 r j) = if r.val < 256 * n then
      Cert.ReferenceIdeal.Body.rowOut (m ((c.tc : Thread nD τ).loc main_arg1)) (m ((c.tc : Thread nD τ).loc main_arg2)) (m ((c.tc : Thread nD τ).loc main_arg3)) (m ((c.tc : Thread nD τ).loc main_arg4)) r (T (r.val / 256)) j
      else (0 : EReal) := by
  have hr := r.isLt
  have hj := j.isLt
  rw [rowsEnd_eq, rowsOut_apply]
  have e : (⟨r.val * 8 + j.val / 128 % 8, by omega⟩ : Fin 212992) = ⟨r.val / 256 * 2048 + (r.val % 256 * 8 + j.val / 128 % 8), by omega⟩ := Fin.ext (by show r.val * 8 + j.val / 128 % 8 = r.val / 256 * 2048 + (r.val % 256 * 8 + j.val / 128 % 8); omega)
  rw [e]
  refine (wordsOut_apply (V9 m) n T hW c ⟨r.val / 256, show r.val / 256 < 104 by omega⟩ ⟨r.val % 256 * 8 + j.val / 128 % 8, by omega⟩ _ _ _).trans ?_
  unfold block0
  by_cases ht : r.val / 256 < n
  · rw [if_pos (show r.val / 256 < n from ht), if_pos (show r.val < 256 * n by omega)]
    unfold result
    rw [blockY_apply]
    have e2 : (ix2 ⟨(r.val % 256 * 8 + j.val / 128 % 8) / 8, by omega⟩ ⟨j.val / 1024 * 1024 + (r.val % 256 * 8 + j.val / 128 % 8) % 8 * 128 + j.val % 128, by omega⟩ : S256x2048.Idx) = ix2 ⟨r.val % 256, by omega⟩ j := by
      congr 1
      · exact Fin.ext (by show (r.val % 256 * 8 + j.val / 128 % 8) / 8 = r.val % 256; omega)
      · exact Fin.ext (by show j.val / 1024 * 1024 + (r.val % 256 * 8 + j.val / 128 % 8) % 8 * 128 + j.val % 128 = j.val; omega)
    refine (congrArg _ e2).trans ?_
    rw [products_apply]
    have hf : ∀ d, tileFeature (words0 (adm0 hW) (V9 m) c ⟨r.val / 256, show r.val / 256 < 104 by omega⟩) ⟨r.val % 256, by omega⟩ d = Cert.ReferenceIdeal.Body.feature (m ((c.tc : Thread nD τ).loc main_arg1)) r d := by
      intro d
      refine feature_eq _ _ (r.val / 256) (by omega) (fun y l => ?_) r _ (by show r.val = r.val / 256 * 256 + r.val % 256; omega) d
      refine (words0_apply (V9 m) n T hW c _ ht y l (by show r.val / 256 * 2048 + y.val < 212992; omega)).trans ?_
      exact congrFun (V9_arg m c main_arg1 (by decide) (by decide) (by decide) (by decide) (by decide) (by decide) (by decide) (by decide) (by decide)) _
    unfold Cert.ReferenceIdeal.Body.rowOut Cert.ReferenceIdeal.Body.hid Cert.ReferenceIdeal.Body.dotx
    simp only [tileProj_apply, hf, matE_apply, matF_apply]
    rw [V9_arg m c main_arg2 (by decide) (by decide) (by decide) (by decide) (by decide) (by decide) (by decide) (by decide) (by decide),
      V9_arg m c main_arg3 (by decide) (by decide) (by decide) (by decide) (by decide) (by decide) (by decide) (by decide) (by decide),
      V9_arg m c main_arg4 (by decide) (by decide) (by decide) (by decide) (by decide) (by decide) (by decide) (by decide) (by decide)]
    rfl
  · rw [if_neg (show ¬ r.val / 256 < n from ht), if_neg (show ¬ r.val < 256 * n by omega)]
    exact pay7_apply _

end Cert.KernelIdeal.Body

namespace Cert.Proof

open Idealize.ShloMosaic Idealize.ShloMosaic.TcCoe Idealize.ShloMosaic.StableHlo Idealize.SL.Sem

/-- The reference's run leaves its arguments and its semaphores, under the kernel's precondition too. -/
theorem frame_RI_fills : Cert.quiescent_ReferenceIdeal_pre_fills := fun m g _ => frame_RI m g trivial

/-- The idealized kernel and the idealized reference end with the same rows. -/
theorem algebraic : Cert.algebraic_KernelIdeal_ReferenceIdeal := fun m g m' g' hpre hagree => by
  obtain ⟨n, hends, hW, hr⟩ := Cert.KernelIdeal.Body.run_fits (F := Ideal) m g (fn_fits _ _ _ _ _ (hpre 0))
  refine ⟨fun c => Cert.KernelIdeal.Body.rowsEnd (F := Ideal) _ n _ hW c, (θ_run Cert.KernelIdeal.defs _ _).mono (fun _ h => h.1) hr, ?_⟩
  refine Cert.ReferenceIdeal.Body.run m' g' _ fun c => ?_
  obtain rfl : c = 0 := Subsingleton.elim _ _
  obtain ⟨h0, h1, h2, h3, h4⟩ := hagree 0
  refine funext fun x => ?_
  obtain ⟨r, j, rfl⟩ : ∃ (r : Fin 26624) (j : Fin 2048), x = ix2 r j := ⟨x (0 : Fin 2), x (1 : Fin 2), by funext a; match a with | ⟨0, _⟩ => rfl | ⟨1, _⟩ => rfl⟩
  refine Eq.trans ?_ (Cert.KernelIdeal.Body.rowsEnd_apply m n _ hW 0 r j).symm
  rw [h0, h1, h2, h3, h4]
  refine Cert.ReferenceIdeal.Body.out_eq hW.le hends _ _ _ _ r j (Counts.T _ (r.val / 256)) fun hlt => ?_
  rw [Counts.groups_tile, Counts.T_val hW.le hends (by omega)]

end Cert.Proof

end
-- ==== Proof.Projection.lean ====
/-
  The input projection: the projected rows are the rows' products with the matrix, and the four other matrices are as given.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit.Geometry
public import Idealize.ShloMosaic.Lib.Pipeline.ValueKit.Basic
public import Idealize.ShloMosaic.Lib.Pipeline.Covers
public import Idealize.ShloMosaic.Lib.Pointwise.Contract
public import Idealize.ShloMosaic.Lib.Pointwise.Sums
public import Idealize.ShloMosaic.Lib.Pointwise.Select
public import Idealize.ShloMosaic.Lib.Pointwise.SelectCore
public import Idealize.ShloMosaic.Lib.Pointwise.ShapeOps
public import Idealize.ShloMosaic.Lib.Pointwise.Reshape
public import Idealize.ShloMosaic.Lib.Pointwise.Elementwise
public import Idealize.ShloMosaic.Lib.Pointwise.Reduce
public import Idealize.ShloMosaic.Lib.Pointwise.IndexBridge
public import Idealize.ShloMosaic.Lib.Pointwise.Blocks
public import Idealize.ShloMosaic.Lib.Pointwise.Tactic
public import Idealize.ShloMosaic.Lib.IdealHost
public import Idealize.ShloMosaic.Lib.Bf16Pair
public import Idealize.ShloMosaic.Lib.Claim

@[expose] public section

set_option maxRecDepth 100000

noncomputable section

namespace Cert.Kernel2Ideal.Body

open Idealize.ShloMosaic Idealize.ShloMosaic.TcCoe Idealize.SL Idealize.SL.Sem
open Cert.Kernel2Ideal Cert.Kernel2Ideal.Gen
open Idealize.ShloMosaic.Pipeline (Dat Window)

/-- Where the projection's blocks lie. -/
theorem index6_eq : ∀ t : Fin grid0.N, (cc0_transform_6 (grid0.coords t) 0 = t.val % 9 ∧ cc0_transform_6 (grid0.coords t) 1 = t.val / 9)
    ∧ (cc0_transform_0 (grid0.coords t) 0 = t.val % 9 ∧ cc0_transform_0 (grid0.coords t) 1 = 0)
    ∧ cc0_transform_1 (grid0.coords t) 0 = 0 ∧ cc0_transform_1 (grid0.coords t) 1 = 0 ∧ cc0_transform_1 (grid0.coords t) 2 = t.val / 9 := by decide +kernel

/-- A block of products. -/
theorem pay1_apply (x : FVec Ideal S1024x2048 .bf16) (w : FVec Ideal S1x2048x1536 .f32) (p : Fin 1024) (q : Fin 1536) :
    k0_pay1 (F := Ideal) x w (ix2 p q) = ∑ k : Fin 2048, x (ix2 p k) * w (ix3 0 k q) := by
  pointwise [k0_pay1]

/-- A block of a matrix, its leading axis dropped. -/
theorem pay_side_7 (x : FVec Ideal S1x128x2048 .f32) (p : Fin 128) (q : Fin 2048) : k0_pay2 (F := Ideal) x (ix2 p q) = x (ix3 0 p q) := by
  pointwise [k0_pay2]

/-- A block of a matrix, its leading axis dropped. -/
theorem pay_side_8 (x : FVec Ideal S1x128x2048 .f32) (p : Fin 128) (q : Fin 2048) : k0_pay3 (F := Ideal) x (ix2 p q) = x (ix3 0 p q) := by
  pointwise [k0_pay3]

/-- A block of a matrix, its leading axis dropped. -/
theorem pay_side_9 (x : FVec Ideal S1x128x2048 .f32) (p : Fin 128) (q : Fin 2048) : k0_pay4 (F := Ideal) x (ix2 p q) = x (ix3 0 p q) := by
  pointwise [k0_pay4]

/-- A block of a matrix, its leading axis dropped. -/
theorem pay_side_10 (x : FVec Ideal S1x128x2048 .f32) (p : Fin 128) (q : Fin 2048) : k0_pay5 (F := Ideal) x (ix2 p q) = x (ix3 0 p q) := by
  pointwise [k0_pay5]

/-- What a point leaves of the projected rows. -/
theorem out6_apply (x0 : FVec Ideal S1024x2048 .bf16) (x1 : FVec Ideal S1x2048x1536 .f32) (x2 x3 x4 x5 : FVec Ideal S1x128x2048 .f32) (y : S1024x1536.Idx) : out0_6 (F := Ideal) x0 x1 x2 x3 x4 x5 y = ∑ k : Fin 2048, x0 (ix2 (y 0) k) * x1 (ix3 0 k (y 1)) := by
  unfold out0_6
  rw [View.canon_cons_unit_lit _ _ _ (by decide), View.ld_unit_lit _ _ (by decide), View.ld_unit_lit _ _ (by decide)]
  obtain ⟨p, q, rfl⟩ : ∃ (p : Fin 1024) (q : Fin 1536), y = ix2 p q := ⟨y (0 : Fin 2), y (1 : Fin 2), by funext a; match a with | ⟨0, _⟩ => rfl | ⟨1, _⟩ => rfl⟩
  exact pay1_apply _ _ p q

/-- What a point leaves of a matrix. -/
theorem out7_apply (x0 : FVec Ideal S1024x2048 .bf16) (x1 : FVec Ideal S1x2048x1536 .f32) (x2 x3 x4 x5 : FVec Ideal S1x128x2048 .f32) (y : S128x2048.Idx) : out0_7 (F := Ideal) x0 x1 x2 x3 x4 x5 y = x2 (ix3 0 (y 0) (y 1)) := by
  unfold out0_7
  rw [View.canon_cons_unit_lit _ _ _ (by decide), View.ld_unit_lit _ _ (by decide)]
  obtain ⟨p, q, rfl⟩ : ∃ (p : Fin 128) (q : Fin 2048), y = ix2 p q := ⟨y (0 : Fin 2), y (1 : Fin 2), by funext a; match a with | ⟨0, _⟩ => rfl | ⟨1, _⟩ => rfl⟩
  exact pay_side_7 _ p q

/-- What a point leaves of a matrix. -/
theorem out8_apply (x0 : FVec Ideal S1024x2048 .bf16) (x1 : FVec Ideal S1x2048x1536 .f32) (x2 x3 x4 x5 : FVec Ideal S1x128x2048 .f32) (y : S128x2048.Idx) : out0_8 (F := Ideal) x0 x1 x2 x3 x4 x5 y = x3 (ix3 0 (y 0) (y 1)) := by
  unfold out0_8
  rw [View.canon_cons_unit_lit _ _ _ (by decide), View.ld_unit_lit _ _ (by decide)]
  obtain ⟨p, q, rfl⟩ : ∃ (p : Fin 128) (q : Fin 2048), y = ix2 p q := ⟨y (0 : Fin 2), y (1 : Fin 2), by funext a; match a with | ⟨0, _⟩ => rfl | ⟨1, _⟩ => rfl⟩
  exact pay_side_8 _ p q

/-- What a point leaves of a matrix. -/
theorem out9_apply (x0 : FVec Ideal S1024x2048 .bf16) (x1 : FVec Ideal S1x2048x1536 .f32) (x2 x3 x4 x5 : FVec Ideal S1x128x2048 .f32) (y : S128x2048.Idx) : out0_9 (F := Ideal) x0 x1 x2 x3 x4 x5 y = x4 (ix3 0 (y 0) (y 1)) := by
  unfold out0_9
  rw [View.canon_cons_unit_lit _ _ _ (by decide), View.ld_unit_lit _ _ (by decide)]
  obtain ⟨p, q, rfl⟩ : ∃ (p : Fin 128) (q : Fin 2048), y = ix2 p q := ⟨y (0 : Fin 2), y (1 : Fin 2), by funext a; match a with | ⟨0, _⟩ => rfl | ⟨1, _⟩ => rfl⟩
  exact pay_side_9 _ p q

/-- What a point leaves of a matrix. -/
theorem out10_apply (x0 : FVec Ideal S1024x2048 .bf16) (x1 : FVec Ideal S1x2048x1536 .f32) (x2 x3 x4 x5 : FVec Ideal S1x128x2048 .f32) (y : S128x2048.Idx) : out0_10 (F := Ideal) x0 x1 x2 x3 x4 x5 y = x5 (ix3 0 (y 0) (y 1)) := by
  unfold out0_10
  rw [View.canon_cons_unit_lit _ _ _ (by decide), View.ld_unit_lit _ _ (by decide)]
  obtain ⟨p, q, rfl⟩ : ∃ (p : Fin 128) (q : Fin 2048), y = ix2 p q := ⟨y (0 : Fin 2), y (1 : Fin 2), by funext a; match a with | ⟨0, _⟩ => rfl | ⟨1, _⟩ => rfl⟩
  exact pay_side_10 _ p q

/-- The projected rows. -/
def proj (A : S9216x2048.Idx → EReal) (W : S1x2048x9216.Idx → EReal) : S9216x9216.Idx → EReal :=
  fun i => ∑ k : Fin 2048, A (ix2 (i 0) k) * W (ix3 0 k (i 1))

/-- A block of products is the projected rows' block. -/
theorem dot_congr (X : S1024x2048.Idx → EReal) (Y : S1x2048x1536.Idx → EReal) (A : S9216x2048.Idx → EReal) (W : S1x2048x9216.Idx → EReal)
    (p : Fin 1024) (q : Fin 1536) (r s : Fin 9216) (hX : ∀ k : Fin 2048, X (ix2 p k) = A (ix2 r k)) (hY : ∀ k : Fin 2048, Y (ix3 0 k q) = W (ix3 0 k s))
    (i : S9216x9216.Idx) (h0 : i 0 = r) (h1 : i 1 = s) : ∑ k : Fin 2048, X (ix2 p k) * Y (ix3 0 k q) = proj A W i := by
  subst h0 h1
  exact Finset.sum_congr rfl fun k _ => congrArg₂ (· * ·) (hX k) (hY k)

/-- A matrix, its leading axis dropped. -/
def small (W : S1x1024x2048.Idx → EReal) : S1024x2048.Idx → EReal := fun i => W (ix3 0 (i 0) (i 1))
/-- A matrix, its leading axis dropped. -/
def large (W : S1x2048x2048.Idx → EReal) : S2048x2048.Idx → EReal := fun i => W (ix3 0 (i 0) (i 1))

variable (m : (ℓ : Loc nD τ sig) → Buf (Elt Ideal) ℓ) (c : Dev nD)

/-- The rows a point reads. -/
theorem blk0_apply (t : Fin grid0.N) (p : Fin 1024) (k : Fin 2048) (hb : t.val % 9 * 1024 + p.val < 9216) :
    iblk m c 0 t (ix2 p k) = m ((c.tc : Thread nD τ).loc main_arg0) (ix2 ⟨t.val % 9 * 1024 + p.val, hb⟩ k) := by
  obtain ⟨i00, i01⟩ := (index6_eq t).2.1
  have e0 : ∀ a : Fin 2, (((cfg0.win 0).blk t).view.emb (ix2 p k) a).val = (cfg0.win 0).index t a * (cfg0.win 0).size a + ((ix2 p k : S1024x2048.Idx) a).val := fun a => Window.rect_emb_val (cfg0.win 0) t _ a rfl
  show V m c (Pipeline.arrRef spec0 0) (((cfg0.win 0).blk t).view.emb (ix2 p k)) = _
  refine (congrFun (V_main_arg0 m c) _).trans (congrArg _ (funext fun a => Fin.ext ?_))
  match a with
  | ⟨0, _⟩ => exact (e0 0).trans (by rw [show (cfg0.win 0).index t (0 : Fin 2) = t.val % 9 from i00]; rfl)
  | ⟨1, _⟩ => exact (e0 1).trans (by rw [show (cfg0.win 0).index t (1 : Fin 2) = 0 from i01, Nat.zero_mul, Nat.zero_add]; rfl)

/-- The columns a point reads. -/
theorem blk1_apply (t : Fin grid0.N) (k : Fin 2048) (q : Fin 1536) (hb : t.val / 9 * 1536 + q.val < 9216) :
    iblk m c 1 t (ix3 0 k q) = m ((c.tc : Thread nD τ).loc main_arg1) (ix3 0 k ⟨t.val / 9 * 1536 + q.val, hb⟩) := by
  obtain ⟨i10, i11, i12⟩ := (index6_eq t).2.2
  have e1 : ∀ a : Fin 3, (((cfg0.win 1).blk t).view.emb (ix3 0 k q) a).val = (cfg0.win 1).index t a * (cfg0.win 1).size a + ((ix3 0 k q : S1x2048x1536.Idx) a).val := fun a => Window.rect_emb_val (cfg0.win 1) t _ a rfl
  show V m c (Pipeline.arrRef spec0 1) (((cfg0.win 1).blk t).view.emb (ix3 0 k q)) = _
  refine (congrFun (V_main_arg1 m c) _).trans (congrArg _ (funext fun a => Fin.ext ?_))
  match a with
  | ⟨0, _⟩ => exact (e1 0).trans (by rw [show (cfg0.win 1).index t (0 : Fin 3) = 0 from i10, Nat.zero_mul, Nat.zero_add]; rfl)
  | ⟨1, _⟩ => exact (e1 1).trans (by rw [show (cfg0.win 1).index t (1 : Fin 3) = 0 from i11, Nat.zero_mul, Nat.zero_add]; rfl)
  | ⟨2, _⟩ => exact (e1 2).trans (by rw [show (cfg0.win 1).index t (2 : Fin 3) = t.val / 9 from i12]; rfl)

/-- What a point leaves of a matrix, from its block. -/
theorem after7_apply (t : Fin grid0.N) (y : S128x2048.Idx) : (dats m 0 c).after 7 t y = (iblk m c 2 t) (ix3 0 (y 0) (y 1)) :=
  (congrFun (after0_7 m c t) y).trans (out7_apply (iblk m c 0 t) (iblk m c 1 t) (iblk m c 2 t) (iblk m c 3 t) (iblk m c 4 t) (iblk m c 5 t) y)

/-- What a point leaves of a matrix, from its block. -/
theorem after8_apply (t : Fin grid0.N) (y : S128x2048.Idx) : (dats m 0 c).after 8 t y = (iblk m c 3 t) (ix3 0 (y 0) (y 1)) :=
  (congrFun (after0_8 m c t) y).trans (out8_apply (iblk m c 0 t) (iblk m c 1 t) (iblk m c 2 t) (iblk m c 3 t) (iblk m c 4 t) (iblk m c 5 t) y)

/-- What a point leaves of a matrix, from its block. -/
theorem after9_apply (t : Fin grid0.N) (y : S128x2048.Idx) : (dats m 0 c).after 9 t y = (iblk m c 4 t) (ix3 0 (y 0) (y 1)) :=
  (congrFun (after0_9 m c t) y).trans (out9_apply (iblk m c 0 t) (iblk m c 1 t) (iblk m c 2 t) (iblk m c 3 t) (iblk m c 4 t) (iblk m c 5 t) y)

/-- What a point leaves of a matrix, from its block. -/
theorem after10_apply (t : Fin grid0.N) (y : S128x2048.Idx) : (dats m 0 c).after 10 t y = (iblk m c 5 t) (ix3 0 (y 0) (y 1)) :=
  (congrFun (after0_10 m c t) y).trans (out10_apply (iblk m c 0 t) (iblk m c 1 t) (iblk m c 2 t) (iblk m c 3 t) (iblk m c 4 t) (iblk m c 5 t) y)

/-- The projection's array after the run. -/
theorem final6 : (dats m 0 c).arrAt 6 cfg0.N = proj (m ((c.tc : Thread nD τ).loc main_arg0)) (m ((c.tc : Thread nD τ).loc main_arg1)) := by
  refine (dats m 0 c).arrAt_eq_of_covers 6 _ ?_ ?_
  · refine Window.covers_of_index_surj _ rfl ?_ fun β => ?_
    · intro a
      match a with
      | ⟨0, _⟩ => show 0 < 1024; omega
      | ⟨1, _⟩ => show 0 < 1536; omega
    · have h0 : (β (0 : Fin 2)).val < 9 := Nat.lt_of_lt_of_eq (β (0 : Fin 2)).isLt (show (9216 + 1024 - 1) / 1024 = 9 by norm_num)
      have h1 : (β (1 : Fin 2)).val < 6 := Nat.lt_of_lt_of_eq (β (1 : Fin 2)).isLt (show (9216 + 1536 - 1) / 1536 = 6 by norm_num)
      have hlt : (β (1 : Fin 2)).val * 9 + (β (0 : Fin 2)).val < grid0.N := show _ < 54 by omega
      refine ⟨⟨(β (1 : Fin 2)).val * 9 + (β (0 : Fin 2)).val, hlt⟩, fun a => ?_⟩
      match a with
      | ⟨0, _⟩ => exact (index6_eq ⟨_, hlt⟩).1.1.trans (show ((β (1 : Fin 2)).val * 9 + (β (0 : Fin 2)).val) % 9 = (β (0 : Fin 2)).val by omega)
      | ⟨1, _⟩ => exact (index6_eq ⟨_, hlt⟩).1.2.trans (show ((β (1 : Fin 2)).val * 9 + (β (0 : Fin 2)).val) / 9 = (β (1 : Fin 2)).val by omega)
  · intro t hf y
    obtain ⟨⟨i60, i61⟩, ⟨i00, i01⟩, i10, i11, i12⟩ := index6_eq t
    have hN : t.val < 54 := t.isLt
    have hp : (y (0 : Fin 2)).val < 1024 := (y (0 : Fin 2)).isLt
    have hq : (y (1 : Fin 2)).val < 1536 := (y (1 : Fin 2)).isLt
    have e6 : ∀ a : Fin 2, (((cfg0.win 6).blk t).view.emb y a).val = (cfg0.win 6).index t a * (cfg0.win 6).size a + (y a).val := fun a => Window.rect_emb_val (cfg0.win 6) t y a rfl
    have e60 : (((cfg0.win 6).blk t).view.emb y (0 : Fin 2)).val = t.val % 9 * 1024 + (y (0 : Fin 2)).val := (e6 0).trans (by rw [show (cfg0.win 6).index t (0 : Fin 2) = t.val % 9 from i60]; rfl)
    have e61 : (((cfg0.win 6).blk t).view.emb y (1 : Fin 2)).val = t.val / 9 * 1536 + (y (1 : Fin 2)).val := (e6 1).trans (by rw [show (cfg0.win 6).index t (1 : Fin 2) = t.val / 9 from i61]; rfl)
    refine (congrFun (after0_6 m c t) y).trans ((out6_apply (iblk m c 0 t) (iblk m c 1 t) (iblk m c 2 t) (iblk m c 3 t) (iblk m c 4 t) (iblk m c 5 t) y).trans ?_)
    exact dot_congr (iblk m c 0 t) (iblk m c 1 t) _ _ ⟨(y (0 : Fin 2)).val, hp⟩ ⟨(y (1 : Fin 2)).val, hq⟩
      ⟨t.val % 9 * 1024 + (y (0 : Fin 2)).val, by omega⟩ ⟨t.val / 9 * 1536 + (y (1 : Fin 2)).val, by omega⟩
      (fun k => blk0_apply m c t _ k _) (fun k => blk1_apply m c t k _ _) (((cfg0.win 6).blk t).view.emb y) (Fin.ext e60) (Fin.ext e61)

/-- Where the blocks of the matrix 2 lie. -/
theorem index7_eq : ∀ t : Fin grid0.N, cc0_transform_7 (grid0.coords t) 1 = 0 ∧ cc0_transform_2 (grid0.coords t) 0 = 0 ∧ cc0_transform_2 (grid0.coords t) 1 = cc0_transform_7 (grid0.coords t) 0
    ∧ cc0_transform_2 (grid0.coords t) 2 = 0 := by decide +kernel

/-- Every block of the matrix 2 has a point. -/
theorem surj7 : ∀ b : Fin 8, ∃ t : Fin grid0.N, cc0_transform_7 (grid0.coords t) 0 = b.val := by decide +kernel

/-- The rows of the matrix 2 a point reads. -/
theorem blk2_apply (t : Fin grid0.N) (p : Fin 128) (q : Fin 2048) (r : Fin 1024) (hr : r.val = cc0_transform_7 (grid0.coords t) 0 * 128 + p.val) :
    iblk m c 2 t (ix3 0 p q) = m ((c.tc : Thread nD τ).loc main_arg2) (ix3 0 r q) := by
  obtain ⟨iw, i0, i1, i2⟩ := index7_eq t
  have ei : ∀ a : Fin 3, (((cfg0.win 2).blk t).view.emb (ix3 0 p q) a).val = (cfg0.win 2).index t a * (cfg0.win 2).size a + ((ix3 0 p q : S1x128x2048.Idx) a).val := fun a => Window.rect_emb_val (cfg0.win 2) t _ a rfl
  show V m c (Pipeline.arrRef spec0 2) (((cfg0.win 2).blk t).view.emb (ix3 0 p q)) = _
  refine (congrFun (V_main_arg2 m c) _).trans (congrArg _ (funext fun a => Fin.ext ?_))
  match a with
  | ⟨0, _⟩ => exact (ei 0).trans (by rw [show (cfg0.win 2).index t (0 : Fin 3) = 0 from i0, Nat.zero_mul, Nat.zero_add]; rfl)
  | ⟨1, _⟩ => exact ((ei 1).trans (by rw [show (cfg0.win 2).index t (1 : Fin 3) = cc0_transform_7 (grid0.coords t) 0 from i1]; rfl)).trans hr.symm
  | ⟨2, _⟩ => exact (ei 2).trans (by rw [show (cfg0.win 2).index t (2 : Fin 3) = 0 from i2, Nat.zero_mul, Nat.zero_add]; rfl)

/-- The matrix 2 after the run. -/
theorem final7 : (dats m 0 c).arrAt 7 cfg0.N = small (m ((c.tc : Thread nD τ).loc main_arg2)) := by
  refine (dats m 0 c).arrAt_eq_of_covers 7 _ ?_ ?_
  · refine Window.covers_of_index_surj _ rfl ?_ fun β => ?_
    · intro a
      match a with
      | ⟨0, _⟩ => show 0 < 128; omega
      | ⟨1, _⟩ => show 0 < 2048; omega
    · have h0 : (β (0 : Fin 2)).val < 8 := Nat.lt_of_lt_of_eq (β (0 : Fin 2)).isLt (show (1024 + 128 - 1) / 128 = 8 by norm_num)
      have h1 : (β (1 : Fin 2)).val < 1 := Nat.lt_of_lt_of_eq (β (1 : Fin 2)).isLt (show (2048 + 2048 - 1) / 2048 = 1 by norm_num)
      obtain ⟨t, ht⟩ := surj7 ⟨(β (0 : Fin 2)).val, h0⟩
      refine ⟨t, fun a => ?_⟩
      match a with
      | ⟨0, _⟩ => exact ht
      | ⟨1, _⟩ => exact (index7_eq t).1.trans (Nat.lt_one_iff.1 h1).symm
  · intro t hf y
    have ew : ∀ a : Fin 2, (((cfg0.win 7).blk t).view.emb y a).val = (cfg0.win 7).index t a * (cfg0.win 7).size a + (y a).val := fun a => Window.rect_emb_val (cfg0.win 7) t y a rfl
    refine (after7_apply m c t y).trans ((blk2_apply m c t _ _ (((cfg0.win 7).blk t).view.emb y (0 : Fin 2)) ?_).trans ?_)
    · exact ew 0
    · unfold small
      refine congrArg _ (funext fun a => ?_)
      match a with
      | ⟨0, _⟩ => rfl
      | ⟨1, _⟩ => rfl
      | ⟨2, _⟩ => exact Fin.ext ((((ew 1).trans (by rw [show (cfg0.win 7).index t (1 : Fin 2) = 0 from (index7_eq t).1, Nat.zero_mul, Nat.zero_add]; rfl))).symm)

/-- Where the blocks of the matrix 3 lie. -/
theorem index8_eq : ∀ t : Fin grid0.N, cc0_transform_8 (grid0.coords t) 1 = 0 ∧ cc0_transform_3 (grid0.coords t) 0 = 0 ∧ cc0_transform_3 (grid0.coords t) 1 = cc0_transform_8 (grid0.coords t) 0
    ∧ cc0_transform_3 (grid0.coords t) 2 = 0 := by decide +kernel

/-- Every block of the matrix 3 has a point. -/
theorem surj8 : ∀ b : Fin 8, ∃ t : Fin grid0.N, cc0_transform_8 (grid0.coords t) 0 = b.val := by decide +kernel

/-- The rows of the matrix 3 a point reads. -/
theorem blk3_apply (t : Fin grid0.N) (p : Fin 128) (q : Fin 2048) (r : Fin 1024) (hr : r.val = cc0_transform_8 (grid0.coords t) 0 * 128 + p.val) :
    iblk m c 3 t (ix3 0 p q) = m ((c.tc : Thread nD τ).loc main_arg3) (ix3 0 r q) := by
  obtain ⟨iw, i0, i1, i2⟩ := index8_eq t
  have ei : ∀ a : Fin 3, (((cfg0.win 3).blk t).view.emb (ix3 0 p q) a).val = (cfg0.win 3).index t a * (cfg0.win 3).size a + ((ix3 0 p q : S1x128x2048.Idx) a).val := fun a => Window.rect_emb_val (cfg0.win 3) t _ a rfl
  show V m c (Pipeline.arrRef spec0 3) (((cfg0.win 3).blk t).view.emb (ix3 0 p q)) = _
  refine (congrFun (V_main_arg3 m c) _).trans (congrArg _ (funext fun a => Fin.ext ?_))
  match a with
  | ⟨0, _⟩ => exact (ei 0).trans (by rw [show (cfg0.win 3).index t (0 : Fin 3) = 0 from i0, Nat.zero_mul, Nat.zero_add]; rfl)
  | ⟨1, _⟩ => exact ((ei 1).trans (by rw [show (cfg0.win 3).index t (1 : Fin 3) = cc0_transform_8 (grid0.coords t) 0 from i1]; rfl)).trans hr.symm
  | ⟨2, _⟩ => exact (ei 2).trans (by rw [show (cfg0.win 3).index t (2 : Fin 3) = 0 from i2, Nat.zero_mul, Nat.zero_add]; rfl)

/-- The matrix 3 after the run. -/
theorem final8 : (dats m 0 c).arrAt 8 cfg0.N = small (m ((c.tc : Thread nD τ).loc main_arg3)) := by
  refine (dats m 0 c).arrAt_eq_of_covers 8 _ ?_ ?_
  · refine Window.covers_of_index_surj _ rfl ?_ fun β => ?_
    · intro a
      match a with
      | ⟨0, _⟩ => show 0 < 128; omega
      | ⟨1, _⟩ => show 0 < 2048; omega
    · have h0 : (β (0 : Fin 2)).val < 8 := Nat.lt_of_lt_of_eq (β (0 : Fin 2)).isLt (show (1024 + 128 - 1) / 128 = 8 by norm_num)
      have h1 : (β (1 : Fin 2)).val < 1 := Nat.lt_of_lt_of_eq (β (1 : Fin 2)).isLt (show (2048 + 2048 - 1) / 2048 = 1 by norm_num)
      obtain ⟨t, ht⟩ := surj8 ⟨(β (0 : Fin 2)).val, h0⟩
      refine ⟨t, fun a => ?_⟩
      match a with
      | ⟨0, _⟩ => exact ht
      | ⟨1, _⟩ => exact (index8_eq t).1.trans (Nat.lt_one_iff.1 h1).symm
  · intro t hf y
    have ew : ∀ a : Fin 2, (((cfg0.win 8).blk t).view.emb y a).val = (cfg0.win 8).index t a * (cfg0.win 8).size a + (y a).val := fun a => Window.rect_emb_val (cfg0.win 8) t y a rfl
    refine (after8_apply m c t y).trans ((blk3_apply m c t _ _ (((cfg0.win 8).blk t).view.emb y (0 : Fin 2)) ?_).trans ?_)
    · exact ew 0
    · unfold small
      refine congrArg _ (funext fun a => ?_)
      match a with
      | ⟨0, _⟩ => rfl
      | ⟨1, _⟩ => rfl
      | ⟨2, _⟩ => exact Fin.ext ((((ew 1).trans (by rw [show (cfg0.win 8).index t (1 : Fin 2) = 0 from (index8_eq t).1, Nat.zero_mul, Nat.zero_add]; rfl))).symm)

/-- Where the blocks of the matrix 4 lie. -/
theorem index9_eq : ∀ t : Fin grid0.N, cc0_transform_9 (grid0.coords t) 1 = 0 ∧ cc0_transform_4 (grid0.coords t) 0 = 0 ∧ cc0_transform_4 (grid0.coords t) 1 = cc0_transform_9 (grid0.coords t) 0
    ∧ cc0_transform_4 (grid0.coords t) 2 = 0 := by decide +kernel

/-- Every block of the matrix 4 has a point. -/
theorem surj9 : ∀ b : Fin 16, ∃ t : Fin grid0.N, cc0_transform_9 (grid0.coords t) 0 = b.val := by decide +kernel

/-- The rows of the matrix 4 a point reads. -/
theorem blk4_apply (t : Fin grid0.N) (p : Fin 128) (q : Fin 2048) (r : Fin 2048) (hr : r.val = cc0_transform_9 (grid0.coords t) 0 * 128 + p.val) :
    iblk m c 4 t (ix3 0 p q) = m ((c.tc : Thread nD τ).loc main_arg4) (ix3 0 r q) := by
  obtain ⟨iw, i0, i1, i2⟩ := index9_eq t
  have ei : ∀ a : Fin 3, (((cfg0.win 4).blk t).view.emb (ix3 0 p q) a).val = (cfg0.win 4).index t a * (cfg0.win 4).size a + ((ix3 0 p q : S1x128x2048.Idx) a).val := fun a => Window.rect_emb_val (cfg0.win 4) t _ a rfl
  show V m c (Pipeline.arrRef spec0 4) (((cfg0.win 4).blk t).view.emb (ix3 0 p q)) = _
  refine (congrFun (V_main_arg4 m c) _).trans (congrArg _ (funext fun a => Fin.ext ?_))
  match a with
  | ⟨0, _⟩ => exact (ei 0).trans (by rw [show (cfg0.win 4).index t (0 : Fin 3) = 0 from i0, Nat.zero_mul, Nat.zero_add]; rfl)
  | ⟨1, _⟩ => exact ((ei 1).trans (by rw [show (cfg0.win 4).index t (1 : Fin 3) = cc0_transform_9 (grid0.coords t) 0 from i1]; rfl)).trans hr.symm
  | ⟨2, _⟩ => exact (ei 2).trans (by rw [show (cfg0.win 4).index t (2 : Fin 3) = 0 from i2, Nat.zero_mul, Nat.zero_add]; rfl)

/-- The matrix 4 after the run. -/
theorem final9 : (dats m 0 c).arrAt 9 cfg0.N = large (m ((c.tc : Thread nD τ).loc main_arg4)) := by
  refine (dats m 0 c).arrAt_eq_of_covers 9 _ ?_ ?_
  · refine Window.covers_of_index_surj _ rfl ?_ fun β => ?_
    · intro a
      match a with
      | ⟨0, _⟩ => show 0 < 128; omega
      | ⟨1, _⟩ => show 0 < 2048; omega
    · have h0 : (β (0 : Fin 2)).val < 16 := Nat.lt_of_lt_of_eq (β (0 : Fin 2)).isLt (show (2048 + 128 - 1) / 128 = 16 by norm_num)
      have h1 : (β (1 : Fin 2)).val < 1 := Nat.lt_of_lt_of_eq (β (1 : Fin 2)).isLt (show (2048 + 2048 - 1) / 2048 = 1 by norm_num)
      obtain ⟨t, ht⟩ := surj9 ⟨(β (0 : Fin 2)).val, h0⟩
      refine ⟨t, fun a => ?_⟩
      match a with
      | ⟨0, _⟩ => exact ht
      | ⟨1, _⟩ => exact (index9_eq t).1.trans (Nat.lt_one_iff.1 h1).symm
  · intro t hf y
    have ew : ∀ a : Fin 2, (((cfg0.win 9).blk t).view.emb y a).val = (cfg0.win 9).index t a * (cfg0.win 9).size a + (y a).val := fun a => Window.rect_emb_val (cfg0.win 9) t y a rfl
    refine (after9_apply m c t y).trans ((blk4_apply m c t _ _ (((cfg0.win 9).blk t).view.emb y (0 : Fin 2)) ?_).trans ?_)
    · exact ew 0
    · unfold large
      refine congrArg _ (funext fun a => ?_)
      match a with
      | ⟨0, _⟩ => rfl
      | ⟨1, _⟩ => rfl
      | ⟨2, _⟩ => exact Fin.ext ((((ew 1).trans (by rw [show (cfg0.win 9).index t (1 : Fin 2) = 0 from (index9_eq t).1, Nat.zero_mul, Nat.zero_add]; rfl))).symm)

/-- Where the blocks of the matrix 5 lie. -/
theorem index10_eq : ∀ t : Fin grid0.N, cc0_transform_10 (grid0.coords t) 1 = 0 ∧ cc0_transform_5 (grid0.coords t) 0 = 0 ∧ cc0_transform_5 (grid0.coords t) 1 = cc0_transform_10 (grid0.coords t) 0
    ∧ cc0_transform_5 (grid0.coords t) 2 = 0 := by decide +kernel

/-- Every block of the matrix 5 has a point. -/
theorem surj10 : ∀ b : Fin 16, ∃ t : Fin grid0.N, cc0_transform_10 (grid0.coords t) 0 = b.val := by decide +kernel

/-- The rows of the matrix 5 a point reads. -/
theorem blk5_apply (t : Fin grid0.N) (p : Fin 128) (q : Fin 2048) (r : Fin 2048) (hr : r.val = cc0_transform_10 (grid0.coords t) 0 * 128 + p.val) :
    iblk m c 5 t (ix3 0 p q) = m ((c.tc : Thread nD τ).loc main_arg5) (ix3 0 r q) := by
  obtain ⟨iw, i0, i1, i2⟩ := index10_eq t
  have ei : ∀ a : Fin 3, (((cfg0.win 5).blk t).view.emb (ix3 0 p q) a).val = (cfg0.win 5).index t a * (cfg0.win 5).size a + ((ix3 0 p q : S1x128x2048.Idx) a).val := fun a => Window.rect_emb_val (cfg0.win 5) t _ a rfl
  show V m c (Pipeline.arrRef spec0 5) (((cfg0.win 5).blk t).view.emb (ix3 0 p q)) = _
  refine (congrFun (V_main_arg5 m c) _).trans (congrArg _ (funext fun a => Fin.ext ?_))
  match a with
  | ⟨0, _⟩ => exact (ei 0).trans (by rw [show (cfg0.win 5).index t (0 : Fin 3) = 0 from i0, Nat.zero_mul, Nat.zero_add]; rfl)
  | ⟨1, _⟩ => exact ((ei 1).trans (by rw [show (cfg0.win 5).index t (1 : Fin 3) = cc0_transform_10 (grid0.coords t) 0 from i1]; rfl)).trans hr.symm
  | ⟨2, _⟩ => exact (ei 2).trans (by rw [show (cfg0.win 5).index t (2 : Fin 3) = 0 from i2, Nat.zero_mul, Nat.zero_add]; rfl)

/-- The matrix 5 after the run. -/
theorem final10 : (dats m 0 c).arrAt 10 cfg0.N = large (m ((c.tc : Thread nD τ).loc main_arg5)) := by
  refine (dats m 0 c).arrAt_eq_of_covers 10 _ ?_ ?_
  · refine Window.covers_of_index_surj _ rfl ?_ fun β => ?_
    · intro a
      match a with
      | ⟨0, _⟩ => show 0 < 128; omega
      | ⟨1, _⟩ => show 0 < 2048; omega
    · have h0 : (β (0 : Fin 2)).val < 16 := Nat.lt_of_lt_of_eq (β (0 : Fin 2)).isLt (show (2048 + 128 - 1) / 128 = 16 by norm_num)
      have h1 : (β (1 : Fin 2)).val < 1 := Nat.lt_of_lt_of_eq (β (1 : Fin 2)).isLt (show (2048 + 2048 - 1) / 2048 = 1 by norm_num)
      obtain ⟨t, ht⟩ := surj10 ⟨(β (0 : Fin 2)).val, h0⟩
      refine ⟨t, fun a => ?_⟩
      match a with
      | ⟨0, _⟩ => exact ht
      | ⟨1, _⟩ => exact (index10_eq t).1.trans (Nat.lt_one_iff.1 h1).symm
  · intro t hf y
    have ew : ∀ a : Fin 2, (((cfg0.win 10).blk t).view.emb y a).val = (cfg0.win 10).index t a * (cfg0.win 10).size a + (y a).val := fun a => Window.rect_emb_val (cfg0.win 10) t y a rfl
    refine (after10_apply m c t y).trans ((blk5_apply m c t _ _ (((cfg0.win 10).blk t).view.emb y (0 : Fin 2)) ?_).trans ?_)
    · exact ew 0
    · unfold large
      refine congrArg _ (funext fun a => ?_)
      match a with
      | ⟨0, _⟩ => rfl
      | ⟨1, _⟩ => rfl
      | ⟨2, _⟩ => exact Fin.ext ((((ew 1).trans (by rw [show (cfg0.win 10).index t (1 : Fin 2) = 0 from (index10_eq t).1, Nat.zero_mul, Nat.zero_add]; rfl))).symm)

end Cert.Kernel2Ideal.Body

end
-- ==== Proof.ProjectionClaims.lean ====
/-
  The input projection's claims.
-/
module

public import proofs.«01_k».proof.Defs
public import proofs.«01_k».proof.Proof.Projection
public import Idealize.ShloMosaic.Lib.Claim

@[expose] public section

set_option maxRecDepth 100000

noncomputable section

namespace Cert.Proof

open Idealize.ShloMosaic Idealize.ShloMosaic.TcCoe Idealize.ShloMosaic.StableHlo Idealize.SL.Sem

/-- The projection's run leaves its arguments and its semaphores. -/
theorem frame_P2 : Cert.quiescent_Kernel2 := fun m g _ => Cert.Kernel2.Gen.frame m g

/-- The idealized projection's run leaves its arguments and its semaphores. -/
theorem frame_PI2 : Cert.quiescent_Kernel2Ideal := fun m g _ => Cert.Kernel2Ideal.Gen.frame m g

/-- The projection's reference's run leaves its arguments and its semaphores. -/
theorem frame_RI2 : Cert.quiescent_Reference2Ideal := by
  intro m g _
  hlo_run
  · exact fun _ => ⟨trivial, trivial, trivial, trivial, trivial, trivial⟩
  · exact sem_eq_zero_of_no_sems (sig := Cert.Reference2Ideal.sig) (by decide) _

/-- No rewrite is made in the projection. -/
theorem preserves2 : Cert.preserves_Kernel2_Kernel2Ideal := trivial

section
open Cert.Reference2Ideal Cert.Reference2Ideal.Facts₀ Cert.Reference2Ideal.Facts

/-- The reference's projected rows. -/
theorem proj_eq (A : FVec Ideal S9216x2048 .bf16) (W : FVec Ideal S1x2048x9216 .f32) :
    truncf .bf16 (Host.dotGeneral dot_S9216x2048_S2048x9216_S9216x9216_1_0_0_1_n_n none (extf .f32 A bitsLt_bf16_f32) (shapeCast _ W shapeCasts_S1x2048x9216_S2048x9216)) bitsLt_bf16_f32
      = Cert.Kernel2Ideal.Body.proj A W := by
  funext x
  obtain ⟨r, j, rfl⟩ : ∃ (r : Fin 9216) (j : Fin 9216), x = ix2 r j := ⟨x (0 : Fin 2), x (1 : Fin 2), by funext a; match a with | ⟨0, _⟩ => rfl | ⟨1, _⟩ => rfl⟩
  pointwise [Cert.Kernel2Ideal.Body.proj]

/-- The reference's matrix, its leading axis dropped. -/
theorem side_small (W : FVec Ideal S1x1024x2048 .f32) :
    truncf .bf16 (shapeCast _ W shapeCasts_S1x1024x2048_S1024x2048) bitsLt_bf16_f32 = Cert.Kernel2Ideal.Body.small W := by
  funext x
  obtain ⟨r, j, rfl⟩ : ∃ (r : Fin 1024) (j : Fin 2048), x = ix2 r j := ⟨x (0 : Fin 2), x (1 : Fin 2), by funext a; match a with | ⟨0, _⟩ => rfl | ⟨1, _⟩ => rfl⟩
  pointwise [Cert.Kernel2Ideal.Body.small]

/-- The reference's matrix, its leading axis dropped. -/
theorem side_large (W : FVec Ideal S1x2048x2048 .f32) :
    truncf .bf16 (shapeCast _ W shapeCasts_S1x2048x2048_S2048x2048) bitsLt_bf16_f32 = Cert.Kernel2Ideal.Body.large W := by
  funext x
  obtain ⟨r, j, rfl⟩ : ∃ (r : Fin 2048) (j : Fin 2048), x = ix2 r j := ⟨x (0 : Fin 2), x (1 : Fin 2), by funext a; match a with | ⟨0, _⟩ => rfl | ⟨1, _⟩ => rfl⟩
  pointwise [Cert.Kernel2Ideal.Body.large]

end

/-- The idealized projection and its idealized reference end with the same arrays. -/
theorem algebraic2 : Cert.algebraic_Kernel2Ideal_Reference2Ideal := fun m g m' g' _ hagree => by
  refine ⟨_, _, _, _, _, Cert.Kernel2Ideal.Value.run_blocks (F := Ideal) m g, (θ_run Cert.Reference2Ideal.defs _ _).mono (fun r h c => ?_) (Cert.Reference2Ideal.Value.run (F := Ideal) m' g')⟩
  obtain rfl : c = 0 := Subsingleton.elim _ _
  obtain ⟨h0, h1, h2, h3, h4, h5⟩ := hagree 0
  obtain ⟨r0, r1, r2, r3, r4, rest⟩ := h 0
  refine ⟨r0.trans ?_, r1.trans ?_, r2.trans ?_, r3.trans ?_, r4.trans ?_, rest⟩
  · rw [Cert.Kernel2Ideal.Body.final6, ← h0, ← h1]; exact proj_eq _ _
  · rw [Cert.Kernel2Ideal.Body.final7, ← h2]; exact side_small _
  · rw [Cert.Kernel2Ideal.Body.final8, ← h3]; exact side_small _
  · rw [Cert.Kernel2Ideal.Body.final9, ← h4]; exact side_large _
  · rw [Cert.Kernel2Ideal.Body.final10, ← h5]; exact side_large _

end Cert.Proof

end
-- ==== Proof.Norm.lean ====
/-
  The norm: the rows are the inputs' rows, each over its root mean square and scaled.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit.Geometry
public import Idealize.ShloMosaic.Lib.Pipeline.ValueKit.Basic
public import Idealize.ShloMosaic.Lib.Pipeline.ValueKit.Acc
public import Idealize.ShloMosaic.Lib.Pipeline.Covers
public import Idealize.ShloMosaic.Lib.Pipeline.FrameBody
public import Idealize.ShloMosaic.Lib.Pointwise.Contract
public import Idealize.ShloMosaic.Lib.Pointwise.Sums
public import Idealize.ShloMosaic.Lib.Pointwise.Select
public import Idealize.ShloMosaic.Lib.Pointwise.SelectCore
public import Idealize.ShloMosaic.Lib.Pointwise.ShapeOps
public import Idealize.ShloMosaic.Lib.Pointwise.Reshape
public import Idealize.ShloMosaic.Lib.Pointwise.Elementwise
public import Idealize.ShloMosaic.Lib.Pointwise.Reduce
public import Idealize.ShloMosaic.Lib.Pointwise.IndexBridge
public import Idealize.ShloMosaic.Lib.Pointwise.Blocks
public import Idealize.ShloMosaic.Lib.Pointwise.Tactic
public import Idealize.ShloMosaic.Lib.IdealHost
public import Idealize.ShloMosaic.Lib.Bf16Pair
public import Idealize.ShloMosaic.Lib.Claim

@[expose] public section

set_option maxRecDepth 100000

noncomputable section

namespace Cert.Kernel3Ideal.Body

open Idealize.ShloMosaic Idealize.ShloMosaic.TcCoe Idealize.SL Idealize.SL.Sem
open Cert.Kernel3Ideal Cert.Kernel3Ideal.Gen
open Idealize.ShloMosaic.Pipeline (Dat Window)

/-- Where the blocks lie. -/
theorem index_eq : ∀ t : Fin grid0.N, (cc0_transform_3 (grid0.coords t) 0 = t.val ∧ cc0_transform_3 (grid0.coords t) 1 = 0)
    ∧ (t.val < 16 → cc0_transform_0 (grid0.coords t) 0 = t.val) ∧ cc0_transform_0 (grid0.coords t) 1 = 0
    ∧ (16 ≤ t.val → cc0_transform_1 (grid0.coords t) 0 = t.val - 16) ∧ cc0_transform_1 (grid0.coords t) 1 = 0
    ∧ cc0_transform_2 (grid0.coords t) 0 = 0 ∧ cc0_transform_2 (grid0.coords t) 1 = 0 := by decide +kernel

/-- A row over its root mean square, and scaled. -/
def rowNorm (f g : Fin 2048 → EReal) (k : Fin 2048) : EReal :=
  f k * Ideal.rsqrt (Ideal.div (∑ j, f j * f j) (Ideal.ofBits FTy.f32 1157627904#32) + Ideal.ofBits FTy.f32 897988541#32) * g k

/-- A block of rows, each over its root mean square. -/
theorem pay1_apply (x : FVec Ideal S512x2048 .f32) (g : FVec Ideal S1x2048 .f32) (p : Fin 512) (q : Fin 2048) :
    k0_pay1 (F := Ideal) x g (ix2 p q) = rowNorm (fun k => x (ix2 p k)) (fun k => g (ix2 0 k)) q := by
  pointwise [k0_pay1, rowNorm]

/-- A block of rows, each over its root mean square. -/
theorem pay2_apply (x : FVec Ideal S512x2048 .f32) (g : FVec Ideal S1x2048 .f32) (p : Fin 512) (q : Fin 2048) :
    k0_pay2 (F := Ideal) x g (ix2 p q) = rowNorm (fun k => x (ix2 p k)) (fun k => g (ix2 0 k)) q := by
  pointwise [k0_pay2, rowNorm]

/-- The inputs' rows, each over its root mean square and scaled: the prompts' first, then the samples'. -/
def normRows (A : S4x2048x2048.Idx → EReal) (B : S128x8x2048.Idx → EReal) (G : S1x2048.Idx → EReal) : S9216x2048.Idx → EReal := fun i =>
  if h : (i 0).val < 8192 then
    rowNorm (fun j => A (ix3 ⟨(i 0).val / 2048, by omega⟩ ⟨(i 0).val % 2048, by omega⟩ j)) (fun j => G (ix2 0 j)) (i 1)
  else
    rowNorm (fun j => B (ix3 ⟨((i 0).val - 8192) / 8, by have h0 : (i 0).val < 9216 := (i 0).isLt; omega⟩ ⟨((i 0).val - 8192) % 8, by omega⟩ j)) (fun j => G (ix2 0 j)) (i 1)

/-- The prompts' rows, in order. -/
theorem castA (A : FVec Ideal S4x2048x2048 .f32) (r : Fin 8192) (k : Fin 2048) : shapeCast S8192x2048 A shapeCasts_S4x2048x2048_S8192x2048 (ix2 r k) = A (ix3 ⟨r.val / 2048, by omega⟩ ⟨r.val % 2048, by omega⟩ k) := by
  pointwise []

/-- The samples' rows, in order. -/
theorem castB (B : FVec Ideal S128x8x2048 .f32) (r : Fin 1024) (k : Fin 2048) : shapeCast S1024x2048 B shapeCasts_S128x8x2048_S1024x2048 (ix2 r k) = B (ix3 ⟨r.val / 8, by omega⟩ ⟨r.val % 8, by omega⟩ k) := by
  pointwise []

/-- The scales, in order. -/
theorem castG (A : FVec Ideal S1x2048 .f32) (k : Fin 2048) : shapeCast S1x2048 (shapeCast S2048 A shapeCasts_S1x2048_S2048) shapeCasts_S2048_S1x2048 (ix2 0 k) = A (ix2 0 k) := by
  pointwise []

/-- The prompts' rows where the norm begins. -/
theorem vA (m : (ℓ : Loc nD τ sig) → Buf (Elt Ideal) ℓ) (c : Dev nD) : V m c main_v0 = shapeCast S8192x2048 (m ((c.tc : Thread nD τ).loc main_arg0)) shapeCasts_S4x2048x2048_S8192x2048 := by
  entry_read
  rfl

/-- The samples' rows where the norm begins. -/
theorem vB (m : (ℓ : Loc nD τ sig) → Buf (Elt Ideal) ℓ) (c : Dev nD) : V m c main_v1 = shapeCast S1024x2048 (m ((c.tc : Thread nD τ).loc main_arg1)) shapeCasts_S128x8x2048_S1024x2048 := by
  entry_read
  rfl

/-- The scales where the norm begins. -/
theorem vG (m : (ℓ : Loc nD τ sig) → Buf (Elt Ideal) ℓ) (c : Dev nD) : V m c main_v3 = shapeCast S1x2048 (shapeCast S2048 (m ((c.tc : Thread nD τ).loc main_arg2)) shapeCasts_S1x2048_S2048) shapeCasts_S2048_S1x2048 := by
  entry_read
  rfl

/-- What a point leaves among the prompts. -/
theorem outA (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (hc0 : cond0_0 i) (hc1 : ¬cond0_1 i)
    (x0 : Vec Ideal S512x2048 .f32) (x1 : Vec Ideal S512x2048 .f32) (x2 : Vec Ideal S1x2048 .f32) :
    out0_A_3 c i arg1 harg1 arg2 harg2 arg3 harg3 arg4 harg4 hc0 hc1 x0 x1 x2 = k0_pay1 x0 x2 := by
  frame_out

/-- What a point leaves among the samples. -/
theorem outB (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .bf16) (harg4 : arg4.IsWhole) (hc0 : ¬cond0_0 i) (hc1 : cond0_1 i)
    (x0 : Vec Ideal S512x2048 .f32) (x1 : Vec Ideal S512x2048 .f32) (x2 : Vec Ideal S1x2048 .f32) :
    out0_B_3 c i arg1 harg1 arg2 harg2 arg3 harg3 arg4 harg4 hc0 hc1 x0 x1 x2 = k0_pay2 x1 x2 := by
  frame_out

variable (m : (ℓ : Loc nD τ sig) → Buf (Elt Ideal) ℓ) (c : Dev nD)

/-- The prompts' rows a point reads. -/
theorem blk0_apply (t : Fin grid0.N) (ht : t.val < 16) (p : Fin 512) (k : Fin 2048) :
    iblk m c 0 t (ix2 p k) = m ((c.tc : Thread nD τ).loc main_arg0) (ix3 ⟨(t.val * 512 + p.val) / 2048, by omega⟩ ⟨(t.val * 512 + p.val) % 2048, by omega⟩ k) := by
  have i0 := (index_eq t).2.1 ht
  have i1 := (index_eq t).2.2.1
  have e : ∀ a : Fin 2, (((cfg0.win 0).blk t).view.emb (ix2 p k) a).val = (cfg0.win 0).index t a * (cfg0.win 0).size a + ((ix2 p k : S512x2048.Idx) a).val := fun a => Window.rect_emb_val (cfg0.win 0) t _ a rfl
  show V m c (Pipeline.arrRef spec0 0) (((cfg0.win 0).blk t).view.emb (ix2 p k)) = _
  refine (congrFun (vA m c) _).trans (Eq.trans (congrArg _ (funext fun a => Fin.ext ?_)) (castA _ ⟨t.val * 512 + p.val, by omega⟩ k))
  match a with
  | ⟨0, _⟩ => exact (e 0).trans (by rw [show (cfg0.win 0).index t (0 : Fin 2) = t.val from i0]; rfl)
  | ⟨1, _⟩ => exact (e 1).trans (by rw [show (cfg0.win 0).index t (1 : Fin 2) = 0 from i1, Nat.zero_mul, Nat.zero_add]; rfl)

/-- The samples' rows a point reads. -/
theorem blk1_apply (t : Fin grid0.N) (ht : 16 ≤ t.val) (p : Fin 512) (k : Fin 2048) :
    iblk m c 1 t (ix2 p k) = m ((c.tc : Thread nD τ).loc main_arg1) (ix3 ⟨(t.val * 512 + p.val - 8192) / 8, by have hN : t.val < 18 := t.isLt; omega⟩ ⟨(t.val * 512 + p.val - 8192) % 8, by omega⟩ k) := by
  have hN : t.val < 18 := t.isLt
  have i0 := (index_eq t).2.2.2.1 ht
  have i1 := (index_eq t).2.2.2.2.1
  have e : ∀ a : Fin 2, (((cfg0.win 1).blk t).view.emb (ix2 p k) a).val = (cfg0.win 1).index t a * (cfg0.win 1).size a + ((ix2 p k : S512x2048.Idx) a).val := fun a => Window.rect_emb_val (cfg0.win 1) t _ a rfl
  show V m c (Pipeline.arrRef spec0 1) (((cfg0.win 1).blk t).view.emb (ix2 p k)) = _
  refine (congrFun (vB m c) _).trans (Eq.trans (congrArg _ (funext fun a => Fin.ext ?_)) (castB _ ⟨t.val * 512 + p.val - 8192, by omega⟩ k))
  match a with
  | ⟨0, _⟩ => exact (e 0).trans (by rw [show (cfg0.win 1).index t (0 : Fin 2) = t.val - 16 from i0]; show (t.val - 16) * 512 + p.val = t.val * 512 + p.val - 8192; omega)
  | ⟨1, _⟩ => exact (e 1).trans (by rw [show (cfg0.win 1).index t (1 : Fin 2) = 0 from i1, Nat.zero_mul, Nat.zero_add]; rfl)

/-- The scales a point reads. -/
theorem blk2_apply (t : Fin grid0.N) (k : Fin 2048) :
    iblk m c 2 t (ix2 0 k) = m ((c.tc : Thread nD τ).loc main_arg2) (ix2 0 k) := by
  obtain ⟨i0, i1⟩ := (index_eq t).2.2.2.2.2
  have e : ∀ a : Fin 2, (((cfg0.win 2).blk t).view.emb (ix2 0 k) a).val = (cfg0.win 2).index t a * (cfg0.win 2).size a + ((ix2 0 k : S1x2048.Idx) a).val := fun a => Window.rect_emb_val (cfg0.win 2) t _ a rfl
  show V m c (Pipeline.arrRef spec0 2) (((cfg0.win 2).blk t).view.emb (ix2 0 k)) = _
  refine (congrFun (vG m c) _).trans (Eq.trans (congrArg _ (funext fun a => Fin.ext ?_)) (castG _ k))
  match a with
  | ⟨0, _⟩ => exact (e 0).trans (by rw [show (cfg0.win 2).index t (0 : Fin 2) = 0 from i0, Nat.zero_mul, Nat.zero_add]; rfl)
  | ⟨1, _⟩ => exact (e 1).trans (by rw [show (cfg0.win 2).index t (1 : Fin 2) = 0 from i1, Nat.zero_mul, Nat.zero_add]; rfl)

/-- A prompt's row, from its block. -/
theorem row_left (A : S4x2048x2048.Idx → EReal) (B : S128x8x2048.Idx → EReal) (G : S1x2048.Idx → EReal) (i : S9216x2048.Idx) (n : Nat) (q : Fin 2048)
    (hn : n < 8192) (h0 : (i 0).val = n) (h1 : i 1 = q) (f g : Fin 2048 → EReal)
    (hf : ∀ k, f k = A (ix3 ⟨n / 2048, by omega⟩ ⟨n % 2048, by omega⟩ k)) (hg : ∀ k, g k = G (ix2 0 k)) : rowNorm f g q = normRows A B G i := by
  obtain rfl : f = _ := funext hf
  obtain rfl : g = _ := funext hg
  subst h0 h1
  unfold normRows
  rw [dif_pos hn]

/-- A sample's row, from its block. -/
theorem row_right (A : S4x2048x2048.Idx → EReal) (B : S128x8x2048.Idx → EReal) (G : S1x2048.Idx → EReal) (i : S9216x2048.Idx) (n : Nat) (q : Fin 2048)
    (hn : 8192 ≤ n) (hm : n < 9216) (h0 : (i 0).val = n) (h1 : i 1 = q) (f g : Fin 2048 → EReal)
    (hf : ∀ k, f k = B (ix3 ⟨(n - 8192) / 8, by omega⟩ ⟨(n - 8192) % 8, by omega⟩ k)) (hg : ∀ k, g k = G (ix2 0 k)) : rowNorm f g q = normRows A B G i := by
  obtain rfl : f = _ := funext hf
  obtain rfl : g = _ := funext hg
  subst h0 h1
  unfold normRows
  rw [dif_neg (Nat.not_lt.2 hn)]

/-- What a point leaves among the prompts, from its blocks. -/
theorem afterA (t : Fin cfg0.N) (ht : t.val < 16) : (dats m 0 c).after 3 t = k0_pay1 (F := Ideal) (iblk m c 0 t) (iblk m c 2 t) :=
  (after0_3 m c t).trans ((outsAt0_A m c t ht (Nat.not_le.2 ht)).trans (outA ..))

/-- What a point leaves among the samples, from its blocks. -/
theorem afterB (t : Fin cfg0.N) (ht : 16 ≤ t.val) : (dats m 0 c).after 3 t = k0_pay2 (F := Ideal) (iblk m c 1 t) (iblk m c 2 t) :=
  (after0_3 m c t).trans ((outsAt0_B m c t (Nat.not_lt.2 ht) ht).trans (outB ..))

/-- An element of a block of the prompts' rows. -/
theorem leftElt (t : Fin cfg0.N) (ht : t.val < 16) (y : S512x2048.Idx) (i : S9216x2048.Idx) (h0 : (i 0).val = t.val * 512 + (y 0).val) (h1 : (i 1).val = (y 1).val) :
    k0_pay1 (F := Ideal) (iblk m c 0 t) (iblk m c 2 t) y = normRows (m ((c.tc : Thread nD τ).loc main_arg0)) (m ((c.tc : Thread nD τ).loc main_arg1)) (m ((c.tc : Thread nD τ).loc main_arg2)) i := by
  obtain ⟨p, q, rfl⟩ : ∃ (p : Fin 512) (q : Fin 2048), y = ix2 p q := ⟨y (0 : Fin 2), y (1 : Fin 2), by funext a; match a with | ⟨0, _⟩ => rfl | ⟨1, _⟩ => rfl⟩
  have h0' : (i 0).val = t.val * 512 + p.val := h0
  exact (pay1_apply _ _ p q).trans (row_left _ _ _ i (t.val * 512 + p.val) q (by omega) h0' (Fin.ext h1) _ _ (fun k => blk0_apply m c t ht p k) (fun k => blk2_apply m c t k))

/-- An element of a block of the samples' rows. -/
theorem rightElt (t : Fin cfg0.N) (ht : 16 ≤ t.val) (y : S512x2048.Idx) (i : S9216x2048.Idx) (h0 : (i 0).val = t.val * 512 + (y 0).val) (h1 : (i 1).val = (y 1).val) :
    k0_pay2 (F := Ideal) (iblk m c 1 t) (iblk m c 2 t) y = normRows (m ((c.tc : Thread nD τ).loc main_arg0)) (m ((c.tc : Thread nD τ).loc main_arg1)) (m ((c.tc : Thread nD τ).loc main_arg2)) i := by
  obtain ⟨p, q, rfl⟩ : ∃ (p : Fin 512) (q : Fin 2048), y = ix2 p q := ⟨y (0 : Fin 2), y (1 : Fin 2), by funext a; match a with | ⟨0, _⟩ => rfl | ⟨1, _⟩ => rfl⟩
  have hN : t.val < 18 := t.isLt
  have h0' : (i 0).val = t.val * 512 + p.val := h0
  exact (pay2_apply _ _ p q).trans (row_right _ _ _ i (t.val * 512 + p.val) q (by omega) (by omega) h0' (Fin.ext h1) _ _ (fun k => blk1_apply m c t ht p k) (fun k => blk2_apply m c t k))

/-- The norm's array after the run. -/
theorem final3 : (dats m 0 c).arrAt 3 cfg0.N = normRows (m ((c.tc : Thread nD τ).loc main_arg0)) (m ((c.tc : Thread nD τ).loc main_arg1)) (m ((c.tc : Thread nD τ).loc main_arg2)) := by
  refine (dats m 0 c).arrAt_eq_of_covers 3 _ (by decide +kernel) ?_
  intro t hf y
  have e : ∀ a : Fin 2, (((cfg0.win 3).blk t).view.emb y a).val = (cfg0.win 3).index t a * (cfg0.win 3).size a + (y a).val := fun a => Window.rect_emb_val (cfg0.win 3) t y a rfl
  have e0 : (((cfg0.win 3).blk t).view.emb y (0 : Fin 2)).val = t.val * 512 + (y (0 : Fin 2)).val := (e 0).trans (by rw [show (cfg0.win 3).index t (0 : Fin 2) = t.val from (index_eq t).1.1]; rfl)
  have e1 : (((cfg0.win 3).blk t).view.emb y (1 : Fin 2)).val = (y (1 : Fin 2)).val := (e 1).trans (by rw [show (cfg0.win 3).index t (1 : Fin 2) = 0 from (index_eq t).1.2, Nat.zero_mul, Nat.zero_add])
  by_cases ht : t.val < 16
  · exact (congrFun (afterA m c t ht) y).trans (leftElt m c t ht y _ e0 e1)
  · exact (congrFun (afterB m c t (Nat.not_lt.1 ht)) y).trans (rightElt m c t (Nat.not_lt.1 ht) y _ e0 e1)

end Cert.Kernel3Ideal.Body

namespace Cert.Reference3Ideal.Body
open Idealize.ShloMosaic Idealize.ShloMosaic.TcCoe Idealize.SL Idealize.SL.Sem
open Cert.Reference3Ideal Cert.Reference3Ideal.Facts₀ Cert.Reference3Ideal.Facts

/-- The reference's rows. -/
theorem ref_eq (A : FVec Ideal S4x2048x2048 .f32) (B : FVec Ideal S128x8x2048 .f32) (G : FVec Ideal S1x2048 .f32) :
    truncf .bf16 (concatenate S9216x2048 0 [⟨S8192x2048, (shapeCast _ (mulf (mulf A (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf A A) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ G shapeCasts_S1x2048_S2048)))) shapeCasts_S4x2048x2048_S8192x2048)⟩, ⟨S1024x2048, (shapeCast _ (mulf (mulf B (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf B B) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ G shapeCasts_S1x2048_S2048)))) shapeCasts_S128x8x2048_S1024x2048)⟩] concatenates_S8192x2048_S1024x2048_S9216x2048_d0) bitsLt_bf16_f32
      = Cert.Kernel3Ideal.Body.normRows A B G := by
  funext x
  obtain ⟨r, k, rfl⟩ : ∃ (r : Fin 9216) (k : Fin 2048), x = ix2 r k := ⟨x (0 : Fin 2), x (1 : Fin 2), by funext a; match a with | ⟨0, _⟩ => rfl | ⟨1, _⟩ => rfl⟩
  pointwise [Cert.Kernel3Ideal.Body.normRows, Cert.Kernel3Ideal.Body.rowNorm]

end Cert.Reference3Ideal.Body

end
-- ==== Proof.NormClaims.lean ====
/-
  The norm's claims.
-/
module

public import proofs.«01_k».proof.Defs
public import proofs.«01_k».proof.Proof.Norm
public import Idealize.ShloMosaic.Lib.Claim

@[expose] public section

set_option maxRecDepth 100000

noncomputable section

namespace Cert.Proof

open Idealize.ShloMosaic Idealize.ShloMosaic.TcCoe Idealize.ShloMosaic.StableHlo Idealize.SL.Sem

/-- The norm's run leaves its arguments and its semaphores. -/
theorem frame_P3 : Cert.quiescent_Kernel3 := fun m g _ => Cert.Kernel3.Gen.frame m g

/-- The idealized norm's run leaves its arguments and its semaphores. -/
theorem frame_PI3 : Cert.quiescent_Kernel3Ideal := fun m g _ => Cert.Kernel3Ideal.Gen.frame m g

/-- The norm's reference's run leaves its arguments and its semaphores. -/
theorem frame_RI3 : Cert.quiescent_Reference3Ideal := by
  intro m g _
  hlo_run
  · exact fun _ => ⟨trivial, trivial, trivial⟩
  · exact sem_eq_zero_of_no_sems (sig := Cert.Reference3Ideal.sig) (by decide) _

/-- No rewrite is made in the norm. -/
theorem preserves3 : Cert.preserves_Kernel3_Kernel3Ideal := trivial

/-- The idealized norm and its idealized reference end with the same array. -/
theorem algebraic3 : Cert.algebraic_Kernel3Ideal_Reference3Ideal := fun m g m' g' _ hagree => by
  refine ⟨_, Cert.Kernel3Ideal.Value.run_blocks (F := Ideal) m g, (θ_run Cert.Reference3Ideal.defs _ _).mono (fun r h c => ?_) (Cert.Reference3Ideal.Value.run (F := Ideal) m' g')⟩
  obtain rfl : c = 0 := Subsingleton.elim _ _
  obtain ⟨h0, h1, h2⟩ := hagree 0
  obtain ⟨r0, rest⟩ := h 0
  refine ⟨r0.trans ?_, rest⟩
  rw [Cert.Kernel3Ideal.Body.final3, ← h0, ← h1, ← h2]
  exact Cert.Reference3Ideal.Body.ref_eq _ _ _

end Cert.Proof

end
-- ==== Proof.MixerBitsPoint.lean ====
/-
  The mixer: one point of its grid, from blocks and scratch to blocks and scratch.
-/
module

public import proofs.«01_k».proof.Proof.MixerBitsSetup

@[expose] public section

set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point: the blocks read are left as they were. -/
theorem kernelRun0_A (c : Dev nD) (i : grid0.Coords) (arg1 : Memref sig .tc .vmem S256x9216 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x1024 .f32) (harg7 : arg7.IsWhole) (arg8 : Memref sig .tc .vmem S1x4x128x128 .bf16) (harg8 : arg8.IsWhole) (arg9 : Memref sig .tc .vmem S1x128x1024 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S2048x128 .bf16) (harg14 : arg14.IsWhole) (arg15 : Memref sig .tc .vmem S1x128 .f32) (harg15 : arg15.IsWhole) (arg16 : Memref sig .tc .vmem S256x2048 .f32) (harg16 : arg16.IsWhole) (arg17 : Memref sig .tc .vmem S2048x128 .i32) (harg17 : arg17.IsWhole) (arg18 : Memref sig .tc .vmem S256x128 .f32) (harg18 : arg18.IsWhole) (arg19 : Memref sig .tc .vmem S1x128x1024 .f32) (harg19 : arg19.IsWhole) (arg20 : Memref sig .tc .vmem S256x1024 .f32) (harg20 : arg20.IsWhole) (arg21 : Memref sig .tc .vmem S1x2x1024 .f32) (harg21 : arg21.IsWhole) (arg22 : Memref sig .tc .vmem S256x1024 .f32) (harg22 : arg22.IsWhole) (arg23 : Memref sig .tc .vmem S8x1024 .f32) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x2048 .bf16) (harg26 : arg26.IsWhole)
    (x0 : Vec F S256x9216 .bf16) (x1 : Vec F S256x2048 .f32) (x2 : Vec F S256x2048 .f32) (x3 : Vec F S256x1024 .f32) (x4 : Vec F S1x1024 .f32) (x5 : Vec F S1x1024 .f32) (x6 : Vec F S3x1024 .f32) (x7 : Vec F S1x4x128x128 .bf16) (x8 : Vec F S1x128x1024 .f32) (x9 : Vec F S1024x2048 .bf16) (x10 : Vec F S1024x2048 .bf16) (x11 : Vec F S2048x2048 .bf16) (x12 : Vec F S1x2048 .f32) (x13 : Vec F S2048x128 .bf16) (x14 : Vec F S1x128 .f32) :

      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel4.Gen

end
-- ==== Proof.MixerBitsRun.lean ====
/-
  The mixer: its whole run.
-/
module

public import proofs.«01_k».proof.Proof.MixerBitsPoint
public import Idealize.ShloMosaic.Lib.Claim

@[expose] public section

set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The outputs whose contents are not followed. -/
def forgets0 : Fin 22 → Bool := fun w => w.val == 15 || w.val == 16 || w.val == 17 || w.val == 18 || w.val == 19 || w.val == 20 || w.val == 21

/-- The buffers' contents after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q _ := fullShare
  owed _ := 0

/-- The arrays where the region begins. -/
theorem A_eq (c : Dev nD) (w : Fin cfg0.W) : (dats m 0 c).A w = V m c (Pipeline.arrRef spec0 w) := by
  dsimp only [dats]

/-! What each buffer holds after a point, and before it. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-- What a point is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- What a point gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 4000000 in
/-- Every point does what is asked of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, H19, H20, H21, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body's row of the table. -/
theorem defs₀_row (t : Fin cfg0.N) :
    defs₀ (F := F) .tc cfg0.body (cfg0.bodyArgs t (cfg0.slots t)) = bodyAt0 t := by
  unfold defs₀; rw [Defs.onTc_tc]

/-- Every point, as the pipeline asks it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run, with the semaphores. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments and the semaphores after the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (fun c => (dats m 0 c).toRForget forgets0) (A_eq m) (run_main m ρ)) ((θ_run defs _ _).mono (fun _ h => h.2) (run_main_quiescent m ρ))

end Cert.Kernel4.Gen

end
-- ==== Proof.MixerSetup.lean ====
/-
  The mixer: its arrays where the region begins, its blocks, and where its buffers lie.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of a core where the region begins. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- These host lines allocate nothing. -/
theorem hostOps0_fresh : (hostOps0 : List (HloOp τ sig (Elt F))).Forall fun op => op.fresh = ∅ := by
  simp only [List.Forall]; repeat' constructor
/-- These host lines allocate nothing. -/
theorem hostOps0_1_fresh : (hostOps0_1 : List (HloOp τ sig (Elt F))).Forall fun op => op.fresh = ∅ := by
  simp only [List.Forall]; repeat' constructor
/-- These host lines allocate nothing. -/
theorem hostOps0_2_fresh : (hostOps0_2 : List (HloOp τ sig (Elt F))).Forall fun op => op.fresh = ∅ := by
  simp only [List.Forall]; repeat' constructor
/-- These host lines allocate nothing. -/
theorem hostOps0_3_fresh : (hostOps0_3 : List (HloOp τ sig (Elt F))).Forall fun op => op.fresh = ∅ := by
  simp only [List.Forall]; repeat' constructor
/-- These host lines allocate nothing. -/
theorem hostOps0_4_fresh : (hostOps0_4 : List (HloOp τ sig (Elt F))).Forall fun op => op.fresh = ∅ := by
  simp only [List.Forall]; repeat' constructor
/-- These host lines allocate nothing. -/
theorem hostOps0_5_fresh : (hostOps0_5 : List (HloOp τ sig (Elt F))).Forall fun op => op.fresh = ∅ := by
  simp only [List.Forall]; repeat' constructor
/-- These host lines allocate nothing. -/
theorem hostOps0_6_fresh : (hostOps0_6 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The arguments. -/
def args : List (Ref sig .tc) := [main_arg0, main_arg1, main_arg2, main_arg3, main_arg4, main_arg5, main_arg6, main_arg7, main_arg8, main_arg9, main_arg10, main_arg11, main_arg12, main_arg13, main_arg14, main_arg15, main_arg16]

/-- A buffer outside the arguments is none of them. -/
theorem ne_of_args {r b : Ref sig .tc} (hr : r ∈ args) (hb : b ∉ args) : r ≠ b := fun h => hb (h ▸ hr)

/-- The host lines write no argument. -/
theorem not_written : (List.flatten [hostOps0, hostOps0_1, hostOps0_2, hostOps0_3, hostOps0_4, hostOps0_5, hostOps0_6] : List (HloOp τ sig (Elt F))).Forall fun op => ∀ r ∈ args, Proc.devRef .tc r ∉ op.writes := by
  simp only [hostOps0, hostOps0_1, hostOps0_2, hostOps0_3, hostOps0_4, hostOps0_5, hostOps0_6, List.flatten_cons, List.flatten_nil, List.append_nil, List.cons_append, List.nil_append, List.Forall,
    StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact fun r hr => StableHlo.devRef_ne_of_ne (ne_of_args hr (by decide))

/-- The host lines leave an argument. -/
theorem V_arg (c : Dev nD) (r : Ref sig .tc) (hr : r ∈ args) : V m c r = m ((c : Thread nD τ).loc r) :=
  StableHlo.after_of_forall_not_mem (b := Proc.devRef .tc r) _ _ fun op hop => List.forall_iff_forall_mem.mp not_written op hop r hr

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 1320000 in
/-- The arguments after a run. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(Pipeline.RDat.FramePost.arr_in h c 0 rfl).trans ((hA c 0).trans (V_arg m c main_arg0 (by decide))),
      ((h c).2 main_arg1 (Pipeline.mem_restRefs_of main_arg1 (by decide) (by decide))).trans (V_arg m c main_arg1 (by decide)),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).2 main_arg4 (Pipeline.mem_restRefs_of main_arg4 (by decide) (by decide))).trans (V_arg m c main_arg4 (by decide)),
      ((h c).2 main_arg5 (Pipeline.mem_restRefs_of main_arg5 (by decide) (by decide))).trans (V_arg m c main_arg5 (by decide)),
      ((h c).2 main_arg6 (Pipeline.mem_restRefs_of main_arg6 (by decide) (by decide))).trans (V_arg m c main_arg6 (by decide)),
      ((h c).2 main_arg7 (Pipeline.mem_restRefs_of main_arg7 (by decide) (by decide))).trans (V_arg m c main_arg7 (by decide)),
      ((h c).2 main_arg8 (Pipeline.mem_restRefs_of main_arg8 (by decide) (by decide))).trans (V_arg m c main_arg8 (by decide)),
      (Pipeline.RDat.FramePost.arr_in h c 9 rfl).trans ((hA c 9).trans (V_arg m c main_arg9 (by decide))),
      (Pipeline.RDat.FramePost.arr_in h c 10 rfl).trans ((hA c 10).trans (V_arg m c main_arg10 (by decide))),
      (Pipeline.RDat.FramePost.arr_in h c 11 rfl).trans ((hA c 11).trans (V_arg m c main_arg11 (by decide))),
      ((h c).2 main_arg12 (Pipeline.mem_restRefs_of main_arg12 (by decide) (by decide))).trans (V_arg m c main_arg12 (by decide)),
      ((h c).2 main_arg13 (Pipeline.mem_restRefs_of main_arg13 (by decide) (by decide))).trans (V_arg m c main_arg13 (by decide)),
      ((h c).2 main_arg14 (Pipeline.mem_restRefs_of main_arg14 (by decide) (by decide))).trans (V_arg m c main_arg14 (by decide)),
      ((h c).2 main_arg15 (Pipeline.mem_restRefs_of main_arg15 (by decide) (by decide))).trans (V_arg m c main_arg15 (by decide)),
      ((h c).2 main_arg16 (Pipeline.mem_restRefs_of main_arg16 (by decide) (by decide))).trans (V_arg m c main_arg16 (by decide))⟩) h

/-! The buffers at a point. -/

abbrev ms0_0 (t : Fin cfg0.N) : Memref sig .tc .vmem S256x9216 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4x128x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2048x128 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2048 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2048x2x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S256x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x2x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S256x1024 .f32 := win0_21.stage (cfg0.slots t 21)
abbrev hs0_21 (t : Fin cfg0.N) : (ms0_21 t).IsWhole := hstage0_21 ((cfg0.slots t 21).cast nbuf0_21)
abbrev scM0_0 : Memref sig .tc .vmem S8x1024 .f32 := Memref.whole cc0_scratch0
abbrev scM0_1 : Memref sig .tc .vmem S256x1024 .bf16 := Memref.whole cc0_scratch1
abbrev scM0_2 : Memref sig .tc .vmem S256x1024 .bf16 := Memref.whole cc0_scratch2
abbrev scM0_3 : Memref sig .tc .vmem S256x2048 .bf16 := Memref.whole cc0_scratch3
abbrev VO0_18 : View sig .tc .vmem S1x128x1024 .f32 := (Memref.whole cc0_stg18_0 : Memref sig .tc .vmem S1x128x1024 .f32).view
abbrev VO0_19 : View sig .tc .vmem S256x1024 .f32 := (Memref.whole cc0_stg19_0 : Memref sig .tc .vmem S256x1024 .f32).view
abbrev VO0_20 : View sig .tc .vmem S1x2x1024 .f32 := (Memref.whole cc0_stg20_0 : Memref sig .tc .vmem S1x2x1024 .f32).view
abbrev VO0_21 : View sig .tc .vmem S256x1024 .f32 := (Memref.whole cc0_stg21_0 : Memref sig .tc .vmem S256x1024 .f32).view

/-- Between points the scratch buffers hold something. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel4Ideal.Gen

end
-- ==== Proof.MixerPoint.lean ====
/-
  The mixer: one point of its grid, from blocks and scratch to blocks and scratch.
-/
module

public import proofs.«01_k».proof.Proof.MixerSetup

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One point: the blocks read are left as they were, and what is stored to the last four outputs. -/
def kernelRun0_A (c : Dev nD) (i : grid0.Coords) (arg1 : Memref sig .tc .vmem S256x9216 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x1024 .f32) (harg7 : arg7.IsWhole) (arg8 : Memref sig .tc .vmem S1x4x128x128 .bf16) (harg8 : arg8.IsWhole) (arg9 : Memref sig .tc .vmem S1x128x1024 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S2048x128 .bf16) (harg14 : arg14.IsWhole) (arg15 : Memref sig .tc .vmem S1x128 .f32) (harg15 : arg15.IsWhole) (arg16 : Memref sig .tc .vmem S256x2048 .f32) (harg16 : arg16.IsWhole) (arg17 : Memref sig .tc .vmem S2048x2x128 .bf16) (harg17 : arg17.IsWhole) (arg18 : Memref sig .tc .vmem S256x128 .f32) (harg18 : arg18.IsWhole) (arg19 : Memref sig .tc .vmem S1x128x1024 .f32) (harg19 : arg19.IsWhole) (arg20 : Memref sig .tc .vmem S256x1024 .f32) (harg20 : arg20.IsWhole) (arg21 : Memref sig .tc .vmem S1x2x1024 .f32) (harg21 : arg21.IsWhole) (arg22 : Memref sig .tc .vmem S256x1024 .f32) (harg22 : arg22.IsWhole) (arg23 : Memref sig .tc .vmem S8x1024 .f32) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x2048 .bf16) (harg26 : arg26.IsWhole)
    (x0 : Vec F S256x9216 .bf16) (x1 : Vec F S256x2048 .f32) (x2 : Vec F S256x2048 .f32) (x3 : Vec F S256x1024 .f32) (x4 : Vec F S1x1024 .f32) (x5 : Vec F S1x1024 .f32) (x6 : Vec F S3x1024 .f32) (x7 : Vec F S1x4x128x128 .bf16) (x8 : Vec F S1x128x1024 .f32) (x9 : Vec F S1024x2048 .bf16) (x10 : Vec F S1024x2048 .bf16) (x11 : Vec F S2048x2048 .bf16) (x12 : Vec F S1x2048 .f32) (x13 : Vec F S2048x128 .bf16) (x14 : Vec F S1x128 .f32) :
    Σ' (L18 : List (View.Piece (Elt F) S1x128x1024 .f32)), Σ' (L19 : List (View.Piece (Elt F) S256x1024 .f32)), Σ' (L20 : List (View.Piece (Elt F) S1x2x1024 .f32)), { L21 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, fun E K => ?run⟩
  case run =>
    simp only [cc0_mixer_eq_skeleton]; unfold cc0_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]; · iexists _; iexact H18
    isplitl [H19]; · iexists _; iexact H19
    isplitl [H20]; · iexists _; iexact H20
    isplitl [H21]; · iexists _; iexact H21
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel4Ideal.Gen

end
-- ==== Proof.MixerRun.lean ====
/-
  The mixer: its whole run.
-/
module

public import proofs.«01_k».proof.Proof.MixerPoint
public import Idealize.ShloMosaic.Lib.Claim

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x9216 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x1024 .f32) (harg7 : arg7.IsWhole) (arg8 : Memref sig .tc .vmem S1x4x128x128 .bf16) (harg8 : arg8.IsWhole) (arg9 : Memref sig .tc .vmem S1x128x1024 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S2048x128 .bf16) (harg14 : arg14.IsWhole) (arg15 : Memref sig .tc .vmem S1x128 .f32) (harg15 : arg15.IsWhole) (arg16 : Memref sig .tc .vmem S256x2048 .f32) (harg16 : arg16.IsWhole) (arg17 : Memref sig .tc .vmem S2048x2x128 .bf16) (harg17 : arg17.IsWhole) (arg18 : Memref sig .tc .vmem S256x128 .f32) (harg18 : arg18.IsWhole) (arg19 : Memref sig .tc .vmem S1x128x1024 .f32) (harg19 : arg19.IsWhole) (arg20 : Memref sig .tc .vmem S256x1024 .f32) (harg20 : arg20.IsWhole) (arg21 : Memref sig .tc .vmem S1x2x1024 .f32) (harg21 : arg21.IsWhole) (arg22 : Memref sig .tc .vmem S256x1024 .f32) (harg22 : arg22.IsWhole) (arg23 : Memref sig .tc .vmem S8x1024 .f32) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x2048 .bf16) (harg26 : arg26.IsWhole)
    (x0 : Vec F S256x9216 .bf16) (x1 : Vec F S256x2048 .f32) (x2 : Vec F S256x2048 .f32) (x3 : Vec F S256x1024 .f32) (x4 : Vec F S1x1024 .f32) (x5 : Vec F S1x1024 .f32) (x6 : Vec F S3x1024 .f32) (x7 : Vec F S1x4x128x128 .bf16) (x8 : Vec F S1x128x1024 .f32) (x9 : Vec F S1024x2048 .bf16) (x10 : Vec F S1024x2048 .bf16) (x11 : Vec F S2048x2048 .bf16) (x12 : Vec F S1x2048 .f32) (x13 : Vec F S2048x128 .bf16) (x14 : Vec F S1x128 .f32)

/-- The stores to output 18 cover its block. -/
theorem cover0_A_18 (y : S1x128x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).1 S1x128x1024.size (by sl_kernel_rfl) y

/-- What is stored to output 18. -/
def out0_A_18 : Vec F S1x128x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).1)

/-- The stores to output 19 cover its block. -/
theorem cover0_A_19 (y : S256x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.1 S256x1024.size (by sl_kernel_rfl) y

/-- What is stored to output 19. -/
def out0_A_19 : Vec F S256x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.1)

/-- The stores to output 20 cover its block. -/
theorem cover0_A_20 (y : S1x2x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.1 S1x2x1024.size (by sl_kernel_rfl) y

/-- What is stored to output 20. -/
def out0_A_20 : Vec F S1x2x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.1)

/-- The stores to output 21 cover its block. -/
theorem cover0_A_21 (y : S256x1024.Idx) : ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.2.1 S256x1024.size (by sl_kernel_rfl) y

/-- What is stored to output 21. -/
def out0_A_21 : Vec F S256x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14).2.2.2.1)

end

/-- What point `t` stores to output 18. -/
def outAt18 (c : Dev nD) (t : Fin cfg0.N) : Vec F S1x128x1024 .f32 :=
  out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What point `t` stores to output 19. -/
def outAt19 (c : Dev nD) (t : Fin cfg0.N) : Vec F S256x1024 .f32 :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What point `t` stores to output 20. -/
def outAt20 (c : Dev nD) (t : Fin cfg0.N) : Vec F S1x2x1024 .f32 :=
  out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What point `t` stores to output 21. -/
def outAt21 (c : Dev nD) (t : Fin cfg0.N) : Vec F S256x1024 .f32 :=
  out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The outputs whose contents are not followed. -/
def forgets0 : Fin 22 → Bool := fun w => w.val == 15 || w.val == 16 || w.val == 17

/-- The buffers' contents after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, _⟩ => outAt18 m c t
    | ⟨19, _⟩ => outAt19 m c t
    | ⟨20, _⟩ => outAt20 m c t
    | ⟨21, _⟩ => outAt21 m c t
    | ⟨_ + 22, h⟩ => absurd h (Nat.not_lt.2 (Nat.le_add_left _ _))
  Φ _ := Pipeline.ΦA spec0 c
  q _ := fullShare
  owed _ := 0

/-- The arrays where the region begins. -/
theorem A_eq (c : Dev nD) (w : Fin cfg0.W) : (dats m 0 c).A w = V m c (Pipeline.arrRef spec0 w) := by
  dsimp only [dats]

/-! What each buffer holds after a point, and before it. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_18 (c : Dev nD) (t : Fin cfg0.N) : (dats m 0 c).after 18 t = outAt18 m c t := by dsimp only [dats]
theorem after0_19 (c : Dev nD) (t : Fin cfg0.N) : (dats m 0 c).after 19 t = outAt19 m c t := by dsimp only [dats]
theorem after0_20 (c : Dev nD) (t : Fin cfg0.N) : (dats m 0 c).after 20 t = outAt20 m c t := by dsimp only [dats]
theorem after0_21 (c : Dev nD) (t : Fin cfg0.N) : (dats m 0 c).after 21 t = outAt21 m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-- What a point is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- What a point gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 4000000 in
/-- Every point does what is asked of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_18, after0_19, after0_20, after0_21]
  rw [show (dats m 0 c).Φ t.castSucc = Pipeline.ΦA spec0 c from rfl, PhiA0_eq]
  unfold outAt18 outAt19 outAt20 outAt21
  unfold out0_A_18 out0_A_19 out0_A_20 out0_A_21
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, ⟨%e18, H18⟩, ⟨%e19, H19⟩, ⟨%e20, H20⟩, ⟨%e21, H21⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body's row of the table. -/
theorem defs₀_row (t : Fin cfg0.N) :
    defs₀ (F := F) .tc cfg0.body (cfg0.bodyArgs t (cfg0.slots t)) = bodyAt0 t := by
  unfold defs₀; rw [Defs.onTc_tc]

/-- Every point, as the pipeline asks it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run, with the semaphores. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments and the semaphores after the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (fun c => (dats m 0 c).toRForget forgets0) (A_eq m) (run_main m ρ)) ((θ_run defs _ _).mono (fun _ h => h.2) (run_main_quiescent m ρ))

end Cert.Kernel4Ideal.Gen

end
-- ==== Proof.MixerRef.lean ====
/-
  The mixer's values at a row, and its reference's.
-/
module

public import proofs.«01_k».proof.Proof.Gen.Reference4Ideal.Run
public import Idealize.ShloMosaic.Lib.Pipeline.ValueKit.Geometry
public import Idealize.ShloMosaic.Lib.Pipeline.ValueKit.Basic
public import Idealize.ShloMosaic.Lib.Pipeline.Covers
public import Idealize.ShloMosaic.Lib.Pipeline.FrameBody
public import Idealize.ShloMosaic.Lib.Pointwise.Contract
public import Idealize.ShloMosaic.Lib.Pointwise.Sums
public import Idealize.ShloMosaic.Lib.Pointwise.Select
public import Idealize.ShloMosaic.Lib.Pointwise.SelectCore
public import Idealize.ShloMosaic.Lib.Pointwise.ShapeOps
public import Idealize.ShloMosaic.Lib.Pointwise.Reshape
public import Idealize.ShloMosaic.Lib.Pointwise.Elementwise
public import Idealize.ShloMosaic.Lib.Pointwise.Reduce
public import Idealize.ShloMosaic.Lib.Pointwise.IndexBridge
public import Idealize.ShloMosaic.Lib.Pointwise.Blocks
public import Idealize.ShloMosaic.Lib.Pointwise.Tactic
public import Idealize.ShloMosaic.Lib.IdealHost
public import Idealize.ShloMosaic.Lib.Bf16Pair
public import Idealize.ShloMosaic.Lib.Claim

@[expose] public section

set_option maxRecDepth 100000

noncomputable section

namespace Cert.Reference4Ideal.Body
open Idealize.ShloMosaic Idealize.ShloMosaic.TcCoe Idealize.SL Idealize.SL.Sem
open Cert.Reference4Ideal Cert.Reference4Ideal.Facts₀ Cert.Reference4Ideal.Facts

/-- A row's mean. -/
def mean (f : Fin 1024 → EReal) : EReal := Ideal.div (∑ j, f j) (Ideal.ofBits FTy.f32 1149239296#32)

/-- A row less its mean, over its deviation, scaled and shifted. -/
def layerNorm (f g b : Fin 1024 → EReal) (k : Fin 1024) : EReal :=
  (f k - mean f) * Ideal.rsqrt (mean (fun j => (f j - mean f) * (f j - mean f)) + Ideal.ofBits FTy.f32 897988541#32) * g k + b k

/-- The mixer's value at a row: the projected row's second group of columns, normed. -/
def vAt (Z : S9216x9216.Idx → EReal) (G B : S1x1024.Idx → EReal) (r : Fin 9216) (k : Fin 1024) : EReal :=
  layerNorm (fun j => Z (ix2 r ⟨1024 + j.val, by omega⟩)) (fun j => G (ix2 0 j)) (fun j => B (ix2 0 j)) k

/-- The convolution's input at a row: the product of two groups of the projected row's columns. -/
def qAt (Z : S9216x9216.Idx → EReal) (r : Fin 9216) (k : Fin 1024) : EReal :=
  Z (ix2 r ⟨3072 + k.val, by omega⟩) * Z (ix2 r ⟨4096 + k.val, by omega⟩)

/-- The row at which a sequence's last rows begin; the spare block's are the samples' last. -/
def base (n : Nat) (s : Fin 5) : Nat := if s.val < 4 then s.val * 2048 + (2048 - n) else 9216 - n

/-- The last two rows of the convolution's input in each prompt, and of the samples'. -/
def qLast (Z : S9216x9216.Idx → EReal) : S5x2x1024.Idx → EReal := fun i =>
  qAt Z ⟨base 2 (i 0) + (i 1).val, by have h0 : (i 0).val < 5 := (i 0).isLt; have h1 : (i 1).val < 2 := (i 1).isLt; unfold base; split <;> omega⟩ (i 2)

/-- The samples' inputs to the convolution. -/
def qSample (Z : S9216x9216.Idx → EReal) : S1024x1024.Idx → EReal := fun i =>
  qAt Z ⟨8192 + (i 0).val, by have h0 : (i 0).val < 1024 := (i 0).isLt; omega⟩ (i 1)

/-- The last rows of the values in each prompt, and of the samples'. -/
def vLast (Z : S9216x9216.Idx → EReal) (G B : S1x1024.Idx → EReal) : S5x128x1024.Idx → EReal := fun i =>
  vAt Z G B ⟨base 128 (i 0) + (i 1).val, by have h0 : (i 0).val < 5 := (i 0).isLt; have h1 : (i 1).val < 128 := (i 1).isLt; unfold base; split <;> omega⟩ (i 2)

/-- The samples' values. -/
def vSample (Z : S9216x9216.Idx → EReal) (G B : S1x1024.Idx → EReal) : S1024x1024.Idx → EReal := fun i =>
  vAt Z G B ⟨8192 + (i 0).val, by have h0 : (i 0).val < 1024 := (i 0).isLt; omega⟩ (i 1)

/-- The reference's inputs to the convolution. -/
def qRows (Z : FVec Ideal S9216x9216 .bf16) : FVec Ideal S9216x1024 .f32 :=
  mulf (extractStridedSlice S9216x1024 ![0, 3072] (extf .f32 Z bitsLt_bf16_f32) slices_S9216x9216_S9216x1024_0_3072) (extractStridedSlice S9216x1024 ![0, 4096] (extf .f32 Z bitsLt_bf16_f32) slices_S9216x9216_S9216x1024_0_4096)

/-- The reference's centred rows. -/
def centred (Z : FVec Ideal S9216x9216 .bf16) : FVec Ideal S9216x1024 .f32 :=
  subf (extractStridedSlice S9216x1024 ![0, 1024] (extf .f32 Z bitsLt_bf16_f32) slices_S9216x9216_S9216x1024_0_1024) (broadcastInDim S9216x1024 ![0, 1] bcast_S9216x1_S9216x1024_0_1 (Host.divf (broadcastInDim S9216x1 ![0] bcast_S9216_S9216x1_0 (Host.reduceAdd (extractStridedSlice S9216x1024 ![0, 1024] (extf .f32 Z bitsLt_bf16_f32) slices_S9216x9216_S9216x1024_0_1024) (constant S_ .f32 0x00000000#32) reducesTo_S9216x1024_S9216_d1 h_S_)) (broadcastInDim S9216x1 ![] bcast_S_S9216x1 (constant S_ .f32 0x44800000#32))))

/-- The reference's values. -/
def valRows (Z : FVec Ideal S9216x9216 .bf16) (G B : FVec Ideal S1x1024 .f32) : FVec Ideal S9216x1024 .f32 :=
  addf (mulf (mulf (centred Z) (broadcastInDim S9216x1024 ![0, 1] bcast_S9216x1_S9216x1024_0_1 (Host.rsqrt (addf (Host.divf (broadcastInDim S9216x1 ![0] bcast_S9216_S9216x1_0 (Host.reduceAdd (mulf (centred Z) (centred Z)) (constant S_ .f32 0x00000000#32) reducesTo_S9216x1024_S9216_d1 h_S_)) (broadcastInDim S9216x1 ![] bcast_S_S9216x1 (constant S_ .f32 0x44800000#32))) (broadcastInDim S9216x1 ![] bcast_S_S9216x1 (constant S_ .f32 0x358637BD#32)))))) (broadcastInDim S9216x1024 ![0, 1] bcast_S1x1024_S9216x1024_0_1 (broadcastInDim S1x1024 ![1] bcast_S1024_S1x1024_1 (shapeCast _ G shapeCasts_S1x1024_S1024)))) (broadcastInDim S9216x1024 ![0, 1] bcast_S1x1024_S9216x1024_0_1 (broadcastInDim S1x1024 ![1] bcast_S1024_S1x1024_1 (shapeCast _ B shapeCasts_S1x1024_S1024)))

/-- The reference's inputs to the convolution, at an element. -/
theorem qRows_apply (Z : FVec Ideal S9216x9216 .bf16) (r : Fin 9216) (k : Fin 1024) : qRows Z (ix2 r k) = qAt Z r k := by
  pointwise [qRows, qAt]

/-- The reference's centred rows, at an element. -/
theorem centred_apply (Z : FVec Ideal S9216x9216 .bf16) (r : Fin 9216) (k : Fin 1024) :
    centred Z (ix2 r k) = Z (ix2 r ⟨1024 + k.val, by omega⟩) - mean (fun j => Z (ix2 r ⟨1024 + j.val, by omega⟩)) := by
  pointwise [centred, mean]

/-- The reference's values, at an element. -/
theorem valRows_apply (Z : FVec Ideal S9216x9216 .bf16) (G B : FVec Ideal S1x1024 .f32) (r : Fin 9216) (k : Fin 1024) : valRows Z G B (ix2 r k) = vAt Z G B r k := by
  pointwise [valRows, centred_apply, vAt, layerNorm, mean]

/-- The reference's last rows of the convolution's input. -/
theorem ref_qLast (Z : FVec Ideal S9216x9216 .bf16) : concatenate S5x2x1024 0 [⟨S4x2x1024, (extractStridedSlice S4x2x1024 ![0, 2046, 0] (shapeCast _ (extractStridedSlice S8192x1024 ![0, 0] (qRows Z) slices_S9216x1024_S8192x1024_0_0) shapeCasts_S8192x1024_S4x2048x1024) slices_S4x2048x1024_S4x2x1024_0_2046_0)⟩, ⟨S1x2x1024, (broadcastInDim S1x2x1024 ![1, 2] bcast_S2x1024_S1x2x1024_1_2 (extractStridedSlice S2x1024 ![9214, 0] (qRows Z) slices_S9216x1024_S2x1024_9214_0))⟩] concatenates_S4x2x1024_S1x2x1024_S5x2x1024_d0 = qLast Z := by
  funext x
  obtain ⟨s, p, k, rfl⟩ : ∃ (s : Fin 5) (p : Fin 2) (k : Fin 1024), x = ix3 s p k := ⟨x (0 : Fin 3), x (1 : Fin 3), x (2 : Fin 3), by funext a; match a with | ⟨0, _⟩ => rfl | ⟨1, _⟩ => rfl | ⟨2, _⟩ => rfl⟩
  pointwise [qRows_apply, qLast, base]
  by_cases h : s.val < 4
  · rw [dif_pos h]
    exact congrArg (qAt Z · k) (Fin.ext (by simp only [if_pos h]; omega))
  · rw [dif_neg h]
    exact congrArg (qAt Z · k) (Fin.ext (by simp only [if_neg h]))

/-- The reference's last rows of the values. -/
theorem ref_vLast (Z : FVec Ideal S9216x9216 .bf16) (G B : FVec Ideal S1x1024 .f32) : concatenate S5x128x1024 0 [⟨S4x128x1024, (extractStridedSlice S4x128x1024 ![0, 1920, 0] (shapeCast _ (extractStridedSlice S8192x1024 ![0, 0] (valRows Z G B) slices_S9216x1024_S8192x1024_0_0) shapeCasts_S8192x1024_S4x2048x1024) slices_S4x2048x1024_S4x128x1024_0_1920_0)⟩, ⟨S1x128x1024, (broadcastInDim S1x128x1024 ![1, 2] bcast_S128x1024_S1x128x1024_1_2 (extractStridedSlice S128x1024 ![9088, 0] (valRows Z G B) slices_S9216x1024_S128x1024_9088_0))⟩] concatenates_S4x128x1024_S1x128x1024_S5x128x1024_d0 = vLast Z G B := by
  funext x
  obtain ⟨s, p, k, rfl⟩ : ∃ (s : Fin 5) (p : Fin 128) (k : Fin 1024), x = ix3 s p k := ⟨x (0 : Fin 3), x (1 : Fin 3), x (2 : Fin 3), by funext a; match a with | ⟨0, _⟩ => rfl | ⟨1, _⟩ => rfl | ⟨2, _⟩ => rfl⟩
  pointwise [valRows_apply, vLast, base]
  by_cases h : s.val < 4
  · rw [dif_pos h]
    exact congrArg (vAt Z G B · k) (Fin.ext (by simp only [if_pos h]; omega))
  · rw [dif_neg h]
    exact congrArg (vAt Z G B · k) (Fin.ext (by simp only [if_neg h]))

/-- The reference's samples' inputs to the convolution. -/
theorem ref_qSample (Z : FVec Ideal S9216x9216 .bf16) : extractStridedSlice S1024x1024 ![8192, 0] (qRows Z) slices_S9216x1024_S1024x1024_8192_0 = qSample Z := by
  funext x
  obtain ⟨r, k, rfl⟩ : ∃ (r : Fin 1024) (k : Fin 1024), x = ix2 r k := ⟨x (0 : Fin 2), x (1 : Fin 2), by funext a; match a with | ⟨0, _⟩ => rfl | ⟨1, _⟩ => rfl⟩
  pointwise [qRows_apply, qSample]

/-- The reference's samples' values. -/
theorem ref_vSample (Z : FVec Ideal S9216x9216 .bf16) (G B : FVec Ideal S1x1024 .f32) : extractStridedSlice S1024x1024 ![8192, 0] (valRows Z G B) slices_S9216x1024_S1024x1024_8192_0 = vSample Z G B := by
  funext x
  obtain ⟨r, k, rfl⟩ : ∃ (r : Fin 1024) (k : Fin 1024), x = ix2 r k := ⟨x (0 : Fin 2), x (1 : Fin 2), by funext a; match a with | ⟨0, _⟩ => rfl | ⟨1, _⟩ => rfl⟩
  pointwise [valRows_apply, vSample]

end Cert.Reference4Ideal.Body

end
-- ==== Proof.MixerValue.lean ====
/-
  The mixer: the values and the convolution's inputs it keeps, from the projected rows.
-/
module

public import proofs.«01_k».proof.Proof.MixerRun
public import proofs.«01_k».proof.Proof.MixerRef
public import Idealize.ShloMosaic.Lib.Pipeline.ValueKit.Acc

@[expose] public section

set_option maxRecDepth 100000

noncomputable section

namespace Cert.Kernel4Ideal.Body

open Idealize.ShloMosaic Idealize.ShloMosaic.TcCoe Idealize.SL Idealize.SL.Sem
open Cert.Kernel4Ideal Cert.Kernel4Ideal.Gen
open Idealize.ShloMosaic.Pipeline (Dat Window RDat)
open Cert.Reference4Ideal.Body (mean layerNorm vAt qAt base qLast qSample vLast vSample)

section

variable (c : Dev nD) (i : grid0.Coords) (arg1 : Memref sig .tc .vmem S256x9216 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S3x1024 .f32) (harg7 : arg7.IsWhole) (arg8 : Memref sig .tc .vmem S1x4x128x128 .bf16) (harg8 : arg8.IsWhole) (arg9 : Memref sig .tc .vmem S1x128x1024 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2048x2048 .bf16) (harg12 : arg12.IsWhole) (arg13 : Memref sig .tc .vmem S1x2048 .f32) (harg13 : arg13.IsWhole) (arg14 : Memref sig .tc .vmem S2048x128 .bf16) (harg14 : arg14.IsWhole) (arg15 : Memref sig .tc .vmem S1x128 .f32) (harg15 : arg15.IsWhole) (arg16 : Memref sig .tc .vmem S256x2048 .f32) (harg16 : arg16.IsWhole) (arg17 : Memref sig .tc .vmem S2048x2x128 .bf16) (harg17 : arg17.IsWhole) (arg18 : Memref sig .tc .vmem S256x128 .f32) (harg18 : arg18.IsWhole) (arg19 : Memref sig .tc .vmem S1x128x1024 .f32) (harg19 : arg19.IsWhole) (arg20 : Memref sig .tc .vmem S256x1024 .f32) (harg20 : arg20.IsWhole) (arg21 : Memref sig .tc .vmem S1x2x1024 .f32) (harg21 : arg21.IsWhole) (arg22 : Memref sig .tc .vmem S256x1024 .f32) (harg22 : arg22.IsWhole) (arg23 : Memref sig .tc .vmem S8x1024 .f32) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x2048 .bf16) (harg26 : arg26.IsWhole)
    (x0 : Vec Ideal S256x9216 .bf16) (x1 : Vec Ideal S256x2048 .f32) (x2 : Vec Ideal S256x2048 .f32) (x3 : Vec Ideal S256x1024 .f32) (x4 : Vec Ideal S1x1024 .f32) (x5 : Vec Ideal S1x1024 .f32) (x6 : Vec Ideal S3x1024 .f32) (x7 : Vec Ideal S1x4x128x128 .bf16) (x8 : Vec Ideal S1x128x1024 .f32) (x9 : Vec Ideal S1024x2048 .bf16) (x10 : Vec Ideal S1024x2048 .bf16) (x11 : Vec Ideal S2048x2048 .bf16) (x12 : Vec Ideal S1x2048 .f32) (x13 : Vec Ideal S2048x128 .bf16) (x14 : Vec Ideal S1x128 .f32)

/-- The last rows of a tile's values. -/
theorem out18 : out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 = k0_pay26 (k0_pay2 (View.ld x0 (Rect.unit ![0, 1024] ![256, 1024] inb_S256x9216_S256x1024_0_1024)) x4 x5) := by frame_out

/-- A tile's values. -/
theorem out19 : out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 = k0_pay2 (View.ld x0 (Rect.unit ![0, 1024] ![256, 1024] inb_S256x9216_S256x1024_0_1024)) x4 x5 := by frame_out

/-- The last rows of a tile's inputs to the convolution. -/
theorem out20 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 = k0_pay25 (k0_pay24 (k0_pay16 (View.ld x0 (Rect.unit ![0, 3072] ![256, 1024] inb_S256x9216_S256x1024_0_3072)) (View.ld x0 (Rect.unit ![0, 4096] ![256, 1024] inb_S256x9216_S256x1024_0_4096)))) := by frame_out

/-- A tile's inputs to the convolution. -/
theorem out21 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 = k0_pay16 (View.ld x0 (Rect.unit ![0, 3072] ![256, 1024] inb_S256x9216_S256x1024_0_3072)) (View.ld x0 (Rect.unit ![0, 4096] ![256, 1024] inb_S256x9216_S256x1024_0_4096)) := by frame_out

end

/-- Where the blocks read lie. -/
theorem index0 : ∀ t : Fin grid0.N, cc0_transform_0 (grid0.coords t) 0 = t.val ∧ cc0_transform_0 (grid0.coords t) 1 = 0 := by decide +kernel
theorem index4 : ∀ t : Fin grid0.N, cc0_transform_4 (grid0.coords t) 0 = 0 ∧ cc0_transform_4 (grid0.coords t) 1 = 0 := by decide +kernel
theorem index5 : ∀ t : Fin grid0.N, cc0_transform_5 (grid0.coords t) 0 = 0 ∧ cc0_transform_5 (grid0.coords t) 1 = 0 := by decide +kernel

/-- Where the blocks kept lie, and at which points they are. -/
theorem index18 : ∀ t : Fin cfg0.N, (cfg0.win 18).flush t = true →
    (cc0_transform_18 (grid0.coords t) 0 = t.val / 8 ∧ (t.val % 8 = 7 ∨ t.val = 35)) ∧ cc0_transform_18 (grid0.coords t) 1 = 0 ∧ cc0_transform_18 (grid0.coords t) 2 = 0 := by decide +kernel
theorem index19 : ∀ t : Fin cfg0.N, (cfg0.win 19).flush t = true →
    32 ≤ t.val ∧ cc0_transform_19 (grid0.coords t) 0 = t.val - 32 ∧ cc0_transform_19 (grid0.coords t) 1 = 0 := by decide +kernel
theorem index20 : ∀ t : Fin cfg0.N, (cfg0.win 20).flush t = true →
    (cc0_transform_20 (grid0.coords t) 0 = t.val / 8 ∧ (t.val % 8 = 7 ∨ t.val = 35)) ∧ cc0_transform_20 (grid0.coords t) 1 = 0 ∧ cc0_transform_20 (grid0.coords t) 2 = 0 := by decide +kernel
theorem index21 : ∀ t : Fin cfg0.N, (cfg0.win 21).flush t = true →
    32 ≤ t.val ∧ cc0_transform_21 (grid0.coords t) 0 = t.val - 32 ∧ cc0_transform_21 (grid0.coords t) 1 = 0 := by decide +kernel

/-- A tile's values, at an element. -/
theorem val_apply (z : FVec Ideal S256x9216 .bf16) (g b : FVec Ideal S1x1024 .f32) (p : Fin 256) (k : Fin 1024) :
    k0_pay2 (F := Ideal) (View.ld (Val := Elt Ideal) (S := S256x9216) (e' := EltTy.bf16) z (Rect.unit ![0, 1024] ![256, 1024] inb_S256x9216_S256x1024_0_1024)) g b (ix2 p k)
      = layerNorm (fun j => z (ix2 p ⟨1024 + j.val, by omega⟩)) (fun j => g (ix2 0 j)) (fun j => b (ix2 0 j)) k := by
  pointwise [k0_pay2, layerNorm, mean]

/-- The last rows of a tile's values, at an element. -/
theorem valLast_apply (v : FVec Ideal S256x1024 .f32) (u : Fin 1) (p : Fin 128) (k : Fin 1024) :
    k0_pay26 (F := Ideal) v (ix3 u p k) = v (ix2 ⟨128 + p.val, by omega⟩ k) := by
  pointwise [k0_pay26]

/-- A tile's inputs to the convolution, at an element. -/
theorem q_apply (z : FVec Ideal S256x9216 .bf16) (p : Fin 256) (k : Fin 1024) :
    k0_pay16 (F := Ideal) (View.ld (Val := Elt Ideal) (S := S256x9216) (e' := EltTy.bf16) z (Rect.unit ![0, 3072] ![256, 1024] inb_S256x9216_S256x1024_0_3072)) (View.ld (Val := Elt Ideal) (S := S256x9216) (e' := EltTy.bf16) z (Rect.unit ![0, 4096] ![256, 1024] inb_S256x9216_S256x1024_0_4096)) (ix2 p k)
      = z (ix2 p ⟨3072 + k.val, by omega⟩) * z (ix2 p ⟨4096 + k.val, by omega⟩) := by
  pointwise [k0_pay16]

/-- The last rows of a tile's inputs to the convolution, at an element. -/
theorem qLast_apply (v : FVec Ideal S256x1024 .f32) (u : Fin 1) (p : Fin 2) (k : Fin 1024) :
    k0_pay25 (F := Ideal) (k0_pay24 v) (ix3 u p k) = v (ix2 ⟨254 + p.val, by omega⟩ k) := by
  pointwise [k0_pay25, k0_pay24]

/-- A row reshaped to a line and back. -/
theorem castRow (A : FVec Ideal S1x1024 .f32) (k : Fin 1024) : shapeCast S1x1024 (shapeCast S1024 A shapeCasts_S1x1024_S1024) shapeCasts_S1024_S1x1024 (ix2 0 k) = A (ix2 0 k) := by
  pointwise []

variable (m : (ℓ : Loc nD τ sig) → Buf (Elt Ideal) ℓ) (c : Dev nD)

/-- The projected rows a point reads. -/
theorem blk0_apply (t : Fin grid0.N) (p : Fin 256) (k : Fin 9216) :
    iblk m c 0 t (ix2 p k) = m ((c.tc : Thread nD τ).loc main_arg0) (ix2 ⟨t.val * 256 + p.val, by have hN : t.val < 36 := t.isLt; omega⟩ k) := by
  obtain ⟨i0, i1⟩ := index0 t
  have e : ∀ a : Fin 2, (((cfg0.win 0).blk t).view.emb (ix2 p k) a).val = (cfg0.win 0).index t a * (cfg0.win 0).size a + ((ix2 p k : S256x9216.Idx) a).val := fun a => Window.rect_emb_val (cfg0.win 0) t _ a rfl
  show V m c (Pipeline.arrRef spec0 0) (((cfg0.win 0).blk t).view.emb (ix2 p k)) = _
  refine (congrFun (V_arg m c main_arg0 (by decide)) _).trans (congrArg _ (funext fun a => Fin.ext ?_))
  match a with
  | ⟨0, _⟩ => exact (e 0).trans (by rw [show (cfg0.win 0).index t (0 : Fin 2) = t.val from i0]; rfl)
  | ⟨1, _⟩ => exact (e 1).trans (by rw [show (cfg0.win 0).index t (1 : Fin 2) = 0 from i1, Nat.zero_mul, Nat.zero_add]; rfl)

/-- The scales where the mixer begins. -/
theorem v4 : V m c main_v48 = shapeCast S1x1024 (shapeCast S1024 (m ((c.tc : Thread nD τ).loc main_arg4)) shapeCasts_S1x1024_S1024) shapeCasts_S1024_S1x1024 := by
  entry_read
  rfl

/-- The scales a point reads. -/
theorem blk4_apply (t : Fin grid0.N) (k : Fin 1024) : iblk m c 4 t (ix2 0 k) = m ((c.tc : Thread nD τ).loc main_arg4) (ix2 0 k) := by
  have i0 := index4 t
  have e : ∀ a : Fin 2, (((cfg0.win 4).blk t).view.emb (ix2 0 k) a).val = (cfg0.win 4).index t a * (cfg0.win 4).size a + ((ix2 0 k : S1x1024.Idx) a).val := fun a => Window.rect_emb_val (cfg0.win 4) t _ a rfl
  show V m c (Pipeline.arrRef spec0 4) (((cfg0.win 4).blk t).view.emb (ix2 0 k)) = _
  refine (congrFun (v4 m c) _).trans (Eq.trans (congrArg _ (funext fun a => Fin.ext ?_)) (castRow _ k))
  match a with
  | ⟨0, _⟩ => exact (e 0).trans (by rw [show (cfg0.win 4).index t (0 : Fin 2) = 0 from i0.1, Nat.zero_mul, Nat.zero_add]; rfl)
  | ⟨1, _⟩ => exact (e 1).trans (by rw [show (cfg0.win 4).index t (1 : Fin 2) = 0 from i0.2, Nat.zero_mul, Nat.zero_add]; rfl)

/-- The shifts where the mixer begins. -/
theorem v5 : V m c main_v50 = shapeCast S1x1024 (shapeCast S1024 (m ((c.tc : Thread nD τ).loc main_arg5)) shapeCasts_S1x1024_S1024) shapeCasts_S1024_S1x1024 := by
  entry_read
  rfl

/-- The shifts a point reads. -/
theorem blk5_apply (t : Fin grid0.N) (k : Fin 1024) : iblk m c 5 t (ix2 0 k) = m ((c.tc : Thread nD τ).loc main_arg5) (ix2 0 k) := by
  have i0 := index5 t
  have e : ∀ a : Fin 2, (((cfg0.win 5).blk t).view.emb (ix2 0 k) a).val = (cfg0.win 5).index t a * (cfg0.win 5).size a + ((ix2 0 k : S1x1024.Idx) a).val := fun a => Window.rect_emb_val (cfg0.win 5) t _ a rfl
  show V m c (Pipeline.arrRef spec0 5) (((cfg0.win 5).blk t).view.emb (ix2 0 k)) = _
  refine (congrFun (v5 m c) _).trans (Eq.trans (congrArg _ (funext fun a => Fin.ext ?_)) (castRow _ k))
  match a with
  | ⟨0, _⟩ => exact (e 0).trans (by rw [show (cfg0.win 5).index t (0 : Fin 2) = 0 from i0.1, Nat.zero_mul, Nat.zero_add]; rfl)
  | ⟨1, _⟩ => exact (e 1).trans (by rw [show (cfg0.win 5).index t (1 : Fin 2) = 0 from i0.2, Nat.zero_mul, Nat.zero_add]; rfl)

/-- A point's values, at an element. -/
theorem tileVal (t : Fin cfg0.N) (p : Fin 256) (k : Fin 1024) :
    k0_pay2 (F := Ideal) (View.ld (Val := Elt Ideal) (S := S256x9216) (e' := EltTy.bf16) (iblk m c 0 t) (Rect.unit ![0, 1024] ![256, 1024] inb_S256x9216_S256x1024_0_1024)) (iblk m c 4 t) (iblk m c 5 t) (ix2 p k)
      = vAt (m ((c.tc : Thread nD τ).loc main_arg0)) (m ((c.tc : Thread nD τ).loc main_arg4)) (m ((c.tc : Thread nD τ).loc main_arg5)) ⟨t.val * 256 + p.val, by have hN : t.val < 36 := t.isLt; omega⟩ k := by
  refine (val_apply _ _ _ p k).trans ?_
  unfold vAt
  exact congr (congr (congr (congrArg layerNorm (funext fun j => blk0_apply m c t p _)) (funext fun j => blk4_apply m c t j)) (funext fun j => blk5_apply m c t j)) rfl

/-- A point's inputs to the convolution, at an element. -/
theorem tileQ (t : Fin cfg0.N) (p : Fin 256) (k : Fin 1024) :
    k0_pay16 (F := Ideal) (View.ld (Val := Elt Ideal) (S := S256x9216) (e' := EltTy.bf16) (iblk m c 0 t) (Rect.unit ![0, 3072] ![256, 1024] inb_S256x9216_S256x1024_0_3072)) (View.ld (Val := Elt Ideal) (S := S256x9216) (e' := EltTy.bf16) (iblk m c 0 t) (Rect.unit ![0, 4096] ![256, 1024] inb_S256x9216_S256x1024_0_4096)) (ix2 p k)
      = qAt (m ((c.tc : Thread nD τ).loc main_arg0)) ⟨t.val * 256 + p.val, by have hN : t.val < 36 := t.isLt; omega⟩ k := by
  refine (q_apply _ p k).trans ?_
  unfold qAt
  exact congrArg₂ (· * ·) (blk0_apply m c t p _) (blk0_apply m c t p _)

/-! What a point leaves, from its blocks. -/

theorem after18 (t : Fin cfg0.N) : (dats m 0 c).after 18 t = k0_pay26 (F := Ideal) (k0_pay2 (View.ld (Val := Elt Ideal) (S := S256x9216) (e' := EltTy.bf16) (iblk m c 0 t) (Rect.unit ![0, 1024] ![256, 1024] inb_S256x9216_S256x1024_0_1024)) (iblk m c 4 t) (iblk m c 5 t)) :=
  (after0_18 m c t).trans (out18 ..)
theorem after19 (t : Fin cfg0.N) : (dats m 0 c).after 19 t = k0_pay2 (F := Ideal) (View.ld (Val := Elt Ideal) (S := S256x9216) (e' := EltTy.bf16) (iblk m c 0 t) (Rect.unit ![0, 1024] ![256, 1024] inb_S256x9216_S256x1024_0_1024)) (iblk m c 4 t) (iblk m c 5 t) :=
  (after0_19 m c t).trans (out19 ..)
theorem after20 (t : Fin cfg0.N) : (dats m 0 c).after 20 t = k0_pay25 (F := Ideal) (k0_pay24 (k0_pay16 (View.ld (Val := Elt Ideal) (S := S256x9216) (e' := EltTy.bf16) (iblk m c 0 t) (Rect.unit ![0, 3072] ![256, 1024] inb_S256x9216_S256x1024_0_3072)) (View.ld (Val := Elt Ideal) (S := S256x9216) (e' := EltTy.bf16) (iblk m c 0 t) (Rect.unit ![0, 4096] ![256, 1024] inb_S256x9216_S256x1024_0_4096)))) :=
  (after0_20 m c t).trans (out20 ..)
theorem after21 (t : Fin cfg0.N) : (dats m 0 c).after 21 t = k0_pay16 (F := Ideal) (View.ld (Val := Elt Ideal) (S := S256x9216) (e' := EltTy.bf16) (iblk m c 0 t) (Rect.unit ![0, 3072] ![256, 1024] inb_S256x9216_S256x1024_0_3072)) (View.ld (Val := Elt Ideal) (S := S256x9216) (e' := EltTy.bf16) (iblk m c 0 t) (Rect.unit ![0, 4096] ![256, 1024] inb_S256x9216_S256x1024_0_4096)) :=
  (after0_21 m c t).trans (out21 ..)

/-- The values' last rows after the run. -/
theorem final18 : (dats m 0 c).arrAt 18 cfg0.N = vLast (m ((c.tc : Thread nD τ).loc main_arg0)) (m ((c.tc : Thread nD τ).loc main_arg4)) (m ((c.tc : Thread nD τ).loc main_arg5)) := by
  refine (dats m 0 c).arrAt_eq_of_covers 18 _ (by decide +kernel) ?_
  intro t hf y
  have hN : t.val < 36 := t.isLt
  obtain ⟨i0, i1, i2⟩ := index18 t hf
  have e : ∀ a : Fin 3, (((cfg0.win 18).blk t).view.emb y a).val = (cfg0.win 18).index t a * (cfg0.win 18).size a + (y a).val := fun a => Window.rect_emb_val (cfg0.win 18) t y a rfl
  have e0 := (e 0).trans (by rw [show (cfg0.win 18).index t (0 : Fin 3) = t.val / 8 from i0.1])
  have e1 := (e 1).trans (by rw [show (cfg0.win 18).index t (1 : Fin 3) = 0 from i1, Nat.zero_mul, Nat.zero_add])
  have e2 := (e 2).trans (by rw [show (cfg0.win 18).index t (2 : Fin 3) = 0 from i2, Nat.zero_mul, Nat.zero_add])
  obtain ⟨u, p, k, rfl⟩ : ∃ (u : Fin 1) (p : Fin 128) (k : Fin 1024), y = ix3 u p k := ⟨y (0 : Fin 3), y (1 : Fin 3), y (2 : Fin 3), by funext a; match a with | ⟨0, _⟩ => rfl | ⟨1, _⟩ => rfl | ⟨2, _⟩ => rfl⟩
  have e0' : (((cfg0.win 18).blk t).view.emb (ix3 u p k) (0 : Fin 3)).val = t.val / 8 := e0.trans (by show t.val / 8 * 1 + u.val = _; omega)
  refine (congrFun (after18 m c t) (ix3 u p k)).trans (((valLast_apply _ u p k).trans (tileVal m c t _ k)).trans ?_)
  unfold vLast
  refine congr (congrArg (vAt (m ((c.tc : Thread nD τ).loc main_arg0)) (m ((c.tc : Thread nD τ).loc main_arg4)) (m ((c.tc : Thread nD τ).loc main_arg5))) (Fin.ext ?_)) (Fin.ext e2.symm)
  refine Eq.trans ?_ (congrArg₂ (· + ·) rfl e1.symm)
  unfold base
  rw [e0']
  have := i0.2
  show t.val * 256 + (128 + p.val) = (if t.val / 8 < 4 then _ else _) + p.val
  split <;> omega

/-- The samples' values after the run. -/
theorem final19 : (dats m 0 c).arrAt 19 cfg0.N = vSample (m ((c.tc : Thread nD τ).loc main_arg0)) (m ((c.tc : Thread nD τ).loc main_arg4)) (m ((c.tc : Thread nD τ).loc main_arg5)) := by
  refine (dats m 0 c).arrAt_eq_of_covers 19 _ (by decide +kernel) ?_
  intro t hf y
  have hN : t.val < 36 := t.isLt
  obtain ⟨ht, i0, i1⟩ := index19 t hf
  have e : ∀ a : Fin 2, (((cfg0.win 19).blk t).view.emb y a).val = (cfg0.win 19).index t a * (cfg0.win 19).size a + (y a).val := fun a => Window.rect_emb_val (cfg0.win 19) t y a rfl
  have e0 := (e 0).trans (by rw [show (cfg0.win 19).index t (0 : Fin 2) = t.val - 32 from i0])
  have e1 := (e 1).trans (by rw [show (cfg0.win 19).index t (1 : Fin 2) = 0 from i1, Nat.zero_mul, Nat.zero_add])
  obtain ⟨p, k, rfl⟩ : ∃ (p : Fin 256) (k : Fin 1024), y = ix2 p k := ⟨y (0 : Fin 2), y (1 : Fin 2), by funext a; match a with | ⟨0, _⟩ => rfl | ⟨1, _⟩ => rfl⟩
  refine (congrFun (after19 m c t) (ix2 p k)).trans ((tileVal m c t p k).trans ?_)
  unfold vSample
  refine congr (congrArg (vAt (m ((c.tc : Thread nD τ).loc main_arg0)) (m ((c.tc : Thread nD τ).loc main_arg4)) (m ((c.tc : Thread nD τ).loc main_arg5))) (Fin.ext ?_)) (Fin.ext e1.symm)
  refine Eq.trans ?_ (congrArg (8192 + ·) e0.symm)
  show t.val * 256 + p.val = 8192 + ((t.val - 32) * 256 + p.val)
  omega

/-- The last rows of the convolution's inputs after the run. -/
theorem final20 : (dats m 0 c).arrAt 20 cfg0.N = qLast (m ((c.tc : Thread nD τ).loc main_arg0)) := by
  refine (dats m 0 c).arrAt_eq_of_covers 20 _ (by decide +kernel) ?_
  intro t hf y
  have hN : t.val < 36 := t.isLt
  obtain ⟨i0, i1, i2⟩ := index20 t hf
  have e : ∀ a : Fin 3, (((cfg0.win 20).blk t).view.emb y a).val = (cfg0.win 20).index t a * (cfg0.win 20).size a + (y a).val := fun a => Window.rect_emb_val (cfg0.win 20) t y a rfl
  have e0 := (e 0).trans (by rw [show (cfg0.win 20).index t (0 : Fin 3) = t.val / 8 from i0.1])
  have e1 := (e 1).trans (by rw [show (cfg0.win 20).index t (1 : Fin 3) = 0 from i1, Nat.zero_mul, Nat.zero_add])
  have e2 := (e 2).trans (by rw [show (cfg0.win 20).index t (2 : Fin 3) = 0 from i2, Nat.zero_mul, Nat.zero_add])
  obtain ⟨u, p, k, rfl⟩ : ∃ (u : Fin 1) (p : Fin 2) (k : Fin 1024), y = ix3 u p k := ⟨y (0 : Fin 3), y (1 : Fin 3), y (2 : Fin 3), by funext a; match a with | ⟨0, _⟩ => rfl | ⟨1, _⟩ => rfl | ⟨2, _⟩ => rfl⟩
  have e0' : (((cfg0.win 20).blk t).view.emb (ix3 u p k) (0 : Fin 3)).val = t.val / 8 := e0.trans (by show t.val / 8 * 1 + u.val = _; omega)
  refine (congrFun (after20 m c t) (ix3 u p k)).trans (((qLast_apply _ u p k).trans (tileQ m c t _ k)).trans ?_)
  unfold qLast
  refine congr (congrArg (qAt (m ((c.tc : Thread nD τ).loc main_arg0))) (Fin.ext ?_)) (Fin.ext e2.symm)
  refine Eq.trans ?_ (congrArg₂ (· + ·) rfl e1.symm)
  unfold base
  rw [e0']
  have := i0.2
  show t.val * 256 + (254 + p.val) = (if t.val / 8 < 4 then _ else _) + p.val
  split <;> omega

/-- The samples' inputs to the convolution after the run. -/
theorem final21 : (dats m 0 c).arrAt 21 cfg0.N = qSample (m ((c.tc : Thread nD τ).loc main_arg0)) := by
  refine (dats m 0 c).arrAt_eq_of_covers 21 _ (by decide +kernel) ?_
  intro t hf y
  have hN : t.val < 36 := t.isLt
  obtain ⟨ht, i0, i1⟩ := index21 t hf
  have e : ∀ a : Fin 2, (((cfg0.win 21).blk t).view.emb y a).val = (cfg0.win 21).index t a * (cfg0.win 21).size a + (y a).val := fun a => Window.rect_emb_val (cfg0.win 21) t y a rfl
  have e0 := (e 0).trans (by rw [show (cfg0.win 21).index t (0 : Fin 2) = t.val - 32 from i0])
  have e1 := (e 1).trans (by rw [show (cfg0.win 21).index t (1 : Fin 2) = 0 from i1, Nat.zero_mul, Nat.zero_add])
  obtain ⟨p, k, rfl⟩ : ∃ (p : Fin 256) (k : Fin 1024), y = ix2 p k := ⟨y (0 : Fin 2), y (1 : Fin 2), by funext a; match a with | ⟨0, _⟩ => rfl | ⟨1, _⟩ => rfl⟩
  refine (congrFun (after21 m c t) (ix2 p k)).trans ((tileQ m c t p k).trans ?_)
  unfold qSample
  refine congr (congrArg (qAt (m ((c.tc : Thread nD τ).loc main_arg0))) (Fin.ext ?_)) (Fin.ext e1.symm)
  refine Eq.trans ?_ (congrArg (8192 + ·) e0.symm)
  show t.val * 256 + p.val = 8192 + ((t.val - 32) * 256 + p.val)
  omega

/-- The four arrays after a run, from the projected rows. -/
theorem run (ρ : Dev nD → PrngReg) : θ_run defs (onTc (τ := τ) (main (F := Ideal))) ⟨m, fun _ => 0, ρ⟩ (fun r => ∀ c : Dev nD,
      r.2.mem ((c.tc : Thread nD τ).loc main_v55_5) = qLast (m ((c.tc : Thread nD τ).loc main_arg0))
      ∧ r.2.mem ((c.tc : Thread nD τ).loc main_v55_6) = qSample (m ((c.tc : Thread nD τ).loc main_arg0))
      ∧ r.2.mem ((c.tc : Thread nD τ).loc main_v55_3) = vLast (m ((c.tc : Thread nD τ).loc main_arg0)) (m ((c.tc : Thread nD τ).loc main_arg4)) (m ((c.tc : Thread nD τ).loc main_arg5))
      ∧ r.2.mem ((c.tc : Thread nD τ).loc main_v55_4) = vSample (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have hA : ∀ w, forgets0 w = false → r.2.mem ((cfg0.spec w).arr.view.loc (c.tc : Thread nD τ)) = (dats m 0 c).arrAt w cfg0.N :=
      fun w hw => ((dats m 0 c).toRForget_arrAt_iff hw _ _).mp ((h.1 c).1 w)
    ⟨(hA 20 rfl).trans (final20 m c), (hA 21 rfl).trans (final21 m c), (hA 18 rfl).trans (final18 m c), (hA 19 rfl).trans (final19 m c), h.2.1 c⟩)
    (θ_run_and (run_main m ρ) (frame m ρ))

end Cert.Kernel4Ideal.Body

end
-- ==== Proof.MixerClaims.lean ====
/-
  The mixer's claims.
-/
module

public import proofs.«01_k».proof.Defs
public import proofs.«01_k».proof.Proof.Gen.Kernel4
public import proofs.«01_k».proof.Proof.MixerBitsRun
public import proofs.«01_k».proof.Proof.MixerValue
public import Idealize.ShloMosaic.Lib.Claim
public import Idealize.ShloMosaic.Lib.Bf16Pair
public import Idealize.ShloMosaic.Lib.Bf16PairInverse

@[expose] public section

set_option maxRecDepth 100000

noncomputable section

namespace Cert.Proof

open Idealize.ShloMosaic Idealize.ShloMosaic.TcCoe Idealize.ShloMosaic.StableHlo Idealize.SL.Sem

/-- The mixer's run leaves its arguments and its semaphores. -/
theorem frame_P4 : Cert.quiescent_Kernel4 := fun m g _ => Cert.Kernel4.Gen.frame m g

/-- The idealized mixer's run leaves its arguments and its semaphores. -/
theorem frame_PI4 : Cert.quiescent_Kernel4Ideal := fun m g _ => Cert.Kernel4Ideal.Gen.frame m g

/-- The mixer's reference's run leaves its arguments and its semaphores. -/
theorem frame_RI4 : Cert.quiescent_Reference4Ideal := fun m g _ =>
  (θ_run Cert.Reference4Ideal.defs _ _).mono
    (fun r h => ⟨fun c => (h c).2.2.2.2, sem_eq_zero_of_no_sems (sig := Cert.Reference4Ideal.sig) (by decide) _⟩)
    (Cert.Reference4Ideal.Value.run (F := Ideal) m g)

/-- Each rewrite's statement, in order of first appearance. -/
theorem preserves4 : Cert.preserves_Kernel4_Kernel4Ideal :=
  ⟨IdealRules.bf16_pair.bufferStatement _ _, IdealRules.bf16_pair.bufferStatement _ _, IdealRules.bf16_pair.packStatement _, IdealRules.bf16_pair.statement _ _⟩

/-- The idealized mixer and its idealized reference end with the same four arrays. -/
theorem algebraic4 : Cert.algebraic_Kernel4Ideal_Reference4Ideal := fun m g m' g' _ hagree => by
  refine ⟨_, _, _, _, Cert.Kernel4Ideal.Body.run m g, (θ_run Cert.Reference4Ideal.defs _ _).mono (fun r h c => ?_) (Cert.Reference4Ideal.Value.run (F := Ideal) m' g')⟩
  obtain rfl : c = 0 := Subsingleton.elim _ _
  have hz := (hagree 0).1
  have hg := (hagree 0).2.2.2.2.1
  have hb := (hagree 0).2.2.2.2.2.1
  obtain ⟨r0, r1, r2, r3, rest⟩ := h 0
  rw [← hz, ← hg, ← hb]
  exact ⟨r0.trans (Cert.Reference4Ideal.Body.ref_qLast _), r1.trans (Cert.Reference4Ideal.Body.ref_qSample _),
    r2.trans (Cert.Reference4Ideal.Body.ref_vLast _ _ _), r3.trans (Cert.Reference4Ideal.Body.ref_vSample _ _ _), rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import Idealize.ShloMosaic.Adequacy
public import Idealize.ShloMosaic.Init
public import proofs.«01_k».proof.Proof.Claims
public import proofs.«01_k».proof.Proof.Value
public import proofs.«01_k».proof.Proof.ProjectionClaims
public import proofs.«01_k».proof.Proof.NormClaims
public import proofs.«01_k».proof.Proof.MixerClaims

@[expose] public section

noncomputable section

namespace Cert.Proof

/-- The certificate's claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, preFacts,
    frame_P, frame_PI, frame_RI, frame_RI_fills, frame_P2, frame_PI2, frame_RI2, frame_P3, frame_PI3, frame_RI3,
    frame_P4, frame_PI4, frame_RI4, preserves, algebraic, preserves2, algebraic2, preserves3, algebraic3, preserves4, algebraic4⟩

end Cert.Proof

end
